-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn [hPre_nonnegative : Cert.Pre_nonnegative.Facts] (m : (ℓ : Loc Cert.Attn.nD Cert.Attn.τ Cert.Attn.sig) → Buf (Elt Bits) ℓ) : Prop :=
  ∀ c : Dev Cert.Attn.nD,
    (Cert.Pre_nonnegative.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7))) = (fun _ => 1#1)

def Pre_AttnIdeal [hPre_nonnegative : Cert.Pre_nonnegative.Facts] (m : (ℓ : Loc Cert.AttnIdeal.nD Cert.AttnIdeal.τ Cert.AttnIdeal.sig) → Buf (Elt Ideal) ℓ) : Prop :=
  ∀ c : Dev Cert.AttnIdeal.nD,
    (Cert.Pre_nonnegative.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5)
      ∧ r.2.mem ((c.tc : Thread Cert.OProj.nD Cert.OProj.τ).loc Cert.OProj.main_arg6) = m ((c.tc : Thread Cert.OProj.nD Cert.OProj.τ).loc Cert.OProj.main_arg6))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
      ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5)
      ∧ r.2.mem ((c.tc : Thread Cert.OProjRefIdeal.nD Cert.OProjRefIdeal.τ).loc Cert.OProjRefIdeal.main_arg6) = m ((c.tc : Thread Cert.OProjRefIdeal.nD Cert.OProjRefIdeal.τ).loc Cert.OProjRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_Attn [hAttn : Cert.Attn.Facts] [hPre_nonnegative : Cert.Pre_nonnegative.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] [hPre_nonnegative : Cert.Pre_nonnegative.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)
      ∧ m' ((c.tc : Thread Cert.OProjRefIdeal.nD Cert.OProjRefIdeal.τ).loc Cert.OProjRefIdeal.main_arg6) = m ((c.tc : Thread Cert.OProjIdeal.nD Cert.OProjIdeal.τ).loc Cert.OProjIdeal.main_arg6)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5)
          ∧ r.2.mem ((c.tc : Thread Cert.OProjIdeal.nD Cert.OProjIdeal.τ).loc Cert.OProjIdeal.main_arg6) = m ((c.tc : Thread Cert.OProjIdeal.nD Cert.OProjIdeal.τ).loc Cert.OProjIdeal.main_arg6))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4_0) = v0 c
          ∧ r.2.mem ((c.tc : Thread Cert.OProjRefIdeal.nD Cert.OProjRefIdeal.τ).loc Cert.OProjRefIdeal.main_v4_1) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5)
          ∧ r.2.mem ((c.tc : Thread Cert.OProjRefIdeal.nD Cert.OProjRefIdeal.τ).loc Cert.OProjRefIdeal.main_arg6) = m' ((c.tc : Thread Cert.OProjRefIdeal.nD Cert.OProjRefIdeal.τ).loc Cert.OProjRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)) (v3 : (c : Dev Cert.QkvIdeal.nD) → Buf (Elt Ideal) ((c.tc : Thread Cert.QkvIdeal.nD Cert.QkvIdeal.τ).loc Cert.QkvIdeal.main_v5_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_v5_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5_0) = v0 c
          ∧ r.2.mem ((c.tc : Thread Cert.QkvRefIdeal.nD Cert.QkvRefIdeal.τ).loc Cert.QkvRefIdeal.main_v5_1) = v1 c
          ∧ r.2.mem ((c.tc : Thread Cert.QkvRefIdeal.nD Cert.QkvRefIdeal.τ).loc Cert.QkvRefIdeal.main_v5_2) = v2 c
          ∧ r.2.mem ((c.tc : Thread Cert.QkvRefIdeal.nD Cert.QkvRefIdeal.τ).loc Cert.QkvRefIdeal.main_v5_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def preserves_Attn_AttnIdeal : Prop :=
  True

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hPre_nonnegative : Cert.Pre_nonnegative.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn) (hPre_nonnegative := hPre_nonnegative)
    ∧ quiescent_AttnIdeal (hAttnIdeal := hAttnIdeal) (hPre_nonnegative := hPre_nonnegative)
    ∧ quiescent_AttnRefIdeal (hAttnRefIdeal := hAttnRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_Qkv_QkvIdeal
    ∧ algebraic_QkvIdeal_QkvRefIdeal (hQkvIdeal := hQkvIdeal) (hQkvRefIdeal := hQkvRefIdeal)
    ∧ preserves_Attn_AttnIdeal
-- ==== Pre_nonnegative.lean ====
abbrev S10 : Shape := ⟨1, ![10]⟩
abbrev S_ : Shape := ⟨0, ![]⟩
abbrev S4608x4096 : Shape := ⟨2, ![4608, 4096]⟩
abbrev S4608x1024 : Shape := ⟨2, ![4608, 1024]⟩
abbrev S9 : Shape := ⟨1, ![9]⟩

class Facts : Prop where
  slices_S10_S9_1 : S10.Slices ![1] S9
  bcast_S_S9 : S_.BroadcastsInDim S9 (![] : Fin 0 → Fin S9.rank)

variable [Facts]

def fn {F : FTy → Type} [FloatOps F] (main_arg0 : IVec S10 32) (main_arg1 : FVec F S_ .f32) (main_arg2 : FVec F S_ .f32) (main_arg3 : FVec F S_ .f32) (main_arg4 : FVec F S_ .f32) (main_arg5 : FVec F S4608x4096 .fp8e4m3) (main_arg6 : FVec F S4608x1024 .fp8e4m3) (main_arg7 : FVec F S4608x1024 .fp8e4m3) : IVec S9 1 :=
  let main_v0 : IVec S9 32 := (extractStridedSlice S9 ![1] · slices_S10_S9_1) main_arg0
  let main_c : IVec S_ 32 := constantI S_ 32 0#32
  let main_v1 : IVec S9 32 := broadcastInDim S9 ![] bcast_S_S9 main_c
  let main_v2 : IVec S9 1 := cmpi .sge main_v0 main_v1
  main_v2
-- ==== GateUp.lean ====
abbrev S4608x5120 : Shape := ⟨2, ![4608, 5120]⟩
abbrev S5120x28672 : Shape := ⟨2, ![5120, 28672]⟩
abbrev S_ : Shape := ⟨0, ![]⟩
abbrev S2 : Shape := ⟨1, ![2]⟩
abbrev S1 : Shape := ⟨1, ![1]⟩
abbrev S4608x14336 : Shape := ⟨2, ![4608, 14336]⟩
abbrev S5120x256 : Shape := ⟨2, ![5120, 256]⟩
abbrev S4608x256 : Shape := ⟨2, ![4608, 256]⟩
abbrev S512x5120 : Shape := ⟨2, ![512, 5120]⟩
abbrev S512x256 : Shape := ⟨2, ![512, 256]⟩

abbrev nBuf : Space → Nat
  | .hbm => 8
  | .vmem => 7
  | .smem => 3
  | _ => 0

abbrev bufTy : (tb : Table) → Fin (tcTables nBuf tb) → BufTy
  | .hbm, ⟨0, _⟩ => ⟨S4608x5120, .fp8e4m3⟩
  | .hbm, ⟨1, _⟩ => ⟨S5120x28672, .fp8e4m3⟩
  | .hbm, ⟨2, _⟩ => ⟨S_, .f32⟩
  | .hbm, ⟨3, _⟩ => ⟨S2, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S4608x14336, .fp8e4m3⟩
  | .local _ .vmem, ⟨0, _⟩ => ⟨S4608x5120, .fp8e4m3⟩
  | .local _ .vmem, ⟨1, _⟩ => ⟨S5120x256, .fp8e4m3⟩
  | .local _ .vmem, ⟨2, _⟩ => ⟨S5120x256, .fp8e4m3⟩
  | .local _ .vmem, ⟨3, _⟩ => ⟨S5120x256, .fp8e4m3⟩
  | .local _ .vmem, ⟨4, _⟩ => ⟨S5120x256, .fp8e4m3⟩
  | .local _ .vmem, ⟨5, _⟩ => ⟨S4608x256, .fp8e4m3⟩
  | .local _ .vmem, ⟨6, _⟩ => ⟨S4608x256, .fp8e4m3⟩
  | .local _ .smem, ⟨0, _⟩ => ⟨S1, .f32⟩
  | .local _ .smem, ⟨1, _⟩ => ⟨S2, .f32⟩
  | .local _ .smem, ⟨2, _⟩ => ⟨S1, .f32⟩
  | _, _ => ⟨S4608x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![56], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4608x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S4608x5120 : Shape := ⟨2, ![4608, 5120]⟩
abbrev S5120x28672 : Shape := ⟨2, ![5120, 28672]⟩
abbrev S_ : Shape := ⟨0, ![]⟩
abbrev S2 : Shape := ⟨1, ![2]⟩
abbrev S1 : Shape := ⟨1, ![1]⟩
abbrev S4608x14336 : Shape := ⟨2, ![4608, 14336]⟩
abbrev S4608x28672 : Shape := ⟨2, ![4608, 28672]⟩

abbrev nBuf : Space → Nat
  | .hbm => 8
  | .vmem => 3
  | .smem => 3
  | _ => 0

abbrev bufTy : (tb : Table) → Fin (tcTables nBuf tb) → BufTy
  | .hbm, ⟨0, _⟩ => ⟨S4608x5120, .fp8e4m3⟩
  | .hbm, ⟨1, _⟩ => ⟨S5120x28672, .fp8e4m3⟩
  | .hbm, ⟨2, _⟩ => ⟨S_, .f32⟩
  | .hbm, ⟨3, _⟩ => ⟨S2, .f32⟩
  | .hbm, ⟨4, _⟩ => ⟨S_, .f32⟩
  | .hbm, ⟨5, _⟩ => ⟨S1, .f32⟩
  | .hbm, ⟨6, _⟩ => ⟨S1, .f32⟩
  | .hbm, ⟨7, _⟩ => ⟨S4608x14336, .fp8e4m3⟩
  | .local _ .vmem, ⟨0, _⟩ => ⟨S4608x5120, .fp8e4m3⟩
  | .local _ .vmem, ⟨1, _⟩ => ⟨S5120x28672, .fp8e4m3⟩
  | .local _ .vmem, ⟨2, _⟩ => ⟨S4608x14336, .fp8e4m3⟩
  | .local _ .smem, ⟨0, _⟩ => ⟨S1, .f32⟩
  | .local _ .smem, ⟨1, _⟩ => ⟨S2, .f32⟩
  | .local _ .smem, ⟨2, _⟩ => ⟨S1, .f32⟩
  | _, _ => ⟨S4608x5120, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x28672 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x14336 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S4608x14336 : Shape := ⟨2, ![4608, 14336]⟩
abbrev S14336x5120 : Shape := ⟨2, ![14336, 5120]⟩
abbrev S_ : Shape := ⟨0, ![]⟩
abbrev S4608x5120 : Shape := ⟨2, ![4608, 5120]⟩
abbrev S1 : Shape := ⟨1, ![1]⟩
abbrev S512x14336 : Shape := ⟨2, ![512, 14336]⟩
abbrev S14336x1024 : Shape := ⟨2, ![14336, 1024]⟩
abbrev S512x1024 : Shape := ⟨2, ![512, 1024]⟩

abbrev nBuf : Space → Nat
  | .hbm => 8
  | .vmem => 8
  | .smem => 2
  | _ => 0

abbrev bufTy : (tb : Table) → Fin (tcTables nBuf tb) → BufTy
  | .hbm, ⟨0, _⟩ => ⟨S4608x14336, .fp8e4m3⟩
  | .hbm, ⟨1, _⟩ => ⟨S14336x5120, .fp8e4m3⟩
  | .hbm, ⟨2, _⟩ => ⟨S_, .f32⟩
  | .hbm, ⟨3, _⟩ => ⟨S_, .f32⟩
  | .hbm, ⟨4, _⟩ => ⟨S4608x5120, .f32⟩
  | .hbm, ⟨5, _⟩ => ⟨S1, .f32⟩
  | .hbm, ⟨6, _⟩ => ⟨S1, .f32⟩
  | .hbm, ⟨7, _⟩ => ⟨S4608x5120, .bf16⟩
  | .local _ .vmem, ⟨0, _⟩ => ⟨S512x14336, .fp8e4m3⟩
  | .local _ .vmem, ⟨1, _⟩ => ⟨S512x14336, .fp8e4m3⟩
  | .local _ .vmem, ⟨2, _⟩ => ⟨S14336x1024, .fp8e4m3⟩
  | .local _ .vmem, ⟨3, _⟩ => ⟨S14336x1024, .fp8e4m3⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .smem, ⟨0, _⟩ => ⟨S1, .f32⟩
  | .local _ .smem, ⟨1, _⟩ => ⟨S1, .f32⟩
  | _, _ => ⟨S4608x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![5, 9], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x14336 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S14336x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S4608x14336 : Shape := ⟨2, ![4608, 14336]⟩
abbrev S14336x5120 : Shape := ⟨2, ![14336, 5120]⟩
abbrev S_ : Shape := ⟨0, ![]⟩
abbrev S4608x5120 : Shape := ⟨2, ![4608, 5120]⟩
abbrev S1 : Shape := ⟨1, ![1]⟩

abbrev nBuf : Space → Nat
  | .hbm => 8
  | .vmem => 4
  | .smem => 2
  | _ => 0

abbrev bufTy : (tb : Table) → Fin (tcTables nBuf tb) → BufTy
  | .hbm, ⟨0, _⟩ => ⟨S4608x14336, .fp8e4m3⟩
  | .hbm, ⟨1, _⟩ => ⟨S14336x5120, .fp8e4m3⟩
  | .hbm, ⟨2, _⟩ => ⟨S_, .f32⟩
  | .hbm, ⟨3, _⟩ => ⟨S_, .f32⟩
  | .hbm, ⟨4, _⟩ => ⟨S4608x5120, .f32⟩
  | .hbm, ⟨5, _⟩ => ⟨S1, .f32⟩
  | .hbm, ⟨6, _⟩ => ⟨S1, .f32⟩
  | .hbm, ⟨7, _⟩ => ⟨S4608x5120, .bf16⟩
  | .local _ .vmem, ⟨0, _⟩ => ⟨S4608x14336, .fp8e4m3⟩
  | .local _ .vmem, ⟨1, _⟩ => ⟨S14336x5120, .fp8e4m3⟩
  | .local _ .vmem, ⟨2, _⟩ => ⟨S4608x5120, .f32⟩
  | .local _ .vmem, ⟨3, _⟩ => ⟨S4608x5120, .bf16⟩
  | .local _ .smem, ⟨0, _⟩ => ⟨S1, .f32⟩
  | .local _ .smem, ⟨1, _⟩ => ⟨S1, .f32⟩
  | _, _ => ⟨S4608x14336, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== OProj.lean ====
abbrev S4608x4096 : Shape := ⟨2, ![4608, 4096]⟩
abbrev S4096x5120 : Shape := ⟨2, ![4096, 5120]⟩
abbrev S_ : Shape := ⟨0, ![]⟩
abbrev S4608x5120 : Shape := ⟨2, ![4608, 5120]⟩
abbrev S5120 : Shape := ⟨1, ![5120]⟩
abbrev S1 : Shape := ⟨1, ![1]⟩
abbrev S1x5120 : Shape := ⟨2, ![1, 5120]⟩
abbrev S256x4096 : Shape := ⟨2, ![256, 4096]⟩
abbrev S256x5120 : Shape := ⟨2, ![256, 5120]⟩
abbrev S4096x512 : Shape := ⟨2, ![4096, 512]⟩
abbrev S256x512 : Shape := ⟨2, ![256, 512]⟩
abbrev S32x5120 : Shape := ⟨2, ![32, 5120]⟩
abbrev S32 : Shape := ⟨1, ![32]⟩
abbrev S32x1 : Shape := ⟨2, ![32, 1]⟩

abbrev nBuf : Space → Nat
  | .hbm => 13
  | .vmem => 10
  | .smem => 3
  | _ => 0

abbrev bufTy : (tb : Table) → Fin (tcTables nBuf tb) → BufTy
  | .hbm, ⟨0, _⟩ => ⟨S4608x4096, .fp8e4m3⟩
  | .hbm, ⟨1, _⟩ => ⟨S4096x5120, .fp8e4m3⟩
  | .hbm, ⟨2, _⟩ => ⟨S_, .f32⟩
  | .hbm, ⟨3, _⟩ => ⟨S_, .f32⟩
  | .hbm, ⟨4, _⟩ => ⟨S4608x5120, .bf16⟩
  | .hbm, ⟨5, _⟩ => ⟨S5120, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x5120, .f32⟩
  | .hbm, ⟨11, _⟩ => ⟨S4608x5120, .f32⟩
  | .hbm, ⟨12, _⟩ => ⟨S4608x5120, .fp8e4m3⟩
  | .local _ .vmem, ⟨0, _⟩ => ⟨S256x4096, .fp8e4m3⟩
  | .local _ .vmem, ⟨1, _⟩ => ⟨S256x4096, .fp8e4m3⟩
  | .local _ .vmem, ⟨2, _⟩ => ⟨S4096x5120, .fp8e4m3⟩
  | .local _ .vmem, ⟨3, _⟩ => ⟨S256x5120, .bf16⟩
  | .local _ .vmem, ⟨4, _⟩ => ⟨S256x5120, .bf16⟩
  | .local _ .vmem, ⟨5, _⟩ => ⟨S1x5120, .f32⟩
  | .local _ .vmem, ⟨6, _⟩ => ⟨S256x5120, .f32⟩
  | .local _ .vmem, ⟨7, _⟩ => ⟨S256x5120, .f32⟩
  | .local _ .vmem, ⟨8, _⟩ => ⟨S256x5120, .fp8e4m3⟩
  | .local _ .vmem, ⟨9, _⟩ => ⟨S256x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4608x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5120 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OProjRefIdeal.lean ====
abbrev S4608x4096 : Shape := ⟨2, ![4608, 4096]⟩
abbrev S4096x5120 : Shape := ⟨2, ![4096, 5120]⟩
abbrev S_ : Shape := ⟨0, ![]⟩
abbrev S4608x5120 : Shape := ⟨2, ![4608, 5120]⟩
abbrev S5120 : Shape := ⟨1, ![5120]⟩
abbrev S1 : Shape := ⟨1, ![1]⟩
abbrev S1x5120 : Shape := ⟨2, ![1, 5120]⟩
abbrev S4608 : Shape := ⟨1, ![4608]⟩
abbrev S4608x1 : Shape := ⟨2, ![4608, 1]⟩

abbrev nBuf : Space → Nat
  | .hbm => 13
  | .vmem => 6
  | .smem => 3
  | _ => 0

abbrev bufTy : (tb : Table) → Fin (tcTables nBuf tb) → BufTy
  | .hbm, ⟨0, _⟩ => ⟨S4608x4096, .fp8e4m3⟩
  | .hbm, ⟨1, _⟩ => ⟨S4096x5120, .fp8e4m3⟩
  | .hbm, ⟨2, _⟩ => ⟨S_, .f32⟩
  | .hbm, ⟨3, _⟩ => ⟨S_, .f32⟩
  | .hbm, ⟨4, _⟩ => ⟨S4608x5120, .bf16⟩
  | .hbm, ⟨5, _⟩ => ⟨S5120, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1x5120, .f32⟩
  | .hbm, ⟨11, _⟩ => ⟨S4608x5120, .f32⟩
  | .hbm, ⟨12, _⟩ => ⟨S4608x5120, .fp8e4m3⟩
  | .local _ .vmem, ⟨0, _⟩ => ⟨S4608x4096, .fp8e4m3⟩
  | .local _ .vmem, ⟨1, _⟩ => ⟨S4096x5120, .fp8e4m3⟩
  | .local _ .vmem, ⟨2, _⟩ => ⟨S4608x5120, .bf16⟩
  | .local _ .vmem, ⟨3, _⟩ => ⟨S1x5120, .f32⟩
  | .local _ .vmem, ⟨4, _⟩ => ⟨S4608x5120, .f32⟩
  | .local _ .vmem, ⟨5, _⟩ => ⟨S4608x5120, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4608x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S4608x5120 : Shape := ⟨2, ![4608, 5120]⟩
abbrev S5120 : Shape := ⟨1, ![5120]⟩
abbrev S4608x64 : Shape := ⟨2, ![4608, 64]⟩
abbrev S5120x6144 : Shape := ⟨2, ![5120, 6144]⟩
abbrev S_ : Shape := ⟨0, ![]⟩
abbrev S3 : Shape := ⟨1, ![3]⟩
abbrev S1x5120 : Shape := ⟨2, ![1, 5120]⟩
abbrev S1 : Shape := ⟨1, ![1]⟩
abbrev S4608x4096 : Shape := ⟨2, ![4608, 4096]⟩
abbrev S4608x1024 : Shape := ⟨2, ![4608, 1024]⟩
abbrev S256x5120 : Shape := ⟨2, ![256, 5120]⟩
abbrev S256x64 : Shape := ⟨2, ![256, 64]⟩
abbrev S256x4096 : Shape := ⟨2, ![256, 4096]⟩
abbrev S256x1024 : Shape := ⟨2, ![256, 1024]⟩
abbrev S32x5120 : Shape := ⟨2, ![32, 5120]⟩
abbrev S32 : Shape := ⟨1, ![32]⟩
abbrev S32x1 : Shape := ⟨2, ![32, 1]⟩
abbrev S256x128 : Shape := ⟨2, ![256, 128]⟩
abbrev S5120x512 : Shape := ⟨2, ![5120, 512]⟩
abbrev S256x512 : Shape := ⟨2, ![256, 512]⟩

abbrev nBuf : Space → Nat
  | .hbm => 19
  | .vmem => 16
  | .smem => 5
  | _ => 0

abbrev bufTy : (tb : Table) → Fin (tcTables nBuf tb) → BufTy
  | .hbm, ⟨0, _⟩ => ⟨S4608x5120, .bf16⟩
  | .hbm, ⟨1, _⟩ => ⟨S5120, .f32⟩
  | .hbm, ⟨2, _⟩ => ⟨S4608x64, .f32⟩
  | .hbm, ⟨3, _⟩ => ⟨S4608x64, .f32⟩
  | .hbm, ⟨4, _⟩ => ⟨S5120x6144, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S3, .f32⟩
  | .hbm, ⟨10, _⟩ => ⟨S1x5120, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S4608x5120, .fp8e4m3⟩
  | .hbm, ⟨16, _⟩ => ⟨S4608x4096, .fp8e4m3⟩
  | .hbm, ⟨17, _⟩ => ⟨S4608x1024, .fp8e4m3⟩
  | .hbm, ⟨18, _⟩ => ⟨S4608x1024, .fp8e4m3⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S5120x6144, .fp8e4m3⟩
  | .local _ .vmem, ⟨8, _⟩ => ⟨S256x5120, .fp8e4m3⟩
  | .local _ .vmem, ⟨9, _⟩ => ⟨S256x5120, .fp8e4m3⟩
  | .local _ .vmem, ⟨10, _⟩ => ⟨S256x4096, .fp8e4m3⟩
  | .local _ .vmem, ⟨11, _⟩ => ⟨S256x4096, .fp8e4m3⟩
  | .local _ .vmem, ⟨12, _⟩ => ⟨S256x1024, .fp8e4m3⟩
  | .local _ .vmem, ⟨13, _⟩ => ⟨S256x1024, .fp8e4m3⟩
  | .local _ .vmem, ⟨14, _⟩ => ⟨S256x1024, .fp8e4m3⟩
  | .local _ .vmem, ⟨15, _⟩ => ⟨S256x1024, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S3, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![18], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S5120x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvRefIdeal.lean ====
abbrev S4608x5120 : Shape := ⟨2, ![4608, 5120]⟩
abbrev S5120 : Shape := ⟨1, ![5120]⟩
abbrev S4608x64 : Shape := ⟨2, ![4608, 64]⟩
abbrev S5120x6144 : Shape := ⟨2, ![5120, 6144]⟩
abbrev S_ : Shape := ⟨0, ![]⟩
abbrev S3 : Shape := ⟨1, ![3]⟩
abbrev S1 : Shape := ⟨1, ![1]⟩
abbrev S1x5120 : Shape := ⟨2, ![1, 5120]⟩
abbrev S4608x4096 : Shape := ⟨2, ![4608, 4096]⟩
abbrev S4608x1024 : Shape := ⟨2, ![4608, 1024]⟩
abbrev S4608 : Shape := ⟨1, ![4608]⟩
abbrev S4608x1 : Shape := ⟨2, ![4608, 1]⟩
abbrev S4608x6144 : Shape := ⟨2, ![4608, 6144]⟩
abbrev S4608x32x128 : Shape := ⟨3, ![4608, 32, 128]⟩
abbrev S4608x8x128 : Shape := ⟨3, ![4608, 8, 128]⟩
abbrev S4608x32x64 : Shape := ⟨3, ![4608, 32, 64]⟩
abbrev S4608x1x64 : Shape := ⟨3, ![4608, 1, 64]⟩
abbrev S4608x8x64 : Shape := ⟨3, ![4608, 8, 64]⟩

abbrev nBuf : Space → Nat
  | .hbm => 19
  | .vmem => 9
  | .smem => 5
  | _ => 0

abbrev bufTy : (tb : Table) → Fin (tcTables nBuf tb) → BufTy
  | .hbm, ⟨0, _⟩ => ⟨S4608x5120, .bf16⟩
  | .hbm, ⟨1, _⟩ => ⟨S5120, .f32⟩
  | .hbm, ⟨2, _⟩ => ⟨S4608x64, .f32⟩
  | .hbm, ⟨3, _⟩ => ⟨S4608x64, .f32⟩
  | .hbm, ⟨4, _⟩ => ⟨S5120x6144, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S3, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x5120, .f32⟩
  | .hbm, ⟨15, _⟩ => ⟨S4608x5120, .fp8e4m3⟩
  | .hbm, ⟨16, _⟩ => ⟨S4608x4096, .fp8e4m3⟩
  | .hbm, ⟨17, _⟩ => ⟨S4608x1024, .fp8e4m3⟩
  | .hbm, ⟨18, _⟩ => ⟨S4608x1024, .fp8e4m3⟩
  | .local _ .vmem, ⟨0, _⟩ => ⟨S4608x5120, .bf16⟩
  | .local _ .vmem, ⟨1, _⟩ => ⟨S1x5120, .f32⟩
  | .local _ .vmem, ⟨2, _⟩ => ⟨S4608x64, .f32⟩
  | .local _ .vmem, ⟨3, _⟩ => ⟨S4608x64, .f32⟩
  | .local _ .vmem, ⟨4, _⟩ => ⟨S5120x6144, .fp8e4m3⟩
  | .local _ .vmem, ⟨5, _⟩ => ⟨S4608x5120, .fp8e4m3⟩
  | .local _ .vmem, ⟨6, _⟩ => ⟨S4608x4096, .fp8e4m3⟩
  | .local _ .vmem, ⟨7, _⟩ => ⟨S4608x1024, .fp8e4m3⟩
  | .local _ .vmem, ⟨8, _⟩ => ⟨S4608x1024, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S3, .f32⟩
  | _, _ => ⟨S4608x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120x6144 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4608x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x1024 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Attn.lean ====
abbrev S10 : Shape := ⟨1, ![10]⟩
abbrev S_ : Shape := ⟨0, ![]⟩
abbrev S4608x4096 : Shape := ⟨2, ![4608, 4096]⟩
abbrev S4608x1024 : Shape := ⟨2, ![4608, 1024]⟩
abbrev S1 : Shape := ⟨1, ![1]⟩
abbrev S128x4096 : Shape := ⟨2, ![128, 4096]⟩
abbrev S4608x512 : Shape := ⟨2, ![4608, 512]⟩
abbrev S128x512 : Shape := ⟨2, ![128, 512]⟩
abbrev S1x512 : Shape := ⟨2, ![1, 512]⟩
abbrev S256x512 : Shape := ⟨2, ![256, 512]⟩
abbrev S128x128 : Shape := ⟨2, ![128, 128]⟩
abbrev S512x128 : Shape := ⟨2, ![512, 128]⟩
abbrev S8x512 : Shape := ⟨2, ![8, 512]⟩
abbrev S256x128 : Shape := ⟨2, ![256, 128]⟩
abbrev S32x8x512 : Shape := ⟨3, ![32, 8, 512]⟩
abbrev S512 : Shape := ⟨1, ![512]⟩

abbrev nBuf : Space → Nat
  | .hbm => 13
  | .vmem => 8
  | .smem => 5
  | _ => 0

abbrev bufTy : (tb : Table) → Fin (tcTables nBuf tb) → BufTy
  | .hbm, ⟨0, _⟩ => ⟨S10, .i32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4608x4096, .fp8e4m3⟩
  | .hbm, ⟨6, _⟩ => ⟨S4608x1024, .fp8e4m3⟩
  | .hbm, ⟨7, _⟩ => ⟨S4608x1024, .fp8e4m3⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4608x4096, .fp8e4m3⟩
  | .local _ .vmem, ⟨0, _⟩ => ⟨S128x4096, .fp8e4m3⟩
  | .local _ .vmem, ⟨1, _⟩ => ⟨S128x4096, .fp8e4m3⟩
  | .local _ .vmem, ⟨2, _⟩ => ⟨S4608x1024, .fp8e4m3⟩
  | .local _ .vmem, ⟨3, _⟩ => ⟨S4608x1024, .fp8e4m3⟩
  | .local _ .vmem, ⟨4, _⟩ => ⟨S128x4096, .fp8e4m3⟩
  | .local _ .vmem, ⟨5, _⟩ => ⟨S128x4096, .fp8e4m3⟩
  | .local _ .vmem, ⟨6, _⟩ => ⟨S4608x512, .f32⟩
  | .local _ .vmem, ⟨7, _⟩ => ⟨S128x512, .f32⟩
  | .local _ .smem, ⟨0, _⟩ => ⟨S10, .i32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg8_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![36], ![false]⟩

@[reducible] def k0_t1_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_60 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_62 : BitVec 32 := 1#32
  ⟨c0_i32_60, v169, c1_i32_62⟩

def k0_mult1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t1 : Fin (k0_t1_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c1_i32_62 : BitVec 32 := 1#32
  let arg12 : BitVec 32 := Scf.iv c0_i32_60 c1_i32_62 k0_t1
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t1 : Fin (k0_t1_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c1_i32_62 : BitVec 32 := 1#32
  let arg12 : BitVec 32 := Scf.iv c0_i32_60 c1_i32_62 k0_t1
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c0_314 : Index := 0#32
  ![v628.toNat, 0]
def k0_mult2 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t1 : Fin (k0_t1_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c1_i32_62 : BitVec 32 := 1#32
  let arg12 : BitVec 32 := Scf.iv c0_i32_60 c1_i32_62 k0_t1
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult3 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t1 : Fin (k0_t1_loop i v1 v3 v5 v7 v9 v11 v13 v15 v17 v19 v21 v23 v25 v27 v29 v31 v33 v35).trips) : BitVec 32 :=
  let c0_i32_60 : BitVec 32 := 0#32
  let c1_i32_62 : BitVec 32 := 1#32
  let arg12 : BitVec 32 := Scf.iv c0_i32_60 c1_i32_62 k0_t1
  let c256_i32_321 : BitVec 32 := 256#32
  let v652 : BitVec 32 := Scalar.muli arg12 c256_i32_321
  v652
def k0_off2 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t1 : Fin (k0_t1_loop i v1 v3 v5 v7 v9 v11 v13 v15 v17 v19 v21 v23 v25 v27 v29 v31 v33 v35).trips) : Fin 2 → Nat :=
  let c0_i32_60 : BitVec 32 := 0#32
  let c1_i32_62 : BitVec 32 := 1#32
  let arg12 : BitVec 32 := Scf.iv c0_i32_60 c1_i32_62 k0_t1
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t2_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_60 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let v166 : BitVec 32 := Scalar.addi c0_i32_60 v165
  let c1_i32_63 : BitVec 32 := 1#32
  ⟨v169, v166, c1_i32_63⟩
def k0_mult4 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t2 : Fin (k0_t2_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_63 : BitVec 32 := 1#32
  let arg12 : BitVec 32 := Scf.iv v169 c1_i32_63 k0_t2
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off3 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t2 : Fin (k0_t2_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_63 : BitVec 32 := 1#32
  let arg12 : BitVec 32 := Scf.iv v169 c1_i32_63 k0_t2
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c0_314 : Index := 0#32
  ![v628.toNat, 0]
def k0_mult5 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t2 : Fin (k0_t2_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_60 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_63 : BitVec 32 := 1#32
  let arg12 : BitVec 32 := Scf.iv v169 c1_i32_63 k0_t2
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult6 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t2 : Fin (k0_t2_loop i v1 v3 v5 v7 v9 v11 v13 v15 v17 v19 v21 v23 v25 v27 v29 v31 v33 v35).trips) : BitVec 32 :=
  let c0_i32_60 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_63 : BitVec 32 := 1#32
  let arg12 : BitVec 32 := Scf.iv v169 c1_i32_63 k0_t2
  let c256_i32_321 : BitVec 32 := 256#32
  let v652 : BitVec 32 := Scalar.muli arg12 c256_i32_321
  v652
def k0_off4 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t2 : Fin (k0_t2_loop i v1 v3 v5 v7 v9 v11 v13 v15 v17 v19 v21 v23 v25 v27 v29 v31 v33 v35).trips) : Fin 2 → Nat :=
  let c0_i32_60 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v165 : BitVec 32 := Scalar.subi v75 c0_i32_60
  let c1_i32_61 : BitVec 32 := 1#32
  let v167 : BitVec 32 := Scalar.divsi v165 c1_i32_61
  let v168 : BitVec 32 := Scalar.muli v167 c1_i32_61
  let v169 : BitVec 32 := Scalar.addi c0_i32_60 v168
  let c1_i32_63 : BitVec 32 := 1#32
  let arg12 : BitVec 32 := Scf.iv v169 c1_i32_63 k0_t2
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t3_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_69 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let c1_i32_71 : BitVec 32 := 1#32
  ⟨c0_i32_69, v184, c1_i32_71⟩
def k0_mult7 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t3 : Fin (k0_t3_loop i v1 v3 v5 v7 v9 v11 v13 v15 v17 v19 v21 v23 v25 v27 v29 v31 v33 v35).trips) : BitVec 32 :=
  let c0_i32_69 : BitVec 32 := 0#32
  let c1_i32_71 : BitVec 32 := 1#32
  let arg12 : BitVec 32 := Scf.iv c0_i32_69 c1_i32_71 k0_t3
  let c256_i32_311 : BitVec 32 := 256#32
  let v623 : BitVec 32 := Scalar.muli arg12 c256_i32_311
  v623
def k0_off5 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t3 : Fin (k0_t3_loop i v1 v3 v5 v7 v9 v11 v13 v15 v17 v19 v21 v23 v25 v27 v29 v31 v33 v35).trips) : Fin 2 → Nat :=
  let c0_i32_69 : BitVec 32 := 0#32
  let c1_i32_71 : BitVec 32 := 1#32
  let arg12 : BitVec 32 := Scf.iv c0_i32_69 c1_i32_71 k0_t3
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult8 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t3 : Fin (k0_t3_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_69 : BitVec 32 := 0#32
  let c1_i32_71 : BitVec 32 := 1#32
  let arg12 : BitVec 32 := Scf.iv c0_i32_69 c1_i32_71 k0_t3
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off6 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t3 : Fin (k0_t3_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_69 : BitVec 32 := 0#32
  let c1_i32_71 : BitVec 32 := 1#32
  let arg12 : BitVec 32 := Scf.iv c0_i32_69 c1_i32_71 k0_t3
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c0_317 : Index := 0#32
  ![v638.toNat, 0]
@[reducible] def k0_t4_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_69 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let v181 : BitVec 32 := Scalar.addi c0_i32_69 v180
  let c1_i32_72 : BitVec 32 := 1#32
  ⟨v184, v181, c1_i32_72⟩
def k0_mult9 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t4 : Fin (k0_t4_loop i v1 v3 v5 v7 v9 v11 v13 v15 v17 v19 v21 v23 v25 v27 v29 v31 v33 v35).trips) : BitVec 32 :=
  let c0_i32_69 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let c1_i32_72 : BitVec 32 := 1#32
  let arg12 : BitVec 32 := Scf.iv v184 c1_i32_72 k0_t4
  let c256_i32_311 : BitVec 32 := 256#32
  let v623 : BitVec 32 := Scalar.muli arg12 c256_i32_311
  v623
def k0_off7 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t4 : Fin (k0_t4_loop i v1 v3 v5 v7 v9 v11 v13 v15 v17 v19 v21 v23 v25 v27 v29 v31 v33 v35).trips) : Fin 2 → Nat :=
  let c0_i32_69 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let c1_i32_72 : BitVec 32 := 1#32
  let arg12 : BitVec 32 := Scf.iv v184 c1_i32_72 k0_t4
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult10 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t4 : Fin (k0_t4_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_69 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let c1_i32_72 : BitVec 32 := 1#32
  let arg12 : BitVec 32 := Scf.iv v184 c1_i32_72 k0_t4
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off8 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t4 : Fin (k0_t4_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_69 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v180 : BitVec 32 := Scalar.subi v75 c0_i32_69
  let c1_i32_70 : BitVec 32 := 1#32
  let v182 : BitVec 32 := Scalar.divsi v180 c1_i32_70
  let v183 : BitVec 32 := Scalar.muli v182 c1_i32_70
  let v184 : BitVec 32 := Scalar.addi c0_i32_69 v183
  let c1_i32_72 : BitVec 32 := 1#32
  let arg12 : BitVec 32 := Scf.iv v184 c1_i32_72 k0_t4
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c0_317 : Index := 0#32
  ![v638.toNat, 0]
@[reducible] def k0_t5_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_92 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_94 : BitVec 32 := 1#32
  ⟨c0_i32_92, v227, c1_i32_94⟩
def k0_mult11 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t5 : Fin (k0_t5_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c1_i32_94 : BitVec 32 := 1#32
  let arg12 : BitVec 32 := Scf.iv c0_i32_92 c1_i32_94 k0_t5
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off9 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t5 : Fin (k0_t5_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c1_i32_94 : BitVec 32 := 1#32
  let arg12 : BitVec 32 := Scf.iv c0_i32_92 c1_i32_94 k0_t5
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c128_314 : Index := 128#32
  ![v628.toNat, 128]
def k0_mult12 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t5 : Fin (k0_t5_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c1_i32_94 : BitVec 32 := 1#32
  let arg12 : BitVec 32 := Scf.iv c0_i32_92 c1_i32_94 k0_t5
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult13 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t5 : Fin (k0_t5_loop i v1 v3 v5 v7 v9 v11 v13 v15 v17 v19 v21 v23 v25 v27 v29 v31 v33 v35).trips) : BitVec 32 :=
  let c0_i32_92 : BitVec 32 := 0#32
  let c1_i32_94 : BitVec 32 := 1#32
  let arg12 : BitVec 32 := Scf.iv c0_i32_92 c1_i32_94 k0_t5
  let c256_i32_321 : BitVec 32 := 256#32
  let v652 : BitVec 32 := Scalar.muli arg12 c256_i32_321
  v652
def k0_off10 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t5 : Fin (k0_t5_loop i v1 v3 v5 v7 v9 v11 v13 v15 v17 v19 v21 v23 v25 v27 v29 v31 v33 v35).trips) : Fin 2 → Nat :=
  let c0_i32_92 : BitVec 32 := 0#32
  let c1_i32_94 : BitVec 32 := 1#32
  let arg12 : BitVec 32 := Scf.iv c0_i32_92 c1_i32_94 k0_t5
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t6_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_92 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let v224 : BitVec 32 := Scalar.addi c0_i32_92 v223
  let c1_i32_95 : BitVec 32 := 1#32
  ⟨v227, v224, c1_i32_95⟩
def k0_mult14 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t6 : Fin (k0_t6_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_95 : BitVec 32 := 1#32
  let arg12 : BitVec 32 := Scf.iv v227 c1_i32_95 k0_t6
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off11 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t6 : Fin (k0_t6_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_95 : BitVec 32 := 1#32
  let arg12 : BitVec 32 := Scf.iv v227 c1_i32_95 k0_t6
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c128_314 : Index := 128#32
  ![v628.toNat, 128]
def k0_mult15 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t6 : Fin (k0_t6_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_92 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_95 : BitVec 32 := 1#32
  let arg12 : BitVec 32 := Scf.iv v227 c1_i32_95 k0_t6
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult16 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t6 : Fin (k0_t6_loop i v1 v3 v5 v7 v9 v11 v13 v15 v17 v19 v21 v23 v25 v27 v29 v31 v33 v35).trips) : BitVec 32 :=
  let c0_i32_92 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_95 : BitVec 32 := 1#32
  let arg12 : BitVec 32 := Scf.iv v227 c1_i32_95 k0_t6
  let c256_i32_321 : BitVec 32 := 256#32
  let v652 : BitVec 32 := Scalar.muli arg12 c256_i32_321
  v652
def k0_off12 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t6 : Fin (k0_t6_loop i v1 v3 v5 v7 v9 v11 v13 v15 v17 v19 v21 v23 v25 v27 v29 v31 v33 v35).trips) : Fin 2 → Nat :=
  let c0_i32_92 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v223 : BitVec 32 := Scalar.subi v75 c0_i32_92
  let c1_i32_93 : BitVec 32 := 1#32
  let v225 : BitVec 32 := Scalar.divsi v223 c1_i32_93
  let v226 : BitVec 32 := Scalar.muli v225 c1_i32_93
  let v227 : BitVec 32 := Scalar.addi c0_i32_92 v226
  let c1_i32_95 : BitVec 32 := 1#32
  let arg12 : BitVec 32 := Scf.iv v227 c1_i32_95 k0_t6
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t7_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_101 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let c1_i32_103 : BitVec 32 := 1#32
  ⟨c0_i32_101, v242, c1_i32_103⟩
def k0_mult17 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t7 : Fin (k0_t7_loop i v1 v3 v5 v7 v9 v11 v13 v15 v17 v19 v21 v23 v25 v27 v29 v31 v33 v35).trips) : BitVec 32 :=
  let c0_i32_101 : BitVec 32 := 0#32
  let c1_i32_103 : BitVec 32 := 1#32
  let arg12 : BitVec 32 := Scf.iv c0_i32_101 c1_i32_103 k0_t7
  let c256_i32_311 : BitVec 32 := 256#32
  let v623 : BitVec 32 := Scalar.muli arg12 c256_i32_311
  v623
def k0_off13 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t7 : Fin (k0_t7_loop i v1 v3 v5 v7 v9 v11 v13 v15 v17 v19 v21 v23 v25 v27 v29 v31 v33 v35).trips) : Fin 2 → Nat :=
  let c0_i32_101 : BitVec 32 := 0#32
  let c1_i32_103 : BitVec 32 := 1#32
  let arg12 : BitVec 32 := Scf.iv c0_i32_101 c1_i32_103 k0_t7
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult18 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t7 : Fin (k0_t7_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_101 : BitVec 32 := 0#32
  let c1_i32_103 : BitVec 32 := 1#32
  let arg12 : BitVec 32 := Scf.iv c0_i32_101 c1_i32_103 k0_t7
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off14 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t7 : Fin (k0_t7_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_101 : BitVec 32 := 0#32
  let c1_i32_103 : BitVec 32 := 1#32
  let arg12 : BitVec 32 := Scf.iv c0_i32_101 c1_i32_103 k0_t7
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c128_317 : Index := 128#32
  ![v638.toNat, 128]
@[reducible] def k0_t8_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_101 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let v239 : BitVec 32 := Scalar.addi c0_i32_101 v238
  let c1_i32_104 : BitVec 32 := 1#32
  ⟨v242, v239, c1_i32_104⟩
def k0_mult19 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t8 : Fin (k0_t8_loop i v1 v3 v5 v7 v9 v11 v13 v15 v17 v19 v21 v23 v25 v27 v29 v31 v33 v35).trips) : BitVec 32 :=
  let c0_i32_101 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let c1_i32_104 : BitVec 32 := 1#32
  let arg12 : BitVec 32 := Scf.iv v242 c1_i32_104 k0_t8
  let c256_i32_311 : BitVec 32 := 256#32
  let v623 : BitVec 32 := Scalar.muli arg12 c256_i32_311
  v623
def k0_off15 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t8 : Fin (k0_t8_loop i v1 v3 v5 v7 v9 v11 v13 v15 v17 v19 v21 v23 v25 v27 v29 v31 v33 v35).trips) : Fin 2 → Nat :=
  let c0_i32_101 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let c1_i32_104 : BitVec 32 := 1#32
  let arg12 : BitVec 32 := Scf.iv v242 c1_i32_104 k0_t8
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult20 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t8 : Fin (k0_t8_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_101 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let c1_i32_104 : BitVec 32 := 1#32
  let arg12 : BitVec 32 := Scf.iv v242 c1_i32_104 k0_t8
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off16 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t8 : Fin (k0_t8_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_101 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v238 : BitVec 32 := Scalar.subi v75 c0_i32_101
  let c1_i32_102 : BitVec 32 := 1#32
  let v240 : BitVec 32 := Scalar.divsi v238 c1_i32_102
  let v241 : BitVec 32 := Scalar.muli v240 c1_i32_102
  let v242 : BitVec 32 := Scalar.addi c0_i32_101 v241
  let c1_i32_104 : BitVec 32 := 1#32
  let arg12 : BitVec 32 := Scf.iv v242 c1_i32_104 k0_t8
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c128_317 : Index := 128#32
  ![v638.toNat, 128]
@[reducible] def k0_t9_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_124 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_126 : BitVec 32 := 1#32
  ⟨c0_i32_124, v285, c1_i32_126⟩
def k0_mult21 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t9 : Fin (k0_t9_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c1_i32_126 : BitVec 32 := 1#32
  let arg12 : BitVec 32 := Scf.iv c0_i32_124 c1_i32_126 k0_t9
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off17 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t9 : Fin (k0_t9_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c1_i32_126 : BitVec 32 := 1#32
  let arg12 : BitVec 32 := Scf.iv c0_i32_124 c1_i32_126 k0_t9
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c256_314 : Index := 256#32
  ![v628.toNat, 256]
def k0_mult22 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t9 : Fin (k0_t9_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c1_i32_126 : BitVec 32 := 1#32
  let arg12 : BitVec 32 := Scf.iv c0_i32_124 c1_i32_126 k0_t9
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult23 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t9 : Fin (k0_t9_loop i v1 v3 v5 v7 v9 v11 v13 v15 v17 v19 v21 v23 v25 v27 v29 v31 v33 v35).trips) : BitVec 32 :=
  let c0_i32_124 : BitVec 32 := 0#32
  let c1_i32_126 : BitVec 32 := 1#32
  let arg12 : BitVec 32 := Scf.iv c0_i32_124 c1_i32_126 k0_t9
  let c256_i32_321 : BitVec 32 := 256#32
  let v652 : BitVec 32 := Scalar.muli arg12 c256_i32_321
  v652
def k0_off18 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t9 : Fin (k0_t9_loop i v1 v3 v5 v7 v9 v11 v13 v15 v17 v19 v21 v23 v25 v27 v29 v31 v33 v35).trips) : Fin 2 → Nat :=
  let c0_i32_124 : BitVec 32 := 0#32
  let c1_i32_126 : BitVec 32 := 1#32
  let arg12 : BitVec 32 := Scf.iv c0_i32_124 c1_i32_126 k0_t9
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t10_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_124 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let v282 : BitVec 32 := Scalar.addi c0_i32_124 v281
  let c1_i32_127 : BitVec 32 := 1#32
  ⟨v285, v282, c1_i32_127⟩
def k0_mult24 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t10 : Fin (k0_t10_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_127 : BitVec 32 := 1#32
  let arg12 : BitVec 32 := Scf.iv v285 c1_i32_127 k0_t10
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off19 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t10 : Fin (k0_t10_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_127 : BitVec 32 := 1#32
  let arg12 : BitVec 32 := Scf.iv v285 c1_i32_127 k0_t10
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c256_314 : Index := 256#32
  ![v628.toNat, 256]
def k0_mult25 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t10 : Fin (k0_t10_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_124 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_127 : BitVec 32 := 1#32
  let arg12 : BitVec 32 := Scf.iv v285 c1_i32_127 k0_t10
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult26 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t10 : Fin (k0_t10_loop i v1 v3 v5 v7 v9 v11 v13 v15 v17 v19 v21 v23 v25 v27 v29 v31 v33 v35).trips) : BitVec 32 :=
  let c0_i32_124 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_127 : BitVec 32 := 1#32
  let arg12 : BitVec 32 := Scf.iv v285 c1_i32_127 k0_t10
  let c256_i32_321 : BitVec 32 := 256#32
  let v652 : BitVec 32 := Scalar.muli arg12 c256_i32_321
  v652
def k0_off20 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t10 : Fin (k0_t10_loop i v1 v3 v5 v7 v9 v11 v13 v15 v17 v19 v21 v23 v25 v27 v29 v31 v33 v35).trips) : Fin 2 → Nat :=
  let c0_i32_124 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v281 : BitVec 32 := Scalar.subi v75 c0_i32_124
  let c1_i32_125 : BitVec 32 := 1#32
  let v283 : BitVec 32 := Scalar.divsi v281 c1_i32_125
  let v284 : BitVec 32 := Scalar.muli v283 c1_i32_125
  let v285 : BitVec 32 := Scalar.addi c0_i32_124 v284
  let c1_i32_127 : BitVec 32 := 1#32
  let arg12 : BitVec 32 := Scf.iv v285 c1_i32_127 k0_t10
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t11_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_133 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let c1_i32_135 : BitVec 32 := 1#32
  ⟨c0_i32_133, v300, c1_i32_135⟩
def k0_mult27 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t11 : Fin (k0_t11_loop i v1 v3 v5 v7 v9 v11 v13 v15 v17 v19 v21 v23 v25 v27 v29 v31 v33 v35).trips) : BitVec 32 :=
  let c0_i32_133 : BitVec 32 := 0#32
  let c1_i32_135 : BitVec 32 := 1#32
  let arg12 : BitVec 32 := Scf.iv c0_i32_133 c1_i32_135 k0_t11
  let c256_i32_311 : BitVec 32 := 256#32
  let v623 : BitVec 32 := Scalar.muli arg12 c256_i32_311
  v623
def k0_off21 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t11 : Fin (k0_t11_loop i v1 v3 v5 v7 v9 v11 v13 v15 v17 v19 v21 v23 v25 v27 v29 v31 v33 v35).trips) : Fin 2 → Nat :=
  let c0_i32_133 : BitVec 32 := 0#32
  let c1_i32_135 : BitVec 32 := 1#32
  let arg12 : BitVec 32 := Scf.iv c0_i32_133 c1_i32_135 k0_t11
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult28 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t11 : Fin (k0_t11_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_133 : BitVec 32 := 0#32
  let c1_i32_135 : BitVec 32 := 1#32
  let arg12 : BitVec 32 := Scf.iv c0_i32_133 c1_i32_135 k0_t11
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off22 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t11 : Fin (k0_t11_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_133 : BitVec 32 := 0#32
  let c1_i32_135 : BitVec 32 := 1#32
  let arg12 : BitVec 32 := Scf.iv c0_i32_133 c1_i32_135 k0_t11
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c256_317 : Index := 256#32
  ![v638.toNat, 256]
@[reducible] def k0_t12_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_133 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let v297 : BitVec 32 := Scalar.addi c0_i32_133 v296
  let c1_i32_136 : BitVec 32 := 1#32
  ⟨v300, v297, c1_i32_136⟩
def k0_mult29 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t12 : Fin (k0_t12_loop i v1 v3 v5 v7 v9 v11 v13 v15 v17 v19 v21 v23 v25 v27 v29 v31 v33 v35).trips) : BitVec 32 :=
  let c0_i32_133 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let c1_i32_136 : BitVec 32 := 1#32
  let arg12 : BitVec 32 := Scf.iv v300 c1_i32_136 k0_t12
  let c256_i32_311 : BitVec 32 := 256#32
  let v623 : BitVec 32 := Scalar.muli arg12 c256_i32_311
  v623
def k0_off23 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t12 : Fin (k0_t12_loop i v1 v3 v5 v7 v9 v11 v13 v15 v17 v19 v21 v23 v25 v27 v29 v31 v33 v35).trips) : Fin 2 → Nat :=
  let c0_i32_133 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let c1_i32_136 : BitVec 32 := 1#32
  let arg12 : BitVec 32 := Scf.iv v300 c1_i32_136 k0_t12
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult30 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t12 : Fin (k0_t12_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_133 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let c1_i32_136 : BitVec 32 := 1#32
  let arg12 : BitVec 32 := Scf.iv v300 c1_i32_136 k0_t12
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off24 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t12 : Fin (k0_t12_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_133 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v296 : BitVec 32 := Scalar.subi v75 c0_i32_133
  let c1_i32_134 : BitVec 32 := 1#32
  let v298 : BitVec 32 := Scalar.divsi v296 c1_i32_134
  let v299 : BitVec 32 := Scalar.muli v298 c1_i32_134
  let v300 : BitVec 32 := Scalar.addi c0_i32_133 v299
  let c1_i32_136 : BitVec 32 := 1#32
  let arg12 : BitVec 32 := Scf.iv v300 c1_i32_136 k0_t12
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c256_317 : Index := 256#32
  ![v638.toNat, 256]
@[reducible] def k0_t13_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_156 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_158 : BitVec 32 := 1#32
  ⟨c0_i32_156, v343, c1_i32_158⟩
def k0_mult31 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t13 : Fin (k0_t13_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c1_i32_158 : BitVec 32 := 1#32
  let arg12 : BitVec 32 := Scf.iv c0_i32_156 c1_i32_158 k0_t13
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off25 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t13 : Fin (k0_t13_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c1_i32_158 : BitVec 32 := 1#32
  let arg12 : BitVec 32 := Scf.iv c0_i32_156 c1_i32_158 k0_t13
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c384_314 : Index := 384#32
  ![v628.toNat, 384]
def k0_mult32 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t13 : Fin (k0_t13_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c1_i32_158 : BitVec 32 := 1#32
  let arg12 : BitVec 32 := Scf.iv c0_i32_156 c1_i32_158 k0_t13
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult33 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t13 : Fin (k0_t13_loop i v1 v3 v5 v7 v9 v11 v13 v15 v17 v19 v21 v23 v25 v27 v29 v31 v33 v35).trips) : BitVec 32 :=
  let c0_i32_156 : BitVec 32 := 0#32
  let c1_i32_158 : BitVec 32 := 1#32
  let arg12 : BitVec 32 := Scf.iv c0_i32_156 c1_i32_158 k0_t13
  let c256_i32_321 : BitVec 32 := 256#32
  let v652 : BitVec 32 := Scalar.muli arg12 c256_i32_321
  v652
def k0_off26 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t13 : Fin (k0_t13_loop i v1 v3 v5 v7 v9 v11 v13 v15 v17 v19 v21 v23 v25 v27 v29 v31 v33 v35).trips) : Fin 2 → Nat :=
  let c0_i32_156 : BitVec 32 := 0#32
  let c1_i32_158 : BitVec 32 := 1#32
  let arg12 : BitVec 32 := Scf.iv c0_i32_156 c1_i32_158 k0_t13
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t14_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_156 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let v340 : BitVec 32 := Scalar.addi c0_i32_156 v339
  let c1_i32_159 : BitVec 32 := 1#32
  ⟨v343, v340, c1_i32_159⟩
def k0_mult34 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t14 : Fin (k0_t14_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_159 : BitVec 32 := 1#32
  let arg12 : BitVec 32 := Scf.iv v343 c1_i32_159 k0_t14
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off27 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t14 : Fin (k0_t14_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_159 : BitVec 32 := 1#32
  let arg12 : BitVec 32 := Scf.iv v343 c1_i32_159 k0_t14
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c384_314 : Index := 384#32
  ![v628.toNat, 384]
def k0_mult35 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t14 : Fin (k0_t14_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_156 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_159 : BitVec 32 := 1#32
  let arg12 : BitVec 32 := Scf.iv v343 c1_i32_159 k0_t14
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult36 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t14 : Fin (k0_t14_loop i v1 v3 v5 v7 v9 v11 v13 v15 v17 v19 v21 v23 v25 v27 v29 v31 v33 v35).trips) : BitVec 32 :=
  let c0_i32_156 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_159 : BitVec 32 := 1#32
  let arg12 : BitVec 32 := Scf.iv v343 c1_i32_159 k0_t14
  let c256_i32_321 : BitVec 32 := 256#32
  let v652 : BitVec 32 := Scalar.muli arg12 c256_i32_321
  v652
def k0_off28 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t14 : Fin (k0_t14_loop i v1 v3 v5 v7 v9 v11 v13 v15 v17 v19 v21 v23 v25 v27 v29 v31 v33 v35).trips) : Fin 2 → Nat :=
  let c0_i32_156 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v339 : BitVec 32 := Scalar.subi v75 c0_i32_156
  let c1_i32_157 : BitVec 32 := 1#32
  let v341 : BitVec 32 := Scalar.divsi v339 c1_i32_157
  let v342 : BitVec 32 := Scalar.muli v341 c1_i32_157
  let v343 : BitVec 32 := Scalar.addi c0_i32_156 v342
  let c1_i32_159 : BitVec 32 := 1#32
  let arg12 : BitVec 32 := Scf.iv v343 c1_i32_159 k0_t14
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t15_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_165 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let c1_i32_167 : BitVec 32 := 1#32
  ⟨c0_i32_165, v358, c1_i32_167⟩
def k0_mult37 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t15 : Fin (k0_t15_loop i v1 v3 v5 v7 v9 v11 v13 v15 v17 v19 v21 v23 v25 v27 v29 v31 v33 v35).trips) : BitVec 32 :=
  let c0_i32_165 : BitVec 32 := 0#32
  let c1_i32_167 : BitVec 32 := 1#32
  let arg12 : BitVec 32 := Scf.iv c0_i32_165 c1_i32_167 k0_t15
  let c256_i32_311 : BitVec 32 := 256#32
  let v623 : BitVec 32 := Scalar.muli arg12 c256_i32_311
  v623
def k0_off29 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t15 : Fin (k0_t15_loop i v1 v3 v5 v7 v9 v11 v13 v15 v17 v19 v21 v23 v25 v27 v29 v31 v33 v35).trips) : Fin 2 → Nat :=
  let c0_i32_165 : BitVec 32 := 0#32
  let c1_i32_167 : BitVec 32 := 1#32
  let arg12 : BitVec 32 := Scf.iv c0_i32_165 c1_i32_167 k0_t15
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult38 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t15 : Fin (k0_t15_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_165 : BitVec 32 := 0#32
  let c1_i32_167 : BitVec 32 := 1#32
  let arg12 : BitVec 32 := Scf.iv c0_i32_165 c1_i32_167 k0_t15
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off30 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t15 : Fin (k0_t15_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_165 : BitVec 32 := 0#32
  let c1_i32_167 : BitVec 32 := 1#32
  let arg12 : BitVec 32 := Scf.iv c0_i32_165 c1_i32_167 k0_t15
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c384_317 : Index := 384#32
  ![v638.toNat, 384]
@[reducible] def k0_t16_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_165 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let v355 : BitVec 32 := Scalar.addi c0_i32_165 v354
  let c1_i32_168 : BitVec 32 := 1#32
  ⟨v358, v355, c1_i32_168⟩
def k0_mult39 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t16 : Fin (k0_t16_loop i v1 v3 v5 v7 v9 v11 v13 v15 v17 v19 v21 v23 v25 v27 v29 v31 v33 v35).trips) : BitVec 32 :=
  let c0_i32_165 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let c1_i32_168 : BitVec 32 := 1#32
  let arg12 : BitVec 32 := Scf.iv v358 c1_i32_168 k0_t16
  let c256_i32_311 : BitVec 32 := 256#32
  let v623 : BitVec 32 := Scalar.muli arg12 c256_i32_311
  v623
def k0_off31 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t16 : Fin (k0_t16_loop i v1 v3 v5 v7 v9 v11 v13 v15 v17 v19 v21 v23 v25 v27 v29 v31 v33 v35).trips) : Fin 2 → Nat :=
  let c0_i32_165 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let c1_i32_168 : BitVec 32 := 1#32
  let arg12 : BitVec 32 := Scf.iv v358 c1_i32_168 k0_t16
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult40 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t16 : Fin (k0_t16_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_165 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let c1_i32_168 : BitVec 32 := 1#32
  let arg12 : BitVec 32 := Scf.iv v358 c1_i32_168 k0_t16
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off32 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t16 : Fin (k0_t16_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_165 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v354 : BitVec 32 := Scalar.subi v75 c0_i32_165
  let c1_i32_166 : BitVec 32 := 1#32
  let v356 : BitVec 32 := Scalar.divsi v354 c1_i32_166
  let v357 : BitVec 32 := Scalar.muli v356 c1_i32_166
  let v358 : BitVec 32 := Scalar.addi c0_i32_165 v357
  let c1_i32_168 : BitVec 32 := 1#32
  let arg12 : BitVec 32 := Scf.iv v358 c1_i32_168 k0_t16
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c384_317 : Index := 384#32
  ![v638.toNat, 384]
@[reducible] def k0_t17_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_188 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_190 : BitVec 32 := 1#32
  ⟨c0_i32_188, v401, c1_i32_190⟩
def k0_mult41 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t17 : Fin (k0_t17_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c1_i32_190 : BitVec 32 := 1#32
  let arg12 : BitVec 32 := Scf.iv c0_i32_188 c1_i32_190 k0_t17
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off33 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t17 : Fin (k0_t17_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c1_i32_190 : BitVec 32 := 1#32
  let arg12 : BitVec 32 := Scf.iv c0_i32_188 c1_i32_190 k0_t17
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c512_314 : Index := 512#32
  ![v628.toNat, 512]
def k0_mult42 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t17 : Fin (k0_t17_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c1_i32_190 : BitVec 32 := 1#32
  let arg12 : BitVec 32 := Scf.iv c0_i32_188 c1_i32_190 k0_t17
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult43 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t17 : Fin (k0_t17_loop i v1 v3 v5 v7 v9 v11 v13 v15 v17 v19 v21 v23 v25 v27 v29 v31 v33 v35).trips) : BitVec 32 :=
  let c0_i32_188 : BitVec 32 := 0#32
  let c1_i32_190 : BitVec 32 := 1#32
  let arg12 : BitVec 32 := Scf.iv c0_i32_188 c1_i32_190 k0_t17
  let c256_i32_321 : BitVec 32 := 256#32
  let v652 : BitVec 32 := Scalar.muli arg12 c256_i32_321
  v652
def k0_off34 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t17 : Fin (k0_t17_loop i v1 v3 v5 v7 v9 v11 v13 v15 v17 v19 v21 v23 v25 v27 v29 v31 v33 v35).trips) : Fin 2 → Nat :=
  let c0_i32_188 : BitVec 32 := 0#32
  let c1_i32_190 : BitVec 32 := 1#32
  let arg12 : BitVec 32 := Scf.iv c0_i32_188 c1_i32_190 k0_t17
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t18_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_188 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let v398 : BitVec 32 := Scalar.addi c0_i32_188 v397
  let c1_i32_191 : BitVec 32 := 1#32
  ⟨v401, v398, c1_i32_191⟩
def k0_mult44 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t18 : Fin (k0_t18_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_191 : BitVec 32 := 1#32
  let arg12 : BitVec 32 := Scf.iv v401 c1_i32_191 k0_t18
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off35 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t18 : Fin (k0_t18_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_191 : BitVec 32 := 1#32
  let arg12 : BitVec 32 := Scf.iv v401 c1_i32_191 k0_t18
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c512_314 : Index := 512#32
  ![v628.toNat, 512]
def k0_mult45 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t18 : Fin (k0_t18_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_188 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_191 : BitVec 32 := 1#32
  let arg12 : BitVec 32 := Scf.iv v401 c1_i32_191 k0_t18
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult46 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t18 : Fin (k0_t18_loop i v1 v3 v5 v7 v9 v11 v13 v15 v17 v19 v21 v23 v25 v27 v29 v31 v33 v35).trips) : BitVec 32 :=
  let c0_i32_188 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_191 : BitVec 32 := 1#32
  let arg12 : BitVec 32 := Scf.iv v401 c1_i32_191 k0_t18
  let c256_i32_321 : BitVec 32 := 256#32
  let v652 : BitVec 32 := Scalar.muli arg12 c256_i32_321
  v652
def k0_off36 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t18 : Fin (k0_t18_loop i v1 v3 v5 v7 v9 v11 v13 v15 v17 v19 v21 v23 v25 v27 v29 v31 v33 v35).trips) : Fin 2 → Nat :=
  let c0_i32_188 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v397 : BitVec 32 := Scalar.subi v75 c0_i32_188
  let c1_i32_189 : BitVec 32 := 1#32
  let v399 : BitVec 32 := Scalar.divsi v397 c1_i32_189
  let v400 : BitVec 32 := Scalar.muli v399 c1_i32_189
  let v401 : BitVec 32 := Scalar.addi c0_i32_188 v400
  let c1_i32_191 : BitVec 32 := 1#32
  let arg12 : BitVec 32 := Scf.iv v401 c1_i32_191 k0_t18
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t19_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_197 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let c1_i32_199 : BitVec 32 := 1#32
  ⟨c0_i32_197, v416, c1_i32_199⟩
def k0_mult47 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t19 : Fin (k0_t19_loop i v1 v3 v5 v7 v9 v11 v13 v15 v17 v19 v21 v23 v25 v27 v29 v31 v33 v35).trips) : BitVec 32 :=
  let c0_i32_197 : BitVec 32 := 0#32
  let c1_i32_199 : BitVec 32 := 1#32
  let arg12 : BitVec 32 := Scf.iv c0_i32_197 c1_i32_199 k0_t19
  let c256_i32_311 : BitVec 32 := 256#32
  let v623 : BitVec 32 := Scalar.muli arg12 c256_i32_311
  v623
def k0_off37 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t19 : Fin (k0_t19_loop i v1 v3 v5 v7 v9 v11 v13 v15 v17 v19 v21 v23 v25 v27 v29 v31 v33 v35).trips) : Fin 2 → Nat :=
  let c0_i32_197 : BitVec 32 := 0#32
  let c1_i32_199 : BitVec 32 := 1#32
  let arg12 : BitVec 32 := Scf.iv c0_i32_197 c1_i32_199 k0_t19
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult48 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t19 : Fin (k0_t19_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_197 : BitVec 32 := 0#32
  let c1_i32_199 : BitVec 32 := 1#32
  let arg12 : BitVec 32 := Scf.iv c0_i32_197 c1_i32_199 k0_t19
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off38 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t19 : Fin (k0_t19_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_197 : BitVec 32 := 0#32
  let c1_i32_199 : BitVec 32 := 1#32
  let arg12 : BitVec 32 := Scf.iv c0_i32_197 c1_i32_199 k0_t19
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c512_317 : Index := 512#32
  ![v638.toNat, 512]
@[reducible] def k0_t20_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_197 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let v413 : BitVec 32 := Scalar.addi c0_i32_197 v412
  let c1_i32_200 : BitVec 32 := 1#32
  ⟨v416, v413, c1_i32_200⟩
def k0_mult49 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t20 : Fin (k0_t20_loop i v1 v3 v5 v7 v9 v11 v13 v15 v17 v19 v21 v23 v25 v27 v29 v31 v33 v35).trips) : BitVec 32 :=
  let c0_i32_197 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let c1_i32_200 : BitVec 32 := 1#32
  let arg12 : BitVec 32 := Scf.iv v416 c1_i32_200 k0_t20
  let c256_i32_311 : BitVec 32 := 256#32
  let v623 : BitVec 32 := Scalar.muli arg12 c256_i32_311
  v623
def k0_off39 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t20 : Fin (k0_t20_loop i v1 v3 v5 v7 v9 v11 v13 v15 v17 v19 v21 v23 v25 v27 v29 v31 v33 v35).trips) : Fin 2 → Nat :=
  let c0_i32_197 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let c1_i32_200 : BitVec 32 := 1#32
  let arg12 : BitVec 32 := Scf.iv v416 c1_i32_200 k0_t20
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult50 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t20 : Fin (k0_t20_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_197 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let c1_i32_200 : BitVec 32 := 1#32
  let arg12 : BitVec 32 := Scf.iv v416 c1_i32_200 k0_t20
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off40 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t20 : Fin (k0_t20_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_197 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v412 : BitVec 32 := Scalar.subi v75 c0_i32_197
  let c1_i32_198 : BitVec 32 := 1#32
  let v414 : BitVec 32 := Scalar.divsi v412 c1_i32_198
  let v415 : BitVec 32 := Scalar.muli v414 c1_i32_198
  let v416 : BitVec 32 := Scalar.addi c0_i32_197 v415
  let c1_i32_200 : BitVec 32 := 1#32
  let arg12 : BitVec 32 := Scf.iv v416 c1_i32_200 k0_t20
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c512_317 : Index := 512#32
  ![v638.toNat, 512]
@[reducible] def k0_t21_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_220 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_222 : BitVec 32 := 1#32
  ⟨c0_i32_220, v459, c1_i32_222⟩
def k0_mult51 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t21 : Fin (k0_t21_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c1_i32_222 : BitVec 32 := 1#32
  let arg12 : BitVec 32 := Scf.iv c0_i32_220 c1_i32_222 k0_t21
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off41 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t21 : Fin (k0_t21_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c1_i32_222 : BitVec 32 := 1#32
  let arg12 : BitVec 32 := Scf.iv c0_i32_220 c1_i32_222 k0_t21
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c640_314 : Index := 640#32
  ![v628.toNat, 640]
def k0_mult52 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t21 : Fin (k0_t21_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c1_i32_222 : BitVec 32 := 1#32
  let arg12 : BitVec 32 := Scf.iv c0_i32_220 c1_i32_222 k0_t21
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult53 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t21 : Fin (k0_t21_loop i v1 v3 v5 v7 v9 v11 v13 v15 v17 v19 v21 v23 v25 v27 v29 v31 v33 v35).trips) : BitVec 32 :=
  let c0_i32_220 : BitVec 32 := 0#32
  let c1_i32_222 : BitVec 32 := 1#32
  let arg12 : BitVec 32 := Scf.iv c0_i32_220 c1_i32_222 k0_t21
  let c256_i32_321 : BitVec 32 := 256#32
  let v652 : BitVec 32 := Scalar.muli arg12 c256_i32_321
  v652
def k0_off42 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t21 : Fin (k0_t21_loop i v1 v3 v5 v7 v9 v11 v13 v15 v17 v19 v21 v23 v25 v27 v29 v31 v33 v35).trips) : Fin 2 → Nat :=
  let c0_i32_220 : BitVec 32 := 0#32
  let c1_i32_222 : BitVec 32 := 1#32
  let arg12 : BitVec 32 := Scf.iv c0_i32_220 c1_i32_222 k0_t21
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t22_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_220 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let v456 : BitVec 32 := Scalar.addi c0_i32_220 v455
  let c1_i32_223 : BitVec 32 := 1#32
  ⟨v459, v456, c1_i32_223⟩
def k0_mult54 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t22 : Fin (k0_t22_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_223 : BitVec 32 := 1#32
  let arg12 : BitVec 32 := Scf.iv v459 c1_i32_223 k0_t22
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off43 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t22 : Fin (k0_t22_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_223 : BitVec 32 := 1#32
  let arg12 : BitVec 32 := Scf.iv v459 c1_i32_223 k0_t22
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c640_314 : Index := 640#32
  ![v628.toNat, 640]
def k0_mult55 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t22 : Fin (k0_t22_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_220 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_223 : BitVec 32 := 1#32
  let arg12 : BitVec 32 := Scf.iv v459 c1_i32_223 k0_t22
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult56 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t22 : Fin (k0_t22_loop i v1 v3 v5 v7 v9 v11 v13 v15 v17 v19 v21 v23 v25 v27 v29 v31 v33 v35).trips) : BitVec 32 :=
  let c0_i32_220 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_223 : BitVec 32 := 1#32
  let arg12 : BitVec 32 := Scf.iv v459 c1_i32_223 k0_t22
  let c256_i32_321 : BitVec 32 := 256#32
  let v652 : BitVec 32 := Scalar.muli arg12 c256_i32_321
  v652
def k0_off44 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t22 : Fin (k0_t22_loop i v1 v3 v5 v7 v9 v11 v13 v15 v17 v19 v21 v23 v25 v27 v29 v31 v33 v35).trips) : Fin 2 → Nat :=
  let c0_i32_220 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v455 : BitVec 32 := Scalar.subi v75 c0_i32_220
  let c1_i32_221 : BitVec 32 := 1#32
  let v457 : BitVec 32 := Scalar.divsi v455 c1_i32_221
  let v458 : BitVec 32 := Scalar.muli v457 c1_i32_221
  let v459 : BitVec 32 := Scalar.addi c0_i32_220 v458
  let c1_i32_223 : BitVec 32 := 1#32
  let arg12 : BitVec 32 := Scf.iv v459 c1_i32_223 k0_t22
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t23_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_229 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let c1_i32_231 : BitVec 32 := 1#32
  ⟨c0_i32_229, v474, c1_i32_231⟩
def k0_mult57 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t23 : Fin (k0_t23_loop i v1 v3 v5 v7 v9 v11 v13 v15 v17 v19 v21 v23 v25 v27 v29 v31 v33 v35).trips) : BitVec 32 :=
  let c0_i32_229 : BitVec 32 := 0#32
  let c1_i32_231 : BitVec 32 := 1#32
  let arg12 : BitVec 32 := Scf.iv c0_i32_229 c1_i32_231 k0_t23
  let c256_i32_311 : BitVec 32 := 256#32
  let v623 : BitVec 32 := Scalar.muli arg12 c256_i32_311
  v623
def k0_off45 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t23 : Fin (k0_t23_loop i v1 v3 v5 v7 v9 v11 v13 v15 v17 v19 v21 v23 v25 v27 v29 v31 v33 v35).trips) : Fin 2 → Nat :=
  let c0_i32_229 : BitVec 32 := 0#32
  let c1_i32_231 : BitVec 32 := 1#32
  let arg12 : BitVec 32 := Scf.iv c0_i32_229 c1_i32_231 k0_t23
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult58 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t23 : Fin (k0_t23_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_229 : BitVec 32 := 0#32
  let c1_i32_231 : BitVec 32 := 1#32
  let arg12 : BitVec 32 := Scf.iv c0_i32_229 c1_i32_231 k0_t23
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off46 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t23 : Fin (k0_t23_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_229 : BitVec 32 := 0#32
  let c1_i32_231 : BitVec 32 := 1#32
  let arg12 : BitVec 32 := Scf.iv c0_i32_229 c1_i32_231 k0_t23
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c640_317 : Index := 640#32
  ![v638.toNat, 640]
@[reducible] def k0_t24_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_229 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let v471 : BitVec 32 := Scalar.addi c0_i32_229 v470
  let c1_i32_232 : BitVec 32 := 1#32
  ⟨v474, v471, c1_i32_232⟩
def k0_mult59 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t24 : Fin (k0_t24_loop i v1 v3 v5 v7 v9 v11 v13 v15 v17 v19 v21 v23 v25 v27 v29 v31 v33 v35).trips) : BitVec 32 :=
  let c0_i32_229 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let c1_i32_232 : BitVec 32 := 1#32
  let arg12 : BitVec 32 := Scf.iv v474 c1_i32_232 k0_t24
  let c256_i32_311 : BitVec 32 := 256#32
  let v623 : BitVec 32 := Scalar.muli arg12 c256_i32_311
  v623
def k0_off47 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t24 : Fin (k0_t24_loop i v1 v3 v5 v7 v9 v11 v13 v15 v17 v19 v21 v23 v25 v27 v29 v31 v33 v35).trips) : Fin 2 → Nat :=
  let c0_i32_229 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let c1_i32_232 : BitVec 32 := 1#32
  let arg12 : BitVec 32 := Scf.iv v474 c1_i32_232 k0_t24
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult60 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t24 : Fin (k0_t24_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_229 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let c1_i32_232 : BitVec 32 := 1#32
  let arg12 : BitVec 32 := Scf.iv v474 c1_i32_232 k0_t24
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off48 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t24 : Fin (k0_t24_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_229 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v470 : BitVec 32 := Scalar.subi v75 c0_i32_229
  let c1_i32_230 : BitVec 32 := 1#32
  let v472 : BitVec 32 := Scalar.divsi v470 c1_i32_230
  let v473 : BitVec 32 := Scalar.muli v472 c1_i32_230
  let v474 : BitVec 32 := Scalar.addi c0_i32_229 v473
  let c1_i32_232 : BitVec 32 := 1#32
  let arg12 : BitVec 32 := Scf.iv v474 c1_i32_232 k0_t24
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c640_317 : Index := 640#32
  ![v638.toNat, 640]
@[reducible] def k0_t25_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_252 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_254 : BitVec 32 := 1#32
  ⟨c0_i32_252, v517, c1_i32_254⟩
def k0_mult61 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t25 : Fin (k0_t25_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c1_i32_254 : BitVec 32 := 1#32
  let arg12 : BitVec 32 := Scf.iv c0_i32_252 c1_i32_254 k0_t25
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off49 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t25 : Fin (k0_t25_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c1_i32_254 : BitVec 32 := 1#32
  let arg12 : BitVec 32 := Scf.iv c0_i32_252 c1_i32_254 k0_t25
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c768_314 : Index := 768#32
  ![v628.toNat, 768]
def k0_mult62 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t25 : Fin (k0_t25_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c1_i32_254 : BitVec 32 := 1#32
  let arg12 : BitVec 32 := Scf.iv c0_i32_252 c1_i32_254 k0_t25
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult63 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t25 : Fin (k0_t25_loop i v1 v3 v5 v7 v9 v11 v13 v15 v17 v19 v21 v23 v25 v27 v29 v31 v33 v35).trips) : BitVec 32 :=
  let c0_i32_252 : BitVec 32 := 0#32
  let c1_i32_254 : BitVec 32 := 1#32
  let arg12 : BitVec 32 := Scf.iv c0_i32_252 c1_i32_254 k0_t25
  let c256_i32_321 : BitVec 32 := 256#32
  let v652 : BitVec 32 := Scalar.muli arg12 c256_i32_321
  v652
def k0_off50 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t25 : Fin (k0_t25_loop i v1 v3 v5 v7 v9 v11 v13 v15 v17 v19 v21 v23 v25 v27 v29 v31 v33 v35).trips) : Fin 2 → Nat :=
  let c0_i32_252 : BitVec 32 := 0#32
  let c1_i32_254 : BitVec 32 := 1#32
  let arg12 : BitVec 32 := Scf.iv c0_i32_252 c1_i32_254 k0_t25
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t26_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_252 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let v514 : BitVec 32 := Scalar.addi c0_i32_252 v513
  let c1_i32_255 : BitVec 32 := 1#32
  ⟨v517, v514, c1_i32_255⟩
def k0_mult64 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t26 : Fin (k0_t26_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_255 : BitVec 32 := 1#32
  let arg12 : BitVec 32 := Scf.iv v517 c1_i32_255 k0_t26
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off51 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t26 : Fin (k0_t26_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_255 : BitVec 32 := 1#32
  let arg12 : BitVec 32 := Scf.iv v517 c1_i32_255 k0_t26
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c768_314 : Index := 768#32
  ![v628.toNat, 768]
def k0_mult65 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t26 : Fin (k0_t26_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_252 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_255 : BitVec 32 := 1#32
  let arg12 : BitVec 32 := Scf.iv v517 c1_i32_255 k0_t26
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult66 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t26 : Fin (k0_t26_loop i v1 v3 v5 v7 v9 v11 v13 v15 v17 v19 v21 v23 v25 v27 v29 v31 v33 v35).trips) : BitVec 32 :=
  let c0_i32_252 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_255 : BitVec 32 := 1#32
  let arg12 : BitVec 32 := Scf.iv v517 c1_i32_255 k0_t26
  let c256_i32_321 : BitVec 32 := 256#32
  let v652 : BitVec 32 := Scalar.muli arg12 c256_i32_321
  v652
def k0_off52 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t26 : Fin (k0_t26_loop i v1 v3 v5 v7 v9 v11 v13 v15 v17 v19 v21 v23 v25 v27 v29 v31 v33 v35).trips) : Fin 2 → Nat :=
  let c0_i32_252 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v513 : BitVec 32 := Scalar.subi v75 c0_i32_252
  let c1_i32_253 : BitVec 32 := 1#32
  let v515 : BitVec 32 := Scalar.divsi v513 c1_i32_253
  let v516 : BitVec 32 := Scalar.muli v515 c1_i32_253
  let v517 : BitVec 32 := Scalar.addi c0_i32_252 v516
  let c1_i32_255 : BitVec 32 := 1#32
  let arg12 : BitVec 32 := Scf.iv v517 c1_i32_255 k0_t26
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t27_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_261 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let c1_i32_263 : BitVec 32 := 1#32
  ⟨c0_i32_261, v532, c1_i32_263⟩
def k0_mult67 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t27 : Fin (k0_t27_loop i v1 v3 v5 v7 v9 v11 v13 v15 v17 v19 v21 v23 v25 v27 v29 v31 v33 v35).trips) : BitVec 32 :=
  let c0_i32_261 : BitVec 32 := 0#32
  let c1_i32_263 : BitVec 32 := 1#32
  let arg12 : BitVec 32 := Scf.iv c0_i32_261 c1_i32_263 k0_t27
  let c256_i32_311 : BitVec 32 := 256#32
  let v623 : BitVec 32 := Scalar.muli arg12 c256_i32_311
  v623
def k0_off53 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t27 : Fin (k0_t27_loop i v1 v3 v5 v7 v9 v11 v13 v15 v17 v19 v21 v23 v25 v27 v29 v31 v33 v35).trips) : Fin 2 → Nat :=
  let c0_i32_261 : BitVec 32 := 0#32
  let c1_i32_263 : BitVec 32 := 1#32
  let arg12 : BitVec 32 := Scf.iv c0_i32_261 c1_i32_263 k0_t27
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult68 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t27 : Fin (k0_t27_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_261 : BitVec 32 := 0#32
  let c1_i32_263 : BitVec 32 := 1#32
  let arg12 : BitVec 32 := Scf.iv c0_i32_261 c1_i32_263 k0_t27
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off54 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t27 : Fin (k0_t27_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_261 : BitVec 32 := 0#32
  let c1_i32_263 : BitVec 32 := 1#32
  let arg12 : BitVec 32 := Scf.iv c0_i32_261 c1_i32_263 k0_t27
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c768_317 : Index := 768#32
  ![v638.toNat, 768]
@[reducible] def k0_t28_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_261 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let v529 : BitVec 32 := Scalar.addi c0_i32_261 v528
  let c1_i32_264 : BitVec 32 := 1#32
  ⟨v532, v529, c1_i32_264⟩
def k0_mult69 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t28 : Fin (k0_t28_loop i v1 v3 v5 v7 v9 v11 v13 v15 v17 v19 v21 v23 v25 v27 v29 v31 v33 v35).trips) : BitVec 32 :=
  let c0_i32_261 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let c1_i32_264 : BitVec 32 := 1#32
  let arg12 : BitVec 32 := Scf.iv v532 c1_i32_264 k0_t28
  let c256_i32_311 : BitVec 32 := 256#32
  let v623 : BitVec 32 := Scalar.muli arg12 c256_i32_311
  v623
def k0_off55 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t28 : Fin (k0_t28_loop i v1 v3 v5 v7 v9 v11 v13 v15 v17 v19 v21 v23 v25 v27 v29 v31 v33 v35).trips) : Fin 2 → Nat :=
  let c0_i32_261 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let c1_i32_264 : BitVec 32 := 1#32
  let arg12 : BitVec 32 := Scf.iv v532 c1_i32_264 k0_t28
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult70 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t28 : Fin (k0_t28_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_261 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let c1_i32_264 : BitVec 32 := 1#32
  let arg12 : BitVec 32 := Scf.iv v532 c1_i32_264 k0_t28
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off56 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t28 : Fin (k0_t28_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_261 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v528 : BitVec 32 := Scalar.subi v75 c0_i32_261
  let c1_i32_262 : BitVec 32 := 1#32
  let v530 : BitVec 32 := Scalar.divsi v528 c1_i32_262
  let v531 : BitVec 32 := Scalar.muli v530 c1_i32_262
  let v532 : BitVec 32 := Scalar.addi c0_i32_261 v531
  let c1_i32_264 : BitVec 32 := 1#32
  let arg12 : BitVec 32 := Scf.iv v532 c1_i32_264 k0_t28
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c768_317 : Index := 768#32
  ![v638.toNat, 768]
@[reducible] def k0_t29_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_284 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_286 : BitVec 32 := 1#32
  ⟨c0_i32_284, v575, c1_i32_286⟩
def k0_mult71 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t29 : Fin (k0_t29_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c1_i32_286 : BitVec 32 := 1#32
  let arg12 : BitVec 32 := Scf.iv c0_i32_284 c1_i32_286 k0_t29
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off57 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t29 : Fin (k0_t29_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c1_i32_286 : BitVec 32 := 1#32
  let arg12 : BitVec 32 := Scf.iv c0_i32_284 c1_i32_286 k0_t29
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c896_314 : Index := 896#32
  ![v628.toNat, 896]
def k0_mult72 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t29 : Fin (k0_t29_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c1_i32_286 : BitVec 32 := 1#32
  let arg12 : BitVec 32 := Scf.iv c0_i32_284 c1_i32_286 k0_t29
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult73 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t29 : Fin (k0_t29_loop i v1 v3 v5 v7 v9 v11 v13 v15 v17 v19 v21 v23 v25 v27 v29 v31 v33 v35).trips) : BitVec 32 :=
  let c0_i32_284 : BitVec 32 := 0#32
  let c1_i32_286 : BitVec 32 := 1#32
  let arg12 : BitVec 32 := Scf.iv c0_i32_284 c1_i32_286 k0_t29
  let c256_i32_321 : BitVec 32 := 256#32
  let v652 : BitVec 32 := Scalar.muli arg12 c256_i32_321
  v652
def k0_off58 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t29 : Fin (k0_t29_loop i v1 v3 v5 v7 v9 v11 v13 v15 v17 v19 v21 v23 v25 v27 v29 v31 v33 v35).trips) : Fin 2 → Nat :=
  let c0_i32_284 : BitVec 32 := 0#32
  let c1_i32_286 : BitVec 32 := 1#32
  let arg12 : BitVec 32 := Scf.iv c0_i32_284 c1_i32_286 k0_t29
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t30_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_284 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let v572 : BitVec 32 := Scalar.addi c0_i32_284 v571
  let c1_i32_287 : BitVec 32 := 1#32
  ⟨v575, v572, c1_i32_287⟩
def k0_mult74 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t30 : Fin (k0_t30_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_287 : BitVec 32 := 1#32
  let arg12 : BitVec 32 := Scf.iv v575 c1_i32_287 k0_t30
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  v626
def k0_off59 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t30 : Fin (k0_t30_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_287 : BitVec 32 := 1#32
  let arg12 : BitVec 32 := Scf.iv v575 c1_i32_287 k0_t30
  let c1_i32_311 : BitVec 32 := 1#32
  let v623 : BitVec 32 := Scalar.addi arg12 c1_i32_311
  let c256_i32_312 : BitVec 32 := 256#32
  let v624 : BitVec 32 := Scalar.muli v623 c256_i32_312
  let v625 : BitVec 32 := Scalar.subi v76 v624
  let c0_i32_313 : BitVec 32 := 0#32
  let v626 : BitVec 32 := Scalar.maxsi v625 c0_i32_313
  let v627 : BitVec 32 := v626
  let v628 : Index := Scalar.indexCast v627
  let c896_314 : Index := 896#32
  ![v628.toNat, 896]
def k0_mult75 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t30 : Fin (k0_t30_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_284 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_287 : BitVec 32 := 1#32
  let arg12 : BitVec 32 := Scf.iv v575 c1_i32_287 k0_t30
  let c1_i32_316 : BitVec 32 := 1#32
  let v633 : BitVec 32 := Scalar.addi arg12 c1_i32_316
  let c256_i32_317 : BitVec 32 := 256#32
  let v634 : BitVec 32 := Scalar.muli v633 c256_i32_317
  let v635 : BitVec 32 := Scalar.subi v76 v634
  let c0_i32_318 : BitVec 32 := 0#32
  let v636 : BitVec 32 := Scalar.maxsi v635 c0_i32_318
  v636
def k0_mult76 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t30 : Fin (k0_t30_loop i v1 v3 v5 v7 v9 v11 v13 v15 v17 v19 v21 v23 v25 v27 v29 v31 v33 v35).trips) : BitVec 32 :=
  let c0_i32_284 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_287 : BitVec 32 := 1#32
  let arg12 : BitVec 32 := Scf.iv v575 c1_i32_287 k0_t30
  let c256_i32_321 : BitVec 32 := 256#32
  let v652 : BitVec 32 := Scalar.muli arg12 c256_i32_321
  v652
def k0_off60 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t30 : Fin (k0_t30_loop i v1 v3 v5 v7 v9 v11 v13 v15 v17 v19 v21 v23 v25 v27 v29 v31 v33 v35).trips) : Fin 2 → Nat :=
  let c0_i32_284 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v571 : BitVec 32 := Scalar.subi v75 c0_i32_284
  let c1_i32_285 : BitVec 32 := 1#32
  let v573 : BitVec 32 := Scalar.divsi v571 c1_i32_285
  let v574 : BitVec 32 := Scalar.muli v573 c1_i32_285
  let v575 : BitVec 32 := Scalar.addi c0_i32_284 v574
  let c1_i32_287 : BitVec 32 := 1#32
  let arg12 : BitVec 32 := Scf.iv v575 c1_i32_287 k0_t30
  let c256_i32_321 : BitVec 32 := 256#32
  let v652 : BitVec 32 := Scalar.muli arg12 c256_i32_321
  let v653 : BitVec 32 := v652
  let v654 : Index := Scalar.indexCast v653
  let c0_322 : Index := 0#32
  ![v654.toNat, 0]
@[reducible] def k0_t31_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_293 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let c1_i32_295 : BitVec 32 := 1#32
  ⟨c0_i32_293, v590, c1_i32_295⟩
def k0_mult77 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t31 : Fin (k0_t31_loop i v1 v3 v5 v7 v9 v11 v13 v15 v17 v19 v21 v23 v25 v27 v29 v31 v33 v35).trips) : BitVec 32 :=
  let c0_i32_293 : BitVec 32 := 0#32
  let c1_i32_295 : BitVec 32 := 1#32
  let arg12 : BitVec 32 := Scf.iv c0_i32_293 c1_i32_295 k0_t31
  let c256_i32_311 : BitVec 32 := 256#32
  let v623 : BitVec 32 := Scalar.muli arg12 c256_i32_311
  v623
def k0_off61 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t31 : Fin (k0_t31_loop i v1 v3 v5 v7 v9 v11 v13 v15 v17 v19 v21 v23 v25 v27 v29 v31 v33 v35).trips) : Fin 2 → Nat :=
  let c0_i32_293 : BitVec 32 := 0#32
  let c1_i32_295 : BitVec 32 := 1#32
  let arg12 : BitVec 32 := Scf.iv c0_i32_293 c1_i32_295 k0_t31
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult78 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t31 : Fin (k0_t31_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_293 : BitVec 32 := 0#32
  let c1_i32_295 : BitVec 32 := 1#32
  let arg12 : BitVec 32 := Scf.iv c0_i32_293 c1_i32_295 k0_t31
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off62 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t31 : Fin (k0_t31_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_293 : BitVec 32 := 0#32
  let c1_i32_295 : BitVec 32 := 1#32
  let arg12 : BitVec 32 := Scf.iv c0_i32_293 c1_i32_295 k0_t31
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c896_317 : Index := 896#32
  ![v638.toNat, 896]
@[reducible] def k0_t32_loop (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Scf.Loop 32 :=
  let c0_i32_293 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let v587 : BitVec 32 := Scalar.addi c0_i32_293 v586
  let c1_i32_296 : BitVec 32 := 1#32
  ⟨v590, v587, c1_i32_296⟩
def k0_mult79 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t32 : Fin (k0_t32_loop i v1 v3 v5 v7 v9 v11 v13 v15 v17 v19 v21 v23 v25 v27 v29 v31 v33 v35).trips) : BitVec 32 :=
  let c0_i32_293 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let c1_i32_296 : BitVec 32 := 1#32
  let arg12 : BitVec 32 := Scf.iv v590 c1_i32_296 k0_t32
  let c256_i32_311 : BitVec 32 := 256#32
  let v623 : BitVec 32 := Scalar.muli arg12 c256_i32_311
  v623
def k0_off63 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t32 : Fin (k0_t32_loop i v1 v3 v5 v7 v9 v11 v13 v15 v17 v19 v21 v23 v25 v27 v29 v31 v33 v35).trips) : Fin 2 → Nat :=
  let c0_i32_293 : BitVec 32 := 0#32
  let arg0 : BitVec 32 := BitVec.ofNat 32 (i 0).val
  let c128_i32 : BitVec 32 := 128#32
  let v0 : BitVec 32 := Scalar.muli arg0 c128_i32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let c1_i32_296 : BitVec 32 := 1#32
  let arg12 : BitVec 32 := Scf.iv v590 c1_i32_296 k0_t32
  let c256_i32_311 : BitVec 32 := 256#32
  let v623 : BitVec 32 := Scalar.muli arg12 c256_i32_311
  let v624 : BitVec 32 := v623
  let v625 : Index := Scalar.indexCast v624
  let c0_312 : Index := 0#32
  ![v625.toNat, 0]
def k0_mult80 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t32 : Fin (k0_t32_loop i v1 v3 v5 v7 v9 v11 v13 v15 v17 v19 v21 v23 v25 v27 v29 v31 v33 v35).trips) : BitVec 32 :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_293 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let c1_i32_296 : BitVec 32 := 1#32
  let arg12 : BitVec 32 := Scf.iv v590 c1_i32_296 k0_t32
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  v636
def k0_off64 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_t32 : Fin (k0_t32_loop i v1 v3 v5 v7 v9 v11 v13 v15 v17 v19 v21 v23 v25 v27 v29 v31 v33 v35).trips) : Fin 2 → Nat :=
  let arg0 : BitVec 32 := BitVec.ofNat 32 (i 0).val
  let c128_i32 : BitVec 32 := 128#32
  let v0 : BitVec 32 := Scalar.muli arg0 c128_i32
  let c128_i32_24 : BitVec 32 := 128#32
  let v76 : BitVec 32 := Scalar.addi v0 c128_i32_24
  let c0_i32_293 : BitVec 32 := 0#32
  let c128_i32_15 : BitVec 32 := 128#32
  let v55 : BitVec 32 := Scalar.addi v0 c128_i32_15
  let v34 : BitVec 1 := Scalar.cmpi .sle v33 v0
  let v30 : BitVec 1 := Scalar.cmpi .sle v29 v0
  let v26 : BitVec 1 := Scalar.cmpi .sle v25 v0
  let v22 : BitVec 1 := Scalar.cmpi .sle v21 v0
  let v18 : BitVec 1 := Scalar.cmpi .sle v17 v0
  let v14 : BitVec 1 := Scalar.cmpi .sle v13 v0
  let v10 : BitVec 1 := Scalar.cmpi .sle v9 v0
  let v6 : BitVec 1 := Scalar.cmpi .sle v5 v0
  let v2 : BitVec 1 := Scalar.cmpi .sle v1 v0
  let c0_i32 : BitVec 32 := 0#32
  let v4 : BitVec 32 := Scalar.select v2 v3 c0_i32
  let v8 : BitVec 32 := Scalar.select v6 v7 v4
  let v12 : BitVec 32 := Scalar.select v10 v11 v8
  let v16 : BitVec 32 := Scalar.select v14 v15 v12
  let v20 : BitVec 32 := Scalar.select v18 v19 v16
  let v24 : BitVec 32 := Scalar.select v22 v23 v20
  let v28 : BitVec 32 := Scalar.select v26 v27 v24
  let v32 : BitVec 32 := Scalar.select v30 v31 v28
  let v36 : BitVec 32 := Scalar.select v34 v35 v32
  let c0_i32_9 : BitVec 32 := 0#32
  let v38 : BitVec 1 := Scalar.cmpi .sgt v36 c0_i32_9
  let v39 : BitVec 32 := Scalar.extui v38
  let c0_i32_10 : BitVec 32 := 0#32
  let v40 : BitVec 1 := Scalar.cmpi .slt v36 c0_i32_10
  let v41 : BitVec 32 := Scalar.extui v40
  let v42 : BitVec 32 := Scalar.subi v39 v41
  let c32_i32 : BitVec 32 := 32#32
  let c0_i32_11 : BitVec 32 := 0#32
  let v43 : BitVec 1 := Scalar.cmpi .sgt c32_i32 c0_i32_11
  let v44 : BitVec 32 := Scalar.extui v43
  let c0_i32_12 : BitVec 32 := 0#32
  let v45 : BitVec 1 := Scalar.cmpi .slt c32_i32 c0_i32_12
  let v46 : BitVec 32 := Scalar.extui v45
  let v47 : BitVec 32 := Scalar.subi v44 v46
  let v48 : BitVec 1 := Scalar.cmpi .ne v42 v47
  let v49 : BitVec 32 := Scalar.remsi v36 c32_i32
  let c0_i32_13 : BitVec 32 := 0#32
  let v50 : BitVec 1 := Scalar.cmpi .ne v49 c0_i32_13
  let v51 : BitVec 1 := Scalar.andi v48 v50
  let v37 : BitVec 32 := Scalar.divsi v36 c32_i32
  let c1_i32 : BitVec 32 := 1#32
  let v52 : BitVec 32 := Scalar.subi v37 c1_i32
  let v53 : BitVec 32 := Scalar.select v51 v52 v37
  let c32_i32_14 : BitVec 32 := 32#32
  let v54 : BitVec 32 := Scalar.muli v53 c32_i32_14
  let v56 : BitVec 32 := Scalar.subi v55 v54
  let c256_i32 : BitVec 32 := 256#32
  let v57 : BitVec 32 := Scalar.addi v56 c256_i32
  let c1_i32_16 : BitVec 32 := 1#32
  let v58 : BitVec 32 := Scalar.subi v57 c1_i32_16
  let c0_i32_18 : BitVec 32 := 0#32
  let v60 : BitVec 1 := Scalar.cmpi .sgt v58 c0_i32_18
  let v61 : BitVec 32 := Scalar.extui v60
  let c0_i32_19 : BitVec 32 := 0#32
  let v62 : BitVec 1 := Scalar.cmpi .slt v58 c0_i32_19
  let v63 : BitVec 32 := Scalar.extui v62
  let v64 : BitVec 32 := Scalar.subi v61 v63
  let c256_i32_17 : BitVec 32 := 256#32
  let c0_i32_20 : BitVec 32 := 0#32
  let v65 : BitVec 1 := Scalar.cmpi .sgt c256_i32_17 c0_i32_20
  let v66 : BitVec 32 := Scalar.extui v65
  let c0_i32_21 : BitVec 32 := 0#32
  let v67 : BitVec 1 := Scalar.cmpi .slt c256_i32_17 c0_i32_21
  let v68 : BitVec 32 := Scalar.extui v67
  let v69 : BitVec 32 := Scalar.subi v66 v68
  let v70 : BitVec 1 := Scalar.cmpi .ne v64 v69
  let v71 : BitVec 32 := Scalar.remsi v58 c256_i32_17
  let c0_i32_22 : BitVec 32 := 0#32
  let v72 : BitVec 1 := Scalar.cmpi .ne v71 c0_i32_22
  let v73 : BitVec 1 := Scalar.andi v70 v72
  let v59 : BitVec 32 := Scalar.divsi v58 c256_i32_17
  let c1_i32_23 : BitVec 32 := 1#32
  let v74 : BitVec 32 := Scalar.subi v59 c1_i32_23
  let v75 : BitVec 32 := Scalar.select v73 v74 v59
  let v586 : BitVec 32 := Scalar.subi v75 c0_i32_293
  let c1_i32_294 : BitVec 32 := 1#32
  let v588 : BitVec 32 := Scalar.divsi v586 c1_i32_294
  let v589 : BitVec 32 := Scalar.muli v588 c1_i32_294
  let v590 : BitVec 32 := Scalar.addi c0_i32_293 v589
  let c1_i32_296 : BitVec 32 := 1#32
  let arg12 : BitVec 32 := Scf.iv v590 c1_i32_296 k0_t32
  let c1_i32_314 : BitVec 32 := 1#32
  let v633 : BitVec 32 := Scalar.addi arg12 c1_i32_314
  let c256_i32_315 : BitVec 32 := 256#32
  let v634 : BitVec 32 := Scalar.muli v633 c256_i32_315
  let v635 : BitVec 32 := Scalar.subi v76 v634
  let c0_i32_316 : BitVec 32 := 0#32
  let v636 : BitVec 32 := Scalar.maxsi v635 c0_i32_316
  let v637 : BitVec 32 := v636
  let v638 : Index := Scalar.indexCast v637
  let c896_317 : Index := 896#32
  ![v638.toNat, 896]

def k0_chk1_0 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  ((k0_t1_loop i v1 v3 v5 v7 v9 v11 v13 v15 v17 v19 v21 v23 v25 v27 v29 v31 v33 v35).OK) ∧
  (∀ k0_t1 : Fin (k0_t1_loop i v1 v3 v5 v7 v9 v11 v13 v15 v17 v19 v21 v23 v25 v27 v29 v31 v33 v35).trips, 32 ∣ (k0_mult1 i v1 v3 v5 v7 v9 v11 v13 v15 v17 v19 v21 v23 v25 v27 v29 v31 v33 v35 k0_t1).toNat) ∧
  (∀ k0_t1 : Fin (k0_t1_loop i v1 v3 v5 v7 v9 v11 v13 v15 v17 v19 v21 v23 v25 v27 v29 v31 v33 v35).trips, ∀ a, (k0_off1 i v1 v3 v5 v7 v9 v11 v13 v15 v17 v19 v21 v23 v25 v27 v29 v31 v33 v35 k0_t1) a + S256x128.size a ≤ S4608x1024.size a) ∧
  (∀ k0_t1 : Fin (k0_t1_loop i v1 v3 v5 v7 v9 v11 v13 v15 v17 v19 v21 v23 v25 v27 v29 v31 v33 v35).trips, 32 ∣ (k0_mult2 i v1 v3 v5 v7 v9 v11 v13 v15 v17 v19 v21 v23 v25 v27 v29 v31 v33 v35 k0_t1).toNat) ∧
  (∀ k0_t1 : Fin (k0_t1_loop i v1 v3 v5 v7 v9 v11 v13 v15 v17 v19 v21 v23 v25 v27 v29 v31 v33 v35).trips, 256 ∣ (k0_mult3 i v1 v3 v5 v7 v9 v11 v13 v15 v17 v19 v21 v23 v25 v27 v29 v31 v33 v35 k0_t1).toNat) ∧
  (∀ k0_t1 : Fin (k0_t1_loop i v1 v3 v5 v7 v9 v11 v13 v15 v17 v19 v21 v23 v25 v27 v29 v31 v33 v35).trips, ∀ a, (k0_off2 i v1 v3 v5 v7 v9 v11 v13 v15 v17 v19 v21 v23 v25 v27 v29 v31 v33 v35 k0_t1) a + S256x512.size a ≤ S4608x512.size a) ∧
  ((k0_t2_loop i v1 v3 v5 v7 v9 v11 v13 v15 v17 v19 v21 v23 v25 v27 v29 v31 v33 v35).OK) ∧
  (∀ k0_t2 : Fin (k0_t2_loop i v1 v3 v5 v7 v9 v11 v13 v15 v17 v19 v21 v23 v25 v27 v29 v31 v33 v35).trips, 32 ∣ (k0_mult4 i v1 v3 v5 v7 v9 v11 v13 v15 v17 v19 v21 v23 v25 v27 v29 v31 v33 v35 k0_t2).toNat) ∧
  (∀ k0_t2 : Fin (k0_t2_loop i v1 v3 v5 v7 v9 v11 v13 v15 v17 v19 v21 v23 v25 v27 v29 v31 v33 v35).trips, ∀ a, (k0_off3 i v1 v3 v5 v7 v9 v11 v13 v15 v17 v19 v21 v23 v25 v27 v29 v31 v33 v35 k0_t2) a + S256x128.size a ≤ S4608x1024.size a) ∧
  (∀ k0_t2 : Fin (k0_t2_loop i v1 v3 v5 v7 v9 v11 v13 v15 v17 v19 v21 v23 v25 v27 v29 v31 v33 v35).trips, 32 ∣ (k0_mult5 i v1 v3 v5 v7 v9 v11 v13 v15 v17 v19 v21 v23 v25 v27 v29 v31 v33 v35 k0_t2).toNat) ∧
  (∀ k0_t2 : Fin (k0_t2_loop i v1 v3 v5 v7 v9 v11 v13 v15 v17 v19 v21 v23 v25 v27 v29 v31 v33 v35).trips, 256 ∣ (k0_mult6 i v1 v3 v5 v7 v9 v11 v13 v15 v17 v19 v21 v23 v25 v27 v29 v31 v33 v35 k0_t2).toNat) ∧
  (∀ k0_t2 : Fin (k0_t2_loop i v1 v3 v5 v7 v9 v11 v13 v15 v17 v19 v21 v23 v25 v27 v29 v31 v33 v35).trips, ∀ a, (k0_off4 i v1 v3 v5 v7 v9 v11 v13 v15 v17 v19 v21 v23 v25 v27 v29 v31 v33 v35 k0_t2) a + S256x512.size a ≤ S4608x512.size a) ∧
  ((k0_t3_loop i v1 v3 v5 v7 v9 v11 v13 v15 v17 v19 v21 v23 v25 v27 v29 v31 v33 v35).OK) ∧
  (∀ k0_t3 : Fin (k0_t3_loop i v1 v3 v5 v7 v9 v11 v13 v15 v17 v19 v21 v23 v25 v27 v29 v31 v33 v35).trips, 256 ∣ (k0_mult7 i v1 v3 v5 v7 v9 v11 v13 v15 v17 v19 v21 v23 v25 v27 v29 v31 v33 v35 k0_t3).toNat) ∧
  (∀ k0_t3 : Fin (k0_t3_loop i v1 v3 v5 v7 v9 v11 v13 v15 v17 v19 v21 v23 v25 v27 v29 v31 v33 v35).trips, ∀ a, (k0_off5 i v1 v3 v5 v7 v9 v11 v13 v15 v17 v19 v21 v23 v25 v27 v29 v31 v33 v35 k0_t3) a + S256x512.size a ≤ S4608x512.size a) ∧
  (∀ k0_t3 : Fin (k0_t3_loop i v1 v3 v5 v7 v9 v11 v13 v15 v17 v19 v21 v23 v25 v27 v29 v31 v33 v35).trips, 32 ∣ (k0_mult8 i v1 v3 v5 v7 v9 v11 v13 v15 v17 v19 v21 v23 v25 v27 v29 v31 v33 v35 k0_t3).toNat) ∧
  (∀ k0_t3 : Fin (k0_t3_loop i v1 v3 v5 v7 v9 v11 v13 v15 v17 v19 v21 v23 v25 v27 v29 v31 v33 v35).trips, ∀ a, (k0_off6 i v1 v3 v5 v7 v9 v11 v13 v15 v17 v19 v21 v23 v25 v27 v29 v31 v33 v35 k0_t3) a + S256x128.size a ≤ S4608x1024.size a) ∧
  ((k0_t4_loop i v1 v3 v5 v7 v9 v11 v13 v15 v17 v19 v21 v23 v25 v27 v29 v31 v33 v35).OK) ∧
  (∀ k0_t4 : Fin (k0_t4_loop i v1 v3 v5 v7 v9 v11 v13 v15 v17 v19 v21 v23 v25 v27 v29 v31 v33 v35).trips, 256 ∣ (k0_mult9 i v1 v3 v5 v7 v9 v11 v13 v15 v17 v19 v21 v23 v25 v27 v29 v31 v33 v35 k0_t4).toNat) ∧
  (∀ k0_t4 : Fin (k0_t4_loop i v1 v3 v5 v7 v9 v11 v13 v15 v17 v19 v21 v23 v25 v27 v29 v31 v33 v35).trips, ∀ a, (k0_off7 i v1 v3 v5 v7 v9 v11 v13 v15 v17 v19 v21 v23 v25 v27 v29 v31 v33 v35 k0_t4) a + S256x512.size a ≤ S4608x512.size a) ∧
  (∀ k0_t4 : Fin (k0_t4_loop i v1 v3 v5 v7 v9 v11 v13 v15 v17 v19 v21 v23 v25 v27 v29 v31 v33 v35).trips, 32 ∣ (k0_mult10 i v1 v3 v5 v7 v9 v11 v13 v15 v17 v19 v21 v23 v25 v27 v29 v31 v33 v35 k0_t4).toNat) ∧
  (∀ k0_t4 : Fin (k0_t4_loop i v1 v3 v5 v7 v9 v11 v13 v15 v17 v19 v21 v23 v25 v27 v29 v31 v33 v35).trips, ∀ a, (k0_off8 i v1 v3 v5 v7 v9 v11 v13 v15 v17 v19 v21 v23 v25 v27 v29 v31 v33 v35 k0_t4) a + S256x128.size a ≤ S4608x1024.size a) ∧
  ((k0_t5_loop i v1 v3 v5 v7 v9 v11 v13 v15 v17 v19 v21 v23 v25 v27 v29 v31 v33 v35).OK) ∧
  (∀ k0_t5 : Fin (k0_t5_loop i v1 v3 v5 v7 v9 v11 v13 v15 v17 v19 v21 v23 v25 v27 v29 v31 v33 v35).trips, 32 ∣ (k0_mult11 i v1 v3 v5 v7 v9 v11 v13 v15 v17 v19 v21 v23 v25 v27 v29 v31 v33 v35 k0_t5).toNat) ∧
  (∀ k0_t5 : Fin (k0_t5_loop i v1 v3 v5 v7 v9 v11 v13 v15 v17 v19 v21 v23 v25 v27 v29 v31 v33 v35).trips, ∀ a, (k0_off9 i v1 v3 v5 v7 v9 v11 v13 v15 v17 v19 v21 v23 v25 v27 v29 v31 v33 v35 k0_t5) a + S256x128.size a ≤ S4608x1024.size a) ∧
  (∀ k0_t5 : Fin (k0_t5_loop i v1 v3 v5 v7 v9 v11 v13 v15 v17 v19 v21 v23 v25 v27 v29 v31 v33 v35).trips, 32 ∣ (k0_mult12 i v1 v3 v5 v7 v9 v11 v13 v15 v17 v19 v21 v23 v25 v27 v29 v31 v33 v35 k0_t5).toNat) ∧
  (∀ k0_t5 : Fin (k0_t5_loop i v1 v3 v5 v7 v9 v11 v13 v15 v17 v19 v21 v23 v25 v27 v29 v31 v33 v35).trips, 256 ∣ (k0_mult13 i v1 v3 v5 v7 v9 v11 v13 v15 v17 v19 v21 v23 v25 v27 v29 v31 v33 v35 k0_t5).toNat) ∧
  (∀ k0_t5 : Fin (k0_t5_loop i v1 v3 v5 v7 v9 v11 v13 v15 v17 v19 v21 v23 v25 v27 v29 v31 v33 v35).trips, ∀ a, (k0_off10 i v1 v3 v5 v7 v9 v11 v13 v15 v17 v19 v21 v23 v25 v27 v29 v31 v33 v35 k0_t5) a + S256x512.size a ≤ S4608x512.size a) ∧
  ((k0_t6_loop i v1 v3 v5 v7 v9 v11 v13 v15 v17 v19 v21 v23 v25 v27 v29 v31 v33 v35).OK) ∧
  (∀ k0_t6 : Fin (k0_t6_loop i v1 v3 v5 v7 v9 v11 v13 v15 v17 v19 v21 v23 v25 v27 v29 v31 v33 v35).trips, 32 ∣ (k0_mult14 i v1 v3 v5 v7 v9 v11 v13 v15 v17 v19 v21 v23 v25 v27 v29 v31 v33 v35 k0_t6).toNat) ∧
  (∀ k0_t6 : Fin (k0_t6_loop i v1 v3 v5 v7 v9 v11 v13 v15 v17 v19 v21 v23 v25 v27 v29 v31 v33 v35).trips, ∀ a, (k0_off11 i v1 v3 v5 v7 v9 v11 v13 v15 v17 v19 v21 v23 v25 v27 v29 v31 v33 v35 k0_t6) a + S256x128.size a ≤ S4608x1024.size a) ∧
  (∀ k0_t6 : Fin (k0_t6_loop i v1 v3 v5 v7 v9 v11 v13 v15 v17 v19 v21 v23 v25 v27 v29 v31 v33 v35).trips, 32 ∣ (k0_mult15 i v1 v3 v5 v7 v9 v11 v13 v15 v17 v19 v21 v23 v25 v27 v29 v31 v33 v35 k0_t6).toNat)
def k0_chk1_1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  (∀ k0_t6 : Fin (k0_t6_loop i v1 v3 v5 v7 v9 v11 v13 v15 v17 v19 v21 v23 v25 v27 v29 v31 v33 v35).trips, 256 ∣ (k0_mult16 i v1 v3 v5 v7 v9 v11 v13 v15 v17 v19 v21 v23 v25 v27 v29 v31 v33 v35 k0_t6).toNat) ∧
  (∀ k0_t6 : Fin (k0_t6_loop i v1 v3 v5 v7 v9 v11 v13 v15 v17 v19 v21 v23 v25 v27 v29 v31 v33 v35).trips, ∀ a, (k0_off12 i v1 v3 v5 v7 v9 v11 v13 v15 v17 v19 v21 v23 v25 v27 v29 v31 v33 v35 k0_t6) a + S256x512.size a ≤ S4608x512.size a) ∧
  ((k0_t7_loop i v1 v3 v5 v7 v9 v11 v13 v15 v17 v19 v21 v23 v25 v27 v29 v31 v33 v35).OK) ∧
  (∀ k0_t7 : Fin (k0_t7_loop i v1 v3 v5 v7 v9 v11 v13 v15 v17 v19 v21 v23 v25 v27 v29 v31 v33 v35).trips, 256 ∣ (k0_mult17 i v1 v3 v5 v7 v9 v11 v13 v15 v17 v19 v21 v23 v25 v27 v29 v31 v33 v35 k0_t7).toNat) ∧
  (∀ k0_t7 : Fin (k0_t7_loop i v1 v3 v5 v7 v9 v11 v13 v15 v17 v19 v21 v23 v25 v27 v29 v31 v33 v35).trips, ∀ a, (k0_off13 i v1 v3 v5 v7 v9 v11 v13 v15 v17 v19 v21 v23 v25 v27 v29 v31 v33 v35 k0_t7) a + S256x512.size a ≤ S4608x512.size a) ∧
  (∀ k0_t7 : Fin (k0_t7_loop i v1 v3 v5 v7 v9 v11 v13 v15 v17 v19 v21 v23 v25 v27 v29 v31 v33 v35).trips, 32 ∣ (k0_mult18 i v1 v3 v5 v7 v9 v11 v13 v15 v17 v19 v21 v23 v25 v27 v29 v31 v33 v35 k0_t7).toNat) ∧
  (∀ k0_t7 : Fin (k0_t7_loop i v1 v3 v5 v7 v9 v11 v13 v15 v17 v19 v21 v23 v25 v27 v29 v31 v33 v35).trips, ∀ a, (k0_off14 i v1 v3 v5 v7 v9 v11 v13 v15 v17 v19 v21 v23 v25 v27 v29 v31 v33 v35 k0_t7) a + S256x128.size a ≤ S4608x1024.size a) ∧
  ((k0_t8_loop i v1 v3 v5 v7 v9 v11 v13 v15 v17 v19 v21 v23 v25 v27 v29 v31 v33 v35).OK) ∧
  (∀ k0_t8 : Fin (k0_t8_loop i v1 v3 v5 v7 v9 v11 v13 v15 v17 v19 v21 v23 v25 v27 v29 v31 v33 v35).trips, 256 ∣ (k0_mult19 i v1 v3 v5 v7 v9 v11 v13 v15 v17 v19 v21 v23 v25 v27 v29 v31 v33 v35 k0_t8).toNat) ∧
  (∀ k0_t8 : Fin (k0_t8_loop i v1 v3 v5 v7 v9 v11 v13 v15 v17 v19 v21 v23 v25 v27 v29 v31 v33 v35).trips, ∀ a, (k0_off15 i v1 v3 v5 v7 v9 v11 v13 v15 v17 v19 v21 v23 v25 v27 v29 v31 v33 v35 k0_t8) a + S256x512.size a ≤ S4608x512.size a) ∧
  (∀ k0_t8 : Fin (k0_t8_loop i v1 v3 v5 v7 v9 v11 v13 v15 v17 v19 v21 v23 v25 v27 v29 v31 v33 v35).trips, 32 ∣ (k0_mult20 i v1 v3 v5 v7 v9 v11 v13 v15 v17 v19 v21 v23 v25 v27 v29 v31 v33 v35 k0_t8).toNat) ∧
  (∀ k0_t8 : Fin (k0_t8_loop i v1 v3 v5 v7 v9 v11 v13 v15 v17 v19 v21 v23 v25 v27 v29 v31 v33 v35).trips, ∀ a, (k0_off16 i v1 v3 v5 v7 v9 v11 v13 v15 v17 v19 v21 v23 v25 v27 v29 v31 v33 v35 k0_t8) a + S256x128.size a ≤ S4608x1024.size a) ∧
  ((k0_t9_loop i v1 v3 v5 v7 v9 v11 v13 v15 v17 v19 v21 v23 v25 v27 v29 v31 v33 v35).OK) ∧
  (∀ k0_t9 : Fin (k0_t9_loop i v1 v3 v5 v7 v9 v11 v13 v15 v17 v19 v21 v23 v25 v27 v29 v31 v33 v35).trips, 32 ∣ (k0_mult21 i v1 v3 v5 v7 v9 v11 v13 v15 v17 v19 v21 v23 v25 v27 v29 v31 v33 v35 k0_t9).toNat) ∧
  (∀ k0_t9 : Fin (k0_t9_loop i v1 v3 v5 v7 v9 v11 v13 v15 v17 v19 v21 v23 v25 v27 v29 v31 v33 v35).trips, ∀ a, (k0_off17 i v1 v3 v5 v7 v9 v11 v13 v15 v17 v19 v21 v23 v25 v27 v29 v31 v33 v35 k0_t9) a + S256x128.size a ≤ S4608x1024.size a) ∧
  (∀ k0_t9 : Fin (k0_t9_loop i v1 v3 v5 v7 v9 v11 v13 v15 v17 v19 v21 v23 v25 v27 v29 v31 v33 v35).trips, 32 ∣ (k0_mult22 i v1 v3 v5 v7 v9 v11 v13 v15 v17 v19 v21 v23 v25 v27 v29 v31 v33 v35 k0_t9).toNat) ∧
  (∀ k0_t9 : Fin (k0_t9_loop i v1 v3 v5 v7 v9 v11 v13 v15 v17 v19 v21 v23 v25 v27 v29 v31 v33 v35).trips, 256 ∣ (k0_mult23 i v1 v3 v5 v7 v9 v11 v13 v15 v17 v19 v21 v23 v25 v27 v29 v31 v33 v35 k0_t9).toNat) ∧
  (∀ k0_t9 : Fin (k0_t9_loop i v1 v3 v5 v7 v9 v11 v13 v15 v17 v19 v21 v23 v25 v27 v29 v31 v33 v35).trips, ∀ a, (k0_off18 i v1 v3 v5 v7 v9 v11 v13 v15 v17 v19 v21 v23 v25 v27 v29 v31 v33 v35 k0_t9) a + S256x512.size a ≤ S4608x512.size a) ∧
  ((k0_t10_loop i v1 v3 v5 v7 v9 v11 v13 v15 v17 v19 v21 v23 v25 v27 v29 v31 v33 v35).OK) ∧
  (∀ k0_t10 : Fin (k0_t10_loop i v1 v3 v5 v7 v9 v11 v13 v15 v17 v19 v21 v23 v25 v27 v29 v31 v33 v35).trips, 32 ∣ (k0_mult24 i v1 v3 v5 v7 v9 v11 v13 v15 v17 v19 v21 v23 v25 v27 v29 v31 v33 v35 k0_t10).toNat) ∧
  (∀ k0_t10 : Fin (k0_t10_loop i v1 v3 v5 v7 v9 v11 v13 v15 v17 v19 v21 v23 v25 v27 v29 v31 v33 v35).trips, ∀ a, (k0_off19 i v1 v3 v5 v7 v9 v11 v13 v15 v17 v19 v21 v23 v25 v27 v29 v31 v33 v35 k0_t10) a + S256x128.size a ≤ S4608x1024.size a) ∧
  (∀ k0_t10 : Fin (k0_t10_loop i v1 v3 v5 v7 v9 v11 v13 v15 v17 v19 v21 v23 v25 v27 v29 v31 v33 v35).trips, 32 ∣ (k0_mult25 i v1 v3 v5 v7 v9 v11 v13 v15 v17 v19 v21 v23 v25 v27 v29 v31 v33 v35 k0_t10).toNat) ∧
  (∀ k0_t10 : Fin (k0_t10_loop i v1 v3 v5 v7 v9 v11 v13 v15 v17 v19 v21 v23 v25 v27 v29 v31 v33 v35).trips, 256 ∣ (k0_mult26 i v1 v3 v5 v7 v9 v11 v13 v15 v17 v19 v21 v23 v25 v27 v29 v31 v33 v35 k0_t10).toNat) ∧
  (∀ k0_t10 : Fin (k0_t10_loop i v1 v3 v5 v7 v9 v11 v13 v15 v17 v19 v21 v23 v25 v27 v29 v31 v33 v35).trips, ∀ a, (k0_off20 i v1 v3 v5 v7 v9 v11 v13 v15 v17 v19 v21 v23 v25 v27 v29 v31 v33 v35 k0_t10) a + S256x512.size a ≤ S4608x512.size a) ∧
  ((k0_t11_loop i v1 v3 v5 v7 v9 v11 v13 v15 v17 v19 v21 v23 v25 v27 v29 v31 v33 v35).OK) ∧
  (∀ k0_t11 : Fin (k0_t11_loop i v1 v3 v5 v7 v9 v11 v13 v15 v17 v19 v21 v23 v25 v27 v29 v31 v33 v35).trips, 256 ∣ (k0_mult27 i v1 v3 v5 v7 v9 v11 v13 v15 v17 v19 v21 v23 v25 v27 v29 v31 v33 v35 k0_t11).toNat) ∧
  (∀ k0_t11 : Fin (k0_t11_loop i v1 v3 v5 v7 v9 v11 v13 v15 v17 v19 v21 v23 v25 v27 v29 v31 v33 v35).trips, ∀ a, (k0_off21 i v1 v3 v5 v7 v9 v11 v13 v15 v17 v19 v21 v23 v25 v27 v29 v31 v33 v35 k0_t11) a + S256x512.size a ≤ S4608x512.size a) ∧
  (∀ k0_t11 : Fin (k0_t11_loop i v1 v3 v5 v7 v9 v11 v13 v15 v17 v19 v21 v23 v25 v27 v29 v31 v33 v35).trips, 32 ∣ (k0_mult28 i v1 v3 v5 v7 v9 v11 v13 v15 v17 v19 v21 v23 v25 v27 v29 v31 v33 v35 k0_t11).toNat) ∧
  (∀ k0_t11 : Fin (k0_t11_loop i v1 v3 v5 v7 v9 v11 v13 v15 v17 v19 v21 v23 v25 v27 v29 v31 v33 v35).trips, ∀ a, (k0_off22 i v1 v3 v5 v7 v9 v11 v13 v15 v17 v19 v21 v23 v25 v27 v29 v31 v33 v35 k0_t11) a + S256x128.size a ≤ S4608x1024.size a) ∧
  ((k0_t12_loop i v1 v3 v5 v7 v9 v11 v13 v15 v17 v19 v21 v23 v25 v27 v29 v31 v33 v35).OK) ∧
  (∀ k0_t12 : Fin (k0_t12_loop i v1 v3 v5 v7 v9 v11 v13 v15 v17 v19 v21 v23 v25 v27 v29 v31 v33 v35).trips, 256 ∣ (k0_mult29 i v1 v3 v5 v7 v9 v11 v13 v15 v17 v19 v21 v23 v25 v27 v29 v31 v33 v35 k0_t12).toNat) ∧
  (∀ k0_t12 : Fin (k0_t12_loop i v1 v3 v5 v7 v9 v11 v13 v15 v17 v19 v21 v23 v25 v27 v29 v31 v33 v35).trips, ∀ a, (k0_off23 i v1 v3 v5 v7 v9 v11 v13 v15 v17 v19 v21 v23 v25 v27 v29 v31 v33 v35 k0_t12) a + S256x512.size a ≤ S4608x512.size a)
def k0_chk1_2 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  (∀ k0_t12 : Fin (k0_t12_loop i v1 v3 v5 v7 v9 v11 v13 v15 v17 v19 v21 v23 v25 v27 v29 v31 v33 v35).trips, 32 ∣ (k0_mult30 i v1 v3 v5 v7 v9 v11 v13 v15 v17 v19 v21 v23 v25 v27 v29 v31 v33 v35 k0_t12).toNat) ∧
  (∀ k0_t12 : Fin (k0_t12_loop i v1 v3 v5 v7 v9 v11 v13 v15 v17 v19 v21 v23 v25 v27 v29 v31 v33 v35).trips, ∀ a, (k0_off24 i v1 v3 v5 v7 v9 v11 v13 v15 v17 v19 v21 v23 v25 v27 v29 v31 v33 v35 k0_t12) a + S256x128.size a ≤ S4608x1024.size a) ∧
  ((k0_t13_loop i v1 v3 v5 v7 v9 v11 v13 v15 v17 v19 v21 v23 v25 v27 v29 v31 v33 v35).OK) ∧
  (∀ k0_t13 : Fin (k0_t13_loop i v1 v3 v5 v7 v9 v11 v13 v15 v17 v19 v21 v23 v25 v27 v29 v31 v33 v35).trips, 32 ∣ (k0_mult31 i v1 v3 v5 v7 v9 v11 v13 v15 v17 v19 v21 v23 v25 v27 v29 v31 v33 v35 k0_t13).toNat) ∧
  (∀ k0_t13 : Fin (k0_t13_loop i v1 v3 v5 v7 v9 v11 v13 v15 v17 v19 v21 v23 v25 v27 v29 v31 v33 v35).trips, ∀ a, (k0_off25 i v1 v3 v5 v7 v9 v11 v13 v15 v17 v19 v21 v23 v25 v27 v29 v31 v33 v35 k0_t13) a + S256x128.size a ≤ S4608x1024.size a) ∧
  (∀ k0_t13 : Fin (k0_t13_loop i v1 v3 v5 v7 v9 v11 v13 v15 v17 v19 v21 v23 v25 v27 v29 v31 v33 v35).trips, 32 ∣ (k0_mult32 i v1 v3 v5 v7 v9 v11 v13 v15 v17 v19 v21 v23 v25 v27 v29 v31 v33 v35 k0_t13).toNat) ∧
  (∀ k0_t13 : Fin (k0_t13_loop i v1 v3 v5 v7 v9 v11 v13 v15 v17 v19 v21 v23 v25 v27 v29 v31 v33 v35).trips, 256 ∣ (k0_mult33 i v1 v3 v5 v7 v9 v11 v13 v15 v17 v19 v21 v23 v25 v27 v29 v31 v33 v35 k0_t13).toNat) ∧
  (∀ k0_t13 : Fin (k0_t13_loop i v1 v3 v5 v7 v9 v11 v13 v15 v17 v19 v21 v23 v25 v27 v29 v31 v33 v35).trips, ∀ a, (k0_off26 i v1 v3 v5 v7 v9 v11 v13 v15 v17 v19 v21 v23 v25 v27 v29 v31 v33 v35 k0_t13) a + S256x512.size a ≤ S4608x512.size a) ∧
  ((k0_t14_loop i v1 v3 v5 v7 v9 v11 v13 v15 v17 v19 v21 v23 v25 v27 v29 v31 v33 v35).OK) ∧
  (∀ k0_t14 : Fin (k0_t14_loop i v1 v3 v5 v7 v9 v11 v13 v15 v17 v19 v21 v23 v25 v27 v29 v31 v33 v35).trips, 32 ∣ (k0_mult34 i v1 v3 v5 v7 v9 v11 v13 v15 v17 v19 v21 v23 v25 v27 v29 v31 v33 v35 k0_t14).toNat) ∧
  (∀ k0_t14 : Fin (k0_t14_loop i v1 v3 v5 v7 v9 v11 v13 v15 v17 v19 v21 v23 v25 v27 v29 v31 v33 v35).trips, ∀ a, (k0_off27 i v1 v3 v5 v7 v9 v11 v13 v15 v17 v19 v21 v23 v25 v27 v29 v31 v33 v35 k0_t14) a + S256x128.size a ≤ S4608x1024.size a) ∧
  (∀ k0_t14 : Fin (k0_t14_loop i v1 v3 v5 v7 v9 v11 v13 v15 v17 v19 v21 v23 v25 v27 v29 v31 v33 v35).trips, 32 ∣ (k0_mult35 i v1 v3 v5 v7 v9 v11 v13 v15 v17 v19 v21 v23 v25 v27 v29 v31 v33 v35 k0_t14).toNat) ∧
  (∀ k0_t14 : Fin (k0_t14_loop i v1 v3 v5 v7 v9 v11 v13 v15 v17 v19 v21 v23 v25 v27 v29 v31 v33 v35).trips, 256 ∣ (k0_mult36 i v1 v3 v5 v7 v9 v11 v13 v15 v17 v19 v21 v23 v25 v27 v29 v31 v33 v35 k0_t14).toNat) ∧
  (∀ k0_t14 : Fin (k0_t14_loop i v1 v3 v5 v7 v9 v11 v13 v15 v17 v19 v21 v23 v25 v27 v29 v31 v33 v35).trips, ∀ a, (k0_off28 i v1 v3 v5 v7 v9 v11 v13 v15 v17 v19 v21 v23 v25 v27 v29 v31 v33 v35 k0_t14) a + S256x512.size a ≤ S4608x512.size a) ∧
  ((k0_t15_loop i v1 v3 v5 v7 v9 v11 v13 v15 v17 v19 v21 v23 v25 v27 v29 v31 v33 v35).OK) ∧
  (∀ k0_t15 : Fin (k0_t15_loop i v1 v3 v5 v7 v9 v11 v13 v15 v17 v19 v21 v23 v25 v27 v29 v31 v33 v35).trips, 256 ∣ (k0_mult37 i v1 v3 v5 v7 v9 v11 v13 v15 v17 v19 v21 v23 v25 v27 v29 v31 v33 v35 k0_t15).toNat) ∧
  (∀ k0_t15 : Fin (k0_t15_loop i v1 v3 v5 v7 v9 v11 v13 v15 v17 v19 v21 v23 v25 v27 v29 v31 v33 v35).trips, ∀ a, (k0_off29 i v1 v3 v5 v7 v9 v11 v13 v15 v17 v19 v21 v23 v25 v27 v29 v31 v33 v35 k0_t15) a + S256x512.size a ≤ S4608x512.size a) ∧
  (∀ k0_t15 : Fin (k0_t15_loop i v1 v3 v5 v7 v9 v11 v13 v15 v17 v19 v21 v23 v25 v27 v29 v31 v33 v35).trips, 32 ∣ (k0_mult38 i v1 v3 v5 v7 v9 v11 v13 v15 v17 v19 v21 v23 v25 v27 v29 v31 v33 v35 k0_t15).toNat) ∧
  (∀ k0_t15 : Fin (k0_t15_loop i v1 v3 v5 v7 v9 v11 v13 v15 v17 v19 v21 v23 v25 v27 v29 v31 v33 v35).trips, ∀ a, (k0_off30 i v1 v3 v5 v7 v9 v11 v13 v15 v17 v19 v21 v23 v25 v27 v29 v31 v33 v35 k0_t15) a + S256x128.size a ≤ S4608x1024.size a) ∧
  ((k0_t16_loop i v1 v3 v5 v7 v9 v11 v13 v15 v17 v19 v21 v23 v25 v27 v29 v31 v33 v35).OK) ∧
  (∀ k0_t16 : Fin (k0_t16_loop i v1 v3 v5 v7 v9 v11 v13 v15 v17 v19 v21 v23 v25 v27 v29 v31 v33 v35).trips, 256 ∣ (k0_mult39 i v1 v3 v5 v7 v9 v11 v13 v15 v17 v19 v21 v23 v25 v27 v29 v31 v33 v35 k0_t16).toNat) ∧
  (∀ k0_t16 : Fin (k0_t16_loop i v1 v3 v5 v7 v9 v11 v13 v15 v17 v19 v21 v23 v25 v27 v29 v31 v33 v35).trips, ∀ a, (k0_off31 i v1 v3 v5 v7 v9 v11 v13 v15 v17 v19 v21 v23 v25 v27 v29 v31 v33 v35 k0_t16) a + S256x512.size a ≤ S4608x512.size a) ∧
  (∀ k0_t16 : Fin (k0_t16_loop i v1 v3 v5 v7 v9 v11 v13 v15 v17 v19 v21 v23 v25 v27 v29 v31 v33 v35).trips, 32 ∣ (k0_mult40 i v1 v3 v5 v7 v9 v11 v13 v15 v17 v19 v21 v23 v25 v27 v29 v31 v33 v35 k0_t16).toNat) ∧
  (∀ k0_t16 : Fin (k0_t16_loop i v1 v3 v5 v7 v9 v11 v13 v15 v17 v19 v21 v23 v25 v27 v29 v31 v33 v35).trips, ∀ a, (k0_off32 i v1 v3 v5 v7 v9 v11 v13 v15 v17 v19 v21 v23 v25 v27 v29 v31 v33 v35 k0_t16) a + S256x128.size a ≤ S4608x1024.size a) ∧
  ((k0_t17_loop i v1 v3 v5 v7 v9 v11 v13 v15 v17 v19 v21 v23 v25 v27 v29 v31 v33 v35).OK) ∧
  (∀ k0_t17 : Fin (k0_t17_loop i v1 v3 v5 v7 v9 v11 v13 v15 v17 v19 v21 v23 v25 v27 v29 v31 v33 v35).trips, 32 ∣ (k0_mult41 i v1 v3 v5 v7 v9 v11 v13 v15 v17 v19 v21 v23 v25 v27 v29 v31 v33 v35 k0_t17).toNat) ∧
  (∀ k0_t17 : Fin (k0_t17_loop i v1 v3 v5 v7 v9 v11 v13 v15 v17 v19 v21 v23 v25 v27 v29 v31 v33 v35).trips, ∀ a, (k0_off33 i v1 v3 v5 v7 v9 v11 v13 v15 v17 v19 v21 v23 v25 v27 v29 v31 v33 v35 k0_t17) a + S256x128.size a ≤ S4608x1024.size a) ∧
  (∀ k0_t17 : Fin (k0_t17_loop i v1 v3 v5 v7 v9 v11 v13 v15 v17 v19 v21 v23 v25 v27 v29 v31 v33 v35).trips, 32 ∣ (k0_mult42 i v1 v3 v5 v7 v9 v11 v13 v15 v17 v19 v21 v23 v25 v27 v29 v31 v33 v35 k0_t17).toNat) ∧
  (∀ k0_t17 : Fin (k0_t17_loop i v1 v3 v5 v7 v9 v11 v13 v15 v17 v19 v21 v23 v25 v27 v29 v31 v33 v35).trips, 256 ∣ (k0_mult43 i v1 v3 v5 v7 v9 v11 v13 v15 v17 v19 v21 v23 v25 v27 v29 v31 v33 v35 k0_t17).toNat) ∧
  (∀ k0_t17 : Fin (k0_t17_loop i v1 v3 v5 v7 v9 v11 v13 v15 v17 v19 v21 v23 v25 v27 v29 v31 v33 v35).trips, ∀ a, (k0_off34 i v1 v3 v5 v7 v9 v11 v13 v15 v17 v19 v21 v23 v25 v27 v29 v31 v33 v35 k0_t17) a + S256x512.size a ≤ S4608x512.size a) ∧
  ((k0_t18_loop i v1 v3 v5 v7 v9 v11 v13 v15 v17 v19 v21 v23 v25 v27 v29 v31 v33 v35).OK) ∧
  (∀ k0_t18 : Fin (k0_t18_loop i v1 v3 v5 v7 v9 v11 v13 v15 v17 v19 v21 v23 v25 v27 v29 v31 v33 v35).trips, 32 ∣ (k0_mult44 i v1 v3 v5 v7 v9 v11 v13 v15 v17 v19 v21 v23 v25 v27 v29 v31 v33 v35 k0_t18).toNat)
def k0_chk1_3 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  (∀ k0_t18 : Fin (k0_t18_loop i v1 v3 v5 v7 v9 v11 v13 v15 v17 v19 v21 v23 v25 v27 v29 v31 v33 v35).trips, ∀ a, (k0_off35 i v1 v3 v5 v7 v9 v11 v13 v15 v17 v19 v21 v23 v25 v27 v29 v31 v33 v35 k0_t18) a + S256x128.size a ≤ S4608x1024.size a) ∧
  (∀ k0_t18 : Fin (k0_t18_loop i v1 v3 v5 v7 v9 v11 v13 v15 v17 v19 v21 v23 v25 v27 v29 v31 v33 v35).trips, 32 ∣ (k0_mult45 i v1 v3 v5 v7 v9 v11 v13 v15 v17 v19 v21 v23 v25 v27 v29 v31 v33 v35 k0_t18).toNat) ∧
  (∀ k0_t18 : Fin (k0_t18_loop i v1 v3 v5 v7 v9 v11 v13 v15 v17 v19 v21 v23 v25 v27 v29 v31 v33 v35).trips, 256 ∣ (k0_mult46 i v1 v3 v5 v7 v9 v11 v13 v15 v17 v19 v21 v23 v25 v27 v29 v31 v33 v35 k0_t18).toNat) ∧
  (∀ k0_t18 : Fin (k0_t18_loop i v1 v3 v5 v7 v9 v11 v13 v15 v17 v19 v21 v23 v25 v27 v29 v31 v33 v35).trips, ∀ a, (k0_off36 i v1 v3 v5 v7 v9 v11 v13 v15 v17 v19 v21 v23 v25 v27 v29 v31 v33 v35 k0_t18) a + S256x512.size a ≤ S4608x512.size a) ∧
  ((k0_t19_loop i v1 v3 v5 v7 v9 v11 v13 v15 v17 v19 v21 v23 v25 v27 v29 v31 v33 v35).OK) ∧
  (∀ k0_t19 : Fin (k0_t19_loop i v1 v3 v5 v7 v9 v11 v13 v15 v17 v19 v21 v23 v25 v27 v29 v31 v33 v35).trips, 256 ∣ (k0_mult47 i v1 v3 v5 v7 v9 v11 v13 v15 v17 v19 v21 v23 v25 v27 v29 v31 v33 v35 k0_t19).toNat) ∧
  (∀ k0_t19 : Fin (k0_t19_loop i v1 v3 v5 v7 v9 v11 v13 v15 v17 v19 v21 v23 v25 v27 v29 v31 v33 v35).trips, ∀ a, (k0_off37 i v1 v3 v5 v7 v9 v11 v13 v15 v17 v19 v21 v23 v25 v27 v29 v31 v33 v35 k0_t19) a + S256x512.size a ≤ S4608x512.size a) ∧
  (∀ k0_t19 : Fin (k0_t19_loop i v1 v3 v5 v7 v9 v11 v13 v15 v17 v19 v21 v23 v25 v27 v29 v31 v33 v35).trips, 32 ∣ (k0_mult48 i v1 v3 v5 v7 v9 v11 v13 v15 v17 v19 v21 v23 v25 v27 v29 v31 v33 v35 k0_t19).toNat) ∧
  (∀ k0_t19 : Fin (k0_t19_loop i v1 v3 v5 v7 v9 v11 v13 v15 v17 v19 v21 v23 v25 v27 v29 v31 v33 v35).trips, ∀ a, (k0_off38 i v1 v3 v5 v7 v9 v11 v13 v15 v17 v19 v21 v23 v25 v27 v29 v31 v33 v35 k0_t19) a + S256x128.size a ≤ S4608x1024.size a) ∧
  ((k0_t20_loop i v1 v3 v5 v7 v9 v11 v13 v15 v17 v19 v21 v23 v25 v27 v29 v31 v33 v35).OK) ∧
  (∀ k0_t20 : Fin (k0_t20_loop i v1 v3 v5 v7 v9 v11 v13 v15 v17 v19 v21 v23 v25 v27 v29 v31 v33 v35).trips, 256 ∣ (k0_mult49 i v1 v3 v5 v7 v9 v11 v13 v15 v17 v19 v21 v23 v25 v27 v29 v31 v33 v35 k0_t20).toNat) ∧
  (∀ k0_t20 : Fin (k0_t20_loop i v1 v3 v5 v7 v9 v11 v13 v15 v17 v19 v21 v23 v25 v27 v29 v31 v33 v35).trips, ∀ a, (k0_off39 i v1 v3 v5 v7 v9 v11 v13 v15 v17 v19 v21 v23 v25 v27 v29 v31 v33 v35 k0_t20) a + S256x512.size a ≤ S4608x512.size a) ∧
  (∀ k0_t20 : Fin (k0_t20_loop i v1 v3 v5 v7 v9 v11 v13 v15 v17 v19 v21 v23 v25 v27 v29 v31 v33 v35).trips, 32 ∣ (k0_mult50 i v1 v3 v5 v7 v9 v11 v13 v15 v17 v19 v21 v23 v25 v27 v29 v31 v33 v35 k0_t20).toNat) ∧
  (∀ k0_t20 : Fin (k0_t20_loop i v1 v3 v5 v7 v9 v11 v13 v15 v17 v19 v21 v23 v25 v27 v29 v31 v33 v35).trips, ∀ a, (k0_off40 i v1 v3 v5 v7 v9 v11 v13 v15 v17 v19 v21 v23 v25 v27 v29 v31 v33 v35 k0_t20) a + S256x128.size a ≤ S4608x1024.size a) ∧
  ((k0_t21_loop i v1 v3 v5 v7 v9 v11 v13 v15 v17 v19 v21 v23 v25 v27 v29 v31 v33 v35).OK) ∧
  (∀ k0_t21 : Fin (k0_t21_loop i v1 v3 v5 v7 v9 v11 v13 v15 v17 v19 v21 v23 v25 v27 v29 v31 v33 v35).trips, 32 ∣ (k0_mult51 i v1 v3 v5 v7 v9 v11 v13 v15 v17 v19 v21 v23 v25 v27 v29 v31 v33 v35 k0_t21).toNat) ∧
  (∀ k0_t21 : Fin (k0_t21_loop i v1 v3 v5 v7 v9 v11 v13 v15 v17 v19 v21 v23 v25 v27 v29 v31 v33 v35).trips, ∀ a, (k0_off41 i v1 v3 v5 v7 v9 v11 v13 v15 v17 v19 v21 v23 v25 v27 v29 v31 v33 v35 k0_t21) a + S256x128.size a ≤ S4608x1024.size a) ∧
  (∀ k0_t21 : Fin (k0_t21_loop i v1 v3 v5 v7 v9 v11 v13 v15 v17 v19 v21 v23 v25 v27 v29 v31 v33 v35).trips, 32 ∣ (k0_mult52 i v1 v3 v5 v7 v9 v11 v13 v15 v17 v19 v21 v23 v25 v27 v29 v31 v33 v35 k0_t21).toNat) ∧
  (∀ k0_t21 : Fin (k0_t21_loop i v1 v3 v5 v7 v9 v11 v13 v15 v17 v19 v21 v23 v25 v27 v29 v31 v33 v35).trips, 256 ∣ (k0_mult53 i v1 v3 v5 v7 v9 v11 v13 v15 v17 v19 v21 v23 v25 v27 v29 v31 v33 v35 k0_t21).toNat) ∧
  (∀ k0_t21 : Fin (k0_t21_loop i v1 v3 v5 v7 v9 v11 v13 v15 v17 v19 v21 v23 v25 v27 v29 v31 v33 v35).trips, ∀ a, (k0_off42 i v1 v3 v5 v7 v9 v11 v13 v15 v17 v19 v21 v23 v25 v27 v29 v31 v33 v35 k0_t21) a + S256x512.size a ≤ S4608x512.size a) ∧
  ((k0_t22_loop i v1 v3 v5 v7 v9 v11 v13 v15 v17 v19 v21 v23 v25 v27 v29 v31 v33 v35).OK) ∧
  (∀ k0_t22 : Fin (k0_t22_loop i v1 v3 v5 v7 v9 v11 v13 v15 v17 v19 v21 v23 v25 v27 v29 v31 v33 v35).trips, 32 ∣ (k0_mult54 i v1 v3 v5 v7 v9 v11 v13 v15 v17 v19 v21 v23 v25 v27 v29 v31 v33 v35 k0_t22).toNat) ∧
  (∀ k0_t22 : Fin (k0_t22_loop i v1 v3 v5 v7 v9 v11 v13 v15 v17 v19 v21 v23 v25 v27 v29 v31 v33 v35).trips, ∀ a, (k0_off43 i v1 v3 v5 v7 v9 v11 v13 v15 v17 v19 v21 v23 v25 v27 v29 v31 v33 v35 k0_t22) a + S256x128.size a ≤ S4608x1024.size a) ∧
  (∀ k0_t22 : Fin (k0_t22_loop i v1 v3 v5 v7 v9 v11 v13 v15 v17 v19 v21 v23 v25 v27 v29 v31 v33 v35).trips, 32 ∣ (k0_mult55 i v1 v3 v5 v7 v9 v11 v13 v15 v17 v19 v21 v23 v25 v27 v29 v31 v33 v35 k0_t22).toNat) ∧
  (∀ k0_t22 : Fin (k0_t22_loop i v1 v3 v5 v7 v9 v11 v13 v15 v17 v19 v21 v23 v25 v27 v29 v31 v33 v35).trips, 256 ∣ (k0_mult56 i v1 v3 v5 v7 v9 v11 v13 v15 v17 v19 v21 v23 v25 v27 v29 v31 v33 v35 k0_t22).toNat) ∧
  (∀ k0_t22 : Fin (k0_t22_loop i v1 v3 v5 v7 v9 v11 v13 v15 v17 v19 v21 v23 v25 v27 v29 v31 v33 v35).trips, ∀ a, (k0_off44 i v1 v3 v5 v7 v9 v11 v13 v15 v17 v19 v21 v23 v25 v27 v29 v31 v33 v35 k0_t22) a + S256x512.size a ≤ S4608x512.size a) ∧
  ((k0_t23_loop i v1 v3 v5 v7 v9 v11 v13 v15 v17 v19 v21 v23 v25 v27 v29 v31 v33 v35).OK) ∧
  (∀ k0_t23 : Fin (k0_t23_loop i v1 v3 v5 v7 v9 v11 v13 v15 v17 v19 v21 v23 v25 v27 v29 v31 v33 v35).trips, 256 ∣ (k0_mult57 i v1 v3 v5 v7 v9 v11 v13 v15 v17 v19 v21 v23 v25 v27 v29 v31 v33 v35 k0_t23).toNat) ∧
  (∀ k0_t23 : Fin (k0_t23_loop i v1 v3 v5 v7 v9 v11 v13 v15 v17 v19 v21 v23 v25 v27 v29 v31 v33 v35).trips, ∀ a, (k0_off45 i v1 v3 v5 v7 v9 v11 v13 v15 v17 v19 v21 v23 v25 v27 v29 v31 v33 v35 k0_t23) a + S256x512.size a ≤ S4608x512.size a) ∧
  (∀ k0_t23 : Fin (k0_t23_loop i v1 v3 v5 v7 v9 v11 v13 v15 v17 v19 v21 v23 v25 v27 v29 v31 v33 v35).trips, 32 ∣ (k0_mult58 i v1 v3 v5 v7 v9 v11 v13 v15 v17 v19 v21 v23 v25 v27 v29 v31 v33 v35 k0_t23).toNat) ∧
  (∀ k0_t23 : Fin (k0_t23_loop i v1 v3 v5 v7 v9 v11 v13 v15 v17 v19 v21 v23 v25 v27 v29 v31 v33 v35).trips, ∀ a, (k0_off46 i v1 v3 v5 v7 v9 v11 v13 v15 v17 v19 v21 v23 v25 v27 v29 v31 v33 v35 k0_t23) a + S256x128.size a ≤ S4608x1024.size a) ∧
  ((k0_t24_loop i v1 v3 v5 v7 v9 v11 v13 v15 v17 v19 v21 v23 v25 v27 v29 v31 v33 v35).OK)
def k0_chk1_4 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  (∀ k0_t24 : Fin (k0_t24_loop i v1 v3 v5 v7 v9 v11 v13 v15 v17 v19 v21 v23 v25 v27 v29 v31 v33 v35).trips, 256 ∣ (k0_mult59 i v1 v3 v5 v7 v9 v11 v13 v15 v17 v19 v21 v23 v25 v27 v29 v31 v33 v35 k0_t24).toNat) ∧
  (∀ k0_t24 : Fin (k0_t24_loop i v1 v3 v5 v7 v9 v11 v13 v15 v17 v19 v21 v23 v25 v27 v29 v31 v33 v35).trips, ∀ a, (k0_off47 i v1 v3 v5 v7 v9 v11 v13 v15 v17 v19 v21 v23 v25 v27 v29 v31 v33 v35 k0_t24) a + S256x512.size a ≤ S4608x512.size a) ∧
  (∀ k0_t24 : Fin (k0_t24_loop i v1 v3 v5 v7 v9 v11 v13 v15 v17 v19 v21 v23 v25 v27 v29 v31 v33 v35).trips, 32 ∣ (k0_mult60 i v1 v3 v5 v7 v9 v11 v13 v15 v17 v19 v21 v23 v25 v27 v29 v31 v33 v35 k0_t24).toNat) ∧
  (∀ k0_t24 : Fin (k0_t24_loop i v1 v3 v5 v7 v9 v11 v13 v15 v17 v19 v21 v23 v25 v27 v29 v31 v33 v35).trips, ∀ a, (k0_off48 i v1 v3 v5 v7 v9 v11 v13 v15 v17 v19 v21 v23 v25 v27 v29 v31 v33 v35 k0_t24) a + S256x128.size a ≤ S4608x1024.size a) ∧
  ((k0_t25_loop i v1 v3 v5 v7 v9 v11 v13 v15 v17 v19 v21 v23 v25 v27 v29 v31 v33 v35).OK) ∧
  (∀ k0_t25 : Fin (k0_t25_loop i v1 v3 v5 v7 v9 v11 v13 v15 v17 v19 v21 v23 v25 v27 v29 v31 v33 v35).trips, 32 ∣ (k0_mult61 i v1 v3 v5 v7 v9 v11 v13 v15 v17 v19 v21 v23 v25 v27 v29 v31 v33 v35 k0_t25).toNat) ∧
  (∀ k0_t25 : Fin (k0_t25_loop i v1 v3 v5 v7 v9 v11 v13 v15 v17 v19 v21 v23 v25 v27 v29 v31 v33 v35).trips, ∀ a, (k0_off49 i v1 v3 v5 v7 v9 v11 v13 v15 v17 v19 v21 v23 v25 v27 v29 v31 v33 v35 k0_t25) a + S256x128.size a ≤ S4608x1024.size a) ∧
  (∀ k0_t25 : Fin (k0_t25_loop i v1 v3 v5 v7 v9 v11 v13 v15 v17 v19 v21 v23 v25 v27 v29 v31 v33 v35).trips, 32 ∣ (k0_mult62 i v1 v3 v5 v7 v9 v11 v13 v15 v17 v19 v21 v23 v25 v27 v29 v31 v33 v35 k0_t25).toNat) ∧
  (∀ k0_t25 : Fin (k0_t25_loop i v1 v3 v5 v7 v9 v11 v13 v15 v17 v19 v21 v23 v25 v27 v29 v31 v33 v35).trips, 256 ∣ (k0_mult63 i v1 v3 v5 v7 v9 v11 v13 v15 v17 v19 v21 v23 v25 v27 v29 v31 v33 v35 k0_t25).toNat) ∧
  (∀ k0_t25 : Fin (k0_t25_loop i v1 v3 v5 v7 v9 v11 v13 v15 v17 v19 v21 v23 v25 v27 v29 v31 v33 v35).trips, ∀ a, (k0_off50 i v1 v3 v5 v7 v9 v11 v13 v15 v17 v19 v21 v23 v25 v27 v29 v31 v33 v35 k0_t25) a + S256x512.size a ≤ S4608x512.size a) ∧
  ((k0_t26_loop i v1 v3 v5 v7 v9 v11 v13 v15 v17 v19 v21 v23 v25 v27 v29 v31 v33 v35).OK) ∧
  (∀ k0_t26 : Fin (k0_t26_loop i v1 v3 v5 v7 v9 v11 v13 v15 v17 v19 v21 v23 v25 v27 v29 v31 v33 v35).trips, 32 ∣ (k0_mult64 i v1 v3 v5 v7 v9 v11 v13 v15 v17 v19 v21 v23 v25 v27 v29 v31 v33 v35 k0_t26).toNat) ∧
  (∀ k0_t26 : Fin (k0_t26_loop i v1 v3 v5 v7 v9 v11 v13 v15 v17 v19 v21 v23 v25 v27 v29 v31 v33 v35).trips, ∀ a, (k0_off51 i v1 v3 v5 v7 v9 v11 v13 v15 v17 v19 v21 v23 v25 v27 v29 v31 v33 v35 k0_t26) a + S256x128.size a ≤ S4608x1024.size a) ∧
  (∀ k0_t26 : Fin (k0_t26_loop i v1 v3 v5 v7 v9 v11 v13 v15 v17 v19 v21 v23 v25 v27 v29 v31 v33 v35).trips, 32 ∣ (k0_mult65 i v1 v3 v5 v7 v9 v11 v13 v15 v17 v19 v21 v23 v25 v27 v29 v31 v33 v35 k0_t26).toNat) ∧
  (∀ k0_t26 : Fin (k0_t26_loop i v1 v3 v5 v7 v9 v11 v13 v15 v17 v19 v21 v23 v25 v27 v29 v31 v33 v35).trips, 256 ∣ (k0_mult66 i v1 v3 v5 v7 v9 v11 v13 v15 v17 v19 v21 v23 v25 v27 v29 v31 v33 v35 k0_t26).toNat) ∧
  (∀ k0_t26 : Fin (k0_t26_loop i v1 v3 v5 v7 v9 v11 v13 v15 v17 v19 v21 v23 v25 v27 v29 v31 v33 v35).trips, ∀ a, (k0_off52 i v1 v3 v5 v7 v9 v11 v13 v15 v17 v19 v21 v23 v25 v27 v29 v31 v33 v35 k0_t26) a + S256x512.size a ≤ S4608x512.size a) ∧
  ((k0_t27_loop i v1 v3 v5 v7 v9 v11 v13 v15 v17 v19 v21 v23 v25 v27 v29 v31 v33 v35).OK) ∧
  (∀ k0_t27 : Fin (k0_t27_loop i v1 v3 v5 v7 v9 v11 v13 v15 v17 v19 v21 v23 v25 v27 v29 v31 v33 v35).trips, 256 ∣ (k0_mult67 i v1 v3 v5 v7 v9 v11 v13 v15 v17 v19 v21 v23 v25 v27 v29 v31 v33 v35 k0_t27).toNat) ∧
  (∀ k0_t27 : Fin (k0_t27_loop i v1 v3 v5 v7 v9 v11 v13 v15 v17 v19 v21 v23 v25 v27 v29 v31 v33 v35).trips, ∀ a, (k0_off53 i v1 v3 v5 v7 v9 v11 v13 v15 v17 v19 v21 v23 v25 v27 v29 v31 v33 v35 k0_t27) a + S256x512.size a ≤ S4608x512.size a) ∧
  (∀ k0_t27 : Fin (k0_t27_loop i v1 v3 v5 v7 v9 v11 v13 v15 v17 v19 v21 v23 v25 v27 v29 v31 v33 v35).trips, 32 ∣ (k0_mult68 i v1 v3 v5 v7 v9 v11 v13 v15 v17 v19 v21 v23 v25 v27 v29 v31 v33 v35 k0_t27).toNat) ∧
  (∀ k0_t27 : Fin (k0_t27_loop i v1 v3 v5 v7 v9 v11 v13 v15 v17 v19 v21 v23 v25 v27 v29 v31 v33 v35).trips, ∀ a, (k0_off54 i v1 v3 v5 v7 v9 v11 v13 v15 v17 v19 v21 v23 v25 v27 v29 v31 v33 v35 k0_t27) a + S256x128.size a ≤ S4608x1024.size a) ∧
  ((k0_t28_loop i v1 v3 v5 v7 v9 v11 v13 v15 v17 v19 v21 v23 v25 v27 v29 v31 v33 v35).OK) ∧
  (∀ k0_t28 : Fin (k0_t28_loop i v1 v3 v5 v7 v9 v11 v13 v15 v17 v19 v21 v23 v25 v27 v29 v31 v33 v35).trips, 256 ∣ (k0_mult69 i v1 v3 v5 v7 v9 v11 v13 v15 v17 v19 v21 v23 v25 v27 v29 v31 v33 v35 k0_t28).toNat) ∧
  (∀ k0_t28 : Fin (k0_t28_loop i v1 v3 v5 v7 v9 v11 v13 v15 v17 v19 v21 v23 v25 v27 v29 v31 v33 v35).trips, ∀ a, (k0_off55 i v1 v3 v5 v7 v9 v11 v13 v15 v17 v19 v21 v23 v25 v27 v29 v31 v33 v35 k0_t28) a + S256x512.size a ≤ S4608x512.size a) ∧
  (∀ k0_t28 : Fin (k0_t28_loop i v1 v3 v5 v7 v9 v11 v13 v15 v17 v19 v21 v23 v25 v27 v29 v31 v33 v35).trips, 32 ∣ (k0_mult70 i v1 v3 v5 v7 v9 v11 v13 v15 v17 v19 v21 v23 v25 v27 v29 v31 v33 v35 k0_t28).toNat) ∧
  (∀ k0_t28 : Fin (k0_t28_loop i v1 v3 v5 v7 v9 v11 v13 v15 v17 v19 v21 v23 v25 v27 v29 v31 v33 v35).trips, ∀ a, (k0_off56 i v1 v3 v5 v7 v9 v11 v13 v15 v17 v19 v21 v23 v25 v27 v29 v31 v33 v35 k0_t28) a + S256x128.size a ≤ S4608x1024.size a) ∧
  ((k0_t29_loop i v1 v3 v5 v7 v9 v11 v13 v15 v17 v19 v21 v23 v25 v27 v29 v31 v33 v35).OK) ∧
  (∀ k0_t29 : Fin (k0_t29_loop i v1 v3 v5 v7 v9 v11 v13 v15 v17 v19 v21 v23 v25 v27 v29 v31 v33 v35).trips, 32 ∣ (k0_mult71 i v1 v3 v5 v7 v9 v11 v13 v15 v17 v19 v21 v23 v25 v27 v29 v31 v33 v35 k0_t29).toNat) ∧
  (∀ k0_t29 : Fin (k0_t29_loop i v1 v3 v5 v7 v9 v11 v13 v15 v17 v19 v21 v23 v25 v27 v29 v31 v33 v35).trips, ∀ a, (k0_off57 i v1 v3 v5 v7 v9 v11 v13 v15 v17 v19 v21 v23 v25 v27 v29 v31 v33 v35 k0_t29) a + S256x128.size a ≤ S4608x1024.size a) ∧
  (∀ k0_t29 : Fin (k0_t29_loop i v1 v3 v5 v7 v9 v11 v13 v15 v17 v19 v21 v23 v25 v27 v29 v31 v33 v35).trips, 32 ∣ (k0_mult72 i v1 v3 v5 v7 v9 v11 v13 v15 v17 v19 v21 v23 v25 v27 v29 v31 v33 v35 k0_t29).toNat) ∧
  (∀ k0_t29 : Fin (k0_t29_loop i v1 v3 v5 v7 v9 v11 v13 v15 v17 v19 v21 v23 v25 v27 v29 v31 v33 v35).trips, 256 ∣ (k0_mult73 i v1 v3 v5 v7 v9 v11 v13 v15 v17 v19 v21 v23 v25 v27 v29 v31 v33 v35 k0_t29).toNat) ∧
  (∀ k0_t29 : Fin (k0_t29_loop i v1 v3 v5 v7 v9 v11 v13 v15 v17 v19 v21 v23 v25 v27 v29 v31 v33 v35).trips, ∀ a, (k0_off58 i v1 v3 v5 v7 v9 v11 v13 v15 v17 v19 v21 v23 v25 v27 v29 v31 v33 v35 k0_t29) a + S256x512.size a ≤ S4608x512.size a)
def k0_chk1_5 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  ((k0_t30_loop i v1 v3 v5 v7 v9 v11 v13 v15 v17 v19 v21 v23 v25 v27 v29 v31 v33 v35).OK) ∧
  (∀ k0_t30 : Fin (k0_t30_loop i v1 v3 v5 v7 v9 v11 v13 v15 v17 v19 v21 v23 v25 v27 v29 v31 v33 v35).trips, 32 ∣ (k0_mult74 i v1 v3 v5 v7 v9 v11 v13 v15 v17 v19 v21 v23 v25 v27 v29 v31 v33 v35 k0_t30).toNat) ∧
  (∀ k0_t30 : Fin (k0_t30_loop i v1 v3 v5 v7 v9 v11 v13 v15 v17 v19 v21 v23 v25 v27 v29 v31 v33 v35).trips, ∀ a, (k0_off59 i v1 v3 v5 v7 v9 v11 v13 v15 v17 v19 v21 v23 v25 v27 v29 v31 v33 v35 k0_t30) a + S256x128.size a ≤ S4608x1024.size a) ∧
  (∀ k0_t30 : Fin (k0_t30_loop i v1 v3 v5 v7 v9 v11 v13 v15 v17 v19 v21 v23 v25 v27 v29 v31 v33 v35).trips, 32 ∣ (k0_mult75 i v1 v3 v5 v7 v9 v11 v13 v15 v17 v19 v21 v23 v25 v27 v29 v31 v33 v35 k0_t30).toNat) ∧
  (∀ k0_t30 : Fin (k0_t30_loop i v1 v3 v5 v7 v9 v11 v13 v15 v17 v19 v21 v23 v25 v27 v29 v31 v33 v35).trips, 256 ∣ (k0_mult76 i v1 v3 v5 v7 v9 v11 v13 v15 v17 v19 v21 v23 v25 v27 v29 v31 v33 v35 k0_t30).toNat) ∧
  (∀ k0_t30 : Fin (k0_t30_loop i v1 v3 v5 v7 v9 v11 v13 v15 v17 v19 v21 v23 v25 v27 v29 v31 v33 v35).trips, ∀ a, (k0_off60 i v1 v3 v5 v7 v9 v11 v13 v15 v17 v19 v21 v23 v25 v27 v29 v31 v33 v35 k0_t30) a + S256x512.size a ≤ S4608x512.size a) ∧
  ((k0_t31_loop i v1 v3 v5 v7 v9 v11 v13 v15 v17 v19 v21 v23 v25 v27 v29 v31 v33 v35).OK) ∧
  (∀ k0_t31 : Fin (k0_t31_loop i v1 v3 v5 v7 v9 v11 v13 v15 v17 v19 v21 v23 v25 v27 v29 v31 v33 v35).trips, 256 ∣ (k0_mult77 i v1 v3 v5 v7 v9 v11 v13 v15 v17 v19 v21 v23 v25 v27 v29 v31 v33 v35 k0_t31).toNat) ∧
  (∀ k0_t31 : Fin (k0_t31_loop i v1 v3 v5 v7 v9 v11 v13 v15 v17 v19 v21 v23 v25 v27 v29 v31 v33 v35).trips, ∀ a, (k0_off61 i v1 v3 v5 v7 v9 v11 v13 v15 v17 v19 v21 v23 v25 v27 v29 v31 v33 v35 k0_t31) a + S256x512.size a ≤ S4608x512.size a) ∧
  (∀ k0_t31 : Fin (k0_t31_loop i v1 v3 v5 v7 v9 v11 v13 v15 v17 v19 v21 v23 v25 v27 v29 v31 v33 v35).trips, 32 ∣ (k0_mult78 i v1 v3 v5 v7 v9 v11 v13 v15 v17 v19 v21 v23 v25 v27 v29 v31 v33 v35 k0_t31).toNat) ∧
  (∀ k0_t31 : Fin (k0_t31_loop i v1 v3 v5 v7 v9 v11 v13 v15 v17 v19 v21 v23 v25 v27 v29 v31 v33 v35).trips, ∀ a, (k0_off62 i v1 v3 v5 v7 v9 v11 v13 v15 v17 v19 v21 v23 v25 v27 v29 v31 v33 v35 k0_t31) a + S256x128.size a ≤ S4608x1024.size a) ∧
  ((k0_t32_loop i v1 v3 v5 v7 v9 v11 v13 v15 v17 v19 v21 v23 v25 v27 v29 v31 v33 v35).OK) ∧
  (∀ k0_t32 : Fin (k0_t32_loop i v1 v3 v5 v7 v9 v11 v13 v15 v17 v19 v21 v23 v25 v27 v29 v31 v33 v35).trips, 256 ∣ (k0_mult79 i v1 v3 v5 v7 v9 v11 v13 v15 v17 v19 v21 v23 v25 v27 v29 v31 v33 v35 k0_t32).toNat) ∧
  (∀ k0_t32 : Fin (k0_t32_loop i v1 v3 v5 v7 v9 v11 v13 v15 v17 v19 v21 v23 v25 v27 v29 v31 v33 v35).trips, ∀ a, (k0_off63 i v1 v3 v5 v7 v9 v11 v13 v15 v17 v19 v21 v23 v25 v27 v29 v31 v33 v35 k0_t32) a + S256x512.size a ≤ S4608x512.size a) ∧
  (∀ k0_t32 : Fin (k0_t32_loop i v1 v3 v5 v7 v9 v11 v13 v15 v17 v19 v21 v23 v25 v27 v29 v31 v33 v35).trips, 32 ∣ (k0_mult80 i v1 v3 v5 v7 v9 v11 v13 v15 v17 v19 v21 v23 v25 v27 v29 v31 v33 v35 k0_t32).toNat) ∧
  (∀ k0_t32 : Fin (k0_t32_loop i v1 v3 v5 v7 v9 v11 v13 v15 v17 v19 v21 v23 v25 v27 v29 v31 v33 v35).trips, ∀ a, (k0_off64 i v1 v3 v5 v7 v9 v11 v13 v15 v17 v19 v21 v23 v25 v27 v29 v31 v33 v35 k0_t32) a + S256x128.size a ≤ S4608x1024.size a)
def k0_chk1 (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) : Prop :=
  k0_chk1_0 i v1 v3 v5 v7 v9 v11 v13 v15 v17 v19 v21 v23 v25 v27 v29 v31 v33 v35 ∧
  k0_chk1_1 i v1 v3 v5 v7 v9 v11 v13 v15 v17 v19 v21 v23 v25 v27 v29 v31 v33 v35 ∧
  k0_chk1_2 i v1 v3 v5 v7 v9 v11 v13 v15 v17 v19 v21 v23 v25 v27 v29 v31 v33 v35 ∧
  k0_chk1_3 i v1 v3 v5 v7 v9 v11 v13 v15 v17 v19 v21 v23 v25 v27 v29 v31 v33 v35 ∧
  k0_chk1_4 i v1 v3 v5 v7 v9 v11 v13 v15 v17 v19 v21 v23 v25 v27 v29 v31 v33 v35 ∧
  k0_chk1_5 i v1 v3 v5 v7 v9 v11 v13 v15 v17 v19 v21 v23 v25 v27 v29 v31 v33 v35
theorem k0_t1_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t1_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.1
theorem k0_mult1_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t1 : Fin (k0_t1_loop i v1 v3 v5 v7 v9 v11 v13 v15 v17 v19 v21 v23 v25 v27 v29 v31 v33 v35).trips), 32 ∣ (k0_mult1 i v1 v3 v5 v7 v9 v11 v13 v15 v17 v19 v21 v23 v25 v27 v29 v31 v33 v35 k0_t1).toNat := fun i v1 v3 v5 v7 v9 v11 v13 v15 v17 v19 v21 v23 v25 v27 v29 v31 v33 v35 k0_hw1 k0_t1 => k0_hw1.1.2.1 k0_t1
theorem k0_off1_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t1 : Fin (k0_t1_loop i v1 v3 v5 v7 v9 v11 v13 v15 v17 v19 v21 v23 v25 v27 v29 v31 v33 v35).trips), ∀ a, (k0_off1 i v1 v3 v5 v7 v9 v11 v13 v15 v17 v19 v21 v23 v25 v27 v29 v31 v33 v35 k0_t1) a + S256x128.size a ≤ S4608x1024.size a := fun i v1 v3 v5 v7 v9 v11 v13 v15 v17 v19 v21 v23 v25 v27 v29 v31 v33 v35 k0_hw1 k0_t1 => k0_hw1.1.2.2.1 k0_t1
theorem k0_mult2_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t1 : Fin (k0_t1_loop i v1 v3 v5 v7 v9 v11 v13 v15 v17 v19 v21 v23 v25 v27 v29 v31 v33 v35).trips), 32 ∣ (k0_mult2 i v1 v3 v5 v7 v9 v11 v13 v15 v17 v19 v21 v23 v25 v27 v29 v31 v33 v35 k0_t1).toNat := fun i v1 v3 v5 v7 v9 v11 v13 v15 v17 v19 v21 v23 v25 v27 v29 v31 v33 v35 k0_hw1 k0_t1 => k0_hw1.1.2.2.2.1 k0_t1
theorem k0_mult3_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t1 : Fin (k0_t1_loop i v1 v3 v5 v7 v9 v11 v13 v15 v17 v19 v21 v23 v25 v27 v29 v31 v33 v35).trips), 256 ∣ (k0_mult3 i v1 v3 v5 v7 v9 v11 v13 v15 v17 v19 v21 v23 v25 v27 v29 v31 v33 v35 k0_t1).toNat := fun i v1 v3 v5 v7 v9 v11 v13 v15 v17 v19 v21 v23 v25 v27 v29 v31 v33 v35 k0_hw1 k0_t1 => k0_hw1.1.2.2.2.2.1 k0_t1
theorem k0_off2_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t1 : Fin (k0_t1_loop i v1 v3 v5 v7 v9 v11 v13 v15 v17 v19 v21 v23 v25 v27 v29 v31 v33 v35).trips), ∀ a, (k0_off2 i v1 v3 v5 v7 v9 v11 v13 v15 v17 v19 v21 v23 v25 v27 v29 v31 v33 v35 k0_t1) a + S256x512.size a ≤ S4608x512.size a := fun i v1 v3 v5 v7 v9 v11 v13 v15 v17 v19 v21 v23 v25 v27 v29 v31 v33 v35 k0_hw1 k0_t1 => k0_hw1.1.2.2.2.2.2.1 k0_t1
theorem k0_t2_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t2_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.2.2.2.2.2.2.1
theorem k0_mult4_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t2 : Fin (k0_t2_loop i v1 v3 v5 v7 v9 v11 v13 v15 v17 v19 v21 v23 v25 v27 v29 v31 v33 v35).trips), 32 ∣ (k0_mult4 i v1 v3 v5 v7 v9 v11 v13 v15 v17 v19 v21 v23 v25 v27 v29 v31 v33 v35 k0_t2).toNat := fun i v1 v3 v5 v7 v9 v11 v13 v15 v17 v19 v21 v23 v25 v27 v29 v31 v33 v35 k0_hw1 k0_t2 => k0_hw1.1.2.2.2.2.2.2.2.1 k0_t2
theorem k0_off3_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t2 : Fin (k0_t2_loop i v1 v3 v5 v7 v9 v11 v13 v15 v17 v19 v21 v23 v25 v27 v29 v31 v33 v35).trips), ∀ a, (k0_off3 i v1 v3 v5 v7 v9 v11 v13 v15 v17 v19 v21 v23 v25 v27 v29 v31 v33 v35 k0_t2) a + S256x128.size a ≤ S4608x1024.size a := fun i v1 v3 v5 v7 v9 v11 v13 v15 v17 v19 v21 v23 v25 v27 v29 v31 v33 v35 k0_hw1 k0_t2 => k0_hw1.1.2.2.2.2.2.2.2.2.1 k0_t2
theorem k0_mult5_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t2 : Fin (k0_t2_loop i v1 v3 v5 v7 v9 v11 v13 v15 v17 v19 v21 v23 v25 v27 v29 v31 v33 v35).trips), 32 ∣ (k0_mult5 i v1 v3 v5 v7 v9 v11 v13 v15 v17 v19 v21 v23 v25 v27 v29 v31 v33 v35 k0_t2).toNat := fun i v1 v3 v5 v7 v9 v11 v13 v15 v17 v19 v21 v23 v25 v27 v29 v31 v33 v35 k0_hw1 k0_t2 => k0_hw1.1.2.2.2.2.2.2.2.2.2.1 k0_t2
theorem k0_mult6_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t2 : Fin (k0_t2_loop i v1 v3 v5 v7 v9 v11 v13 v15 v17 v19 v21 v23 v25 v27 v29 v31 v33 v35).trips), 256 ∣ (k0_mult6 i v1 v3 v5 v7 v9 v11 v13 v15 v17 v19 v21 v23 v25 v27 v29 v31 v33 v35 k0_t2).toNat := fun i v1 v3 v5 v7 v9 v11 v13 v15 v17 v19 v21 v23 v25 v27 v29 v31 v33 v35 k0_hw1 k0_t2 => k0_hw1.1.2.2.2.2.2.2.2.2.2.2.1 k0_t2
theorem k0_off4_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t2 : Fin (k0_t2_loop i v1 v3 v5 v7 v9 v11 v13 v15 v17 v19 v21 v23 v25 v27 v29 v31 v33 v35).trips), ∀ a, (k0_off4 i v1 v3 v5 v7 v9 v11 v13 v15 v17 v19 v21 v23 v25 v27 v29 v31 v33 v35 k0_t2) a + S256x512.size a ≤ S4608x512.size a := fun i v1 v3 v5 v7 v9 v11 v13 v15 v17 v19 v21 v23 v25 v27 v29 v31 v33 v35 k0_hw1 k0_t2 => k0_hw1.1.2.2.2.2.2.2.2.2.2.2.2.1 k0_t2
theorem k0_t3_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t3_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.2.2.2.2.2.2.2.2.2.2.2.2.1
theorem k0_mult7_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t3 : Fin (k0_t3_loop i v1 v3 v5 v7 v9 v11 v13 v15 v17 v19 v21 v23 v25 v27 v29 v31 v33 v35).trips), 256 ∣ (k0_mult7 i v1 v3 v5 v7 v9 v11 v13 v15 v17 v19 v21 v23 v25 v27 v29 v31 v33 v35 k0_t3).toNat := fun i v1 v3 v5 v7 v9 v11 v13 v15 v17 v19 v21 v23 v25 v27 v29 v31 v33 v35 k0_hw1 k0_t3 => k0_hw1.1.2.2.2.2.2.2.2.2.2.2.2.2.2.1 k0_t3
theorem k0_off5_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t3 : Fin (k0_t3_loop i v1 v3 v5 v7 v9 v11 v13 v15 v17 v19 v21 v23 v25 v27 v29 v31 v33 v35).trips), ∀ a, (k0_off5 i v1 v3 v5 v7 v9 v11 v13 v15 v17 v19 v21 v23 v25 v27 v29 v31 v33 v35 k0_t3) a + S256x512.size a ≤ S4608x512.size a := fun i v1 v3 v5 v7 v9 v11 v13 v15 v17 v19 v21 v23 v25 v27 v29 v31 v33 v35 k0_hw1 k0_t3 => k0_hw1.1.2.2.2.2.2.2.2.2.2.2.2.2.2.2.1 k0_t3
theorem k0_mult8_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t3 : Fin (k0_t3_loop i v1 v3 v5 v7 v9 v11 v13 v15 v17 v19 v21 v23 v25 v27 v29 v31 v33 v35).trips), 32 ∣ (k0_mult8 i v1 v3 v5 v7 v9 v11 v13 v15 v17 v19 v21 v23 v25 v27 v29 v31 v33 v35 k0_t3).toNat := fun i v1 v3 v5 v7 v9 v11 v13 v15 v17 v19 v21 v23 v25 v27 v29 v31 v33 v35 k0_hw1 k0_t3 => k0_hw1.1.2.2.2.2.2.2.2.2.2.2.2.2.2.2.2.1 k0_t3
theorem k0_off6_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t3 : Fin (k0_t3_loop i v1 v3 v5 v7 v9 v11 v13 v15 v17 v19 v21 v23 v25 v27 v29 v31 v33 v35).trips), ∀ a, (k0_off6 i v1 v3 v5 v7 v9 v11 v13 v15 v17 v19 v21 v23 v25 v27 v29 v31 v33 v35 k0_t3) a + S256x128.size a ≤ S4608x1024.size a := fun i v1 v3 v5 v7 v9 v11 v13 v15 v17 v19 v21 v23 v25 v27 v29 v31 v33 v35 k0_hw1 k0_t3 => k0_hw1.1.2.2.2.2.2.2.2.2.2.2.2.2.2.2.2.2.1 k0_t3
theorem k0_t4_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t4_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.2.2.2.2.2.2.2.2.2.2.2.2.2.2.2.2.2.1
theorem k0_mult9_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t4 : Fin (k0_t4_loop i v1 v3 v5 v7 v9 v11 v13 v15 v17 v19 v21 v23 v25 v27 v29 v31 v33 v35).trips), 256 ∣ (k0_mult9 i v1 v3 v5 v7 v9 v11 v13 v15 v17 v19 v21 v23 v25 v27 v29 v31 v33 v35 k0_t4).toNat := fun i v1 v3 v5 v7 v9 v11 v13 v15 v17 v19 v21 v23 v25 v27 v29 v31 v33 v35 k0_hw1 k0_t4 => k0_hw1.1.2.2.2.2.2.2.2.2.2.2.2.2.2.2.2.2.2.2.1 k0_t4
theorem k0_off7_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t4 : Fin (k0_t4_loop i v1 v3 v5 v7 v9 v11 v13 v15 v17 v19 v21 v23 v25 v27 v29 v31 v33 v35).trips), ∀ a, (k0_off7 i v1 v3 v5 v7 v9 v11 v13 v15 v17 v19 v21 v23 v25 v27 v29 v31 v33 v35 k0_t4) a + S256x512.size a ≤ S4608x512.size a := fun i v1 v3 v5 v7 v9 v11 v13 v15 v17 v19 v21 v23 v25 v27 v29 v31 v33 v35 k0_hw1 k0_t4 => k0_hw1.1.2.2.2.2.2.2.2.2.2.2.2.2.2.2.2.2.2.2.2.1 k0_t4
theorem k0_mult10_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t4 : Fin (k0_t4_loop i v1 v3 v5 v7 v9 v11 v13 v15 v17 v19 v21 v23 v25 v27 v29 v31 v33 v35).trips), 32 ∣ (k0_mult10 i v1 v3 v5 v7 v9 v11 v13 v15 v17 v19 v21 v23 v25 v27 v29 v31 v33 v35 k0_t4).toNat := fun i v1 v3 v5 v7 v9 v11 v13 v15 v17 v19 v21 v23 v25 v27 v29 v31 v33 v35 k0_hw1 k0_t4 => k0_hw1.1.2.2.2.2.2.2.2.2.2.2.2.2.2.2.2.2.2.2.2.2.1 k0_t4
theorem k0_off8_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t4 : Fin (k0_t4_loop i v1 v3 v5 v7 v9 v11 v13 v15 v17 v19 v21 v23 v25 v27 v29 v31 v33 v35).trips), ∀ a, (k0_off8 i v1 v3 v5 v7 v9 v11 v13 v15 v17 v19 v21 v23 v25 v27 v29 v31 v33 v35 k0_t4) a + S256x128.size a ≤ S4608x1024.size a := fun i v1 v3 v5 v7 v9 v11 v13 v15 v17 v19 v21 v23 v25 v27 v29 v31 v33 v35 k0_hw1 k0_t4 => k0_hw1.1.2.2.2.2.2.2.2.2.2.2.2.2.2.2.2.2.2.2.2.2.2.1 k0_t4
theorem k0_t5_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t5_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.2.2.2.2.2.2.2.2.2.2.2.2.2.2.2.2.2.2.2.2.2.2.1
theorem k0_mult11_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t5 : Fin (k0_t5_loop i v1 v3 v5 v7 v9 v11 v13 v15 v17 v19 v21 v23 v25 v27 v29 v31 v33 v35).trips), 32 ∣ (k0_mult11 i v1 v3 v5 v7 v9 v11 v13 v15 v17 v19 v21 v23 v25 v27 v29 v31 v33 v35 k0_t5).toNat := fun i v1 v3 v5 v7 v9 v11 v13 v15 v17 v19 v21 v23 v25 v27 v29 v31 v33 v35 k0_hw1 k0_t5 => k0_hw1.1.2.2.2.2.2.2.2.2.2.2.2.2.2.2.2.2.2.2.2.2.2.2.2.1 k0_t5
theorem k0_off9_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t5 : Fin (k0_t5_loop i v1 v3 v5 v7 v9 v11 v13 v15 v17 v19 v21 v23 v25 v27 v29 v31 v33 v35).trips), ∀ a, (k0_off9 i v1 v3 v5 v7 v9 v11 v13 v15 v17 v19 v21 v23 v25 v27 v29 v31 v33 v35 k0_t5) a + S256x128.size a ≤ S4608x1024.size a := fun i v1 v3 v5 v7 v9 v11 v13 v15 v17 v19 v21 v23 v25 v27 v29 v31 v33 v35 k0_hw1 k0_t5 => k0_hw1.1.2.2.2.2.2.2.2.2.2.2.2.2.2.2.2.2.2.2.2.2.2.2.2.2.1 k0_t5
theorem k0_mult12_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t5 : Fin (k0_t5_loop i v1 v3 v5 v7 v9 v11 v13 v15 v17 v19 v21 v23 v25 v27 v29 v31 v33 v35).trips), 32 ∣ (k0_mult12 i v1 v3 v5 v7 v9 v11 v13 v15 v17 v19 v21 v23 v25 v27 v29 v31 v33 v35 k0_t5).toNat := fun i v1 v3 v5 v7 v9 v11 v13 v15 v17 v19 v21 v23 v25 v27 v29 v31 v33 v35 k0_hw1 k0_t5 => k0_hw1.1.2.2.2.2.2.2.2.2.2.2.2.2.2.2.2.2.2.2.2.2.2.2.2.2.2.1 k0_t5
theorem k0_mult13_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t5 : Fin (k0_t5_loop i v1 v3 v5 v7 v9 v11 v13 v15 v17 v19 v21 v23 v25 v27 v29 v31 v33 v35).trips), 256 ∣ (k0_mult13 i v1 v3 v5 v7 v9 v11 v13 v15 v17 v19 v21 v23 v25 v27 v29 v31 v33 v35 k0_t5).toNat := fun i v1 v3 v5 v7 v9 v11 v13 v15 v17 v19 v21 v23 v25 v27 v29 v31 v33 v35 k0_hw1 k0_t5 => k0_hw1.1.2.2.2.2.2.2.2.2.2.2.2.2.2.2.2.2.2.2.2.2.2.2.2.2.2.2.1 k0_t5
theorem k0_off10_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t5 : Fin (k0_t5_loop i v1 v3 v5 v7 v9 v11 v13 v15 v17 v19 v21 v23 v25 v27 v29 v31 v33 v35).trips), ∀ a, (k0_off10 i v1 v3 v5 v7 v9 v11 v13 v15 v17 v19 v21 v23 v25 v27 v29 v31 v33 v35 k0_t5) a + S256x512.size a ≤ S4608x512.size a := fun i v1 v3 v5 v7 v9 v11 v13 v15 v17 v19 v21 v23 v25 v27 v29 v31 v33 v35 k0_hw1 k0_t5 => k0_hw1.1.2.2.2.2.2.2.2.2.2.2.2.2.2.2.2.2.2.2.2.2.2.2.2.2.2.2.2.1 k0_t5
theorem k0_t6_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t6_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.1.2.2.2.2.2.2.2.2.2.2.2.2.2.2.2.2.2.2.2.2.2.2.2.2.2.2.2.2.1
theorem k0_mult14_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t6 : Fin (k0_t6_loop i v1 v3 v5 v7 v9 v11 v13 v15 v17 v19 v21 v23 v25 v27 v29 v31 v33 v35).trips), 32 ∣ (k0_mult14 i v1 v3 v5 v7 v9 v11 v13 v15 v17 v19 v21 v23 v25 v27 v29 v31 v33 v35 k0_t6).toNat := fun i v1 v3 v5 v7 v9 v11 v13 v15 v17 v19 v21 v23 v25 v27 v29 v31 v33 v35 k0_hw1 k0_t6 => k0_hw1.1.2.2.2.2.2.2.2.2.2.2.2.2.2.2.2.2.2.2.2.2.2.2.2.2.2.2.2.2.2.1 k0_t6
theorem k0_off11_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t6 : Fin (k0_t6_loop i v1 v3 v5 v7 v9 v11 v13 v15 v17 v19 v21 v23 v25 v27 v29 v31 v33 v35).trips), ∀ a, (k0_off11 i v1 v3 v5 v7 v9 v11 v13 v15 v17 v19 v21 v23 v25 v27 v29 v31 v33 v35 k0_t6) a + S256x128.size a ≤ S4608x1024.size a := fun i v1 v3 v5 v7 v9 v11 v13 v15 v17 v19 v21 v23 v25 v27 v29 v31 v33 v35 k0_hw1 k0_t6 => k0_hw1.1.2.2.2.2.2.2.2.2.2.2.2.2.2.2.2.2.2.2.2.2.2.2.2.2.2.2.2.2.2.2.1 k0_t6
theorem k0_mult15_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t6 : Fin (k0_t6_loop i v1 v3 v5 v7 v9 v11 v13 v15 v17 v19 v21 v23 v25 v27 v29 v31 v33 v35).trips), 32 ∣ (k0_mult15 i v1 v3 v5 v7 v9 v11 v13 v15 v17 v19 v21 v23 v25 v27 v29 v31 v33 v35 k0_t6).toNat := fun i v1 v3 v5 v7 v9 v11 v13 v15 v17 v19 v21 v23 v25 v27 v29 v31 v33 v35 k0_hw1 k0_t6 => k0_hw1.1.2.2.2.2.2.2.2.2.2.2.2.2.2.2.2.2.2.2.2.2.2.2.2.2.2.2.2.2.2.2.2 k0_t6
theorem k0_mult16_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t6 : Fin (k0_t6_loop i v1 v3 v5 v7 v9 v11 v13 v15 v17 v19 v21 v23 v25 v27 v29 v31 v33 v35).trips), 256 ∣ (k0_mult16 i v1 v3 v5 v7 v9 v11 v13 v15 v17 v19 v21 v23 v25 v27 v29 v31 v33 v35 k0_t6).toNat := fun i v1 v3 v5 v7 v9 v11 v13 v15 v17 v19 v21 v23 v25 v27 v29 v31 v33 v35 k0_hw1 k0_t6 => k0_hw1.2.1.1 k0_t6
theorem k0_off12_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t6 : Fin (k0_t6_loop i v1 v3 v5 v7 v9 v11 v13 v15 v17 v19 v21 v23 v25 v27 v29 v31 v33 v35).trips), ∀ a, (k0_off12 i v1 v3 v5 v7 v9 v11 v13 v15 v17 v19 v21 v23 v25 v27 v29 v31 v33 v35 k0_t6) a + S256x512.size a ≤ S4608x512.size a := fun i v1 v3 v5 v7 v9 v11 v13 v15 v17 v19 v21 v23 v25 v27 v29 v31 v33 v35 k0_hw1 k0_t6 => k0_hw1.2.1.2.1 k0_t6
theorem k0_t7_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t7_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.1
theorem k0_mult17_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t7 : Fin (k0_t7_loop i v1 v3 v5 v7 v9 v11 v13 v15 v17 v19 v21 v23 v25 v27 v29 v31 v33 v35).trips), 256 ∣ (k0_mult17 i v1 v3 v5 v7 v9 v11 v13 v15 v17 v19 v21 v23 v25 v27 v29 v31 v33 v35 k0_t7).toNat := fun i v1 v3 v5 v7 v9 v11 v13 v15 v17 v19 v21 v23 v25 v27 v29 v31 v33 v35 k0_hw1 k0_t7 => k0_hw1.2.1.2.2.2.1 k0_t7
theorem k0_off13_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t7 : Fin (k0_t7_loop i v1 v3 v5 v7 v9 v11 v13 v15 v17 v19 v21 v23 v25 v27 v29 v31 v33 v35).trips), ∀ a, (k0_off13 i v1 v3 v5 v7 v9 v11 v13 v15 v17 v19 v21 v23 v25 v27 v29 v31 v33 v35 k0_t7) a + S256x512.size a ≤ S4608x512.size a := fun i v1 v3 v5 v7 v9 v11 v13 v15 v17 v19 v21 v23 v25 v27 v29 v31 v33 v35 k0_hw1 k0_t7 => k0_hw1.2.1.2.2.2.2.1 k0_t7
theorem k0_mult18_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t7 : Fin (k0_t7_loop i v1 v3 v5 v7 v9 v11 v13 v15 v17 v19 v21 v23 v25 v27 v29 v31 v33 v35).trips), 32 ∣ (k0_mult18 i v1 v3 v5 v7 v9 v11 v13 v15 v17 v19 v21 v23 v25 v27 v29 v31 v33 v35 k0_t7).toNat := fun i v1 v3 v5 v7 v9 v11 v13 v15 v17 v19 v21 v23 v25 v27 v29 v31 v33 v35 k0_hw1 k0_t7 => k0_hw1.2.1.2.2.2.2.2.1 k0_t7
theorem k0_off14_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t7 : Fin (k0_t7_loop i v1 v3 v5 v7 v9 v11 v13 v15 v17 v19 v21 v23 v25 v27 v29 v31 v33 v35).trips), ∀ a, (k0_off14 i v1 v3 v5 v7 v9 v11 v13 v15 v17 v19 v21 v23 v25 v27 v29 v31 v33 v35 k0_t7) a + S256x128.size a ≤ S4608x1024.size a := fun i v1 v3 v5 v7 v9 v11 v13 v15 v17 v19 v21 v23 v25 v27 v29 v31 v33 v35 k0_hw1 k0_t7 => k0_hw1.2.1.2.2.2.2.2.2.1 k0_t7
theorem k0_t8_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t8_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.2.2.2.2.2.1
theorem k0_mult19_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t8 : Fin (k0_t8_loop i v1 v3 v5 v7 v9 v11 v13 v15 v17 v19 v21 v23 v25 v27 v29 v31 v33 v35).trips), 256 ∣ (k0_mult19 i v1 v3 v5 v7 v9 v11 v13 v15 v17 v19 v21 v23 v25 v27 v29 v31 v33 v35 k0_t8).toNat := fun i v1 v3 v5 v7 v9 v11 v13 v15 v17 v19 v21 v23 v25 v27 v29 v31 v33 v35 k0_hw1 k0_t8 => k0_hw1.2.1.2.2.2.2.2.2.2.2.1 k0_t8
theorem k0_off15_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t8 : Fin (k0_t8_loop i v1 v3 v5 v7 v9 v11 v13 v15 v17 v19 v21 v23 v25 v27 v29 v31 v33 v35).trips), ∀ a, (k0_off15 i v1 v3 v5 v7 v9 v11 v13 v15 v17 v19 v21 v23 v25 v27 v29 v31 v33 v35 k0_t8) a + S256x512.size a ≤ S4608x512.size a := fun i v1 v3 v5 v7 v9 v11 v13 v15 v17 v19 v21 v23 v25 v27 v29 v31 v33 v35 k0_hw1 k0_t8 => k0_hw1.2.1.2.2.2.2.2.2.2.2.2.1 k0_t8
theorem k0_mult20_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t8 : Fin (k0_t8_loop i v1 v3 v5 v7 v9 v11 v13 v15 v17 v19 v21 v23 v25 v27 v29 v31 v33 v35).trips), 32 ∣ (k0_mult20 i v1 v3 v5 v7 v9 v11 v13 v15 v17 v19 v21 v23 v25 v27 v29 v31 v33 v35 k0_t8).toNat := fun i v1 v3 v5 v7 v9 v11 v13 v15 v17 v19 v21 v23 v25 v27 v29 v31 v33 v35 k0_hw1 k0_t8 => k0_hw1.2.1.2.2.2.2.2.2.2.2.2.2.1 k0_t8
theorem k0_off16_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t8 : Fin (k0_t8_loop i v1 v3 v5 v7 v9 v11 v13 v15 v17 v19 v21 v23 v25 v27 v29 v31 v33 v35).trips), ∀ a, (k0_off16 i v1 v3 v5 v7 v9 v11 v13 v15 v17 v19 v21 v23 v25 v27 v29 v31 v33 v35 k0_t8) a + S256x128.size a ≤ S4608x1024.size a := fun i v1 v3 v5 v7 v9 v11 v13 v15 v17 v19 v21 v23 v25 v27 v29 v31 v33 v35 k0_hw1 k0_t8 => k0_hw1.2.1.2.2.2.2.2.2.2.2.2.2.2.1 k0_t8
theorem k0_t9_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t9_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.2.2.2.2.2.2.2.2.2.2.1
theorem k0_mult21_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t9 : Fin (k0_t9_loop i v1 v3 v5 v7 v9 v11 v13 v15 v17 v19 v21 v23 v25 v27 v29 v31 v33 v35).trips), 32 ∣ (k0_mult21 i v1 v3 v5 v7 v9 v11 v13 v15 v17 v19 v21 v23 v25 v27 v29 v31 v33 v35 k0_t9).toNat := fun i v1 v3 v5 v7 v9 v11 v13 v15 v17 v19 v21 v23 v25 v27 v29 v31 v33 v35 k0_hw1 k0_t9 => k0_hw1.2.1.2.2.2.2.2.2.2.2.2.2.2.2.2.1 k0_t9
theorem k0_off17_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t9 : Fin (k0_t9_loop i v1 v3 v5 v7 v9 v11 v13 v15 v17 v19 v21 v23 v25 v27 v29 v31 v33 v35).trips), ∀ a, (k0_off17 i v1 v3 v5 v7 v9 v11 v13 v15 v17 v19 v21 v23 v25 v27 v29 v31 v33 v35 k0_t9) a + S256x128.size a ≤ S4608x1024.size a := fun i v1 v3 v5 v7 v9 v11 v13 v15 v17 v19 v21 v23 v25 v27 v29 v31 v33 v35 k0_hw1 k0_t9 => k0_hw1.2.1.2.2.2.2.2.2.2.2.2.2.2.2.2.2.1 k0_t9
theorem k0_mult22_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t9 : Fin (k0_t9_loop i v1 v3 v5 v7 v9 v11 v13 v15 v17 v19 v21 v23 v25 v27 v29 v31 v33 v35).trips), 32 ∣ (k0_mult22 i v1 v3 v5 v7 v9 v11 v13 v15 v17 v19 v21 v23 v25 v27 v29 v31 v33 v35 k0_t9).toNat := fun i v1 v3 v5 v7 v9 v11 v13 v15 v17 v19 v21 v23 v25 v27 v29 v31 v33 v35 k0_hw1 k0_t9 => k0_hw1.2.1.2.2.2.2.2.2.2.2.2.2.2.2.2.2.2.1 k0_t9
theorem k0_mult23_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t9 : Fin (k0_t9_loop i v1 v3 v5 v7 v9 v11 v13 v15 v17 v19 v21 v23 v25 v27 v29 v31 v33 v35).trips), 256 ∣ (k0_mult23 i v1 v3 v5 v7 v9 v11 v13 v15 v17 v19 v21 v23 v25 v27 v29 v31 v33 v35 k0_t9).toNat := fun i v1 v3 v5 v7 v9 v11 v13 v15 v17 v19 v21 v23 v25 v27 v29 v31 v33 v35 k0_hw1 k0_t9 => k0_hw1.2.1.2.2.2.2.2.2.2.2.2.2.2.2.2.2.2.2.1 k0_t9
theorem k0_off18_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t9 : Fin (k0_t9_loop i v1 v3 v5 v7 v9 v11 v13 v15 v17 v19 v21 v23 v25 v27 v29 v31 v33 v35).trips), ∀ a, (k0_off18 i v1 v3 v5 v7 v9 v11 v13 v15 v17 v19 v21 v23 v25 v27 v29 v31 v33 v35 k0_t9) a + S256x512.size a ≤ S4608x512.size a := fun i v1 v3 v5 v7 v9 v11 v13 v15 v17 v19 v21 v23 v25 v27 v29 v31 v33 v35 k0_hw1 k0_t9 => k0_hw1.2.1.2.2.2.2.2.2.2.2.2.2.2.2.2.2.2.2.2.1 k0_t9
theorem k0_t10_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t10_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.2.2.2.2.2.2.2.2.2.2.2.2.2.2.2.2.1
theorem k0_mult24_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t10 : Fin (k0_t10_loop i v1 v3 v5 v7 v9 v11 v13 v15 v17 v19 v21 v23 v25 v27 v29 v31 v33 v35).trips), 32 ∣ (k0_mult24 i v1 v3 v5 v7 v9 v11 v13 v15 v17 v19 v21 v23 v25 v27 v29 v31 v33 v35 k0_t10).toNat := fun i v1 v3 v5 v7 v9 v11 v13 v15 v17 v19 v21 v23 v25 v27 v29 v31 v33 v35 k0_hw1 k0_t10 => k0_hw1.2.1.2.2.2.2.2.2.2.2.2.2.2.2.2.2.2.2.2.2.2.1 k0_t10
theorem k0_off19_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t10 : Fin (k0_t10_loop i v1 v3 v5 v7 v9 v11 v13 v15 v17 v19 v21 v23 v25 v27 v29 v31 v33 v35).trips), ∀ a, (k0_off19 i v1 v3 v5 v7 v9 v11 v13 v15 v17 v19 v21 v23 v25 v27 v29 v31 v33 v35 k0_t10) a + S256x128.size a ≤ S4608x1024.size a := fun i v1 v3 v5 v7 v9 v11 v13 v15 v17 v19 v21 v23 v25 v27 v29 v31 v33 v35 k0_hw1 k0_t10 => k0_hw1.2.1.2.2.2.2.2.2.2.2.2.2.2.2.2.2.2.2.2.2.2.2.1 k0_t10
theorem k0_mult25_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t10 : Fin (k0_t10_loop i v1 v3 v5 v7 v9 v11 v13 v15 v17 v19 v21 v23 v25 v27 v29 v31 v33 v35).trips), 32 ∣ (k0_mult25 i v1 v3 v5 v7 v9 v11 v13 v15 v17 v19 v21 v23 v25 v27 v29 v31 v33 v35 k0_t10).toNat := fun i v1 v3 v5 v7 v9 v11 v13 v15 v17 v19 v21 v23 v25 v27 v29 v31 v33 v35 k0_hw1 k0_t10 => k0_hw1.2.1.2.2.2.2.2.2.2.2.2.2.2.2.2.2.2.2.2.2.2.2.2.1 k0_t10
theorem k0_mult26_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t10 : Fin (k0_t10_loop i v1 v3 v5 v7 v9 v11 v13 v15 v17 v19 v21 v23 v25 v27 v29 v31 v33 v35).trips), 256 ∣ (k0_mult26 i v1 v3 v5 v7 v9 v11 v13 v15 v17 v19 v21 v23 v25 v27 v29 v31 v33 v35 k0_t10).toNat := fun i v1 v3 v5 v7 v9 v11 v13 v15 v17 v19 v21 v23 v25 v27 v29 v31 v33 v35 k0_hw1 k0_t10 => k0_hw1.2.1.2.2.2.2.2.2.2.2.2.2.2.2.2.2.2.2.2.2.2.2.2.2.1 k0_t10
theorem k0_off20_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t10 : Fin (k0_t10_loop i v1 v3 v5 v7 v9 v11 v13 v15 v17 v19 v21 v23 v25 v27 v29 v31 v33 v35).trips), ∀ a, (k0_off20 i v1 v3 v5 v7 v9 v11 v13 v15 v17 v19 v21 v23 v25 v27 v29 v31 v33 v35 k0_t10) a + S256x512.size a ≤ S4608x512.size a := fun i v1 v3 v5 v7 v9 v11 v13 v15 v17 v19 v21 v23 v25 v27 v29 v31 v33 v35 k0_hw1 k0_t10 => k0_hw1.2.1.2.2.2.2.2.2.2.2.2.2.2.2.2.2.2.2.2.2.2.2.2.2.2.1 k0_t10
theorem k0_t11_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t11_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.2.2.2.2.2.2.2.2.2.2.2.2.2.2.2.2.2.2.2.2.2.2.1
theorem k0_mult27_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t11 : Fin (k0_t11_loop i v1 v3 v5 v7 v9 v11 v13 v15 v17 v19 v21 v23 v25 v27 v29 v31 v33 v35).trips), 256 ∣ (k0_mult27 i v1 v3 v5 v7 v9 v11 v13 v15 v17 v19 v21 v23 v25 v27 v29 v31 v33 v35 k0_t11).toNat := fun i v1 v3 v5 v7 v9 v11 v13 v15 v17 v19 v21 v23 v25 v27 v29 v31 v33 v35 k0_hw1 k0_t11 => k0_hw1.2.1.2.2.2.2.2.2.2.2.2.2.2.2.2.2.2.2.2.2.2.2.2.2.2.2.2.1 k0_t11
theorem k0_off21_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t11 : Fin (k0_t11_loop i v1 v3 v5 v7 v9 v11 v13 v15 v17 v19 v21 v23 v25 v27 v29 v31 v33 v35).trips), ∀ a, (k0_off21 i v1 v3 v5 v7 v9 v11 v13 v15 v17 v19 v21 v23 v25 v27 v29 v31 v33 v35 k0_t11) a + S256x512.size a ≤ S4608x512.size a := fun i v1 v3 v5 v7 v9 v11 v13 v15 v17 v19 v21 v23 v25 v27 v29 v31 v33 v35 k0_hw1 k0_t11 => k0_hw1.2.1.2.2.2.2.2.2.2.2.2.2.2.2.2.2.2.2.2.2.2.2.2.2.2.2.2.2.1 k0_t11
theorem k0_mult28_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t11 : Fin (k0_t11_loop i v1 v3 v5 v7 v9 v11 v13 v15 v17 v19 v21 v23 v25 v27 v29 v31 v33 v35).trips), 32 ∣ (k0_mult28 i v1 v3 v5 v7 v9 v11 v13 v15 v17 v19 v21 v23 v25 v27 v29 v31 v33 v35 k0_t11).toNat := fun i v1 v3 v5 v7 v9 v11 v13 v15 v17 v19 v21 v23 v25 v27 v29 v31 v33 v35 k0_hw1 k0_t11 => k0_hw1.2.1.2.2.2.2.2.2.2.2.2.2.2.2.2.2.2.2.2.2.2.2.2.2.2.2.2.2.2.1 k0_t11
theorem k0_off22_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t11 : Fin (k0_t11_loop i v1 v3 v5 v7 v9 v11 v13 v15 v17 v19 v21 v23 v25 v27 v29 v31 v33 v35).trips), ∀ a, (k0_off22 i v1 v3 v5 v7 v9 v11 v13 v15 v17 v19 v21 v23 v25 v27 v29 v31 v33 v35 k0_t11) a + S256x128.size a ≤ S4608x1024.size a := fun i v1 v3 v5 v7 v9 v11 v13 v15 v17 v19 v21 v23 v25 v27 v29 v31 v33 v35 k0_hw1 k0_t11 => k0_hw1.2.1.2.2.2.2.2.2.2.2.2.2.2.2.2.2.2.2.2.2.2.2.2.2.2.2.2.2.2.2.1 k0_t11
theorem k0_t12_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t12_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.1.2.2.2.2.2.2.2.2.2.2.2.2.2.2.2.2.2.2.2.2.2.2.2.2.2.2.2.2.2.1
theorem k0_mult29_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t12 : Fin (k0_t12_loop i v1 v3 v5 v7 v9 v11 v13 v15 v17 v19 v21 v23 v25 v27 v29 v31 v33 v35).trips), 256 ∣ (k0_mult29 i v1 v3 v5 v7 v9 v11 v13 v15 v17 v19 v21 v23 v25 v27 v29 v31 v33 v35 k0_t12).toNat := fun i v1 v3 v5 v7 v9 v11 v13 v15 v17 v19 v21 v23 v25 v27 v29 v31 v33 v35 k0_hw1 k0_t12 => k0_hw1.2.1.2.2.2.2.2.2.2.2.2.2.2.2.2.2.2.2.2.2.2.2.2.2.2.2.2.2.2.2.2.2.1 k0_t12
theorem k0_off23_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t12 : Fin (k0_t12_loop i v1 v3 v5 v7 v9 v11 v13 v15 v17 v19 v21 v23 v25 v27 v29 v31 v33 v35).trips), ∀ a, (k0_off23 i v1 v3 v5 v7 v9 v11 v13 v15 v17 v19 v21 v23 v25 v27 v29 v31 v33 v35 k0_t12) a + S256x512.size a ≤ S4608x512.size a := fun i v1 v3 v5 v7 v9 v11 v13 v15 v17 v19 v21 v23 v25 v27 v29 v31 v33 v35 k0_hw1 k0_t12 => k0_hw1.2.1.2.2.2.2.2.2.2.2.2.2.2.2.2.2.2.2.2.2.2.2.2.2.2.2.2.2.2.2.2.2.2 k0_t12
theorem k0_mult30_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t12 : Fin (k0_t12_loop i v1 v3 v5 v7 v9 v11 v13 v15 v17 v19 v21 v23 v25 v27 v29 v31 v33 v35).trips), 32 ∣ (k0_mult30 i v1 v3 v5 v7 v9 v11 v13 v15 v17 v19 v21 v23 v25 v27 v29 v31 v33 v35 k0_t12).toNat := fun i v1 v3 v5 v7 v9 v11 v13 v15 v17 v19 v21 v23 v25 v27 v29 v31 v33 v35 k0_hw1 k0_t12 => k0_hw1.2.2.1.1 k0_t12
theorem k0_off24_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t12 : Fin (k0_t12_loop i v1 v3 v5 v7 v9 v11 v13 v15 v17 v19 v21 v23 v25 v27 v29 v31 v33 v35).trips), ∀ a, (k0_off24 i v1 v3 v5 v7 v9 v11 v13 v15 v17 v19 v21 v23 v25 v27 v29 v31 v33 v35 k0_t12) a + S256x128.size a ≤ S4608x1024.size a := fun i v1 v3 v5 v7 v9 v11 v13 v15 v17 v19 v21 v23 v25 v27 v29 v31 v33 v35 k0_hw1 k0_t12 => k0_hw1.2.2.1.2.1 k0_t12
theorem k0_t13_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t13_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.1
theorem k0_mult31_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t13 : Fin (k0_t13_loop i v1 v3 v5 v7 v9 v11 v13 v15 v17 v19 v21 v23 v25 v27 v29 v31 v33 v35).trips), 32 ∣ (k0_mult31 i v1 v3 v5 v7 v9 v11 v13 v15 v17 v19 v21 v23 v25 v27 v29 v31 v33 v35 k0_t13).toNat := fun i v1 v3 v5 v7 v9 v11 v13 v15 v17 v19 v21 v23 v25 v27 v29 v31 v33 v35 k0_hw1 k0_t13 => k0_hw1.2.2.1.2.2.2.1 k0_t13
theorem k0_off25_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t13 : Fin (k0_t13_loop i v1 v3 v5 v7 v9 v11 v13 v15 v17 v19 v21 v23 v25 v27 v29 v31 v33 v35).trips), ∀ a, (k0_off25 i v1 v3 v5 v7 v9 v11 v13 v15 v17 v19 v21 v23 v25 v27 v29 v31 v33 v35 k0_t13) a + S256x128.size a ≤ S4608x1024.size a := fun i v1 v3 v5 v7 v9 v11 v13 v15 v17 v19 v21 v23 v25 v27 v29 v31 v33 v35 k0_hw1 k0_t13 => k0_hw1.2.2.1.2.2.2.2.1 k0_t13
theorem k0_mult32_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t13 : Fin (k0_t13_loop i v1 v3 v5 v7 v9 v11 v13 v15 v17 v19 v21 v23 v25 v27 v29 v31 v33 v35).trips), 32 ∣ (k0_mult32 i v1 v3 v5 v7 v9 v11 v13 v15 v17 v19 v21 v23 v25 v27 v29 v31 v33 v35 k0_t13).toNat := fun i v1 v3 v5 v7 v9 v11 v13 v15 v17 v19 v21 v23 v25 v27 v29 v31 v33 v35 k0_hw1 k0_t13 => k0_hw1.2.2.1.2.2.2.2.2.1 k0_t13
theorem k0_mult33_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t13 : Fin (k0_t13_loop i v1 v3 v5 v7 v9 v11 v13 v15 v17 v19 v21 v23 v25 v27 v29 v31 v33 v35).trips), 256 ∣ (k0_mult33 i v1 v3 v5 v7 v9 v11 v13 v15 v17 v19 v21 v23 v25 v27 v29 v31 v33 v35 k0_t13).toNat := fun i v1 v3 v5 v7 v9 v11 v13 v15 v17 v19 v21 v23 v25 v27 v29 v31 v33 v35 k0_hw1 k0_t13 => k0_hw1.2.2.1.2.2.2.2.2.2.1 k0_t13
theorem k0_off26_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t13 : Fin (k0_t13_loop i v1 v3 v5 v7 v9 v11 v13 v15 v17 v19 v21 v23 v25 v27 v29 v31 v33 v35).trips), ∀ a, (k0_off26 i v1 v3 v5 v7 v9 v11 v13 v15 v17 v19 v21 v23 v25 v27 v29 v31 v33 v35 k0_t13) a + S256x512.size a ≤ S4608x512.size a := fun i v1 v3 v5 v7 v9 v11 v13 v15 v17 v19 v21 v23 v25 v27 v29 v31 v33 v35 k0_hw1 k0_t13 => k0_hw1.2.2.1.2.2.2.2.2.2.2.1 k0_t13
theorem k0_t14_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t14_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.2.2.2.2.2.2.1
theorem k0_mult34_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t14 : Fin (k0_t14_loop i v1 v3 v5 v7 v9 v11 v13 v15 v17 v19 v21 v23 v25 v27 v29 v31 v33 v35).trips), 32 ∣ (k0_mult34 i v1 v3 v5 v7 v9 v11 v13 v15 v17 v19 v21 v23 v25 v27 v29 v31 v33 v35 k0_t14).toNat := fun i v1 v3 v5 v7 v9 v11 v13 v15 v17 v19 v21 v23 v25 v27 v29 v31 v33 v35 k0_hw1 k0_t14 => k0_hw1.2.2.1.2.2.2.2.2.2.2.2.2.1 k0_t14
theorem k0_off27_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t14 : Fin (k0_t14_loop i v1 v3 v5 v7 v9 v11 v13 v15 v17 v19 v21 v23 v25 v27 v29 v31 v33 v35).trips), ∀ a, (k0_off27 i v1 v3 v5 v7 v9 v11 v13 v15 v17 v19 v21 v23 v25 v27 v29 v31 v33 v35 k0_t14) a + S256x128.size a ≤ S4608x1024.size a := fun i v1 v3 v5 v7 v9 v11 v13 v15 v17 v19 v21 v23 v25 v27 v29 v31 v33 v35 k0_hw1 k0_t14 => k0_hw1.2.2.1.2.2.2.2.2.2.2.2.2.2.1 k0_t14
theorem k0_mult35_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t14 : Fin (k0_t14_loop i v1 v3 v5 v7 v9 v11 v13 v15 v17 v19 v21 v23 v25 v27 v29 v31 v33 v35).trips), 32 ∣ (k0_mult35 i v1 v3 v5 v7 v9 v11 v13 v15 v17 v19 v21 v23 v25 v27 v29 v31 v33 v35 k0_t14).toNat := fun i v1 v3 v5 v7 v9 v11 v13 v15 v17 v19 v21 v23 v25 v27 v29 v31 v33 v35 k0_hw1 k0_t14 => k0_hw1.2.2.1.2.2.2.2.2.2.2.2.2.2.2.1 k0_t14
theorem k0_mult36_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t14 : Fin (k0_t14_loop i v1 v3 v5 v7 v9 v11 v13 v15 v17 v19 v21 v23 v25 v27 v29 v31 v33 v35).trips), 256 ∣ (k0_mult36 i v1 v3 v5 v7 v9 v11 v13 v15 v17 v19 v21 v23 v25 v27 v29 v31 v33 v35 k0_t14).toNat := fun i v1 v3 v5 v7 v9 v11 v13 v15 v17 v19 v21 v23 v25 v27 v29 v31 v33 v35 k0_hw1 k0_t14 => k0_hw1.2.2.1.2.2.2.2.2.2.2.2.2.2.2.2.1 k0_t14
theorem k0_off28_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t14 : Fin (k0_t14_loop i v1 v3 v5 v7 v9 v11 v13 v15 v17 v19 v21 v23 v25 v27 v29 v31 v33 v35).trips), ∀ a, (k0_off28 i v1 v3 v5 v7 v9 v11 v13 v15 v17 v19 v21 v23 v25 v27 v29 v31 v33 v35 k0_t14) a + S256x512.size a ≤ S4608x512.size a := fun i v1 v3 v5 v7 v9 v11 v13 v15 v17 v19 v21 v23 v25 v27 v29 v31 v33 v35 k0_hw1 k0_t14 => k0_hw1.2.2.1.2.2.2.2.2.2.2.2.2.2.2.2.2.1 k0_t14
theorem k0_t15_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t15_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.2.2.2.2.2.2.2.2.2.2.2.2.1
theorem k0_mult37_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t15 : Fin (k0_t15_loop i v1 v3 v5 v7 v9 v11 v13 v15 v17 v19 v21 v23 v25 v27 v29 v31 v33 v35).trips), 256 ∣ (k0_mult37 i v1 v3 v5 v7 v9 v11 v13 v15 v17 v19 v21 v23 v25 v27 v29 v31 v33 v35 k0_t15).toNat := fun i v1 v3 v5 v7 v9 v11 v13 v15 v17 v19 v21 v23 v25 v27 v29 v31 v33 v35 k0_hw1 k0_t15 => k0_hw1.2.2.1.2.2.2.2.2.2.2.2.2.2.2.2.2.2.2.1 k0_t15
theorem k0_off29_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t15 : Fin (k0_t15_loop i v1 v3 v5 v7 v9 v11 v13 v15 v17 v19 v21 v23 v25 v27 v29 v31 v33 v35).trips), ∀ a, (k0_off29 i v1 v3 v5 v7 v9 v11 v13 v15 v17 v19 v21 v23 v25 v27 v29 v31 v33 v35 k0_t15) a + S256x512.size a ≤ S4608x512.size a := fun i v1 v3 v5 v7 v9 v11 v13 v15 v17 v19 v21 v23 v25 v27 v29 v31 v33 v35 k0_hw1 k0_t15 => k0_hw1.2.2.1.2.2.2.2.2.2.2.2.2.2.2.2.2.2.2.2.1 k0_t15
theorem k0_mult38_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t15 : Fin (k0_t15_loop i v1 v3 v5 v7 v9 v11 v13 v15 v17 v19 v21 v23 v25 v27 v29 v31 v33 v35).trips), 32 ∣ (k0_mult38 i v1 v3 v5 v7 v9 v11 v13 v15 v17 v19 v21 v23 v25 v27 v29 v31 v33 v35 k0_t15).toNat := fun i v1 v3 v5 v7 v9 v11 v13 v15 v17 v19 v21 v23 v25 v27 v29 v31 v33 v35 k0_hw1 k0_t15 => k0_hw1.2.2.1.2.2.2.2.2.2.2.2.2.2.2.2.2.2.2.2.2.1 k0_t15
theorem k0_off30_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t15 : Fin (k0_t15_loop i v1 v3 v5 v7 v9 v11 v13 v15 v17 v19 v21 v23 v25 v27 v29 v31 v33 v35).trips), ∀ a, (k0_off30 i v1 v3 v5 v7 v9 v11 v13 v15 v17 v19 v21 v23 v25 v27 v29 v31 v33 v35 k0_t15) a + S256x128.size a ≤ S4608x1024.size a := fun i v1 v3 v5 v7 v9 v11 v13 v15 v17 v19 v21 v23 v25 v27 v29 v31 v33 v35 k0_hw1 k0_t15 => k0_hw1.2.2.1.2.2.2.2.2.2.2.2.2.2.2.2.2.2.2.2.2.2.1 k0_t15
theorem k0_t16_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t16_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.2.2.2.2.2.2.2.2.2.2.2.2.2.2.2.2.2.1
theorem k0_mult39_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t16 : Fin (k0_t16_loop i v1 v3 v5 v7 v9 v11 v13 v15 v17 v19 v21 v23 v25 v27 v29 v31 v33 v35).trips), 256 ∣ (k0_mult39 i v1 v3 v5 v7 v9 v11 v13 v15 v17 v19 v21 v23 v25 v27 v29 v31 v33 v35 k0_t16).toNat := fun i v1 v3 v5 v7 v9 v11 v13 v15 v17 v19 v21 v23 v25 v27 v29 v31 v33 v35 k0_hw1 k0_t16 => k0_hw1.2.2.1.2.2.2.2.2.2.2.2.2.2.2.2.2.2.2.2.2.2.2.2.1 k0_t16
theorem k0_off31_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t16 : Fin (k0_t16_loop i v1 v3 v5 v7 v9 v11 v13 v15 v17 v19 v21 v23 v25 v27 v29 v31 v33 v35).trips), ∀ a, (k0_off31 i v1 v3 v5 v7 v9 v11 v13 v15 v17 v19 v21 v23 v25 v27 v29 v31 v33 v35 k0_t16) a + S256x512.size a ≤ S4608x512.size a := fun i v1 v3 v5 v7 v9 v11 v13 v15 v17 v19 v21 v23 v25 v27 v29 v31 v33 v35 k0_hw1 k0_t16 => k0_hw1.2.2.1.2.2.2.2.2.2.2.2.2.2.2.2.2.2.2.2.2.2.2.2.2.1 k0_t16
theorem k0_mult40_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t16 : Fin (k0_t16_loop i v1 v3 v5 v7 v9 v11 v13 v15 v17 v19 v21 v23 v25 v27 v29 v31 v33 v35).trips), 32 ∣ (k0_mult40 i v1 v3 v5 v7 v9 v11 v13 v15 v17 v19 v21 v23 v25 v27 v29 v31 v33 v35 k0_t16).toNat := fun i v1 v3 v5 v7 v9 v11 v13 v15 v17 v19 v21 v23 v25 v27 v29 v31 v33 v35 k0_hw1 k0_t16 => k0_hw1.2.2.1.2.2.2.2.2.2.2.2.2.2.2.2.2.2.2.2.2.2.2.2.2.2.1 k0_t16
theorem k0_off32_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t16 : Fin (k0_t16_loop i v1 v3 v5 v7 v9 v11 v13 v15 v17 v19 v21 v23 v25 v27 v29 v31 v33 v35).trips), ∀ a, (k0_off32 i v1 v3 v5 v7 v9 v11 v13 v15 v17 v19 v21 v23 v25 v27 v29 v31 v33 v35 k0_t16) a + S256x128.size a ≤ S4608x1024.size a := fun i v1 v3 v5 v7 v9 v11 v13 v15 v17 v19 v21 v23 v25 v27 v29 v31 v33 v35 k0_hw1 k0_t16 => k0_hw1.2.2.1.2.2.2.2.2.2.2.2.2.2.2.2.2.2.2.2.2.2.2.2.2.2.2.1 k0_t16
theorem k0_t17_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t17_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.2.2.2.2.2.2.2.2.2.2.2.2.2.2.2.2.2.2.2.2.2.2.1
theorem k0_mult41_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t17 : Fin (k0_t17_loop i v1 v3 v5 v7 v9 v11 v13 v15 v17 v19 v21 v23 v25 v27 v29 v31 v33 v35).trips), 32 ∣ (k0_mult41 i v1 v3 v5 v7 v9 v11 v13 v15 v17 v19 v21 v23 v25 v27 v29 v31 v33 v35 k0_t17).toNat := fun i v1 v3 v5 v7 v9 v11 v13 v15 v17 v19 v21 v23 v25 v27 v29 v31 v33 v35 k0_hw1 k0_t17 => k0_hw1.2.2.1.2.2.2.2.2.2.2.2.2.2.2.2.2.2.2.2.2.2.2.2.2.2.2.2.2.1 k0_t17
theorem k0_off33_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t17 : Fin (k0_t17_loop i v1 v3 v5 v7 v9 v11 v13 v15 v17 v19 v21 v23 v25 v27 v29 v31 v33 v35).trips), ∀ a, (k0_off33 i v1 v3 v5 v7 v9 v11 v13 v15 v17 v19 v21 v23 v25 v27 v29 v31 v33 v35 k0_t17) a + S256x128.size a ≤ S4608x1024.size a := fun i v1 v3 v5 v7 v9 v11 v13 v15 v17 v19 v21 v23 v25 v27 v29 v31 v33 v35 k0_hw1 k0_t17 => k0_hw1.2.2.1.2.2.2.2.2.2.2.2.2.2.2.2.2.2.2.2.2.2.2.2.2.2.2.2.2.2.1 k0_t17
theorem k0_mult42_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t17 : Fin (k0_t17_loop i v1 v3 v5 v7 v9 v11 v13 v15 v17 v19 v21 v23 v25 v27 v29 v31 v33 v35).trips), 32 ∣ (k0_mult42 i v1 v3 v5 v7 v9 v11 v13 v15 v17 v19 v21 v23 v25 v27 v29 v31 v33 v35 k0_t17).toNat := fun i v1 v3 v5 v7 v9 v11 v13 v15 v17 v19 v21 v23 v25 v27 v29 v31 v33 v35 k0_hw1 k0_t17 => k0_hw1.2.2.1.2.2.2.2.2.2.2.2.2.2.2.2.2.2.2.2.2.2.2.2.2.2.2.2.2.2.2.1 k0_t17
theorem k0_mult43_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t17 : Fin (k0_t17_loop i v1 v3 v5 v7 v9 v11 v13 v15 v17 v19 v21 v23 v25 v27 v29 v31 v33 v35).trips), 256 ∣ (k0_mult43 i v1 v3 v5 v7 v9 v11 v13 v15 v17 v19 v21 v23 v25 v27 v29 v31 v33 v35 k0_t17).toNat := fun i v1 v3 v5 v7 v9 v11 v13 v15 v17 v19 v21 v23 v25 v27 v29 v31 v33 v35 k0_hw1 k0_t17 => k0_hw1.2.2.1.2.2.2.2.2.2.2.2.2.2.2.2.2.2.2.2.2.2.2.2.2.2.2.2.2.2.2.2.1 k0_t17
theorem k0_off34_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t17 : Fin (k0_t17_loop i v1 v3 v5 v7 v9 v11 v13 v15 v17 v19 v21 v23 v25 v27 v29 v31 v33 v35).trips), ∀ a, (k0_off34 i v1 v3 v5 v7 v9 v11 v13 v15 v17 v19 v21 v23 v25 v27 v29 v31 v33 v35 k0_t17) a + S256x512.size a ≤ S4608x512.size a := fun i v1 v3 v5 v7 v9 v11 v13 v15 v17 v19 v21 v23 v25 v27 v29 v31 v33 v35 k0_hw1 k0_t17 => k0_hw1.2.2.1.2.2.2.2.2.2.2.2.2.2.2.2.2.2.2.2.2.2.2.2.2.2.2.2.2.2.2.2.2.1 k0_t17
theorem k0_t18_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t18_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.1.2.2.2.2.2.2.2.2.2.2.2.2.2.2.2.2.2.2.2.2.2.2.2.2.2.2.2.2.2.2.1
theorem k0_mult44_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t18 : Fin (k0_t18_loop i v1 v3 v5 v7 v9 v11 v13 v15 v17 v19 v21 v23 v25 v27 v29 v31 v33 v35).trips), 32 ∣ (k0_mult44 i v1 v3 v5 v7 v9 v11 v13 v15 v17 v19 v21 v23 v25 v27 v29 v31 v33 v35 k0_t18).toNat := fun i v1 v3 v5 v7 v9 v11 v13 v15 v17 v19 v21 v23 v25 v27 v29 v31 v33 v35 k0_hw1 k0_t18 => k0_hw1.2.2.1.2.2.2.2.2.2.2.2.2.2.2.2.2.2.2.2.2.2.2.2.2.2.2.2.2.2.2.2.2.2.2 k0_t18
theorem k0_off35_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t18 : Fin (k0_t18_loop i v1 v3 v5 v7 v9 v11 v13 v15 v17 v19 v21 v23 v25 v27 v29 v31 v33 v35).trips), ∀ a, (k0_off35 i v1 v3 v5 v7 v9 v11 v13 v15 v17 v19 v21 v23 v25 v27 v29 v31 v33 v35 k0_t18) a + S256x128.size a ≤ S4608x1024.size a := fun i v1 v3 v5 v7 v9 v11 v13 v15 v17 v19 v21 v23 v25 v27 v29 v31 v33 v35 k0_hw1 k0_t18 => k0_hw1.2.2.2.1.1 k0_t18
theorem k0_mult45_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t18 : Fin (k0_t18_loop i v1 v3 v5 v7 v9 v11 v13 v15 v17 v19 v21 v23 v25 v27 v29 v31 v33 v35).trips), 32 ∣ (k0_mult45 i v1 v3 v5 v7 v9 v11 v13 v15 v17 v19 v21 v23 v25 v27 v29 v31 v33 v35 k0_t18).toNat := fun i v1 v3 v5 v7 v9 v11 v13 v15 v17 v19 v21 v23 v25 v27 v29 v31 v33 v35 k0_hw1 k0_t18 => k0_hw1.2.2.2.1.2.1 k0_t18
theorem k0_mult46_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t18 : Fin (k0_t18_loop i v1 v3 v5 v7 v9 v11 v13 v15 v17 v19 v21 v23 v25 v27 v29 v31 v33 v35).trips), 256 ∣ (k0_mult46 i v1 v3 v5 v7 v9 v11 v13 v15 v17 v19 v21 v23 v25 v27 v29 v31 v33 v35 k0_t18).toNat := fun i v1 v3 v5 v7 v9 v11 v13 v15 v17 v19 v21 v23 v25 v27 v29 v31 v33 v35 k0_hw1 k0_t18 => k0_hw1.2.2.2.1.2.2.1 k0_t18
theorem k0_off36_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t18 : Fin (k0_t18_loop i v1 v3 v5 v7 v9 v11 v13 v15 v17 v19 v21 v23 v25 v27 v29 v31 v33 v35).trips), ∀ a, (k0_off36 i v1 v3 v5 v7 v9 v11 v13 v15 v17 v19 v21 v23 v25 v27 v29 v31 v33 v35 k0_t18) a + S256x512.size a ≤ S4608x512.size a := fun i v1 v3 v5 v7 v9 v11 v13 v15 v17 v19 v21 v23 v25 v27 v29 v31 v33 v35 k0_hw1 k0_t18 => k0_hw1.2.2.2.1.2.2.2.1 k0_t18
theorem k0_t19_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t19_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.1
theorem k0_mult47_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t19 : Fin (k0_t19_loop i v1 v3 v5 v7 v9 v11 v13 v15 v17 v19 v21 v23 v25 v27 v29 v31 v33 v35).trips), 256 ∣ (k0_mult47 i v1 v3 v5 v7 v9 v11 v13 v15 v17 v19 v21 v23 v25 v27 v29 v31 v33 v35 k0_t19).toNat := fun i v1 v3 v5 v7 v9 v11 v13 v15 v17 v19 v21 v23 v25 v27 v29 v31 v33 v35 k0_hw1 k0_t19 => k0_hw1.2.2.2.1.2.2.2.2.2.1 k0_t19
theorem k0_off37_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t19 : Fin (k0_t19_loop i v1 v3 v5 v7 v9 v11 v13 v15 v17 v19 v21 v23 v25 v27 v29 v31 v33 v35).trips), ∀ a, (k0_off37 i v1 v3 v5 v7 v9 v11 v13 v15 v17 v19 v21 v23 v25 v27 v29 v31 v33 v35 k0_t19) a + S256x512.size a ≤ S4608x512.size a := fun i v1 v3 v5 v7 v9 v11 v13 v15 v17 v19 v21 v23 v25 v27 v29 v31 v33 v35 k0_hw1 k0_t19 => k0_hw1.2.2.2.1.2.2.2.2.2.2.1 k0_t19
theorem k0_mult48_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t19 : Fin (k0_t19_loop i v1 v3 v5 v7 v9 v11 v13 v15 v17 v19 v21 v23 v25 v27 v29 v31 v33 v35).trips), 32 ∣ (k0_mult48 i v1 v3 v5 v7 v9 v11 v13 v15 v17 v19 v21 v23 v25 v27 v29 v31 v33 v35 k0_t19).toNat := fun i v1 v3 v5 v7 v9 v11 v13 v15 v17 v19 v21 v23 v25 v27 v29 v31 v33 v35 k0_hw1 k0_t19 => k0_hw1.2.2.2.1.2.2.2.2.2.2.2.1 k0_t19
theorem k0_off38_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t19 : Fin (k0_t19_loop i v1 v3 v5 v7 v9 v11 v13 v15 v17 v19 v21 v23 v25 v27 v29 v31 v33 v35).trips), ∀ a, (k0_off38 i v1 v3 v5 v7 v9 v11 v13 v15 v17 v19 v21 v23 v25 v27 v29 v31 v33 v35 k0_t19) a + S256x128.size a ≤ S4608x1024.size a := fun i v1 v3 v5 v7 v9 v11 v13 v15 v17 v19 v21 v23 v25 v27 v29 v31 v33 v35 k0_hw1 k0_t19 => k0_hw1.2.2.2.1.2.2.2.2.2.2.2.2.1 k0_t19
theorem k0_t20_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t20_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.2.2.2.2.2.1
theorem k0_mult49_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t20 : Fin (k0_t20_loop i v1 v3 v5 v7 v9 v11 v13 v15 v17 v19 v21 v23 v25 v27 v29 v31 v33 v35).trips), 256 ∣ (k0_mult49 i v1 v3 v5 v7 v9 v11 v13 v15 v17 v19 v21 v23 v25 v27 v29 v31 v33 v35 k0_t20).toNat := fun i v1 v3 v5 v7 v9 v11 v13 v15 v17 v19 v21 v23 v25 v27 v29 v31 v33 v35 k0_hw1 k0_t20 => k0_hw1.2.2.2.1.2.2.2.2.2.2.2.2.2.2.1 k0_t20
theorem k0_off39_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t20 : Fin (k0_t20_loop i v1 v3 v5 v7 v9 v11 v13 v15 v17 v19 v21 v23 v25 v27 v29 v31 v33 v35).trips), ∀ a, (k0_off39 i v1 v3 v5 v7 v9 v11 v13 v15 v17 v19 v21 v23 v25 v27 v29 v31 v33 v35 k0_t20) a + S256x512.size a ≤ S4608x512.size a := fun i v1 v3 v5 v7 v9 v11 v13 v15 v17 v19 v21 v23 v25 v27 v29 v31 v33 v35 k0_hw1 k0_t20 => k0_hw1.2.2.2.1.2.2.2.2.2.2.2.2.2.2.2.1 k0_t20
theorem k0_mult50_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t20 : Fin (k0_t20_loop i v1 v3 v5 v7 v9 v11 v13 v15 v17 v19 v21 v23 v25 v27 v29 v31 v33 v35).trips), 32 ∣ (k0_mult50 i v1 v3 v5 v7 v9 v11 v13 v15 v17 v19 v21 v23 v25 v27 v29 v31 v33 v35 k0_t20).toNat := fun i v1 v3 v5 v7 v9 v11 v13 v15 v17 v19 v21 v23 v25 v27 v29 v31 v33 v35 k0_hw1 k0_t20 => k0_hw1.2.2.2.1.2.2.2.2.2.2.2.2.2.2.2.2.1 k0_t20
theorem k0_off40_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t20 : Fin (k0_t20_loop i v1 v3 v5 v7 v9 v11 v13 v15 v17 v19 v21 v23 v25 v27 v29 v31 v33 v35).trips), ∀ a, (k0_off40 i v1 v3 v5 v7 v9 v11 v13 v15 v17 v19 v21 v23 v25 v27 v29 v31 v33 v35 k0_t20) a + S256x128.size a ≤ S4608x1024.size a := fun i v1 v3 v5 v7 v9 v11 v13 v15 v17 v19 v21 v23 v25 v27 v29 v31 v33 v35 k0_hw1 k0_t20 => k0_hw1.2.2.2.1.2.2.2.2.2.2.2.2.2.2.2.2.2.1 k0_t20
theorem k0_t21_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t21_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.2.2.2.2.2.2.2.2.2.2.1
theorem k0_mult51_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t21 : Fin (k0_t21_loop i v1 v3 v5 v7 v9 v11 v13 v15 v17 v19 v21 v23 v25 v27 v29 v31 v33 v35).trips), 32 ∣ (k0_mult51 i v1 v3 v5 v7 v9 v11 v13 v15 v17 v19 v21 v23 v25 v27 v29 v31 v33 v35 k0_t21).toNat := fun i v1 v3 v5 v7 v9 v11 v13 v15 v17 v19 v21 v23 v25 v27 v29 v31 v33 v35 k0_hw1 k0_t21 => k0_hw1.2.2.2.1.2.2.2.2.2.2.2.2.2.2.2.2.2.2.2.1 k0_t21
theorem k0_off41_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t21 : Fin (k0_t21_loop i v1 v3 v5 v7 v9 v11 v13 v15 v17 v19 v21 v23 v25 v27 v29 v31 v33 v35).trips), ∀ a, (k0_off41 i v1 v3 v5 v7 v9 v11 v13 v15 v17 v19 v21 v23 v25 v27 v29 v31 v33 v35 k0_t21) a + S256x128.size a ≤ S4608x1024.size a := fun i v1 v3 v5 v7 v9 v11 v13 v15 v17 v19 v21 v23 v25 v27 v29 v31 v33 v35 k0_hw1 k0_t21 => k0_hw1.2.2.2.1.2.2.2.2.2.2.2.2.2.2.2.2.2.2.2.2.1 k0_t21
theorem k0_mult52_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t21 : Fin (k0_t21_loop i v1 v3 v5 v7 v9 v11 v13 v15 v17 v19 v21 v23 v25 v27 v29 v31 v33 v35).trips), 32 ∣ (k0_mult52 i v1 v3 v5 v7 v9 v11 v13 v15 v17 v19 v21 v23 v25 v27 v29 v31 v33 v35 k0_t21).toNat := fun i v1 v3 v5 v7 v9 v11 v13 v15 v17 v19 v21 v23 v25 v27 v29 v31 v33 v35 k0_hw1 k0_t21 => k0_hw1.2.2.2.1.2.2.2.2.2.2.2.2.2.2.2.2.2.2.2.2.2.1 k0_t21
theorem k0_mult53_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t21 : Fin (k0_t21_loop i v1 v3 v5 v7 v9 v11 v13 v15 v17 v19 v21 v23 v25 v27 v29 v31 v33 v35).trips), 256 ∣ (k0_mult53 i v1 v3 v5 v7 v9 v11 v13 v15 v17 v19 v21 v23 v25 v27 v29 v31 v33 v35 k0_t21).toNat := fun i v1 v3 v5 v7 v9 v11 v13 v15 v17 v19 v21 v23 v25 v27 v29 v31 v33 v35 k0_hw1 k0_t21 => k0_hw1.2.2.2.1.2.2.2.2.2.2.2.2.2.2.2.2.2.2.2.2.2.2.1 k0_t21
theorem k0_off42_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t21 : Fin (k0_t21_loop i v1 v3 v5 v7 v9 v11 v13 v15 v17 v19 v21 v23 v25 v27 v29 v31 v33 v35).trips), ∀ a, (k0_off42 i v1 v3 v5 v7 v9 v11 v13 v15 v17 v19 v21 v23 v25 v27 v29 v31 v33 v35 k0_t21) a + S256x512.size a ≤ S4608x512.size a := fun i v1 v3 v5 v7 v9 v11 v13 v15 v17 v19 v21 v23 v25 v27 v29 v31 v33 v35 k0_hw1 k0_t21 => k0_hw1.2.2.2.1.2.2.2.2.2.2.2.2.2.2.2.2.2.2.2.2.2.2.2.1 k0_t21
theorem k0_t22_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t22_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.2.2.2.2.2.2.2.2.2.2.2.2.2.2.2.2.1
theorem k0_mult54_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t22 : Fin (k0_t22_loop i v1 v3 v5 v7 v9 v11 v13 v15 v17 v19 v21 v23 v25 v27 v29 v31 v33 v35).trips), 32 ∣ (k0_mult54 i v1 v3 v5 v7 v9 v11 v13 v15 v17 v19 v21 v23 v25 v27 v29 v31 v33 v35 k0_t22).toNat := fun i v1 v3 v5 v7 v9 v11 v13 v15 v17 v19 v21 v23 v25 v27 v29 v31 v33 v35 k0_hw1 k0_t22 => k0_hw1.2.2.2.1.2.2.2.2.2.2.2.2.2.2.2.2.2.2.2.2.2.2.2.2.2.1 k0_t22
theorem k0_off43_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t22 : Fin (k0_t22_loop i v1 v3 v5 v7 v9 v11 v13 v15 v17 v19 v21 v23 v25 v27 v29 v31 v33 v35).trips), ∀ a, (k0_off43 i v1 v3 v5 v7 v9 v11 v13 v15 v17 v19 v21 v23 v25 v27 v29 v31 v33 v35 k0_t22) a + S256x128.size a ≤ S4608x1024.size a := fun i v1 v3 v5 v7 v9 v11 v13 v15 v17 v19 v21 v23 v25 v27 v29 v31 v33 v35 k0_hw1 k0_t22 => k0_hw1.2.2.2.1.2.2.2.2.2.2.2.2.2.2.2.2.2.2.2.2.2.2.2.2.2.2.1 k0_t22
theorem k0_mult55_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t22 : Fin (k0_t22_loop i v1 v3 v5 v7 v9 v11 v13 v15 v17 v19 v21 v23 v25 v27 v29 v31 v33 v35).trips), 32 ∣ (k0_mult55 i v1 v3 v5 v7 v9 v11 v13 v15 v17 v19 v21 v23 v25 v27 v29 v31 v33 v35 k0_t22).toNat := fun i v1 v3 v5 v7 v9 v11 v13 v15 v17 v19 v21 v23 v25 v27 v29 v31 v33 v35 k0_hw1 k0_t22 => k0_hw1.2.2.2.1.2.2.2.2.2.2.2.2.2.2.2.2.2.2.2.2.2.2.2.2.2.2.2.1 k0_t22
theorem k0_mult56_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t22 : Fin (k0_t22_loop i v1 v3 v5 v7 v9 v11 v13 v15 v17 v19 v21 v23 v25 v27 v29 v31 v33 v35).trips), 256 ∣ (k0_mult56 i v1 v3 v5 v7 v9 v11 v13 v15 v17 v19 v21 v23 v25 v27 v29 v31 v33 v35 k0_t22).toNat := fun i v1 v3 v5 v7 v9 v11 v13 v15 v17 v19 v21 v23 v25 v27 v29 v31 v33 v35 k0_hw1 k0_t22 => k0_hw1.2.2.2.1.2.2.2.2.2.2.2.2.2.2.2.2.2.2.2.2.2.2.2.2.2.2.2.2.1 k0_t22
theorem k0_off44_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t22 : Fin (k0_t22_loop i v1 v3 v5 v7 v9 v11 v13 v15 v17 v19 v21 v23 v25 v27 v29 v31 v33 v35).trips), ∀ a, (k0_off44 i v1 v3 v5 v7 v9 v11 v13 v15 v17 v19 v21 v23 v25 v27 v29 v31 v33 v35 k0_t22) a + S256x512.size a ≤ S4608x512.size a := fun i v1 v3 v5 v7 v9 v11 v13 v15 v17 v19 v21 v23 v25 v27 v29 v31 v33 v35 k0_hw1 k0_t22 => k0_hw1.2.2.2.1.2.2.2.2.2.2.2.2.2.2.2.2.2.2.2.2.2.2.2.2.2.2.2.2.2.1 k0_t22
theorem k0_t23_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t23_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.2.2.2.2.2.2.2.2.2.2.2.2.2.2.2.2.2.2.2.2.2.2.1
theorem k0_mult57_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t23 : Fin (k0_t23_loop i v1 v3 v5 v7 v9 v11 v13 v15 v17 v19 v21 v23 v25 v27 v29 v31 v33 v35).trips), 256 ∣ (k0_mult57 i v1 v3 v5 v7 v9 v11 v13 v15 v17 v19 v21 v23 v25 v27 v29 v31 v33 v35 k0_t23).toNat := fun i v1 v3 v5 v7 v9 v11 v13 v15 v17 v19 v21 v23 v25 v27 v29 v31 v33 v35 k0_hw1 k0_t23 => k0_hw1.2.2.2.1.2.2.2.2.2.2.2.2.2.2.2.2.2.2.2.2.2.2.2.2.2.2.2.2.2.2.2.1 k0_t23
theorem k0_off45_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t23 : Fin (k0_t23_loop i v1 v3 v5 v7 v9 v11 v13 v15 v17 v19 v21 v23 v25 v27 v29 v31 v33 v35).trips), ∀ a, (k0_off45 i v1 v3 v5 v7 v9 v11 v13 v15 v17 v19 v21 v23 v25 v27 v29 v31 v33 v35 k0_t23) a + S256x512.size a ≤ S4608x512.size a := fun i v1 v3 v5 v7 v9 v11 v13 v15 v17 v19 v21 v23 v25 v27 v29 v31 v33 v35 k0_hw1 k0_t23 => k0_hw1.2.2.2.1.2.2.2.2.2.2.2.2.2.2.2.2.2.2.2.2.2.2.2.2.2.2.2.2.2.2.2.2.1 k0_t23
theorem k0_mult58_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t23 : Fin (k0_t23_loop i v1 v3 v5 v7 v9 v11 v13 v15 v17 v19 v21 v23 v25 v27 v29 v31 v33 v35).trips), 32 ∣ (k0_mult58 i v1 v3 v5 v7 v9 v11 v13 v15 v17 v19 v21 v23 v25 v27 v29 v31 v33 v35 k0_t23).toNat := fun i v1 v3 v5 v7 v9 v11 v13 v15 v17 v19 v21 v23 v25 v27 v29 v31 v33 v35 k0_hw1 k0_t23 => k0_hw1.2.2.2.1.2.2.2.2.2.2.2.2.2.2.2.2.2.2.2.2.2.2.2.2.2.2.2.2.2.2.2.2.2.1 k0_t23
theorem k0_off46_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t23 : Fin (k0_t23_loop i v1 v3 v5 v7 v9 v11 v13 v15 v17 v19 v21 v23 v25 v27 v29 v31 v33 v35).trips), ∀ a, (k0_off46 i v1 v3 v5 v7 v9 v11 v13 v15 v17 v19 v21 v23 v25 v27 v29 v31 v33 v35 k0_t23) a + S256x128.size a ≤ S4608x1024.size a := fun i v1 v3 v5 v7 v9 v11 v13 v15 v17 v19 v21 v23 v25 v27 v29 v31 v33 v35 k0_hw1 k0_t23 => k0_hw1.2.2.2.1.2.2.2.2.2.2.2.2.2.2.2.2.2.2.2.2.2.2.2.2.2.2.2.2.2.2.2.2.2.2.1 k0_t23
theorem k0_t24_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t24_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.1.2.2.2.2.2.2.2.2.2.2.2.2.2.2.2.2.2.2.2.2.2.2.2.2.2.2.2.2.2.2.2
theorem k0_mult59_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t24 : Fin (k0_t24_loop i v1 v3 v5 v7 v9 v11 v13 v15 v17 v19 v21 v23 v25 v27 v29 v31 v33 v35).trips), 256 ∣ (k0_mult59 i v1 v3 v5 v7 v9 v11 v13 v15 v17 v19 v21 v23 v25 v27 v29 v31 v33 v35 k0_t24).toNat := fun i v1 v3 v5 v7 v9 v11 v13 v15 v17 v19 v21 v23 v25 v27 v29 v31 v33 v35 k0_hw1 k0_t24 => k0_hw1.2.2.2.2.1.1 k0_t24
theorem k0_off47_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t24 : Fin (k0_t24_loop i v1 v3 v5 v7 v9 v11 v13 v15 v17 v19 v21 v23 v25 v27 v29 v31 v33 v35).trips), ∀ a, (k0_off47 i v1 v3 v5 v7 v9 v11 v13 v15 v17 v19 v21 v23 v25 v27 v29 v31 v33 v35 k0_t24) a + S256x512.size a ≤ S4608x512.size a := fun i v1 v3 v5 v7 v9 v11 v13 v15 v17 v19 v21 v23 v25 v27 v29 v31 v33 v35 k0_hw1 k0_t24 => k0_hw1.2.2.2.2.1.2.1 k0_t24
theorem k0_mult60_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t24 : Fin (k0_t24_loop i v1 v3 v5 v7 v9 v11 v13 v15 v17 v19 v21 v23 v25 v27 v29 v31 v33 v35).trips), 32 ∣ (k0_mult60 i v1 v3 v5 v7 v9 v11 v13 v15 v17 v19 v21 v23 v25 v27 v29 v31 v33 v35 k0_t24).toNat := fun i v1 v3 v5 v7 v9 v11 v13 v15 v17 v19 v21 v23 v25 v27 v29 v31 v33 v35 k0_hw1 k0_t24 => k0_hw1.2.2.2.2.1.2.2.1 k0_t24
theorem k0_off48_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t24 : Fin (k0_t24_loop i v1 v3 v5 v7 v9 v11 v13 v15 v17 v19 v21 v23 v25 v27 v29 v31 v33 v35).trips), ∀ a, (k0_off48 i v1 v3 v5 v7 v9 v11 v13 v15 v17 v19 v21 v23 v25 v27 v29 v31 v33 v35 k0_t24) a + S256x128.size a ≤ S4608x1024.size a := fun i v1 v3 v5 v7 v9 v11 v13 v15 v17 v19 v21 v23 v25 v27 v29 v31 v33 v35 k0_hw1 k0_t24 => k0_hw1.2.2.2.2.1.2.2.2.1 k0_t24
theorem k0_t25_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t25_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.1.2.2.2.2.1
theorem k0_mult61_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t25 : Fin (k0_t25_loop i v1 v3 v5 v7 v9 v11 v13 v15 v17 v19 v21 v23 v25 v27 v29 v31 v33 v35).trips), 32 ∣ (k0_mult61 i v1 v3 v5 v7 v9 v11 v13 v15 v17 v19 v21 v23 v25 v27 v29 v31 v33 v35 k0_t25).toNat := fun i v1 v3 v5 v7 v9 v11 v13 v15 v17 v19 v21 v23 v25 v27 v29 v31 v33 v35 k0_hw1 k0_t25 => k0_hw1.2.2.2.2.1.2.2.2.2.2.1 k0_t25
theorem k0_off49_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t25 : Fin (k0_t25_loop i v1 v3 v5 v7 v9 v11 v13 v15 v17 v19 v21 v23 v25 v27 v29 v31 v33 v35).trips), ∀ a, (k0_off49 i v1 v3 v5 v7 v9 v11 v13 v15 v17 v19 v21 v23 v25 v27 v29 v31 v33 v35 k0_t25) a + S256x128.size a ≤ S4608x1024.size a := fun i v1 v3 v5 v7 v9 v11 v13 v15 v17 v19 v21 v23 v25 v27 v29 v31 v33 v35 k0_hw1 k0_t25 => k0_hw1.2.2.2.2.1.2.2.2.2.2.2.1 k0_t25
theorem k0_mult62_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t25 : Fin (k0_t25_loop i v1 v3 v5 v7 v9 v11 v13 v15 v17 v19 v21 v23 v25 v27 v29 v31 v33 v35).trips), 32 ∣ (k0_mult62 i v1 v3 v5 v7 v9 v11 v13 v15 v17 v19 v21 v23 v25 v27 v29 v31 v33 v35 k0_t25).toNat := fun i v1 v3 v5 v7 v9 v11 v13 v15 v17 v19 v21 v23 v25 v27 v29 v31 v33 v35 k0_hw1 k0_t25 => k0_hw1.2.2.2.2.1.2.2.2.2.2.2.2.1 k0_t25
theorem k0_mult63_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t25 : Fin (k0_t25_loop i v1 v3 v5 v7 v9 v11 v13 v15 v17 v19 v21 v23 v25 v27 v29 v31 v33 v35).trips), 256 ∣ (k0_mult63 i v1 v3 v5 v7 v9 v11 v13 v15 v17 v19 v21 v23 v25 v27 v29 v31 v33 v35 k0_t25).toNat := fun i v1 v3 v5 v7 v9 v11 v13 v15 v17 v19 v21 v23 v25 v27 v29 v31 v33 v35 k0_hw1 k0_t25 => k0_hw1.2.2.2.2.1.2.2.2.2.2.2.2.2.1 k0_t25
theorem k0_off50_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t25 : Fin (k0_t25_loop i v1 v3 v5 v7 v9 v11 v13 v15 v17 v19 v21 v23 v25 v27 v29 v31 v33 v35).trips), ∀ a, (k0_off50 i v1 v3 v5 v7 v9 v11 v13 v15 v17 v19 v21 v23 v25 v27 v29 v31 v33 v35 k0_t25) a + S256x512.size a ≤ S4608x512.size a := fun i v1 v3 v5 v7 v9 v11 v13 v15 v17 v19 v21 v23 v25 v27 v29 v31 v33 v35 k0_hw1 k0_t25 => k0_hw1.2.2.2.2.1.2.2.2.2.2.2.2.2.2.1 k0_t25
theorem k0_t26_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t26_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.1.2.2.2.2.2.2.2.2.2.2.1
theorem k0_mult64_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t26 : Fin (k0_t26_loop i v1 v3 v5 v7 v9 v11 v13 v15 v17 v19 v21 v23 v25 v27 v29 v31 v33 v35).trips), 32 ∣ (k0_mult64 i v1 v3 v5 v7 v9 v11 v13 v15 v17 v19 v21 v23 v25 v27 v29 v31 v33 v35 k0_t26).toNat := fun i v1 v3 v5 v7 v9 v11 v13 v15 v17 v19 v21 v23 v25 v27 v29 v31 v33 v35 k0_hw1 k0_t26 => k0_hw1.2.2.2.2.1.2.2.2.2.2.2.2.2.2.2.2.1 k0_t26
theorem k0_off51_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t26 : Fin (k0_t26_loop i v1 v3 v5 v7 v9 v11 v13 v15 v17 v19 v21 v23 v25 v27 v29 v31 v33 v35).trips), ∀ a, (k0_off51 i v1 v3 v5 v7 v9 v11 v13 v15 v17 v19 v21 v23 v25 v27 v29 v31 v33 v35 k0_t26) a + S256x128.size a ≤ S4608x1024.size a := fun i v1 v3 v5 v7 v9 v11 v13 v15 v17 v19 v21 v23 v25 v27 v29 v31 v33 v35 k0_hw1 k0_t26 => k0_hw1.2.2.2.2.1.2.2.2.2.2.2.2.2.2.2.2.2.1 k0_t26
theorem k0_mult65_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t26 : Fin (k0_t26_loop i v1 v3 v5 v7 v9 v11 v13 v15 v17 v19 v21 v23 v25 v27 v29 v31 v33 v35).trips), 32 ∣ (k0_mult65 i v1 v3 v5 v7 v9 v11 v13 v15 v17 v19 v21 v23 v25 v27 v29 v31 v33 v35 k0_t26).toNat := fun i v1 v3 v5 v7 v9 v11 v13 v15 v17 v19 v21 v23 v25 v27 v29 v31 v33 v35 k0_hw1 k0_t26 => k0_hw1.2.2.2.2.1.2.2.2.2.2.2.2.2.2.2.2.2.2.1 k0_t26
theorem k0_mult66_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t26 : Fin (k0_t26_loop i v1 v3 v5 v7 v9 v11 v13 v15 v17 v19 v21 v23 v25 v27 v29 v31 v33 v35).trips), 256 ∣ (k0_mult66 i v1 v3 v5 v7 v9 v11 v13 v15 v17 v19 v21 v23 v25 v27 v29 v31 v33 v35 k0_t26).toNat := fun i v1 v3 v5 v7 v9 v11 v13 v15 v17 v19 v21 v23 v25 v27 v29 v31 v33 v35 k0_hw1 k0_t26 => k0_hw1.2.2.2.2.1.2.2.2.2.2.2.2.2.2.2.2.2.2.2.1 k0_t26
theorem k0_off52_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t26 : Fin (k0_t26_loop i v1 v3 v5 v7 v9 v11 v13 v15 v17 v19 v21 v23 v25 v27 v29 v31 v33 v35).trips), ∀ a, (k0_off52 i v1 v3 v5 v7 v9 v11 v13 v15 v17 v19 v21 v23 v25 v27 v29 v31 v33 v35 k0_t26) a + S256x512.size a ≤ S4608x512.size a := fun i v1 v3 v5 v7 v9 v11 v13 v15 v17 v19 v21 v23 v25 v27 v29 v31 v33 v35 k0_hw1 k0_t26 => k0_hw1.2.2.2.2.1.2.2.2.2.2.2.2.2.2.2.2.2.2.2.2.1 k0_t26
theorem k0_t27_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t27_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.1.2.2.2.2.2.2.2.2.2.2.2.2.2.2.2.2.1
theorem k0_mult67_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t27 : Fin (k0_t27_loop i v1 v3 v5 v7 v9 v11 v13 v15 v17 v19 v21 v23 v25 v27 v29 v31 v33 v35).trips), 256 ∣ (k0_mult67 i v1 v3 v5 v7 v9 v11 v13 v15 v17 v19 v21 v23 v25 v27 v29 v31 v33 v35 k0_t27).toNat := fun i v1 v3 v5 v7 v9 v11 v13 v15 v17 v19 v21 v23 v25 v27 v29 v31 v33 v35 k0_hw1 k0_t27 => k0_hw1.2.2.2.2.1.2.2.2.2.2.2.2.2.2.2.2.2.2.2.2.2.2.1 k0_t27
theorem k0_off53_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t27 : Fin (k0_t27_loop i v1 v3 v5 v7 v9 v11 v13 v15 v17 v19 v21 v23 v25 v27 v29 v31 v33 v35).trips), ∀ a, (k0_off53 i v1 v3 v5 v7 v9 v11 v13 v15 v17 v19 v21 v23 v25 v27 v29 v31 v33 v35 k0_t27) a + S256x512.size a ≤ S4608x512.size a := fun i v1 v3 v5 v7 v9 v11 v13 v15 v17 v19 v21 v23 v25 v27 v29 v31 v33 v35 k0_hw1 k0_t27 => k0_hw1.2.2.2.2.1.2.2.2.2.2.2.2.2.2.2.2.2.2.2.2.2.2.2.1 k0_t27
theorem k0_mult68_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t27 : Fin (k0_t27_loop i v1 v3 v5 v7 v9 v11 v13 v15 v17 v19 v21 v23 v25 v27 v29 v31 v33 v35).trips), 32 ∣ (k0_mult68 i v1 v3 v5 v7 v9 v11 v13 v15 v17 v19 v21 v23 v25 v27 v29 v31 v33 v35 k0_t27).toNat := fun i v1 v3 v5 v7 v9 v11 v13 v15 v17 v19 v21 v23 v25 v27 v29 v31 v33 v35 k0_hw1 k0_t27 => k0_hw1.2.2.2.2.1.2.2.2.2.2.2.2.2.2.2.2.2.2.2.2.2.2.2.2.1 k0_t27
theorem k0_off54_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t27 : Fin (k0_t27_loop i v1 v3 v5 v7 v9 v11 v13 v15 v17 v19 v21 v23 v25 v27 v29 v31 v33 v35).trips), ∀ a, (k0_off54 i v1 v3 v5 v7 v9 v11 v13 v15 v17 v19 v21 v23 v25 v27 v29 v31 v33 v35 k0_t27) a + S256x128.size a ≤ S4608x1024.size a := fun i v1 v3 v5 v7 v9 v11 v13 v15 v17 v19 v21 v23 v25 v27 v29 v31 v33 v35 k0_hw1 k0_t27 => k0_hw1.2.2.2.2.1.2.2.2.2.2.2.2.2.2.2.2.2.2.2.2.2.2.2.2.2.1 k0_t27
theorem k0_t28_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t28_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.1.2.2.2.2.2.2.2.2.2.2.2.2.2.2.2.2.2.2.2.2.2.1
theorem k0_mult69_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t28 : Fin (k0_t28_loop i v1 v3 v5 v7 v9 v11 v13 v15 v17 v19 v21 v23 v25 v27 v29 v31 v33 v35).trips), 256 ∣ (k0_mult69 i v1 v3 v5 v7 v9 v11 v13 v15 v17 v19 v21 v23 v25 v27 v29 v31 v33 v35 k0_t28).toNat := fun i v1 v3 v5 v7 v9 v11 v13 v15 v17 v19 v21 v23 v25 v27 v29 v31 v33 v35 k0_hw1 k0_t28 => k0_hw1.2.2.2.2.1.2.2.2.2.2.2.2.2.2.2.2.2.2.2.2.2.2.2.2.2.2.2.1 k0_t28
theorem k0_off55_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t28 : Fin (k0_t28_loop i v1 v3 v5 v7 v9 v11 v13 v15 v17 v19 v21 v23 v25 v27 v29 v31 v33 v35).trips), ∀ a, (k0_off55 i v1 v3 v5 v7 v9 v11 v13 v15 v17 v19 v21 v23 v25 v27 v29 v31 v33 v35 k0_t28) a + S256x512.size a ≤ S4608x512.size a := fun i v1 v3 v5 v7 v9 v11 v13 v15 v17 v19 v21 v23 v25 v27 v29 v31 v33 v35 k0_hw1 k0_t28 => k0_hw1.2.2.2.2.1.2.2.2.2.2.2.2.2.2.2.2.2.2.2.2.2.2.2.2.2.2.2.2.1 k0_t28
theorem k0_mult70_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t28 : Fin (k0_t28_loop i v1 v3 v5 v7 v9 v11 v13 v15 v17 v19 v21 v23 v25 v27 v29 v31 v33 v35).trips), 32 ∣ (k0_mult70 i v1 v3 v5 v7 v9 v11 v13 v15 v17 v19 v21 v23 v25 v27 v29 v31 v33 v35 k0_t28).toNat := fun i v1 v3 v5 v7 v9 v11 v13 v15 v17 v19 v21 v23 v25 v27 v29 v31 v33 v35 k0_hw1 k0_t28 => k0_hw1.2.2.2.2.1.2.2.2.2.2.2.2.2.2.2.2.2.2.2.2.2.2.2.2.2.2.2.2.2.1 k0_t28
theorem k0_off56_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t28 : Fin (k0_t28_loop i v1 v3 v5 v7 v9 v11 v13 v15 v17 v19 v21 v23 v25 v27 v29 v31 v33 v35).trips), ∀ a, (k0_off56 i v1 v3 v5 v7 v9 v11 v13 v15 v17 v19 v21 v23 v25 v27 v29 v31 v33 v35 k0_t28) a + S256x128.size a ≤ S4608x1024.size a := fun i v1 v3 v5 v7 v9 v11 v13 v15 v17 v19 v21 v23 v25 v27 v29 v31 v33 v35 k0_hw1 k0_t28 => k0_hw1.2.2.2.2.1.2.2.2.2.2.2.2.2.2.2.2.2.2.2.2.2.2.2.2.2.2.2.2.2.2.1 k0_t28
theorem k0_t29_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t29_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.1.2.2.2.2.2.2.2.2.2.2.2.2.2.2.2.2.2.2.2.2.2.2.2.2.2.2.1
theorem k0_mult71_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t29 : Fin (k0_t29_loop i v1 v3 v5 v7 v9 v11 v13 v15 v17 v19 v21 v23 v25 v27 v29 v31 v33 v35).trips), 32 ∣ (k0_mult71 i v1 v3 v5 v7 v9 v11 v13 v15 v17 v19 v21 v23 v25 v27 v29 v31 v33 v35 k0_t29).toNat := fun i v1 v3 v5 v7 v9 v11 v13 v15 v17 v19 v21 v23 v25 v27 v29 v31 v33 v35 k0_hw1 k0_t29 => k0_hw1.2.2.2.2.1.2.2.2.2.2.2.2.2.2.2.2.2.2.2.2.2.2.2.2.2.2.2.2.2.2.2.2.1 k0_t29
theorem k0_off57_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t29 : Fin (k0_t29_loop i v1 v3 v5 v7 v9 v11 v13 v15 v17 v19 v21 v23 v25 v27 v29 v31 v33 v35).trips), ∀ a, (k0_off57 i v1 v3 v5 v7 v9 v11 v13 v15 v17 v19 v21 v23 v25 v27 v29 v31 v33 v35 k0_t29) a + S256x128.size a ≤ S4608x1024.size a := fun i v1 v3 v5 v7 v9 v11 v13 v15 v17 v19 v21 v23 v25 v27 v29 v31 v33 v35 k0_hw1 k0_t29 => k0_hw1.2.2.2.2.1.2.2.2.2.2.2.2.2.2.2.2.2.2.2.2.2.2.2.2.2.2.2.2.2.2.2.2.2.1 k0_t29
theorem k0_mult72_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t29 : Fin (k0_t29_loop i v1 v3 v5 v7 v9 v11 v13 v15 v17 v19 v21 v23 v25 v27 v29 v31 v33 v35).trips), 32 ∣ (k0_mult72 i v1 v3 v5 v7 v9 v11 v13 v15 v17 v19 v21 v23 v25 v27 v29 v31 v33 v35 k0_t29).toNat := fun i v1 v3 v5 v7 v9 v11 v13 v15 v17 v19 v21 v23 v25 v27 v29 v31 v33 v35 k0_hw1 k0_t29 => k0_hw1.2.2.2.2.1.2.2.2.2.2.2.2.2.2.2.2.2.2.2.2.2.2.2.2.2.2.2.2.2.2.2.2.2.2.1 k0_t29
theorem k0_mult73_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t29 : Fin (k0_t29_loop i v1 v3 v5 v7 v9 v11 v13 v15 v17 v19 v21 v23 v25 v27 v29 v31 v33 v35).trips), 256 ∣ (k0_mult73 i v1 v3 v5 v7 v9 v11 v13 v15 v17 v19 v21 v23 v25 v27 v29 v31 v33 v35 k0_t29).toNat := fun i v1 v3 v5 v7 v9 v11 v13 v15 v17 v19 v21 v23 v25 v27 v29 v31 v33 v35 k0_hw1 k0_t29 => k0_hw1.2.2.2.2.1.2.2.2.2.2.2.2.2.2.2.2.2.2.2.2.2.2.2.2.2.2.2.2.2.2.2.2.2.2.2.1 k0_t29
theorem k0_off58_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t29 : Fin (k0_t29_loop i v1 v3 v5 v7 v9 v11 v13 v15 v17 v19 v21 v23 v25 v27 v29 v31 v33 v35).trips), ∀ a, (k0_off58 i v1 v3 v5 v7 v9 v11 v13 v15 v17 v19 v21 v23 v25 v27 v29 v31 v33 v35 k0_t29) a + S256x512.size a ≤ S4608x512.size a := fun i v1 v3 v5 v7 v9 v11 v13 v15 v17 v19 v21 v23 v25 v27 v29 v31 v33 v35 k0_hw1 k0_t29 => k0_hw1.2.2.2.2.1.2.2.2.2.2.2.2.2.2.2.2.2.2.2.2.2.2.2.2.2.2.2.2.2.2.2.2.2.2.2.2 k0_t29
theorem k0_t30_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t30_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.2.1
theorem k0_mult74_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t30 : Fin (k0_t30_loop i v1 v3 v5 v7 v9 v11 v13 v15 v17 v19 v21 v23 v25 v27 v29 v31 v33 v35).trips), 32 ∣ (k0_mult74 i v1 v3 v5 v7 v9 v11 v13 v15 v17 v19 v21 v23 v25 v27 v29 v31 v33 v35 k0_t30).toNat := fun i v1 v3 v5 v7 v9 v11 v13 v15 v17 v19 v21 v23 v25 v27 v29 v31 v33 v35 k0_hw1 k0_t30 => k0_hw1.2.2.2.2.2.2.1 k0_t30
theorem k0_off59_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t30 : Fin (k0_t30_loop i v1 v3 v5 v7 v9 v11 v13 v15 v17 v19 v21 v23 v25 v27 v29 v31 v33 v35).trips), ∀ a, (k0_off59 i v1 v3 v5 v7 v9 v11 v13 v15 v17 v19 v21 v23 v25 v27 v29 v31 v33 v35 k0_t30) a + S256x128.size a ≤ S4608x1024.size a := fun i v1 v3 v5 v7 v9 v11 v13 v15 v17 v19 v21 v23 v25 v27 v29 v31 v33 v35 k0_hw1 k0_t30 => k0_hw1.2.2.2.2.2.2.2.1 k0_t30
theorem k0_mult75_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t30 : Fin (k0_t30_loop i v1 v3 v5 v7 v9 v11 v13 v15 v17 v19 v21 v23 v25 v27 v29 v31 v33 v35).trips), 32 ∣ (k0_mult75 i v1 v3 v5 v7 v9 v11 v13 v15 v17 v19 v21 v23 v25 v27 v29 v31 v33 v35 k0_t30).toNat := fun i v1 v3 v5 v7 v9 v11 v13 v15 v17 v19 v21 v23 v25 v27 v29 v31 v33 v35 k0_hw1 k0_t30 => k0_hw1.2.2.2.2.2.2.2.2.1 k0_t30
theorem k0_mult76_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t30 : Fin (k0_t30_loop i v1 v3 v5 v7 v9 v11 v13 v15 v17 v19 v21 v23 v25 v27 v29 v31 v33 v35).trips), 256 ∣ (k0_mult76 i v1 v3 v5 v7 v9 v11 v13 v15 v17 v19 v21 v23 v25 v27 v29 v31 v33 v35 k0_t30).toNat := fun i v1 v3 v5 v7 v9 v11 v13 v15 v17 v19 v21 v23 v25 v27 v29 v31 v33 v35 k0_hw1 k0_t30 => k0_hw1.2.2.2.2.2.2.2.2.2.1 k0_t30
theorem k0_off60_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t30 : Fin (k0_t30_loop i v1 v3 v5 v7 v9 v11 v13 v15 v17 v19 v21 v23 v25 v27 v29 v31 v33 v35).trips), ∀ a, (k0_off60 i v1 v3 v5 v7 v9 v11 v13 v15 v17 v19 v21 v23 v25 v27 v29 v31 v33 v35 k0_t30) a + S256x512.size a ≤ S4608x512.size a := fun i v1 v3 v5 v7 v9 v11 v13 v15 v17 v19 v21 v23 v25 v27 v29 v31 v33 v35 k0_hw1 k0_t30 => k0_hw1.2.2.2.2.2.2.2.2.2.2.1 k0_t30
theorem k0_t31_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t31_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.2.2.2.2.2.2.2.1
theorem k0_mult77_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t31 : Fin (k0_t31_loop i v1 v3 v5 v7 v9 v11 v13 v15 v17 v19 v21 v23 v25 v27 v29 v31 v33 v35).trips), 256 ∣ (k0_mult77 i v1 v3 v5 v7 v9 v11 v13 v15 v17 v19 v21 v23 v25 v27 v29 v31 v33 v35 k0_t31).toNat := fun i v1 v3 v5 v7 v9 v11 v13 v15 v17 v19 v21 v23 v25 v27 v29 v31 v33 v35 k0_hw1 k0_t31 => k0_hw1.2.2.2.2.2.2.2.2.2.2.2.2.1 k0_t31
theorem k0_off61_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t31 : Fin (k0_t31_loop i v1 v3 v5 v7 v9 v11 v13 v15 v17 v19 v21 v23 v25 v27 v29 v31 v33 v35).trips), ∀ a, (k0_off61 i v1 v3 v5 v7 v9 v11 v13 v15 v17 v19 v21 v23 v25 v27 v29 v31 v33 v35 k0_t31) a + S256x512.size a ≤ S4608x512.size a := fun i v1 v3 v5 v7 v9 v11 v13 v15 v17 v19 v21 v23 v25 v27 v29 v31 v33 v35 k0_hw1 k0_t31 => k0_hw1.2.2.2.2.2.2.2.2.2.2.2.2.2.1 k0_t31
theorem k0_mult78_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t31 : Fin (k0_t31_loop i v1 v3 v5 v7 v9 v11 v13 v15 v17 v19 v21 v23 v25 v27 v29 v31 v33 v35).trips), 32 ∣ (k0_mult78 i v1 v3 v5 v7 v9 v11 v13 v15 v17 v19 v21 v23 v25 v27 v29 v31 v33 v35 k0_t31).toNat := fun i v1 v3 v5 v7 v9 v11 v13 v15 v17 v19 v21 v23 v25 v27 v29 v31 v33 v35 k0_hw1 k0_t31 => k0_hw1.2.2.2.2.2.2.2.2.2.2.2.2.2.2.1 k0_t31
theorem k0_off62_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t31 : Fin (k0_t31_loop i v1 v3 v5 v7 v9 v11 v13 v15 v17 v19 v21 v23 v25 v27 v29 v31 v33 v35).trips), ∀ a, (k0_off62 i v1 v3 v5 v7 v9 v11 v13 v15 v17 v19 v21 v23 v25 v27 v29 v31 v33 v35 k0_t31) a + S256x128.size a ≤ S4608x1024.size a := fun i v1 v3 v5 v7 v9 v11 v13 v15 v17 v19 v21 v23 v25 v27 v29 v31 v33 v35 k0_hw1 k0_t31 => k0_hw1.2.2.2.2.2.2.2.2.2.2.2.2.2.2.2.1 k0_t31
theorem k0_t32_ok : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35), (k0_t32_loop i v1 v3 v5 v7 v9 v11 v13 v15 v17 v19 v21 v23 v25 v27 v29 v31 v33 v35).OK := fun i v1 v3 v5 v7 v9 v11 v13 v15 v17 v19 v21 v23 v25 v27 v29 v31 v33 v35 k0_hw1 => k0_hw1.2.2.2.2.2.2.2.2.2.2.2.2.2.2.2.2.1
theorem k0_mult79_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t32 : Fin (k0_t32_loop i v1 v3 v5 v7 v9 v11 v13 v15 v17 v19 v21 v23 v25 v27 v29 v31 v33 v35).trips), 256 ∣ (k0_mult79 i v1 v3 v5 v7 v9 v11 v13 v15 v17 v19 v21 v23 v25 v27 v29 v31 v33 v35 k0_t32).toNat := fun i v1 v3 v5 v7 v9 v11 v13 v15 v17 v19 v21 v23 v25 v27 v29 v31 v33 v35 k0_hw1 k0_t32 => k0_hw1.2.2.2.2.2.2.2.2.2.2.2.2.2.2.2.2.2.1 k0_t32
theorem k0_off63_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t32 : Fin (k0_t32_loop i v1 v3 v5 v7 v9 v11 v13 v15 v17 v19 v21 v23 v25 v27 v29 v31 v33 v35).trips), ∀ a, (k0_off63 i v1 v3 v5 v7 v9 v11 v13 v15 v17 v19 v21 v23 v25 v27 v29 v31 v33 v35 k0_t32) a + S256x512.size a ≤ S4608x512.size a := fun i v1 v3 v5 v7 v9 v11 v13 v15 v17 v19 v21 v23 v25 v27 v29 v31 v33 v35 k0_hw1 k0_t32 => k0_hw1.2.2.2.2.2.2.2.2.2.2.2.2.2.2.2.2.2.2.1 k0_t32
theorem k0_mult80_dvd : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t32 : Fin (k0_t32_loop i v1 v3 v5 v7 v9 v11 v13 v15 v17 v19 v21 v23 v25 v27 v29 v31 v33 v35).trips), 32 ∣ (k0_mult80 i v1 v3 v5 v7 v9 v11 v13 v15 v17 v19 v21 v23 v25 v27 v29 v31 v33 v35 k0_t32).toNat := fun i v1 v3 v5 v7 v9 v11 v13 v15 v17 v19 v21 v23 v25 v27 v29 v31 v33 v35 k0_hw1 k0_t32 => k0_hw1.2.2.2.2.2.2.2.2.2.2.2.2.2.2.2.2.2.2.2.1 k0_t32
theorem k0_off64_inb : ∀ (i : grid0.Coords) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (k0_hw1 : k0_chk1 i v1 v3 v5 v7 v9 v11 v13 v15 v17 v19 v21 v23 v25 v27 v29 v31 v33 v35) (k0_t32 : Fin (k0_t32_loop i v1 v3 v5 v7 v9 v11 v13 v15 v17 v19 v21 v23 v25 v27 v29 v31 v33 v35).trips), ∀ a, (k0_off64 i v1 v3 v5 v7 v9 v11 v13 v15 v17 v19 v21 v23 v25 v27 v29 v31 v33 v35 k0_t32) a + S256x128.size a ≤ S4608x1024.size a := fun i v1 v3 v5 v7 v9 v11 v13 v15 v17 v19 v21 v23 v25 v27 v29 v31 v33 v35 k0_hw1 k0_t32 => k0_hw1.2.2.2.2.2.2.2.2.2.2.2.2.2.2.2.2.2.2.2.2 k0_t32

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4608x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4608x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S10 : Shape := ⟨1, ![10]⟩
abbrev S_ : Shape := ⟨0, ![]⟩
abbrev S4608x4096 : Shape := ⟨2, ![4608, 4096]⟩
abbrev S4608x1024 : Shape := ⟨2, ![4608, 1024]⟩
abbrev S1 : Shape := ⟨1, ![1]⟩
abbrev S4608x1 : Shape := ⟨2, ![4608, 1]⟩
abbrev S1x4608 : Shape := ⟨2, ![1, 4608]⟩
abbrev S4608x4608 : Shape := ⟨2, ![4608, 4608]⟩
abbrev S4608x128 : Shape := ⟨2, ![4608, 128]⟩
abbrev S4608 : Shape := ⟨1, ![4608]⟩

abbrev nBuf : Space → Nat
  | .hbm => 13
  | .vmem => 4
  | .smem => 5
  | _ => 0

abbrev bufTy : (tb : Table) → Fin (tcTables nBuf tb) → BufTy
  | .hbm, ⟨0, _⟩ => ⟨S10, .i32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4608x4096, .fp8e4m3⟩
  | .hbm, ⟨6, _⟩ => ⟨S4608x1024, .fp8e4m3⟩
  | .hbm, ⟨7, _⟩ => ⟨S4608x1024, .fp8e4m3⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S4608x4096, .fp8e4m3⟩
  | .local _ .vmem, ⟨0, _⟩ => ⟨S4608x4096, .fp8e4m3⟩
  | .local _ .vmem, ⟨1, _⟩ => ⟨S4608x1024, .fp8e4m3⟩
  | .local _ .vmem, ⟨2, _⟩ => ⟨S4608x1024, .fp8e4m3⟩
  | .local _ .vmem, ⟨3, _⟩ => ⟨S4608x4096, .fp8e4m3⟩
  | .local _ .smem, ⟨0, _⟩ => ⟨S10, .i32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S10 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Attn.Nonneg.lean ====
/- What the claims of the attention assume: no segment boundary after the first is negative. -/
module

public import proofs.«01_k».proof.Defs
public import Idealize.ShloMosaic.Lib.Affine
public import Idealize.ShloMosaic.Lib.Pointwise.Index
public import Idealize.ShloMosaic.Lib.Tactic

@[expose] public section

noncomputable section

namespace Cert.Proof.Nonneg

open Cert.Pre_nonnegative
open Idealize.ShloMosaic

/-- The assumption's side conditions. -/
instance facts : Cert.Pre_nonnegative.Facts := ⟨by decide, by decide⟩

variable {F : FTy → Type} [FloatOps F]

/-- The assumption, said of each boundary after the first. -/
theorem nonneg (x : IVec S10 32) (x1 x2 x3 x4 : FVec F S_ .f32) (x5 : FVec F S4608x4096 .fp8e4m3) (x6 x7 : FVec F S4608x1024 .fp8e4m3)
    (h : Cert.Pre_nonnegative.fn (F := F) x x1 x2 x3 x4 x5 x6 x7 = fun _ => 1#1) (b : Fin 9) :
    0 ≤ (x (ix1 (⟨b.val + 1, by omega⟩ : Fin 10))).toInt := by
  have hb := congrFun h (ix1 b)
  have hi : ((extractStridedSlice S9 ![1] x facts.slices_S10_S9_1 : IVec S9 32) (ix1 b)) = x (ix1 (⟨b.val + 1, by omega⟩ : Fin 10)) := by
    refine congrArg x (funext fun a => Fin.ext ?_)
    fin_cases a
    show 1 + b.val = b.val + 1
    omega
  rw [← hi]
  unfold fn at hb
  have hb' : IntOp.cmpi .sge ((extractStridedSlice S9 ![1] x facts.slices_S10_S9_1 : IVec S9 32) (ix1 b)) 0#32 = 1#1 := hb
  exact IntOp.cmpi_sge.mp hb'

end Cert.Proof.Nonneg

end
-- ==== Proof.Attn.Words.lean ====
/- The attention's words: the first key a block of queries needs, and how many blocks of keys it takes. -/
module

public import Idealize.ShloMosaic.Lib.Affine
public import Idealize.ShloMosaic.Lib.LoopRemainder

@[expose] public section

namespace Cert.Attn.Words

open Idealize.ShloMosaic Idealize.ShloMosaic.Affine

/-- Floor division as the kernel computes it: the quotient, less one where the signs differ and the remainder is not 0. -/
abbrev floorDiv (x d : BitVec 32) : BitVec 32 :=
  Scalar.select
    (Scalar.andi
      (Scalar.cmpi .ne
        (Scalar.subi (Scalar.extui (Scalar.cmpi .sgt x 0#32)) (Scalar.extui (Scalar.cmpi .slt x 0#32)) : BitVec 32)
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem zero_isInt : IsInt 0#32 0 := Affine.ofNat 0 ⟨rfl, by decide⟩
theorem one_isInt : IsInt 1#32 1 := Affine.ofNat 1 ⟨rfl, by decide⟩

/-- Of a nonnegative word and a positive divisor it is the integers' quotient. -/
theorem floorDiv_isInt {x d : BitVec 32} {e k : ℤ} (hx : IsInt x e) (hd : IsInt d k) (he : 0 ≤ e) (hk : 0 < k) :
    IsInt (floorDiv x d) (e / k) := by
  have hq : IsInt (Scalar.divsi x d) (e / k) := Affine.divsi hx hd ⟨rfl, he, hk⟩
  have hr : IsInt (Scalar.remsi x d) (e % k) := Affine.remsi hx hd ⟨rfl, he, hk⟩
  have hd1 : IsInt (Scalar.subi (Scalar.extui (Scalar.cmpi .sgt d 0#32)) (Scalar.extui (Scalar.cmpi .slt d 0#32)) : BitVec 32) 1 :=
    Affine.subi (Affine.extui_holds (Affine.sgt_holds hd zero_isInt hk) rfl)
      (Affine.extui_fails (Affine.slt_fails hd zero_isInt (by omega)) rfl) (by omega)
  rcases eq_or_lt_of_le he with h0 | hpos
  · subst h0
    exact Affine.select_fails
      (Affine.andi_fails_right (Affine.cmpi_term .ne (Affine.word _) hd1) (Affine.ne_fails hr zero_isInt (by simp)))
      (Affine.word _) hq rfl
  · have hs : IsInt (Scalar.subi (Scalar.extui (Scalar.cmpi .sgt x 0#32)) (Scalar.extui (Scalar.cmpi .slt x 0#32)) : BitVec 32) 1 :=
      Affine.subi (Affine.extui_holds (Affine.sgt_holds hx zero_isInt hpos) rfl)
        (Affine.extui_fails (Affine.slt_fails hx zero_isInt (by omega)) rfl) (by omega)
    have hb : e / k - 1 < 2 ^ 31 ∧ 0 ≤ e / k := by
      have h1 := Affine.word_range (Scalar.divsi x d)
      have h2 : (Scalar.divsi x d).toInt = e / k := by unfold IsInt at hq; exact hq
      exact ⟨by omega, Int.ediv_nonneg he hk.le⟩
    exact Affine.select_fails (Affine.andi_fails_left (Affine.ne_fails hs hd1 rfl) (Affine.cmpi_term .ne hr zero_isInt))
      (Affine.subi hq one_isInt ⟨rfl, by omega, by omega⟩) hq rfl

/-- The block's first query. -/
abbrev firstQuery (i : ℕ) : BitVec 32 := Scalar.muli (BitVec.ofNat 32 i) 128#32

theorem firstQuery_isInt {i : ℕ} (hi : i < 36) : IsInt (firstQuery i) (128 * i) :=
  Affine.muli (Affine.ofNat i ⟨rfl, by omega⟩) (Affine.ofNat 128 ⟨rfl, by decide⟩) (by omega)

/-- One step of the search for the segment's start: the word `w` if it is at most `q`, else what was found before. -/
theorem step_isInt {w q f : BitVec 32} {ew eq ef : ℤ} (hw : IsInt w ew) (hq : IsInt q eq) (hf : IsInt f ef) :
    IsInt (Scalar.select (Scalar.cmpi .sle w q) w f) (if ew ≤ eq then ew else ef) := by
  by_cases h : ew ≤ eq
  · rw [if_pos h]; exact Affine.select_holds (Affine.sle_holds hw hq h) hw hf rfl
  · rw [if_neg h]; exact Affine.select_fails (Affine.sle_fails hw hq h) hw hf rfl

/-- The start found in the words `w`, last first: the last one that is at most `q`. -/
def start (w : Fin 9 → BitVec 32) (q : BitVec 32) : BitVec 32 :=
  Scalar.select (Scalar.cmpi .sle (w 8) q) (w 8) (Scalar.select (Scalar.cmpi .sle (w 7) q) (w 7)
  (Scalar.select (Scalar.cmpi .sle (w 6) q) (w 6) (Scalar.select (Scalar.cmpi .sle (w 5) q) (w 5)
  (Scalar.select (Scalar.cmpi .sle (w 4) q) (w 4) (Scalar.select (Scalar.cmpi .sle (w 3) q) (w 3)
  (Scalar.select (Scalar.cmpi .sle (w 2) q) (w 2) (Scalar.select (Scalar.cmpi .sle (w 1) q) (w 1)
  (Scalar.select (Scalar.cmpi .sle (w 0) q) (w 0) 0#32))))))))

/-- The start over the integers. -/
def startZ (e : Fin 9 → ℤ) (q : ℤ) : ℤ :=
  if e 8 ≤ q then e 8 else if e 7 ≤ q then e 7 else if e 6 ≤ q then e 6 else if e 5 ≤ q then e 5
  else if e 4 ≤ q then e 4 else if e 3 ≤ q then e 3 else if e 2 ≤ q then e 2 else if e 1 ≤ q then e 1
  else if e 0 ≤ q then e 0 else 0

theorem start_isInt {w : Fin 9 → BitVec 32} {q : BitVec 32} {e : Fin 9 → ℤ} {eq : ℤ} (hw : ∀ b, IsInt (w b) (e b)) (hq : IsInt q eq) :
    IsInt (start w q) (startZ e eq) :=
  step_isInt (hw 8) hq <| step_isInt (hw 7) hq <| step_isInt (hw 6) hq <| step_isInt (hw 5) hq <| step_isInt (hw 4) hq <|
    step_isInt (hw 3) hq <| step_isInt (hw 2) hq <| step_isInt (hw 1) hq <| step_isInt (hw 0) hq zero_isInt

theorem startZ_bounds {e : Fin 9 → ℤ} {q : ℤ} (he : ∀ b, 0 ≤ e b) (hq : 0 ≤ q) : 0 ≤ startZ e q ∧ startZ e q ≤ q := by
  have := he 0; have := he 1; have := he 2; have := he 3; have := he 4; have := he 5; have := he 6; have := he 7; have := he 8
  unfold startZ
  split_ifs <;> omega

/-- How many blocks of 256 keys the block of queries `i` takes, from the segment's start. -/
abbrev blocks (i : ℕ) (first : BitVec 32) : BitVec 32 :=
  floorDiv (Scalar.subi (Scalar.addi (Scalar.subi (Scalar.addi (firstQuery i) 128#32)
    (Scalar.muli (floorDiv first 32#32) 32#32)) 256#32) 1#32) 256#32

/-- The number of blocks over the integers. -/
def blocksZ (i : ℕ) (f : ℤ) : ℤ := (128 * i + 128 - f / 32 * 32 + 255) / 256

theorem blocks_isInt {i : ℕ} {first : BitVec 32} {f : ℤ} (hi : i < 36) (hf : IsInt first f) (h0 : 0 ≤ f) (h1 : f ≤ 128 * i) :
    IsInt (blocks i first) (blocksZ i f) := by
  have h32 := floorDiv_isInt hf (Affine.ofNat (e := 32) 32 ⟨rfl, by decide⟩) h0 (by decide)
  have hm := Affine.muli (e := f / 32 * 32) h32 (Affine.ofNat (e := 32) 32 ⟨rfl, by decide⟩) (by omega)
  have ha := Affine.addi (e := 128 * i + 128) (firstQuery_isInt hi) (Affine.ofNat (e := 128) 128 ⟨rfl, by decide⟩) (by omega)
  have hs := Affine.subi (e := 128 * i + 128 - f / 32 * 32) ha hm (by omega)
  have hb := Affine.addi (e := 128 * i + 128 - f / 32 * 32 + 256) hs (Affine.ofNat (e := 256) 256 ⟨rfl, by decide⟩) (by omega)
  have hc := Affine.subi (e := 128 * i + 128 - f / 32 * 32 + 255) hb one_isInt (by omega)
  exact floorDiv_isInt hc (Affine.ofNat (e := 256) 256 ⟨rfl, by decide⟩) (by omega) (by decide)

theorem blocksZ_bounds {i : ℕ} {f : ℤ} (hi : i < 36) (h0 : 0 ≤ f) (h1 : f ≤ 128 * i) : 1 ≤ blocksZ i f ∧ blocksZ i f ≤ 18 := by
  unfold blocksZ; omega

/-- The loop's upper bound is the number of blocks. -/
theorem bound_isInt {x : BitVec 32} {n : ℤ} (hx : IsInt x n) :
    IsInt (Scalar.addi 0#32 (Scalar.muli (Scalar.divsi (Scalar.subi x 0#32) 1#32) 1#32)) n := by
  have : Scalar.addi 0#32 (Scalar.muli (Scalar.divsi (Scalar.subi x 0#32) 1#32) 1#32) = x := by
    rw [Scalar.muli_divsi_one]; simp [Scalar.addi, Scalar.subi, IntOp.addi, IntOp.subi]
  rw [this]; exact hx

theorem trips_main {x : BitVec 32} {n : ℤ} (hx : IsInt x n) :
    Scf.trips 0#32 (Scalar.addi 0#32 (Scalar.muli (Scalar.divsi (Scalar.subi x 0#32) 1#32) 1#32)) 1#32 = n.toNat :=
  by
  have h := Affine.trips_le zero_isInt (bound_isInt hx) one_isInt n.toNat ⟨by decide, by omega⟩
  rcases le_or_gt n 0 with h0 | h0
  · omega
  · exact Affine.trips_eq zero_isInt (bound_isInt hx) one_isInt n.toNat ⟨by decide, by omega⟩

theorem ok_main {x : BitVec 32} {n : ℤ} (hx : IsInt x n) (hn : n ≤ 18) :
    Scf.OK 0#32 (Scalar.addi 0#32 (Scalar.muli (Scalar.divsi (Scalar.subi x 0#32) 1#32) 1#32)) 1#32 :=
  Affine.ok zero_isInt (bound_isInt hx) one_isInt ⟨by decide, by omega⟩

/-- The first key of block `k`. -/
abbrev base (i k : ℕ) : BitVec 32 :=
  Scalar.maxsi (Scalar.subi (Scalar.addi (firstQuery i) 128#32)
    (Scalar.muli (Scalar.addi (Scf.iv 0#32 1#32 k) 1#32) 256#32)) 0#32

/-- The first row of block `k` in the scores' scratch. -/
abbrev row (k : ℕ) : BitVec 32 := Scalar.muli (Scf.iv 0#32 1#32 k) 256#32

theorem iv_isInt {k : ℕ} (hk : k < 18) : IsInt (Scf.iv 0#32 1#32 k) k :=
  Affine.iv zero_isInt one_isInt k (by omega)

theorem base_isInt {i k : ℕ} (hi : i < 36) (hk : k < 18) : IsInt (base i k) (max (128 * i + 128 - (k + 1) * 256) 0) :=
  Affine.maxsi (Affine.subi (e := 128 * i + 128 - (k + 1) * 256)
    (Affine.addi (e := 128 * i + 128) (firstQuery_isInt hi) (Affine.ofNat (e := 128) 128 ⟨rfl, by decide⟩) (by omega))
    (Affine.muli (e := (k + 1) * 256) (Affine.addi (e := k + 1) (iv_isInt hk) one_isInt (by omega))
      (Affine.ofNat (e := 256) 256 ⟨rfl, by decide⟩) (by omega)) (by omega)) zero_isInt rfl

theorem row_isInt {k : ℕ} (hk : k < 18) : IsInt (row k) (k * 256) :=
  Affine.muli (iv_isInt hk) (Affine.ofNat (e := 256) 256 ⟨rfl, by decide⟩) (by omega)

theorem base_toNat {i k : ℕ} (hi : i < 36) (hk : k < 18) : (base i k).toNat = 128 * i + 128 - (k + 1) * 256 := by
  have := Affine.toNat_of (base_isInt hi hk) (by omega); omega

theorem row_toNat {k : ℕ} (hk : k < 18) : (row k).toNat = k * 256 := by
  have := Affine.toNat_of (row_isInt hk) (by omega); omega

theorem base_dvd {i k : ℕ} (hi : i < 36) (hk : k < 18) : 32 ∣ (base i k).toNat := by rw [base_toNat hi hk]; omega
theorem row_dvd {k : ℕ} (hk : k < 18) : 256 ∣ (row k).toNat := by rw [row_toNat hk]; omega

end Cert.Attn.Words

end
-- ==== Proof.Attn.Check.lean ====
/- The attention's check: of nonnegative boundaries its loops' bounds are meaningful and its rectangles in range. -/
module

public import proofs.«01_k».proof.Proof.Gen.Attn
public import proofs.«01_k».proof.Proof.Attn.Words

@[expose] public section

set_option maxRecDepth 65536

namespace Cert.Attn

open Idealize.ShloMosaic Cert.Attn.Words

section
variable {i : ℕ} {x : BitVec 32} {n : ℤ}

/-- A trip of the main loop is one of at most 18. -/
theorem trip_lt (hx : Affine.IsInt x n) (hn : n ≤ 18)
    (k : Fin (Scf.trips 0#32 (Scalar.addi 0#32 (Scalar.muli (Scalar.divsi (Scalar.subi x 0#32) 1#32) 1#32)) 1#32)) : k.val < 18 := by
  have h := k.isLt
  have h' : _ = n.toNat := trips_main hx
  omega

/-- A block of keys of any head lies within the keys. -/
theorem keys_inb {k c : ℕ} (hi : i < 36) (hk : k < 18) (hc : c + 128 ≤ 1024) :
    ∀ a, (![(base i k).toNat, c] : Fin 2 → ℕ) a + S256x128.size a ≤ S4608x1024.size a := by
  have hb := base_toNat hi hk
  refine Fin.forall_fin_two.2 ⟨?_, ?_⟩
  · show (base i k).toNat + 256 ≤ 4608
    omega
  · show c + 128 ≤ 1024
    omega

/-- A block of scores lies within the scratch. -/
theorem scores_inb {k : ℕ} (hk : k < 18) :
    ∀ a, (![(row k).toNat, 0] : Fin 2 → ℕ) a + S256x512.size a ≤ S4608x512.size a := by
  have hb := row_toNat hk
  refine Fin.forall_fin_two.2 ⟨?_, ?_⟩
  · show (row k).toNat + 256 ≤ 4608
    omega
  · show 0 + 512 ≤ 512
    omega

end

/-- Part 0 of the check's facts: each loop's bounds are meaningful, each trip's rectangles aligned and in range. -/
theorem check_0 (i : grid0.Coords) (w : Fin 9 → BitVec 32) {n : ℤ} (hn : n ≤ 18)
    (hx : Affine.IsInt (blocks (i 0).val (start w (firstQuery (i 0).val))) n) :
    k0_chk1_0 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_0
  exact ⟨ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim⟩

/-- Part 1 of the check's facts: each loop's bounds are meaningful, each trip's rectangles aligned and in range. -/
theorem check_1 (i : grid0.Coords) (w : Fin 9 → BitVec 32) {n : ℤ} (hn : n ≤ 18)
    (hx : Affine.IsInt (blocks (i 0).val (start w (firstQuery (i 0).val))) n) :
    k0_chk1_1 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_1
  exact ⟨fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim⟩

/-- Part 2 of the check's facts: each loop's bounds are meaningful, each trip's rectangles aligned and in range. -/
theorem check_2 (i : grid0.Coords) (w : Fin 9 → BitVec 32) {n : ℤ} (hn : n ≤ 18)
    (hx : Affine.IsInt (blocks (i 0).val (start w (firstQuery (i 0).val))) n) :
    k0_chk1_2 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_2
  exact ⟨fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim⟩

/-- Part 3 of the check's facts: each loop's bounds are meaningful, each trip's rectangles aligned and in range. -/
theorem check_3 (i : grid0.Coords) (w : Fin 9 → BitVec 32) {n : ℤ} (hn : n ≤ 18)
    (hx : Affine.IsInt (blocks (i 0).val (start w (firstQuery (i 0).val))) n) :
    k0_chk1_3 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_3
  exact ⟨fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _⟩

/-- Part 4 of the check's facts: each loop's bounds are meaningful, each trip's rectangles aligned and in range. -/
theorem check_4 (i : grid0.Coords) (w : Fin 9 → BitVec 32) {n : ℤ} (hn : n ≤ 18)
    (hx : Affine.IsInt (blocks (i 0).val (start w (firstQuery (i 0).val))) n) :
    k0_chk1_4 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_4
  exact ⟨fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k)⟩

/-- Part 5 of the check's facts: each loop's bounds are meaningful, each trip's rectangles aligned and in range. -/
theorem check_5 (i : grid0.Coords) (w : Fin 9 → BitVec 32) {n : ℤ} (hn : n ≤ 18)
    (hx : Affine.IsInt (blocks (i 0).val (start w (firstQuery (i 0).val))) n) :
    k0_chk1_5 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_5
  exact ⟨Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim⟩

/-- The check's facts hold of nonnegative words. -/
theorem check (i : grid0.Coords) (w : Fin 9 → BitVec 32) (hw : ∀ b, 0 ≤ (w b).toInt) :
    k0_chk1 i (w 0) (w 0) (w 1) (w 1) (w 2) (w 2) (w 3) (w 3) (w 4) (w 4) (w 5) (w 5) (w 6) (w 6) (w 7) (w 7) (w 8) (w 8) := by
  have hi : (i 0).val < 36 := (i 0).isLt
  have hs := startZ_bounds (e := fun b => (w b).toInt) (q := 128 * (i 0).val) hw (by omega)
  have hx : Affine.IsInt (blocks (i 0).val (start w (firstQuery (i 0).val))) _ :=
    blocks_isInt hi (start_isInt (fun b => Affine.word (w b)) (firstQuery_isInt hi)) hs.1 hs.2
  have hn := (blocksZ_bounds hi hs.1 hs.2).2
  exact ⟨check_0 i w hn hx, check_1 i w hn hx, check_2 i w hn hx, check_3 i w hn hx, check_4 i w hn hx, check_5 i w hn hx⟩

end Cert.Attn

end
-- ==== Proof.Attn.Run.lean ====
/- One grid point of the attention call: the body's run. -/
module

public import proofs.«01_k».proof.Proof.Gen.Attn.Frame
public import proofs.«01_k».proof.Proof.Gen.Attn.Loops
public import proofs.«01_k».proof.Proof.Attn.Check
public import Idealize.ShloMosaic.Lib.Tactic
public import Idealize.ShloMosaic.Lib.LoopRemainder
public import Idealize.ShloMosaic.Lib.Pointwise.Index
public import Idealize.ShloMosaic.Lib.WholeRead

@[expose] public section

set_option maxRecDepth 65536

noncomputable section

namespace Cert.Attn.Run

open Cert.Attn Cert.Attn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- The words of a point's block of segment boundaries, from the second on. -/
def words (x : Vec F S10 .i32) : Fin 9 → BitVec 32 := fun b => x (ix1 (⟨b.val + 1, by omega⟩ : Fin 10))

/-- A read of one word of a whole block of segment boundaries, from the second on, is that word. -/
theorem readAt_words (M1 : Memref sig .tc .smem S10 .i32) (h1 : M1.IsWhole) (x1 : Vec F S10 .i32) (b : Fin 9)
    (h : ∀ a, (![b.val + 1] : Fin 1 → ℕ) a + S1.size a ≤ S10.size a) (j : S1.Idx) :
    View.readAt (Elt F) M1.view (Rect.unit (s := S10) ![b.val + 1] S1.size h).toLoadRect (h1.unread x1) j = words (F := F) x1 b := by
  have hj : (j 0).val = 0 := by have := (j 0).isLt; change _ < 1 at this; omega
  have hr := h1.readAt_unread (Val := Elt F) x1 (Rect.unit (s := S10) ![b.val + 1] S1.size h).toLoadRect j
  refine Eq.trans hr (congrArg x1 (funext fun a => Fin.ext ?_))
  fin_cases a
  simp [LoadRect.idx, Rect.unit, ix1, hj]

set_option maxHeartbeats 40000000 in
/-- On whole staging memrefs the body runs to its end from any contents of the two scratch arrays, if no word of the
    segment boundaries after the first is negative: every read block is as it was, the result's block and the scratch
    arrays hold something. -/
theorem run (c : Dev nD) (i : grid0.Coords)
    (M1 : Memref sig .tc .smem S10 .i32) (h1 : M1.IsWhole) (M2 : Memref sig .tc .smem S1 .f32) (h2 : M2.IsWhole)
    (M3 : Memref sig .tc .smem S1 .f32) (h3 : M3.IsWhole) (M4 : Memref sig .tc .smem S1 .f32) (h4 : M4.IsWhole)
    (M5 : Memref sig .tc .smem S1 .f32) (h5 : M5.IsWhole) (M6 : Memref sig .tc .vmem S128x4096 .fp8e4m3) (h6 : M6.IsWhole)
    (M7 : Memref sig .tc .vmem S4608x1024 .fp8e4m3) (h7 : M7.IsWhole) (M8 : Memref sig .tc .vmem S4608x1024 .fp8e4m3) (h8 : M8.IsWhole)
    (M9 : Memref sig .tc .vmem S128x4096 .fp8e4m3) (h9 : M9.IsWhole) (M10 : Memref sig .tc .vmem S4608x512 .f32) (h10 : M10.IsWhole)
    (M11 : Memref sig .tc .vmem S128x512 .f32) (h11 : M11.IsWhole)
    (x1 : Vec F S10 .i32) (x2 x3 x4 x5 : Vec F S1 .f32) (x6 : Vec F S128x4096 .fp8e4m3) (x7 x8 : Vec F S4608x1024 .fp8e4m3)
    (x10 : BufTy.Contents (Elt F) M10.view.ty) (x11 : BufTy.Contents (Elt F) M11.view.ty)
    (hx : ∀ b, 0 ≤ (words (F := F) x1 b).toInt)
    (E : Set ℕ) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare x7 ∗ owns (c : Thread nD τ) M8 fullShare x8 ∗ (∃ d, owns (c : Thread nD τ) M9 fullShare d)
        ∗ (M10.view.loc (c : Thread nD τ) ↦[M10.view.set]{fullShare} x10) ∗ (M11.view.loc (c : Thread nD τ) ↦[M11.view.set]{fullShare} x11)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ (∃ d, owns (c : Thread nD τ) M9 fullShare d)
            ∗ (∃ f, M10.view.loc (c : Thread nD τ) ↦[M10.view.set]{fullShare} f) ∗ (∃ f, M11.view.loc (c : Thread nD τ) ↦[M11.view.set]{fullShare} f)) -∗ K ⟨⟩))
      ⊢ wp frame (wpE (defs₀ (F := F)) 𝒱₀ c none) E (cc0_attn i M1 h1 M2 h2 M3 h3 M4 h4 M5 h5 M6 h6 M7 h7 M8 h8 M9 h9 M10 h10 M11 h11) K := by
  have hchk := check i (words (F := F) x1) hx
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, H10, H11, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  sl_unfold [cc0_attn]
  sl_exec
  have e := readAt_words (F := F) M1 h1 x1
  have e0 : run.sl.r c M1 h1 x1 = words (F := F) x1 0 := e 0 _ _
  have e1 : run.sl.r_1 c M1 h1 x1 = words (F := F) x1 1 := e 1 _ _
  have e2 : run.sl.r_2 c M1 h1 x1 = words (F := F) x1 2 := e 2 _ _
  have e3 : run.sl.r_3 c M1 h1 x1 = words (F := F) x1 3 := e 3 _ _
  have e4 : run.sl.r_4 c M1 h1 x1 = words (F := F) x1 4 := e 4 _ _
  have e5 : run.sl.r_5 c M1 h1 x1 = words (F := F) x1 5 := e 5 _ _
  have e6 : run.sl.r_6 c M1 h1 x1 = words (F := F) x1 6 := e 6 _ _
  have e7 : run.sl.r_7 c M1 h1 x1 = words (F := F) x1 7 := e 7 _ _
  have e8 : run.sl.r_8 c M1 h1 x1 = words (F := F) x1 8 := e 8 _ _
  have hchk' : k0_chk1 i (run.sl.r c M1 h1 x1) (run.sl.r c M1 h1 x1) (run.sl.r_1 c M1 h1 x1) (run.sl.r_1 c M1 h1 x1) (run.sl.r_2 c M1 h1 x1) (run.sl.r_2 c M1 h1 x1) (run.sl.r_3 c M1 h1 x1) (run.sl.r_3 c M1 h1 x1) (run.sl.r_4 c M1 h1 x1) (run.sl.r_4 c M1 h1 x1) (run.sl.r_5 c M1 h1 x1) (run.sl.r_5 c M1 h1 x1) (run.sl.r_6 c M1 h1 x1) (run.sl.r_6 c M1 h1 x1) (run.sl.r_7 c M1 h1 x1) (run.sl.r_7 c M1 h1 x1) (run.sl.r_8 c M1 h1 x1) (run.sl.r_8 c M1 h1 x1) := by
    rw [e0, e1, e2, e3, e4, e5, e6, e7, e8]; exact hchk
  clear e0 e1 e2 e3 e4 e5 e6 e7 e8
  sl_exec
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _, _; isplitr; swap; · iexact H9
    ipureintro; rfl
  isplitl [H10]; · iexists _; iexact H10
  iexists _; iexact H11

end Cert.Attn.Run

end
-- ==== Proof.Attn.Frame.lean ====
/- The attention call's frame: the pipeline over the 36 blocks of queries, the body by its run. Nothing is said of what
   the result holds. -/
module

public import proofs.«01_k».proof.Proof.Attn.Run
public import Idealize.ShloMosaic.Lib.Pipeline.Value

@[expose] public section

noncomputable section

namespace Cert.Attn.Run

open Cert.Attn Cert.Attn.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No word of the segment boundaries after the first is negative. -/
def Nonneg : Prop := ∀ (c : Dev nD) (b : Fin 9), 0 ≤ (words (F := F) (m ((c : Thread nD τ).loc main_arg0)) b).toInt

/-- The window of the result, of whose contents nothing is said. -/
def forgets : Fin 9 → Bool := fun w => w.val == 8

/-- The pipeline's proof data: the arrays as the region finds them, each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The one block of the segment boundaries is the whole argument. -/
theorem blk_arg0 (c : Dev nD) (t : Fin cfg0.N) : iblk m c 0 t = m ((c : Thread nD τ).loc main_arg0) := by
  funext y
  exact (congrFun (V_main_arg0 m c) _).trans (congrArg (m ((c : Thread nD τ).loc main_arg0))
    (funext fun a => Fin.ext (win0_0.rect_emb_val_of_index_zero t a (by fin_cases a; rfl) y)))

/-- A whole scratch array, as the body's memref on it sees it. -/
theorem scratch0_eq (c : Dev nD) (f : Buf (Elt F) ((c : Thread nD τ).loc cc0_scratch0)) :
    ((((c : Thread nD τ).loc cc0_scratch0) ↦{fullShare} f) : sProp 𝕄)
      = ((Memref.whole cc0_scratch0).view.loc (c : Thread nD τ) ↦[(Memref.whole cc0_scratch0).view.set]{fullShare} f) := by
  simp only [Memref.view_whole, View.set_whole]
theorem scratch1_eq (c : Dev nD) (f : Buf (Elt F) ((c : Thread nD τ).loc cc0_scratch1)) :
    ((((c : Thread nD τ).loc cc0_scratch1) ↦{fullShare} f) : sProp 𝕄)
      = ((Memref.whole cc0_scratch1).view.loc (c : Thread nD τ) ↦[(Memref.whole cc0_scratch1).view.set]{fullShare} f) := by
  simp only [Memref.view_whole, View.set_whole]

/-- The body at every grid point, by its run. -/
theorem body_obligation (hm : Nonneg m) (c : Dev nD) :
    BodyObligation (dats (F := F) m 0 c) (defs₀ (F := F)) 𝒱₀ () Set.univ forgets := fun t => by
  rw [bigSep_W0, bigSep_W0]
  sl_whnfR [defs₀, Defs.onTc]
  simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7]
  rw [show (dats m 0 c).Φ t.castSucc = iprop(Pipeline.scopedRest spec0 c ∗ ∃ r, prngReg c r) from rfl, scopedRest0_eq]
  simp only [scratch0_eq, scratch1_eq]
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c _ _ _ _ _ _ _ _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) f10 f11
    (by rw [blk_arg0]; exact hm c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H10]; · iexact H10
  isplitl [H11]; · iexact H11
  iintro ⟨H0, H1, H2, H3, H4, H5, H6, H7, ⟨%e8, H8⟩, ⟨%e10, H10⟩, ⟨%e11, H11⟩⟩
  isplitl [H10 H11 Hr]
  · isplitl [H10 H11]
    · isplitl [H10]; · iexists _; iexact H10
      iexists _; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option backward.isDefEq.respectTransparency.types false in
/-- Every fair execution of the call ends, every argument array as it was and every semaphore counter at zero, if no word
    of the segment boundaries after the first is negative. -/
theorem run_main (hm : Nonneg m) : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m hm c).loose) (hshare := fun c => (dats m 0 c).share_full fun _ => rfl)
    (howed := fun _ _ => rfl) (V := V m) (hmain := hmain m 𝒱₀) (hA := fun _ _ => rfl) (hΦ := fun _ _ => rfl)

theorem frame (hm : Nonneg m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h' => ⟨fun c => (fun (h : Pipeline.RDat.FramePost cfg0 (fun c => (dats m 0 c).toRForget forgets) (V m) r) => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c))⟩) h'.1, h'.2⟩) (run_main m ρ hm)

end Cert.Attn.Run

end
-- ==== Proof.AttnIdeal.Check.lean ====
/- The attention's check: of nonnegative boundaries its loops' bounds are meaningful and its rectangles in range. -/
module

public import proofs.«01_k».proof.Proof.Gen.AttnIdeal
public import proofs.«01_k».proof.Proof.Attn.Words

@[expose] public section

set_option maxRecDepth 65536

namespace Cert.AttnIdeal

open Idealize.ShloMosaic Cert.Attn.Words

section
variable {i : ℕ} {x : BitVec 32} {n : ℤ}

/-- A trip of the main loop is one of at most 18. -/
theorem trip_lt (hx : Affine.IsInt x n) (hn : n ≤ 18)
    (k : Fin (Scf.trips 0#32 (Scalar.addi 0#32 (Scalar.muli (Scalar.divsi (Scalar.subi x 0#32) 1#32) 1#32)) 1#32)) : k.val < 18 := by
  have h := k.isLt
  have h' : _ = n.toNat := trips_main hx
  omega

/-- A block of keys of any head lies within the keys. -/
theorem keys_inb {k c : ℕ} (hi : i < 36) (hk : k < 18) (hc : c + 128 ≤ 1024) :
    ∀ a, (![(base i k).toNat, c] : Fin 2 → ℕ) a + S256x128.size a ≤ S4608x1024.size a := by
  have hb := base_toNat hi hk
  refine Fin.forall_fin_two.2 ⟨?_, ?_⟩
  · show (base i k).toNat + 256 ≤ 4608
    omega
  · show c + 128 ≤ 1024
    omega

/-- A block of scores lies within the scratch. -/
theorem scores_inb {k : ℕ} (hk : k < 18) :
    ∀ a, (![(row k).toNat, 0] : Fin 2 → ℕ) a + S256x512.size a ≤ S4608x512.size a := by
  have hb := row_toNat hk
  refine Fin.forall_fin_two.2 ⟨?_, ?_⟩
  · show (row k).toNat + 256 ≤ 4608
    omega
  · show 0 + 512 ≤ 512
    omega

end

/-- Part 0 of the check's facts: each loop's bounds are meaningful, each trip's rectangles aligned and in range. -/
theorem check_0 (i : grid0.Coords) (w : Fin 9 → BitVec 32) {n : ℤ} (hn : n ≤ 18)
    (hx : Affine.IsInt (blocks (i 0).val (start w (firstQuery (i 0).val))) n) :
    k0_chk1_0 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_0
  exact ⟨ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim⟩

/-- Part 1 of the check's facts: each loop's bounds are meaningful, each trip's rectangles aligned and in range. -/
theorem check_1 (i : grid0.Coords) (w : Fin 9 → BitVec 32) {n : ℤ} (hn : n ≤ 18)
    (hx : Affine.IsInt (blocks (i 0).val (start w (firstQuery (i 0).val))) n) :
    k0_chk1_1 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_1
  exact ⟨fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim⟩

/-- Part 2 of the check's facts: each loop's bounds are meaningful, each trip's rectangles aligned and in range. -/
theorem check_2 (i : grid0.Coords) (w : Fin 9 → BitVec 32) {n : ℤ} (hn : n ≤ 18)
    (hx : Affine.IsInt (blocks (i 0).val (start w (firstQuery (i 0).val))) n) :
    k0_chk1_2 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_2
  exact ⟨fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim⟩

/-- Part 3 of the check's facts: each loop's bounds are meaningful, each trip's rectangles aligned and in range. -/
theorem check_3 (i : grid0.Coords) (w : Fin 9 → BitVec 32) {n : ℤ} (hn : n ≤ 18)
    (hx : Affine.IsInt (blocks (i 0).val (start w (firstQuery (i 0).val))) n) :
    k0_chk1_3 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_3
  exact ⟨fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _⟩

/-- Part 4 of the check's facts: each loop's bounds are meaningful, each trip's rectangles aligned and in range. -/
theorem check_4 (i : grid0.Coords) (w : Fin 9 → BitVec 32) {n : ℤ} (hn : n ≤ 18)
    (hx : Affine.IsInt (blocks (i 0).val (start w (firstQuery (i 0).val))) n) :
    k0_chk1_4 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_4
  exact ⟨fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => base_dvd hi (trip_lt hx hn k),
    fun k => keys_inb hi (trip_lt hx hn k) (by decide),
    fun k => base_dvd hi (trip_lt hx hn k),
    fun k => row_dvd (trip_lt hx hn k),
    fun k => scores_inb (trip_lt hx hn k)⟩

/-- Part 5 of the check's facts: each loop's bounds are meaningful, each trip's rectangles aligned and in range. -/
theorem check_5 (i : grid0.Coords) (w : Fin 9 → BitVec 32) {n : ℤ} (hn : n ≤ 18)
    (hx : Affine.IsInt (blocks (i 0).val (start w (firstQuery (i 0).val))) n) :
    k0_chk1_5 i (w 0) (w 0) (w 1) (w 1) (w 2) (w 2) (w 3) (w 3) (w 4) (w 4) (w 5) (w 5) (w 6) (w 6) (w 7) (w 7) (w 8) (w 8) := by
  have hi : (i 0).val < 36 := (i 0).isLt
  unfold k0_chk1_5
  exact ⟨Scf.rem_ok _ _,
    fun k => (Scf.rem_no_trip _ _ k).elim,
    fun k => (Scf.rem_no_trip _ _ k).elim,
    fun k => (Scf.rem_no_trip _ _ k).elim,
    fun k => (Scf.rem_no_trip _ _ k).elim,
    fun k => (Scf.rem_no_trip _ _ k).elim,
    ok_main hx hn,
    fun k => row_dvd (trip_lt hx hn k),
    fun k => scores_inb (trip_lt hx hn k),
    fun k => base_dvd hi (trip_lt hx hn k),
    fun k => keys_inb hi (trip_lt hx hn k) (by decide),
    Scf.rem_ok _ _,
    fun k => (Scf.rem_no_trip _ _ k).elim,
    fun k => (Scf.rem_no_trip _ _ k).elim,
    fun k => (Scf.rem_no_trip _ _ k).elim,
    fun k => (Scf.rem_no_trip _ _ k).elim⟩

/-- The check's facts hold of nonnegative words. -/
theorem check (i : grid0.Coords) (w : Fin 9 → BitVec 32) (hw : ∀ b, 0 ≤ (w b).toInt) :
    k0_chk1 i (w 0) (w 0) (w 1) (w 1) (w 2) (w 2) (w 3) (w 3) (w 4) (w 4) (w 5) (w 5) (w 6) (w 6) (w 7) (w 7) (w 8) (w 8) := by
  have hi : (i 0).val < 36 := (i 0).isLt
  have hs := startZ_bounds (e := fun b => (w b).toInt) (q := 128 * (i 0).val) hw (by omega)
  have hx : Affine.IsInt (blocks (i 0).val (start w (firstQuery (i 0).val))) _ :=
    blocks_isInt hi (start_isInt (fun b => Affine.word (w b)) (firstQuery_isInt hi)) hs.1 hs.2
  have hn := (blocksZ_bounds hi hs.1 hs.2).2
  exact ⟨check_0 i w hn hx, check_1 i w hn hx, check_2 i w hn hx, check_3 i w hn hx, check_4 i w hn hx, check_5 i w hn hx⟩

end Cert.AttnIdeal

end
-- ==== Proof.AttnIdeal.Run.lean ====
/- One grid point of the attention call idealized: the body's run. -/
module

public import proofs.«01_k».proof.Proof.Gen.AttnIdeal.Frame
public import proofs.«01_k».proof.Proof.Gen.AttnIdeal.Loops
public import proofs.«01_k».proof.Proof.AttnIdeal.Check
public import Idealize.ShloMosaic.Lib.Tactic
public import Idealize.ShloMosaic.Lib.LoopRemainder
public import Idealize.ShloMosaic.Lib.Pointwise.Index
public import Idealize.ShloMosaic.Lib.WholeRead

@[expose] public section

set_option maxRecDepth 65536

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- The words of a point's block of segment boundaries, from the second on. -/
def words (x : Vec F S10 .i32) : Fin 9 → BitVec 32 := fun b => x (ix1 (⟨b.val + 1, by omega⟩ : Fin 10))

/-- A read of one word of a whole block of segment boundaries, from the second on, is that word. -/
theorem readAt_words (M1 : Memref sig .tc .smem S10 .i32) (h1 : M1.IsWhole) (x1 : Vec F S10 .i32) (b : Fin 9)
    (h : ∀ a, (![b.val + 1] : Fin 1 → ℕ) a + S1.size a ≤ S10.size a) (j : S1.Idx) :
    View.readAt (Elt F) M1.view (Rect.unit (s := S10) ![b.val + 1] S1.size h).toLoadRect (h1.unread x1) j = words (F := F) x1 b := by
  have hj : (j 0).val = 0 := by have := (j 0).isLt; change _ < 1 at this; omega
  have hr := h1.readAt_unread (Val := Elt F) x1 (Rect.unit (s := S10) ![b.val + 1] S1.size h).toLoadRect j
  refine Eq.trans hr (congrArg x1 (funext fun a => Fin.ext ?_))
  fin_cases a
  simp [LoadRect.idx, Rect.unit, ix1, hj]

set_option maxHeartbeats 40000000 in
/-- On whole staging memrefs the body runs to its end from any contents of the two scratch arrays, if no word of the
    segment boundaries after the first is negative: every read block is as it was, the result's block and the scratch
    arrays hold something. -/
theorem run (c : Dev nD) (i : grid0.Coords)
    (M1 : Memref sig .tc .smem S10 .i32) (h1 : M1.IsWhole) (M2 : Memref sig .tc .smem S1 .f32) (h2 : M2.IsWhole)
    (M3 : Memref sig .tc .smem S1 .f32) (h3 : M3.IsWhole) (M4 : Memref sig .tc .smem S1 .f32) (h4 : M4.IsWhole)
    (M5 : Memref sig .tc .smem S1 .f32) (h5 : M5.IsWhole) (M6 : Memref sig .tc .vmem S128x4096 .fp8e4m3) (h6 : M6.IsWhole)
    (M7 : Memref sig .tc .vmem S4608x1024 .fp8e4m3) (h7 : M7.IsWhole) (M8 : Memref sig .tc .vmem S4608x1024 .fp8e4m3) (h8 : M8.IsWhole)
    (M9 : Memref sig .tc .vmem S128x4096 .fp8e4m3) (h9 : M9.IsWhole) (M10 : Memref sig .tc .vmem S4608x512 .f32) (h10 : M10.IsWhole)
    (M11 : Memref sig .tc .vmem S128x512 .f32) (h11 : M11.IsWhole)
    (x1 : Vec F S10 .i32) (x2 x3 x4 x5 : Vec F S1 .f32) (x6 : Vec F S128x4096 .fp8e4m3) (x7 x8 : Vec F S4608x1024 .fp8e4m3)
    (x10 : BufTy.Contents (Elt F) M10.view.ty) (x11 : BufTy.Contents (Elt F) M11.view.ty)
    (hx : ∀ b, 0 ≤ (words (F := F) x1 b).toInt)
    (E : Set ℕ) (K : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5 ∗ owns (c : Thread nD τ) M6 fullShare x6
        ∗ owns (c : Thread nD τ) M7 fullShare x7 ∗ owns (c : Thread nD τ) M8 fullShare x8 ∗ (∃ d, owns (c : Thread nD τ) M9 fullShare d)
        ∗ (M10.view.loc (c : Thread nD τ) ↦[M10.view.set]{fullShare} x10) ∗ (M11.view.loc (c : Thread nD τ) ↦[M11.view.set]{fullShare} x11)
        ∗ (iprop(owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare x5 ∗ owns (c : Thread nD τ) M6 fullShare x6
            ∗ owns (c : Thread nD τ) M7 fullShare x7 ∗ owns (c : Thread nD τ) M8 fullShare x8 ∗ (∃ d, owns (c : Thread nD τ) M9 fullShare d)
            ∗ (∃ f, M10.view.loc (c : Thread nD τ) ↦[M10.view.set]{fullShare} f) ∗ (∃ f, M11.view.loc (c : Thread nD τ) ↦[M11.view.set]{fullShare} f)) -∗ K ⟨⟩))
      ⊢ wp frame (wpE (defs₀ (F := F)) 𝒱₀ c none) E (cc0_attn i M1 h1 M2 h2 M3 h3 M4 h4 M5 h5 M6 h6 M7 h7 M8 h8 M9 h9 M10 h10 M11 h11) K := by
  have hchk := check i (words (F := F) x1) hx
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, H10, H11, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  sl_unfold [cc0_attn]
  sl_exec
  have e := readAt_words (F := F) M1 h1 x1
  have e0 : run.sl.r c M1 h1 x1 = words (F := F) x1 0 := e 0 _ _
  have e1 : run.sl.r_1 c M1 h1 x1 = words (F := F) x1 1 := e 1 _ _
  have e2 : run.sl.r_2 c M1 h1 x1 = words (F := F) x1 2 := e 2 _ _
  have e3 : run.sl.r_3 c M1 h1 x1 = words (F := F) x1 3 := e 3 _ _
  have e4 : run.sl.r_4 c M1 h1 x1 = words (F := F) x1 4 := e 4 _ _
  have e5 : run.sl.r_5 c M1 h1 x1 = words (F := F) x1 5 := e 5 _ _
  have e6 : run.sl.r_6 c M1 h1 x1 = words (F := F) x1 6 := e 6 _ _
  have e7 : run.sl.r_7 c M1 h1 x1 = words (F := F) x1 7 := e 7 _ _
  have e8 : run.sl.r_8 c M1 h1 x1 = words (F := F) x1 8 := e 8 _ _
  have hchk' : k0_chk1 i (run.sl.r c M1 h1 x1) (run.sl.r c M1 h1 x1) (run.sl.r_1 c M1 h1 x1) (run.sl.r_1 c M1 h1 x1) (run.sl.r_2 c M1 h1 x1) (run.sl.r_2 c M1 h1 x1) (run.sl.r_3 c M1 h1 x1) (run.sl.r_3 c M1 h1 x1) (run.sl.r_4 c M1 h1 x1) (run.sl.r_4 c M1 h1 x1) (run.sl.r_5 c M1 h1 x1) (run.sl.r_5 c M1 h1 x1) (run.sl.r_6 c M1 h1 x1) (run.sl.r_6 c M1 h1 x1) (run.sl.r_7 c M1 h1 x1) (run.sl.r_7 c M1 h1 x1) (run.sl.r_8 c M1 h1 x1) (run.sl.r_8 c M1 h1 x1) := by
    rw [e0, e1, e2, e3, e4, e5, e6, e7, e8]; exact hchk
  clear e0 e1 e2 e3 e4 e5 e6 e7 e8
  sl_exec
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _, _; isplitr; swap; · iexact H9
    ipureintro; rfl
  isplitl [H10]; · iexists _; iexact H10
  iexists _; iexact H11

end Cert.AttnIdeal.Run

end
-- ==== Proof.AttnIdeal.Frame.lean ====
/- The attention call idealized's frame: the pipeline over the 36 blocks of queries, the body by its run. Nothing is said of what
   the result holds. -/
module

public import proofs.«01_k».proof.Proof.AttnIdeal.Run
public import Idealize.ShloMosaic.Lib.Pipeline.Value

@[expose] public section

noncomputable section

namespace Cert.AttnIdeal.Run

open Cert.AttnIdeal Cert.AttnIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No word of the segment boundaries after the first is negative. -/
def Nonneg : Prop := ∀ (c : Dev nD) (b : Fin 9), 0 ≤ (words (F := F) (m ((c : Thread nD τ).loc main_arg0)) b).toInt

/-- The window of the result, of whose contents nothing is said. -/
def forgets : Fin 9 → Bool := fun w => w.val == 8

/-- The pipeline's proof data: the arrays as the region finds them, each input's buffer at its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The one block of the segment boundaries is the whole argument. -/
theorem blk_arg0 (c : Dev nD) (t : Fin cfg0.N) : iblk m c 0 t = m ((c : Thread nD τ).loc main_arg0) := by
  funext y
  exact (congrFun (V_main_arg0 m c) _).trans (congrArg (m ((c : Thread nD τ).loc main_arg0))
    (funext fun a => Fin.ext (win0_0.rect_emb_val_of_index_zero t a (by fin_cases a; rfl) y)))

/-- A whole scratch array, as the body's memref on it sees it. -/
theorem scratch0_eq (c : Dev nD) (f : Buf (Elt F) ((c : Thread nD τ).loc cc0_scratch0)) :
    ((((c : Thread nD τ).loc cc0_scratch0) ↦{fullShare} f) : sProp 𝕄)
      = ((Memref.whole cc0_scratch0).view.loc (c : Thread nD τ) ↦[(Memref.whole cc0_scratch0).view.set]{fullShare} f) := by
  simp only [Memref.view_whole, View.set_whole]
theorem scratch1_eq (c : Dev nD) (f : Buf (Elt F) ((c : Thread nD τ).loc cc0_scratch1)) :
    ((((c : Thread nD τ).loc cc0_scratch1) ↦{fullShare} f) : sProp 𝕄)
      = ((Memref.whole cc0_scratch1).view.loc (c : Thread nD τ) ↦[(Memref.whole cc0_scratch1).view.set]{fullShare} f) := by
  simp only [Memref.view_whole, View.set_whole]

/-- The body at every grid point, by its run. -/
theorem body_obligation (hm : Nonneg m) (c : Dev nD) :
    BodyObligation (dats (F := F) m 0 c) (defs₀ (F := F)) 𝒱₀ () Set.univ forgets := fun t => by
  rw [bigSep_W0, bigSep_W0]
  sl_whnfR [defs₀, Defs.onTc]
  simp only [show forgets 0 = false from rfl, show forgets 1 = false from rfl, show forgets 2 = false from rfl, show forgets 3 = false from rfl, show forgets 4 = false from rfl, show forgets 5 = false from rfl, show forgets 6 = false from rfl, show forgets 7 = false from rfl, show forgets 8 = true from rfl, before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7]
  rw [show (dats m 0 c).Φ t.castSucc = iprop(Pipeline.scopedRest spec0 c ∗ ∃ r, prngReg c r) from rfl, scopedRest0_eq]
  simp only [scratch0_eq, scratch1_eq]
  iintro ⟨⟨⟨⟨%f10, H10⟩, ⟨%f11, H11⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c _ _ _ _ _ _ _ _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) f10 f11
    (by rw [blk_arg0]; exact hm c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H10]; · iexact H10
  isplitl [H11]; · iexact H11
  iintro ⟨H0, H1, H2, H3, H4, H5, H6, H7, ⟨%e8, H8⟩, ⟨%e10, H10⟩, ⟨%e11, H11⟩⟩
  isplitl [H10 H11 Hr]
  · isplitl [H10 H11]
    · isplitl [H10]; · iexists _; iexact H10
      iexists _; iexact H11
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option backward.isDefEq.respectTransparency.types false in
/-- Every fair execution of the call ends, every argument array as it was and every semaphore counter at zero, if no word
    of the segment boundaries after the first is negative. -/
theorem run_main (hm : Nonneg m) : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ 𝒱₀ forgets m ρ main
    (hbody := fun c => (body_obligation m hm c).loose) (hshare := fun c => (dats m 0 c).share_full fun _ => rfl)
    (howed := fun _ _ => rfl) (V := V m) (hmain := hmain m 𝒱₀) (hA := fun _ _ => rfl) (hΦ := fun _ _ => rfl)

theorem frame (hm : Nonneg m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h' => ⟨fun c => (fun (h : Pipeline.RDat.FramePost cfg0 (fun c => (dats m 0 c).toRForget forgets) (V m) r) => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c))⟩) h'.1, h'.2⟩) (run_main m ρ hm)

end Cert.AttnIdeal.Run

end
-- ==== Proof.Common.Product.lean ====
/- Matrix products over the extended reals, read at one element. -/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Common

open Idealize.ShloMosaic Idealize.ShloMosaic.ValueIdx
open scoped BigOperators

/-- The offsets `![0, 0]` are zero on both axes. -/
theorem off2 : (![0, 0] : Fin 2 → Nat) = fun _ => 0 := funext fun a => by fin_cases a <;> rfl
/-- The offset `![0]` is zero on its axis. -/
theorem off1 : (![0] : Fin 1 → Nat) = fun _ => 0 := funext fun a => by fin_cases a <;> rfl

/-- A one-element array has one index. -/
theorem idx_one (i : (⟨1, ![1]⟩ : Shape).Idx) : i = ix1 0 := by
  rw [eq_ix1 i]; exact congrArg ix1 (Subsingleton.elim (α := Fin 1) _ _)

/-- An index of a one-axis array is known from its coordinate. -/
theorem idx_axis {n : ℕ} (i : (⟨1, ![n]⟩ : Shape).Idx) (a : Fin n) (h : (i 0 : ℕ) = a) : i = ix1 a := by
  rw [eq_ix1 i]; exact congrArg ix1 (Fin.ext h)

/-- The element `(r, c)` of the product of an `M × K` array with a `K × N` array: the sum over `k` of
    `a (r, k) * b (k, c)`. -/
def dot {M K N : ℕ} (a : (⟨2, ![M, K]⟩ : Shape).Idx → EReal) (b : (⟨2, ![K, N]⟩ : Shape).Idx → EReal)
    (r : Fin M) (c : Fin N) : EReal := ∑ k : Fin K, a (ix2 r k) * b (ix2 k c)

/-- A matrix product accumulated onto the zero block is `dot`. -/
theorem matmul_zero {M K N : ℕ} {φ₁ φ₂ : FTy} (prec : Option ContractPrecision)
    (a : FVec Ideal ⟨2, ![M, K]⟩ φ₁) (b : FVec Ideal ⟨2, ![K, N]⟩ φ₂) (r : Fin M) (c : Fin N) :
    matmul (DotDims.plain M K N) prec a b (constant (F := Ideal) ⟨2, ![M, N]⟩ .f32 0x00000000#32) (ix2 r c) = dot a b r c := by
  show FloatOps.matmul (DotDims.plain M K N) prec a b _ (ix2 r c) = _
  rw [Ideal.matmul_plain_apply, constant_apply, Ideal.ofBits_zero_f32, zero_add]
  rfl

end Cert.Common

end
-- ==== Proof.Common.Norm.lean ====
/- The static FP8 quantiser and the root-mean-square norm over the extended reals. -/
module

public import proofs.«01_k».proof.Proof.Common.Product
public import Idealize.ShloMosaic.Lib.ValueLayoutCasts
public import Idealize.ShloMosaic.Lib.ValueLayout

@[expose] public section

noncomputable section

namespace Cert.Common

open Idealize.ShloMosaic Idealize.ShloMosaic.ValueIdx
open scoped BigOperators

/-- The FP8 code of a value at a scale: divided by the scale and clipped to the range of the format (rounding is exact
    over the extended reals). -/
def code (v s : EReal) : EReal :=
  min (Ideal.ofBits .f32 0x43E00000#32) (max (Ideal.ofBits .f32 0xC3E00000#32) (Ideal.div v s))

/-- The mean square of a row of 5120 elements, with the norm's epsilon added. -/
def meanSq (f : Fin 5120 → EReal) : EReal :=
  Ideal.div (∑ k, f k * f k) (Ideal.ofBits .f32 0x45A00000#32) + Ideal.ofBits .f32 0x3727C5AC#32

/-- Element `q` of a row's root-mean-square norm with weights `w`. -/
def normed (f w : Fin 5120 → EReal) (q : Fin 5120) : EReal :=
  f q * Ideal.div 1 (Ideal.sqrt (meanSq f)) * w q

/-- Equal rows and weights have equal norms. -/
theorem normed_congr {f f' w w' : Fin 5120 → EReal} {q q' : Fin 5120} (hf : ∀ k, f k = f' k) (hw : ∀ k, w k = w' k) (hq : q = q') :
    normed f w q = normed f' w' q' := by
  rw [funext hf, funext hw, hq]

/-- A vector reshaped to one row, read at an element. -/
theorem row_of_vector {α : Type} {n : ℕ} (x : (⟨1, ![n]⟩ : Shape).Idx → α) (h : (⟨1, ![n]⟩ : Shape).ShapeCasts ⟨2, ![1, n]⟩)
    (i : (⟨2, ![1, n]⟩ : Shape).Idx) (k : Fin n) (hk : (i 1 : ℕ) = k.val) : shapeCast ⟨2, ![1, n]⟩ x h i = x (ix1 k) := by
  obtain ⟨u, j, rfl⟩ : ∃ (u : Fin 1) (j : Fin n), i = ix2 u j := ⟨i 0, i 1, eq_ix2 i⟩
  obtain rfl : j = k := Fin.ext hk
  exact shapeCast_a_1a_apply x h u j

/-- A square is not negative. -/
theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- The value of the word of 5120. -/
theorem ofBits_5120 : Ideal.ofBits .f32 0x45A00000#32 = ((5120 : ℝ) : EReal) := by
  simp [Ideal.ofBits, Ideal.ieee]
  rw [← EReal.coe_mul]
  norm_num

/-- The value of the word of one. -/
theorem ofBits_one : Ideal.ofBits .f32 0x3F800000#32 = 1 := by
  simp [Ideal.ofBits, Ideal.ieee]
  rw [← EReal.coe_mul]
  norm_num

/-- The norm's epsilon is positive. -/
theorem ofBits_eps : 0 < Ideal.ofBits .f32 0x3727C5AC#32 := by
  simp [Ideal.ofBits, Ideal.ieee]
  rw [← EReal.coe_mul]
  exact_mod_cast (by norm_num : (0 : ℝ) < 10995116 * (2 ^ 40)⁻¹)

/-- The mean square with epsilon is positive. -/
theorem meanSq_pos (f : Fin 5120 → EReal) : 0 < meanSq f := by
  have h : 0 ≤ Ideal.div (∑ k, f k * f k) (Ideal.ofBits .f32 0x45A00000#32) := by
    rw [ofBits_5120, Ideal.div_coe (by norm_num)]
    exact mul_nonneg (Finset.sum_nonneg fun k _ => sq_nonneg' (f k)) (by exact_mod_cast (by norm_num : (0 : ℝ) ≤ 1 / 5120))
  exact lt_of_lt_of_le ofBits_eps (le_add_of_nonneg_left h)

/-- The square root of a positive value is not zero. -/
theorem sqrt_ne_zero {x : EReal} (h : 0 < x) : Ideal.sqrt x ≠ 0 := by
  induction x with
  | bot => exact absurd h (by simp)
  | top => simp
  | coe r =>
    have hr : 0 < r := by exact_mod_cast h
    rw [Ideal.sqrt_coe, if_neg (not_lt.mpr hr.le)]
    exact_mod_cast (Real.sqrt_pos.mpr hr).ne'

/-- Dividing by the root is multiplying by its reciprocal. -/
theorem div_sqrt (v : EReal) {x : EReal} (h : 0 < x) : Ideal.div v (Ideal.sqrt x) = v * Ideal.div 1 (Ideal.sqrt x) := by
  show (if _ then _ else _) = v * (if _ then _ else _)
  rw [if_neg (sqrt_ne_zero h), if_neg (sqrt_ne_zero h), one_mul]

section Vectors

variable {n : ℕ}

/-- The mean square as the programs compute it, read at a row. -/
theorem meanSq_apply (v : FVec Ideal ⟨2, ![n, 5120]⟩ .f32) (hr : (⟨2, ![n, 5120]⟩ : Shape).Reduces [1] ⟨1, ![n]⟩) (hf hz)
    (hc : (⟨1, ![n]⟩ : Shape).ShapeCasts ⟨2, ![n, 1]⟩) (r : Fin n) (u : Fin 1) :
    addf (divf (shapeCast ⟨2, ![n, 1]⟩ (multiReduction .add [1] ⟨1, ![n]⟩ (mulf v v) 0x00000000#32 hr hf hz) hc)
        (broadcast ⟨2, ![n, 1]⟩ (Scalar.ofBits (F := Ideal) .f32 0x45A00000#32)))
      (broadcast ⟨2, ![n, 1]⟩ (Scalar.ofBits (F := Ideal) .f32 0x3727C5AC#32)) (ix2 r u) = meanSq fun k => v (ix2 r k) := by
  have e : shapeCast ⟨2, ![n, 1]⟩ (multiReduction .add [1] ⟨1, ![n]⟩ (mulf v v) 0x00000000#32 hr hf hz) hc (ix2 r u)
      = ∑ k : Fin 5120, v (ix2 r k) * v (ix2 r k) := by
    rw [shapeCast_a_a1_apply]
    refine (Ideal.multiReduction_add_single (mulf v v) _ hr hf hz (ix1 r)).trans (Finset.sum_congr rfl fun k _ => ?_)
    have : hr.lift (ix1 r) k = ix2 r k := Shape.idx_ext₂ rfl rfl
    exact congrArg (fun i => v i * v i) this
  exact congrArg (fun z => Ideal.div z _ + _) e

/-- A column of values spread over the columns of an array, read at an element. -/
theorem column_apply {α : Type} (x : (⟨2, ![n, 1]⟩ : Shape).Idx → α) (h : (⟨2, ![n, 1]⟩ : Shape).Broadcasts ⟨2, ![n, 5120]⟩)
    (r : Fin n) (q : Fin 5120) : broadcastTo ⟨2, ![n, 5120]⟩ x h (ix2 r q) = x (ix2 r 0) := by
  refine broadcastTo_apply x h _ _ fun a => ?_
  match a with
  | ⟨0, _⟩ =>
    show r.val = if n = 1 then 0 else r.val
    split
    · omega
    · rfl
  | ⟨1, _⟩ => exact (if_pos rfl).symm

/-- The codes of the normed rows as the kernels compute them (multiplying by the reciprocal root), read at an element. -/
theorem normed_kernel_apply (v : FVec Ideal ⟨2, ![n, 5120]⟩ .f32) (w : FVec Ideal ⟨2, ![1, 5120]⟩ .f32) (s : EReal)
    (hr : (⟨2, ![n, 5120]⟩ : Shape).Reduces [1] ⟨1, ![n]⟩) (hf hz) (hc : (⟨1, ![n]⟩ : Shape).ShapeCasts ⟨2, ![n, 1]⟩)
    (hb : (⟨2, ![n, 1]⟩ : Shape).Broadcasts ⟨2, ![n, 5120]⟩) (hw : (⟨2, ![1, 5120]⟩ : Shape).Broadcasts ⟨2, ![n, 5120]⟩)
    (r : Fin n) (q : Fin 5120) :
    minimumf (broadcast ⟨2, ![n, 5120]⟩ (Scalar.ofBits (F := Ideal) .f32 0x43E00000#32))
      (maximumf (broadcast ⟨2, ![n, 5120]⟩ (Scalar.ofBits (F := Ideal) .f32 0xC3E00000#32))
        (divf (mulf (mulf v (broadcastTo ⟨2, ![n, 5120]⟩
            (divf (broadcast ⟨2, ![n, 1]⟩ (Scalar.ofBits (F := Ideal) .f32 0x3F800000#32))
              (sqrt (addf (divf (shapeCast ⟨2, ![n, 1]⟩ (multiReduction .add [1] ⟨1, ![n]⟩ (mulf v v) 0x00000000#32 hr hf hz) hc)
                (broadcast ⟨2, ![n, 1]⟩ (Scalar.ofBits (F := Ideal) .f32 0x45A00000#32)))
                (broadcast ⟨2, ![n, 1]⟩ (Scalar.ofBits (F := Ideal) .f32 0x3727C5AC#32))))) hb))
            (broadcastTo ⟨2, ![n, 5120]⟩ w hw))
          (broadcast ⟨2, ![n, 5120]⟩ s))) (ix2 r q)
      = code (normed (fun k => v (ix2 r k)) (fun k => w (ix2 0 k)) q) s := by
  refine congrArg (fun z => code z s) (congrArg₂ (fun a b => v (ix2 r q) * a * b) ?_ (broadcastTo_1b_ab_apply w hw r q))
  refine (column_apply _ hb r q).trans ?_
  refine congrArg₂ (fun a b => Ideal.div a (Ideal.sqrt b)) ofBits_one (meanSq_apply v hr hf hz hc r 0)

/-- The codes of the normed rows as the references compute them (dividing by the root), read at an element. -/
theorem normed_reference_apply (v : FVec Ideal ⟨2, ![n, 5120]⟩ .f32) (w : FVec Ideal ⟨2, ![1, 5120]⟩ .f32) (s : EReal)
    (hr : (⟨2, ![n, 5120]⟩ : Shape).Reduces [1] ⟨1, ![n]⟩) (hf hz) (hc : (⟨1, ![n]⟩ : Shape).ShapeCasts ⟨2, ![n, 1]⟩)
    (hb : (⟨2, ![n, 1]⟩ : Shape).Broadcasts ⟨2, ![n, 5120]⟩) (hw : (⟨2, ![1, 5120]⟩ : Shape).Broadcasts ⟨2, ![n, 5120]⟩)
    (r : Fin n) (q : Fin 5120) :
    minimumf (broadcast ⟨2, ![n, 5120]⟩ (Scalar.ofBits (F := Ideal) .f32 0x43E00000#32))
      (maximumf (broadcast ⟨2, ![n, 5120]⟩ (Scalar.ofBits (F := Ideal) .f32 0xC3E00000#32))
        (divf (mulf (divf v (broadcastTo ⟨2, ![n, 5120]⟩
              (sqrt (addf (divf (shapeCast ⟨2, ![n, 1]⟩ (multiReduction .add [1] ⟨1, ![n]⟩ (mulf v v) 0x00000000#32 hr hf hz) hc)
                (broadcast ⟨2, ![n, 1]⟩ (Scalar.ofBits (F := Ideal) .f32 0x45A00000#32)))
                (broadcast ⟨2, ![n, 1]⟩ (Scalar.ofBits (F := Ideal) .f32 0x3727C5AC#32)))) hb))
            (broadcastTo ⟨2, ![n, 5120]⟩ w hw))
          (broadcast ⟨2, ![n, 5120]⟩ s))) (ix2 r q)
      = code (normed (fun k => v (ix2 r k)) (fun k => w (ix2 0 k)) q) s := by
  refine congrArg (fun z => code z s) (congrArg₂ (· * ·) ?_ (broadcastTo_1b_ab_apply w hw r q))
  refine (congrArg (Ideal.div (v (ix2 r q))) ((column_apply _ hb r q).trans (congrArg Ideal.sqrt (meanSq_apply v hr hf hz hc r 0)))).trans ?_
  exact div_sqrt _ (meanSq_pos _)

end Vectors

end Cert.Common

end
-- ==== Proof.GateUp.Spec.lean ====
/- The gate and up projections as a formula, shared by the kernel and the reference. -/
module

public import proofs.«01_k».proof.Proof.Common.Norm

@[expose] public section

noncomputable section

namespace Cert.GateUp

open Idealize.ShloMosaic Idealize.ShloMosaic.ValueIdx Cert.Common

/-- The code of `silu(gate) * up` at scale `s`. -/
def act (gate up s : EReal) : EReal :=
  code (gate * FloatOps.logistic (F := Ideal) (φ := .f32) gate * up) s

/-- Equal arguments have equal codes. -/
theorem act_congr {g g' u u' s s' : EReal} (hg : g = g') (hu : u = u') (hs : s = s') : act g u s = act g' u' s' := by
  subst hg hu hs; rfl

/-- One column block: every row's code from the rows `x` and one column block of the gate and of the up weights. -/
def block (v0 v1 v3 v4 sh : EReal) (x : (⟨2, ![4608, 5120]⟩ : Shape).Idx → EReal) (wg wu : (⟨2, ![5120, 256]⟩ : Shape).Idx → EReal)
    (y : (⟨2, ![4608, 256]⟩ : Shape).Idx) : EReal :=
  act (dot x wg (y 0) (y 1) * (v0 * v1)) (dot x wu (y 0) (y 1) * (v3 * v4)) sh

/-- The column of the up projection that goes with column `q` of the gate projection. -/
def upCol (q : Fin 14336) : Fin 28672 := ⟨14336 + q.val, by omega⟩
/-- Column `q` of the gate projection among all columns of the weights. -/
def gateCol (q : Fin 14336) : Fin 28672 := ⟨q.val, by omega⟩

/-- Row `r`, column `q` of the result: the code of `silu(gate) * up`, each a scaled product with the weights. -/
def gateUp (x : (⟨2, ![4608, 5120]⟩ : Shape).Idx → EReal) (w : (⟨2, ![5120, 28672]⟩ : Shape).Idx → EReal)
    (sx : EReal) (ws : (⟨1, ![2]⟩ : Shape).Idx → EReal) (sh : EReal) (r : Fin 4608) (q : Fin 14336) : EReal :=
  act (dot x w r (gateCol q) * (sx * ws (ix1 0))) (dot x w r (upCol q) * (sx * ws (ix1 1))) sh

end Cert.GateUp

end
-- ==== Proof.GateUp.Block.lean ====
/- The gate and up projections: what one block of the kernel computes. -/
module

public import proofs.«01_k».proof.Proof.GateUp.Spec
public import proofs.«01_k».proof.Proof.Gen.GateUpIdeal.Value

@[expose] public section

noncomputable section

open Idealize.ShloMosaic Idealize.ShloMosaic.TcCoe Idealize.SL.Sem Idealize.ShloMosaic.ValueIdx
open Idealize.ShloMosaic.Pipeline (Dat)

namespace Cert.GateUpIdeal.Block

open Cert.GateUpIdeal Cert.GateUpIdeal.Gen Cert.Common Cert.GateUp

/-- One row tile's stored value at row `r`, column `q` of the tile. -/
theorem pay_apply (v0 v1 v3 v4 : EReal) (x : Vec Ideal S512x5120 .fp8e4m3) (wg wu : Vec Ideal S5120x256 .fp8e4m3) (sh : EReal)
    (r : Fin 512) (q : Fin 256) :
    k0_pay4 (F := Ideal) v0 v1 v3 v4 x wg wu sh (ix2 r q) = act (dot x wg r q * (v0 * v1)) (dot x wu r q * (v3 * v4)) sh := by
  have e := matmul_zero (φ₁ := .fp8e4m3) (φ₂ := .fp8e4m3) none x wg r q
  have e' := matmul_zero (φ₁ := .fp8e4m3) (φ₂ := .fp8e4m3) none x wu r q
  exact congrArg₂ (fun a b => act (a * (v0 * v1)) (b * (v3 * v4)) sh) e e'

/-- The tile of rows from `o` on of a block computed from the whole column block. -/
theorem piece (o : ℕ) (h : ∀ a, (![o, 0] : Fin 2 → ℕ) a + S512x5120.size a ≤ S4608x5120.size a)
    (h' : ∀ a, (![o, 0] : Fin 2 → ℕ) a + S512x256.size a ≤ S4608x256.size a)
    (v0 v1 v3 v4 sh : EReal) {u0 u1 u3 u4 uh : EReal} (h0 : u0 = v0) (h1 : u1 = v1) (h3 : u3 = v3) (h4 : u4 = v4) (hh : uh = sh)
    (x : Vec Ideal S4608x5120 .fp8e4m3) (wg wu : Vec Ideal S5120x256 .fp8e4m3) (y : S512x256.Idx) :
    k0_pay4 (F := Ideal) u0 u1 u3 u4 (View.ld x (Rect.unit (s := S4608x5120) ![o, 0] S512x5120.size h)) wg wu uh y
      = block v0 v1 v3 v4 sh x wg wu ((Rect.unit (s := S4608x256) ![o, 0] S512x256.size h').emb y) := by
  subst h0 h1 h3 h4 hh
  obtain ⟨r, q, rfl⟩ : ∃ (r : Fin 512) (q : Fin 256), y = ix2 r q := ⟨y 0, y 1, eq_ix2 y⟩
  have hi : (Rect.unit (s := S4608x256) ![o, 0] S512x256.size h').emb (ix2 r q) = ix2 ⟨o + r.val, by have := h' 0; simp at this; omega⟩ q := by
    refine Shape.idx_ext₂ ?_ ?_
    · exact congrArg (o + ·) (Nat.one_mul _)
    · show 0 + 1 * q.val = q.val
      omega
  have hx (k : Fin 5120) : View.ld x (Rect.unit (s := S4608x5120) ![o, 0] S512x5120.size h) (ix2 r k) = x (ix2 ⟨o + r.val, by have := h' 0; simp at this; omega⟩ k) := by
    refine congrArg x (Shape.idx_ext₂ ?_ ?_)
    · exact congrArg (o + ·) (Nat.one_mul _)
    · show 0 + 1 * k.val = k.val
      omega
  rw [hi]
  refine (pay_apply u0 u1 u3 u4 _ wg wu uh r q).trans ?_
  exact congrArg₂ (fun a b => act (a * (u0 * u1)) (b * (u3 * u4)) uh)
    (Finset.sum_congr rfl fun k _ => congrArg (· * _) (hx k)) (Finset.sum_congr rfl fun k _ => congrArg (· * _) (hx k))

/-- The block a grid point leaves, element by element. -/
theorem out_eq (c : Dev nD) (i : grid0.Coords) (arg1 : Memref sig .tc .smem S1 .f32) (harg1 : arg1.IsWhole) (arg2 : Memref sig .tc .smem S2 .f32) (harg2 : arg2.IsWhole) (arg3 : Memref sig .tc .smem S1 .f32) (harg3 : arg3.IsWhole) (arg4 : Memref sig .tc .vmem S4608x5120 .fp8e4m3) (harg4 : arg4.IsWhole) (arg5 : Memref sig .tc .vmem S5120x256 .fp8e4m3) (harg5 : arg5.IsWhole) (arg6 : Memref sig .tc .vmem S5120x256 .fp8e4m3) (harg6 : arg6.IsWhole) (arg7 : Memref sig .tc .vmem S4608x256 .fp8e4m3) (harg7 : arg7.IsWhole)
    (x0 : Vec Ideal S1 .f32) (x1 : Vec Ideal S2 .f32) (x2 : Vec Ideal S1 .f32) (x3 : Vec Ideal S4608x5120 .fp8e4m3) (x4 : Vec Ideal S5120x256 .fp8e4m3) (x5 : Vec Ideal S5120x256 .fp8e4m3) (y : S4608x256.Idx) :
    out0_A_6 c i arg1 harg1 arg2 harg2 arg3 harg3 arg4 harg4 arg5 harg5 arg6 harg6 arg7 harg7 x0 x1 x2 x3 x4 x5 y
      = block (x0 (ix1 0)) (x1 (ix1 0)) (x0 (ix1 0)) (x1 (ix1 1)) (x2 (ix1 0)) x3 x4 x5 y := by
  have hc := cover0_A_6 c i arg1 harg1 arg2 harg2 arg3 harg3 arg4 harg4 arg5 harg5 arg6 harg6 arg7 harg7 x0 x1 x2 x3 x4 x5 y
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_apply_of_pieces _ _ ?_ y hc
  unfold kernelRun0_A
  dsimp only
  sl_unfold_words
  simp only [View.readAt_eq_ld, harg1.read_unread, harg2.read_unread, harg3.read_unread, harg4.read_unread, harg5.read_unread, harg6.read_unread,
    View.ld_unit_zero (S := S5120x256) off2]
  have e0 (i : S1.Idx) : x0 i = x0 (ix1 0) := congrArg x0 (idx_one i)
  have e2 (i : S1.Idx) : x2 i = x2 (ix1 0) := congrArg x2 (idx_one i)
  have e1 : x1 ((Rect.unit (s := S2) ![0] S1.size inb_S2_S1_0).idx (Shape.Idx.first (by decide))) = x1 (ix1 0) :=
    congrArg x1 (idx_axis _ 0 rfl)
  have e1' : x1 ((Rect.unit (s := S2) ![1] S1.size inb_S2_S1_1).idx (Shape.Idx.first (by decide))) = x1 (ix1 1) :=
    congrArg x1 (idx_axis _ 1 rfl)
  have tile (o : ℕ) (h h') (i j : S1.Idx) := piece o h h' _ _ _ _ _ (e0 i) e1 (e0 i) e1' (e2 j) x3 x4 x5
  refine List.forall_mem_cons.mpr ⟨tile 4096 inb_S4608x5120_S512x5120_4096_0 inb_S4608x256_S512x256_4096_0 _ _, ?_⟩
  refine List.forall_mem_cons.mpr ⟨tile 3584 inb_S4608x5120_S512x5120_3584_0 inb_S4608x256_S512x256_3584_0 _ _, ?_⟩
  refine List.forall_mem_cons.mpr ⟨tile 3072 inb_S4608x5120_S512x5120_3072_0 inb_S4608x256_S512x256_3072_0 _ _, ?_⟩
  refine List.forall_mem_cons.mpr ⟨tile 2560 inb_S4608x5120_S512x5120_2560_0 inb_S4608x256_S512x256_2560_0 _ _, ?_⟩
  refine List.forall_mem_cons.mpr ⟨tile 2048 inb_S4608x5120_S512x5120_2048_0 inb_S4608x256_S512x256_2048_0 _ _, ?_⟩
  refine List.forall_mem_cons.mpr ⟨tile 1536 inb_S4608x5120_S512x5120_1536_0 inb_S4608x256_S512x256_1536_0 _ _, ?_⟩
  refine List.forall_mem_cons.mpr ⟨tile 1024 inb_S4608x5120_S512x5120_1024_0 inb_S4608x256_S512x256_1024_0 _ _, ?_⟩
  refine List.forall_mem_cons.mpr ⟨tile 512 inb_S4608x5120_S512x5120_512_0 inb_S4608x256_S512x256_512_0 _ _, ?_⟩
  refine List.forall_mem_cons.mpr ⟨tile 0 inb_S4608x5120_S512x5120_0_0 inb_S4608x256_S512x256_0_0 _ _, ?_⟩
  exact fun p hp => absurd hp List.not_mem_nil

end Cert.GateUpIdeal.Block

end
-- ==== Proof.GateUp.Kernel.lean ====
/- The gate and up projections: what the kernel's result array holds after the run. -/
module

public import proofs.«01_k».proof.Proof.GateUp.Block

@[expose] public section

noncomputable section

open Idealize.ShloMosaic Idealize.ShloMosaic.TcCoe Idealize.SL.Sem Idealize.ShloMosaic.ValueIdx
open Idealize.ShloMosaic.Pipeline (Dat)

namespace Cert.GateUpIdeal.Array

open Cert.GateUpIdeal Cert.GateUpIdeal.Gen Cert.Common Cert.GateUp

variable (m : (ℓ : Loc nD τ sig) → Buf (Elt Ideal) ℓ)

/-- The activation scale as the kernel's region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The result's scale as the kernel's region finds it: the argument, reshaped to one element. -/
theorem V_main_v1 (c : Dev nD) (i : S1.Idx) : V m c main_v1 i = m ((c : Thread nD τ).loc main_arg4) ix0 := by
  dsimp only [V, hostOps0]
  after_results
  exact congrArg (m ((c : Thread nD τ).loc main_arg4)) (eq_ix0 _)

/-- The result array: the codes of the gated activations, element by element. -/
def result (c : Dev nD) : Buf (Elt Ideal) ((c : Thread nD τ).loc main_v2) := fun i =>
  gateUp (m ((c : Thread nD τ).loc main_arg0)) (m ((c : Thread nD τ).loc main_arg1)) (m ((c : Thread nD τ).loc main_arg2) ix0)
    (m ((c : Thread nD τ).loc main_arg3)) (m ((c : Thread nD τ).loc main_arg4) ix0) (i 0) (i 1)

/-- Where each window's block sits at a grid point: all rows, the output's column tile of the gate weights, and the
    column tile 56 further on, of the up weights. -/
theorem idx_facts : ∀ t : Fin cfg0.N,
    win0_6.index t 0 = 0 ∧ win0_6.index t 1 < 56
    ∧ win0_1.index t 0 = 0
    ∧ win0_3.index t 0 = 0 ∧ win0_3.index t 1 = 0
    ∧ win0_4.index t 0 = 0 ∧ win0_4.index t 1 = win0_6.index t 1
    ∧ win0_5.index t 0 = 0 ∧ win0_5.index t 1 = 56 + win0_6.index t 1 :=
  (by decide +kernel : ∀ t : Fin grid0.N, win0_6.index t 0 = 0 ∧ win0_6.index t 1 < 56
    ∧ win0_1.index t 0 = 0
    ∧ win0_3.index t 0 = 0 ∧ win0_3.index t 1 = 0
    ∧ win0_4.index t 0 = 0 ∧ win0_4.index t 1 = win0_6.index t 1
    ∧ win0_5.index t 0 = 0 ∧ win0_5.index t 1 = 56 + win0_6.index t 1)

/-- Every column tile is some grid point's, which writes it back. -/
theorem idx_onto : ∀ b : Fin 56, ∃ t : Fin cfg0.N, win0_6.index t 0 = 0 ∧ win0_6.index t 1 = b ∧ (cfg0.win 6).flush t = true :=
  (by decide +kernel : ∀ b : Fin 56, ∃ t : Fin grid0.N, win0_6.index t 0 = 0 ∧ win0_6.index t 1 = b ∧ (cfg0.win 6).flush t = true)

/-- What a grid point writes back is its block of `result`. -/
theorem flushed_eq (c : Dev nD) (t : Fin cfg0.N) :
    (dats m 0 c).flushed 6 t = ((cfg0.win 6).blk t).view.read (Elt Ideal) (result m c) := by
  obtain ⟨h0, h1, h10, h30, h31, h40, h41, h50, h51⟩ := idx_facts t
  rw [Cert.GateUpIdeal.Value.flushed6_A]
  funext y
  obtain ⟨r, q, rfl⟩ : ∃ (r : Fin 4608) (q : Fin 256), y = ix2 r q := ⟨y 0, y 1, eq_ix2 y⟩
  refine (Block.out_eq _ _ _ _ _ _ _ _ _ _ _ _ _ _ _ _ _ _ _ _ _ _ (ix2 r q)).trans ?_
  have e0 : ((win0_6.rect t).emb (ix2 r q) 0 : ℕ) = win0_6.index t 0 * 4608 + r.val := win0_6.rect_emb_val t _ 0
  have e1 : ((win0_6.rect t).emb (ix2 r q) 1 : ℕ) = win0_6.index t 1 * 256 + q.val := win0_6.rect_emb_val t _ 1
  show _ = gateUp _ _ _ _ _ ((win0_6.rect t).emb (ix2 r q) 0) ((win0_6.rect t).emb (ix2 r q) 1)
  have hs : (iblk m c 0 t : Vec Ideal S1 .f32) (ix1 0) = m ((c : Thread nD τ).loc main_arg2) ix0 := V_main_v0 m c _
  have hh : (iblk m c 2 t : Vec Ideal S1 .f32) (ix1 0) = m ((c : Thread nD τ).loc main_arg4) ix0 := V_main_v1 m c _
  have hw (a : Fin 2) : (iblk m c 1 t : Vec Ideal S2 .f32) (ix1 a) = m ((c : Thread nD τ).loc main_arg3) (ix1 a) := by
    refine (congrFun (V_main_arg3 m c) _).trans (congrArg (m ((c : Thread nD τ).loc main_arg3)) (idx_axis _ a ?_))
    refine (win0_1.rect_emb_val t (ix1 a) 0).trans ?_
    rw [h10]; exact Nat.zero_add _
  have hx (k : Fin 5120) : (iblk m c 3 t : Vec Ideal S4608x5120 .fp8e4m3) (ix2 r k)
      = m ((c : Thread nD τ).loc main_arg0) (ix2 ((win0_6.rect t).emb (ix2 r q) 0) k) := by
    refine (congrFun (V_main_arg0 m c) _).trans (congrArg (m ((c : Thread nD τ).loc main_arg0)) (Shape.idx_ext₂ ?_ ?_))
    · refine (win0_3.rect_emb_val t (ix2 r k) 0).trans ?_
      rw [h30]; refine Eq.trans ?_ e0.symm; rw [h0]; rfl
    · refine (win0_3.rect_emb_val t (ix2 r k) 1).trans ?_
      rw [h31]; exact Nat.zero_add _
  have hg (k : Fin 5120) : (iblk m c 4 t : Vec Ideal S5120x256 .fp8e4m3) (ix2 k q)
      = m ((c : Thread nD τ).loc main_arg1) (ix2 k (gateCol ((win0_6.rect t).emb (ix2 r q) 1))) := by
    refine (congrFun (V_main_arg1 m c) _).trans (congrArg (m ((c : Thread nD τ).loc main_arg1)) (Shape.idx_ext₂ ?_ ?_))
    · refine (win0_4.rect_emb_val t (ix2 k q) 0).trans ?_
      rw [h40]; exact Nat.zero_add _
    · refine (win0_4.rect_emb_val t (ix2 k q) 1).trans ?_
      rw [h41]; exact e1.symm
  have hu (k : Fin 5120) : (iblk m c 5 t : Vec Ideal S5120x256 .fp8e4m3) (ix2 k q)
      = m ((c : Thread nD τ).loc main_arg1) (ix2 k (upCol ((win0_6.rect t).emb (ix2 r q) 1))) := by
    refine (congrFun (V_main_arg1 m c) _).trans (congrArg (m ((c : Thread nD τ).loc main_arg1)) (Shape.idx_ext₂ ?_ ?_))
    · refine (win0_5.rect_emb_val t (ix2 k q) 0).trans ?_
      rw [h50]; exact Nat.zero_add _
    · refine (win0_5.rect_emb_val t (ix2 k q) 1).trans ?_
      refine Eq.trans ?_ (congrArg (14336 + ·) e1).symm
      rw [h51]
      show (56 + win0_6.index t 1) * 256 + q.val = 14336 + (win0_6.index t 1 * 256 + q.val)
      omega
  have ed : dot (iblk m c 3 t : Vec Ideal S4608x5120 .fp8e4m3) (iblk m c 4 t : Vec Ideal S5120x256 .fp8e4m3) r q
      = dot (m ((c : Thread nD τ).loc main_arg0)) (m ((c : Thread nD τ).loc main_arg1)) ((win0_6.rect t).emb (ix2 r q) 0)
          (gateCol ((win0_6.rect t).emb (ix2 r q) 1)) :=
    Finset.sum_congr rfl fun k _ => congrArg₂ (· * ·) (hx k) (hg k)
  have eu : dot (iblk m c 3 t : Vec Ideal S4608x5120 .fp8e4m3) (iblk m c 5 t : Vec Ideal S5120x256 .fp8e4m3) r q
      = dot (m ((c : Thread nD τ).loc main_arg0)) (m ((c : Thread nD τ).loc main_arg1)) ((win0_6.rect t).emb (ix2 r q) 0)
          (upCol ((win0_6.rect t).emb (ix2 r q) 1)) :=
    Finset.sum_congr rfl fun k _ => congrArg₂ (· * ·) (hx k) (hu k)
  exact act_congr (congrArg₂ (· * ·) ed (congrArg₂ (· * ·) hs (hw 0))) (congrArg₂ (· * ·) eu (congrArg₂ (· * ·) hs (hw 1))) hh

/-- The blocks cover the array. -/
theorem cover (i : S4608x14336.Idx) : ∃ t : Fin cfg0.N, (cfg0.win 6).flush t = true ∧ i ∈ ((cfg0.win 6).blk t).view.set := by
  have b0 : (i 0 : ℕ) < 4608 := (i 0).isLt
  have b1 : (i 1 : ℕ) < 14336 := (i 1).isLt
  obtain ⟨t, h0, h1, hf⟩ := idx_onto ⟨(i 1 : ℕ) / 256, by omega⟩
  refine ⟨t, hf, ?_⟩
  show i ∈ ((View.whole main_v2).slice (win0_6.rect t)).set
  rw [View.set_slice_whole, Rect.mem_set_unit]
  intro a
  match a with
  | ⟨0, _⟩ => show win0_6.index t 0 * 4608 ≤ (i 0 : ℕ) ∧ (i 0 : ℕ) < win0_6.index t 0 * 4608 + 4608
              rw [h0]; omega
  | ⟨1, _⟩ => show win0_6.index t 1 * 256 ≤ (i 1 : ℕ) ∧ (i 1 : ℕ) < win0_6.index t 1 * 256 + 256
              rw [h1]; dsimp only; omega

/-- After the run the array holds `result`. -/
theorem final (c : Dev nD) : (dats m 0 c).arrAt 6 cfg0.N = result m c :=
  (dats m 0 c).arrAt_eq_of_cover 6 (result m c) (fun t _ => flushed_eq m c t) cover

end Cert.GateUpIdeal.Array

end
-- ==== Proof.GateUp.Reference.lean ====
/- The gate and up projections: what the reference's result array holds after its run. -/
module

public import proofs.«01_k».proof.Proof.GateUp.Spec
public import proofs.«01_k».proof.Proof.Gen.GateUpRefIdeal.Value

@[expose] public section

noncomputable section

open Idealize.ShloMosaic Idealize.ShloMosaic.TcCoe Idealize.SL.Sem Idealize.ShloMosaic.ValueIdx
open Idealize.ShloMosaic.Pipeline (Dat)

namespace Cert.GateUpRefIdeal.Array

open Cert.GateUpRefIdeal Cert.GateUpRefIdeal.Gen Cert.Common Cert.GateUp

/-- Equal scales store equal values. -/
theorem pay_congr (x3 : Vec Ideal S4608x5120 .fp8e4m3) (x4 : Vec Ideal S5120x28672 .fp8e4m3) {a b c d e a' b' c' d' e' : EReal}
    (ha : a = a') (hb : b = b') (hc : c = c') (hd : d = d') (he : e = e') :
    k0_pay1 (F := Ideal) x3 x4 a b c d e = k0_pay1 (F := Ideal) x3 x4 a' b' c' d' e' := by
  subst ha hb hc hd he; rfl

/-- What the body leaves is the stored value, at the contents of its inputs. -/
theorem out_eq (c : Dev nD) (arg0 : Memref sig .tc .smem S1 .f32) (harg0 : arg0.IsWhole) (arg1 : Memref sig .tc .smem S2 .f32) (harg1 : arg1.IsWhole) (arg2 : Memref sig .tc .smem S1 .f32) (harg2 : arg2.IsWhole) (arg3 : Memref sig .tc .vmem S4608x5120 .fp8e4m3) (harg3 : arg3.IsWhole) (arg4 : Memref sig .tc .vmem S5120x28672 .fp8e4m3) (harg4 : arg4.IsWhole) (arg5 : Memref sig .tc .vmem S4608x14336 .fp8e4m3) (harg5 : arg5.IsWhole)
    (x0 : Vec Ideal S1 .f32) (x1 : Vec Ideal S2 .f32) (x2 : Vec Ideal S1 .f32) (x3 : Vec Ideal S4608x5120 .fp8e4m3) (x4 : Vec Ideal S5120x28672 .fp8e4m3) :
    out0_A_5 c arg0 harg0 arg1 harg1 arg2 harg2 arg3 harg3 arg4 harg4 arg5 harg5 x0 x1 x2 x3 x4
      = k0_pay1 x3 x4 (x0 (ix1 0)) (x1 (ix1 0)) (x0 (ix1 0)) (x1 (ix1 1)) (x2 (ix1 0)) := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero off2]
  simp only [View.readAt_eq_ld, harg0.read_unread, harg1.read_unread, harg2.read_unread, harg3.read_unread, harg4.read_unread,
    View.ld_unit_zero (S := S4608x5120) off2, View.ld_unit_zero (S := S5120x28672) off2]
  have e0 (i : S1.Idx) : x0 i = x0 (ix1 0) := congrArg x0 (idx_one i)
  have e2 (i : S1.Idx) : x2 i = x2 (ix1 0) := congrArg x2 (idx_one i)
  have e1 : x1 ((Rect.unit (s := S2) ![0] S1.size inb_S2_S1_0).idx (Shape.Idx.first (by decide))) = x1 (ix1 0) :=
    congrArg x1 (idx_axis _ 0 rfl)
  have e1' : x1 ((Rect.unit (s := S2) ![1] S1.size inb_S2_S1_1).idx (Shape.Idx.first (by decide))) = x1 (ix1 1) :=
    congrArg x1 (idx_axis _ 1 rfl)
  exact pay_congr x3 x4 (e0 _) e1 (e0 _) e1' (e2 _)

/-- The stored value at row `r`, column `q`: the two column halves of the one product, scaled, and the code of their gated
    combination. -/
theorem pay_apply (x3 : Vec Ideal S4608x5120 .fp8e4m3) (x4 : Vec Ideal S5120x28672 .fp8e4m3) (sx sh : EReal) (ws : S2.Idx → EReal)
    (r : Fin 4608) (q : Fin 14336) :
    k0_pay1 (F := Ideal) x3 x4 sx (ws (ix1 0)) sx (ws (ix1 1)) sh (ix2 r q) = gateUp x3 x4 sx ws sh r q := by
  let P := matmul (φ₁ := .fp8e4m3) (φ₂ := .fp8e4m3) (DotDims.plain 4608 5120 28672) none x3 x4 (constant (F := Ideal) S4608x28672 .f32 0x00000000#32)
  have e : extractStridedSlice S4608x14336 ![0, 0] P slices_S4608x28672_o0_0_S4608x14336 (ix2 r q) = dot x3 x4 r (gateCol q) :=
    (extractStridedSlice_apply _ _ _ _ (ix2 r (gateCol q)) (fun a => by fin_cases a <;> exact (Nat.zero_add _).symm)).trans
      (matmul_zero (φ₁ := .fp8e4m3) (φ₂ := .fp8e4m3) none x3 x4 r (gateCol q))
  have e' : extractStridedSlice S4608x14336 ![0, 14336] P slices_S4608x28672_o0_14336_S4608x14336 (ix2 r q) = dot x3 x4 r (upCol q) :=
    (extractStridedSlice_apply _ _ _ _ (ix2 r (upCol q)) (fun a => by fin_cases a; exacts [(Nat.zero_add _).symm, rfl])).trans
      (matmul_zero (φ₁ := .fp8e4m3) (φ₂ := .fp8e4m3) none x3 x4 r (upCol q))
  refine (congrArg₂ (fun a b => act (a * sx * ws (ix1 0)) (b * sx * ws (ix1 1)) sh) e e').trans ?_
  exact act_congr (mul_assoc _ _ _) (mul_assoc _ _ _) rfl

variable (m : (ℓ : Loc nD τ sig) → Buf (Elt Ideal) ℓ)

/-- The activation scale as the region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The result's scale as the region finds it: the argument, reshaped to one element. -/
theorem V_main_v1 (c : Dev nD) (i : S1.Idx) : V m c main_v1 i = m ((c : Thread nD τ).loc main_arg4) ix0 := by
  dsimp only [V, hostOps0]
  after_results
  exact congrArg (m ((c : Thread nD τ).loc main_arg4)) (eq_ix0 _)

/-- The result array: the codes of the gated activations, element by element. -/
def result (c : Dev nD) : Buf (Elt Ideal) ((c : Thread nD τ).loc main_v2) := fun i =>
  gateUp (m ((c : Thread nD τ).loc main_arg0)) (m ((c : Thread nD τ).loc main_arg1)) (m ((c : Thread nD τ).loc main_arg2) ix0)
    (m ((c : Thread nD τ).loc main_arg3)) (m ((c : Thread nD τ).loc main_arg4) ix0) (i 0) (i 1)

/-- The one block of each input window is its whole array. -/
theorem blk_arg0 (c : Dev nD) (t : Fin cfg0.N) : iblk m c 3 t = m ((c : Thread nD τ).loc main_arg0) := by
  funext y
  exact (congrFun (V_main_arg0 m c) _).trans (congrArg (m ((c : Thread nD τ).loc main_arg0))
    (funext fun a => Fin.ext (win0_3.rect_emb_val_of_index_zero t a rfl y)))
theorem blk_arg1 (c : Dev nD) (t : Fin cfg0.N) : iblk m c 4 t = m ((c : Thread nD τ).loc main_arg1) := by
  funext y
  exact (congrFun (V_main_arg1 m c) _).trans (congrArg (m ((c : Thread nD τ).loc main_arg1))
    (funext fun a => Fin.ext (win0_4.rect_emb_val_of_index_zero t a rfl y)))
theorem blk_arg3 (c : Dev nD) (t : Fin cfg0.N) : iblk m c 1 t = m ((c : Thread nD τ).loc main_arg3) := by
  funext y
  exact (congrFun (V_main_arg3 m c) _).trans (congrArg (m ((c : Thread nD τ).loc main_arg3))
    (funext fun a => Fin.ext (win0_1.rect_emb_val_of_index_zero t a rfl y)))

/-- What the one point writes back is `result`. -/
theorem flushed_eq (c : Dev nD) (t : Fin cfg0.N) :
    (dats m 0 c).flushed 5 t = ((cfg0.win 5).blk t).view.read (Elt Ideal) (result m c) := by
  rw [Cert.GateUpRefIdeal.Value.flushed5_A, out_eq, blk_arg0, blk_arg1, blk_arg3]
  funext y
  obtain ⟨r, q, rfl⟩ : ∃ (r : Fin 4608) (q : Fin 14336), y = ix2 r q := ⟨y 0, y 1, eq_ix2 y⟩
  refine (pay_apply _ _ _ _ _ r q).trans ?_
  have e : (win0_5.rect t).emb (ix2 r q) = ix2 r q :=
    funext fun a => Fin.ext (win0_5.rect_emb_val_of_index_zero t a rfl (ix2 r q))
  have hs : (iblk m c 0 t : Vec Ideal S1 .f32) (ix1 0) = m ((c : Thread nD τ).loc main_arg2) ix0 := V_main_v0 m c _
  have ht : (iblk m c 2 t : Vec Ideal S1 .f32) (ix1 0) = m ((c : Thread nD τ).loc main_arg4) ix0 := V_main_v1 m c _
  refine Eq.trans ?_ (congrArg (result m c) e).symm
  exact congrArg₂ (fun a b => gateUp (m ((c : Thread nD τ).loc main_arg0)) (m ((c : Thread nD τ).loc main_arg1)) a
    (m ((c : Thread nD τ).loc main_arg3)) b r q) hs ht

/-- The one block covers the array. -/
theorem cover (i : S4608x14336.Idx) : ∃ t : Fin cfg0.N, (cfg0.win 5).flush t = true ∧ i ∈ ((cfg0.win 5).blk t).view.set := by
  refine ⟨t0_0, by decide +kernel, ?_⟩
  show i ∈ ((View.whole main_v2).slice (win0_5.rect t0_0)).set
  rw [View.set_slice_whole, Rect.mem_set_unit]
  intro a
  have b0 : (i 0 : ℕ) < 4608 := (i 0).isLt
  have b1 : (i 1 : ℕ) < 14336 := (i 1).isLt
  match a with
  | ⟨0, _⟩ => show win0_5.index t0_0 0 * win0_5.size 0 ≤ (i 0 : ℕ) ∧ (i 0 : ℕ) < win0_5.index t0_0 0 * win0_5.size 0 + win0_5.xsize (grid0.coords t0_0) 0
              rw [show win0_5.index t0_0 0 * win0_5.size 0 = 0 from by decide +kernel, show win0_5.xsize (grid0.coords t0_0) 0 = 4608 from by decide +kernel]; omega
  | ⟨1, _⟩ => show win0_5.index t0_0 1 * win0_5.size 1 ≤ (i 1 : ℕ) ∧ (i 1 : ℕ) < win0_5.index t0_0 1 * win0_5.size 1 + win0_5.xsize (grid0.coords t0_0) 1
              rw [show win0_5.index t0_0 1 * win0_5.size 1 = 0 from by decide +kernel, show win0_5.xsize (grid0.coords t0_0) 1 = 14336 from by decide +kernel]; omega

/-- After the run the array holds `result`. -/
theorem final (c : Dev nD) : (dats m 0 c).arrAt 5 cfg0.N = result m c :=
  (dats m 0 c).arrAt_eq_of_cover 5 (result m c) (fun t _ => flushed_eq m c t) cover

end Cert.GateUpRefIdeal.Array

end
-- ==== Proof.GateUp.Equation.lean ====
/- The gate and up projections: the kernel and the reference compute the same array. -/
module

public import proofs.«01_k».proof.Defs
public import proofs.«01_k».proof.Proof.GateUp.Kernel
public import proofs.«01_k».proof.Proof.GateUp.Reference

@[expose] public section

noncomputable section

open Idealize.ShloMosaic Idealize.ShloMosaic.TcCoe Idealize.SL.Sem

namespace Cert.GateUp

/-- On equal arguments the two results are the same formula of them. -/
theorem algebraic : Cert.algebraic_GateUpIdeal_GateUpRefIdeal := by
  intro m ρ m' ρ' _ hagree
  have e (c : Dev Cert.GateUpIdeal.nD) : Cert.GateUpRefIdeal.Array.result m' c = Cert.GateUpIdeal.Array.result m c := by
    obtain ⟨h0, h1, h2, h3, h4⟩ := hagree c
    unfold Cert.GateUpRefIdeal.Array.result Cert.GateUpIdeal.Array.result
    rw [h0, h1, h2, h3, h4]
    rfl
  refine ⟨fun c => Cert.GateUpIdeal.Array.result m c, ?_, ?_⟩
  · exact (θ_run Cert.GateUpIdeal.defs _ _).mono
      (fun _ h c => ⟨(h c).1.trans (Cert.GateUpIdeal.Array.final m c), (h c).2⟩)
      (Cert.GateUpIdeal.Value.run_blocks (F := Ideal) m ρ)
  · exact (θ_run Cert.GateUpRefIdeal.defs _ _).mono
      (fun _ h c => ⟨(h c).1.trans ((Cert.GateUpRefIdeal.Array.final m' c).trans (e c)), (h c).2⟩)
      (Cert.GateUpRefIdeal.Value.run_blocks (F := Ideal) m' ρ')

end Cert.GateUp

end
-- ==== Proof.Down.Spec.lean ====
/- The down projection as a formula, shared by the kernel and the reference. -/
module

public import proofs.«01_k».proof.Proof.Common.Product

@[expose] public section

noncomputable section

namespace Cert.Down

open Idealize.ShloMosaic Idealize.ShloMosaic.ValueIdx Cert.Common

/-- Row `r`, column `q` of the down projection: the residual `h1` plus the product of the codes `h` with the weights `w`,
    scaled by the activation scale `s` and the weight scale `t`. -/
def down (h : (⟨2, ![4608, 14336]⟩ : Shape).Idx → EReal) (w : (⟨2, ![14336, 5120]⟩ : Shape).Idx → EReal) (s t : EReal)
    (h1 : (⟨2, ![4608, 5120]⟩ : Shape).Idx → EReal) (r : Fin 4608) (q : Fin 5120) : EReal :=
  h1 (ix2 r q) + dot h w r q * (s * t)

end Cert.Down

end
-- ==== Proof.Down.Block.lean ====
/- The down projection: what one block of the kernel computes. -/
module

public import proofs.«01_k».proof.Proof.Common.Product
public import proofs.«01_k».proof.Proof.Gen.DownIdeal.Value

@[expose] public section

noncomputable section

open Idealize.ShloMosaic Idealize.ShloMosaic.TcCoe Idealize.SL.Sem Idealize.ShloMosaic.ValueIdx
open Idealize.ShloMosaic.Pipeline (Dat)

namespace Cert.DownIdeal.Block

open Cert.DownIdeal Cert.DownIdeal.Gen Cert.Common

/-- The block a grid point leaves is the stored value, at the contents of its input blocks. -/
theorem out_eq (c : Dev nD) (i : grid0.Coords) (arg2 : Memref sig .tc .smem S1 .f32) (harg2 : arg2.IsWhole) (arg3 : Memref sig .tc .smem S1 .f32) (harg3 : arg3.IsWhole) (arg4 : Memref sig .tc .vmem S512x14336 .fp8e4m3) (harg4 : arg4.IsWhole) (arg5 : Memref sig .tc .vmem S14336x1024 .fp8e4m3) (harg5 : arg5.IsWhole) (arg6 : Memref sig .tc .vmem S512x1024 .f32) (harg6 : arg6.IsWhole) (arg7 : Memref sig .tc .vmem S512x1024 .bf16) (harg7 : arg7.IsWhole)
    (x0 : Vec Ideal S1 .f32) (x1 : Vec Ideal S1 .f32) (x2 : Vec Ideal S512x14336 .fp8e4m3) (x3 : Vec Ideal S14336x1024 .fp8e4m3) (x4 : Vec Ideal S512x1024 .f32) :
    out0_A_5 c i arg2 harg2 arg3 harg3 arg4 harg4 arg5 harg5 arg6 harg6 arg7 harg7 x0 x1 x2 x3 x4
      = k0_pay1 x2 x3 x4 (x0 (ix1 0)) (x1 (ix1 0)) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero off2]
  simp only [View.readAt_eq_ld, harg2.read_unread, harg3.read_unread, harg4.read_unread, harg5.read_unread, harg6.read_unread,
    View.ld_unit_zero (S := S512x14336) off2, View.ld_unit_zero (S := S14336x1024) off2, View.ld_unit_zero (S := S512x1024) off2]
  exact congrArg₂ (fun a b => k0_pay1 x2 x3 x4 a b) (congrArg x0 (idx_one _)) (congrArg x1 (idx_one _))

/-- The stored value at row `r`, column `q`: the residual plus the product scaled by the two scales. -/
theorem pay_apply (x2 : Vec Ideal S512x14336 .fp8e4m3) (x3 : Vec Ideal S14336x1024 .fp8e4m3) (x4 : Vec Ideal S512x1024 .f32)
    (s t : EReal) (r : Fin 512) (q : Fin 1024) :
    k0_pay1 (F := Ideal) x2 x3 x4 s t (ix2 r q) = x4 (ix2 r q) + dot x2 x3 r q * (s * t) := by
  have e := matmul_zero (φ₁ := .fp8e4m3) (φ₂ := .fp8e4m3) none x2 x3 r q
  exact congrArg (fun z => x4 (ix2 r q) + z * (s * t)) e

end Cert.DownIdeal.Block

end
-- ==== Proof.Down.Kernel.lean ====
/- The down projection: what the kernel's result array holds after the run. -/
module

public import proofs.«01_k».proof.Proof.Down.Spec
public import proofs.«01_k».proof.Proof.Down.Block

@[expose] public section

noncomputable section

open Idealize.ShloMosaic Idealize.ShloMosaic.TcCoe Idealize.SL.Sem Idealize.ShloMosaic.ValueIdx
open Idealize.ShloMosaic.Pipeline (Dat)

namespace Cert.DownIdeal.Array

open Cert.DownIdeal Cert.DownIdeal.Gen Cert.Common

variable (m : (ℓ : Loc nD τ sig) → Buf (Elt Ideal) ℓ)

/-- The first scale as the kernel's region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The second scale as the kernel's region finds it: the argument, reshaped to one element. -/
theorem V_main_v1 (c : Dev nD) (i : S1.Idx) : V m c main_v1 i = m ((c : Thread nD τ).loc main_arg3) ix0 := by
  dsimp only [V, hostOps0]
  after_results
  exact congrArg (m ((c : Thread nD τ).loc main_arg3)) (eq_ix0 _)

/-- The result array: the down projection of the arguments, element by element. -/
def result (c : Dev nD) : Buf (Elt Ideal) ((c : Thread nD τ).loc main_v2) := fun i =>
  Cert.Down.down (m ((c : Thread nD τ).loc main_arg0)) (m ((c : Thread nD τ).loc main_arg1))
    (m ((c : Thread nD τ).loc main_arg2) ix0) (m ((c : Thread nD τ).loc main_arg3) ix0) (m ((c : Thread nD τ).loc main_arg4)) (i 0) (i 1)

/-- Where each window's block sits at a grid point: the activations' row tile is the output's, the weights' column tile is
    the output's, the residual's tile is the output's. -/
theorem idx_facts : ∀ t : Fin cfg0.N,
    win0_5.index t 0 < 9 ∧ win0_5.index t 1 < 5
    ∧ win0_2.index t 0 = win0_5.index t 0 ∧ win0_2.index t 1 = 0
    ∧ win0_3.index t 0 = 0 ∧ win0_3.index t 1 = win0_5.index t 1
    ∧ win0_4.index t 0 = win0_5.index t 0 ∧ win0_4.index t 1 = win0_5.index t 1 :=
  (by decide +kernel : ∀ t : Fin grid0.N, win0_5.index t 0 < 9 ∧ win0_5.index t 1 < 5
    ∧ win0_2.index t 0 = win0_5.index t 0 ∧ win0_2.index t 1 = 0
    ∧ win0_3.index t 0 = 0 ∧ win0_3.index t 1 = win0_5.index t 1
    ∧ win0_4.index t 0 = win0_5.index t 0 ∧ win0_4.index t 1 = win0_5.index t 1)

/-- Every tile is some grid point's, which writes it back. -/
theorem idx_onto : ∀ (a : Fin 9) (b : Fin 5), ∃ t : Fin cfg0.N, win0_5.index t 0 = a ∧ win0_5.index t 1 = b ∧ (cfg0.win 5).flush t = true :=
  (by decide +kernel : ∀ (a : Fin 9) (b : Fin 5), ∃ t : Fin grid0.N, win0_5.index t 0 = a ∧ win0_5.index t 1 = b ∧ (cfg0.win 5).flush t = true)

/-- What a grid point writes back is its block of `result`. -/
theorem flushed_eq (c : Dev nD) (t : Fin cfg0.N) :
    (dats m 0 c).flushed 5 t = ((cfg0.win 5).blk t).view.read (Elt Ideal) (result m c) := by
  obtain ⟨h0, h1, h20, h21, h30, h31, h40, h41⟩ := idx_facts t
  rw [Cert.DownIdeal.Value.flushed5_A, Block.out_eq]
  funext y
  obtain ⟨r, q, rfl⟩ : ∃ (r : Fin 512) (q : Fin 1024), y = ix2 r q := ⟨y 0, y 1, eq_ix2 y⟩
  refine (Block.pay_apply _ _ _ _ _ r q).trans ?_
  have e0 : ((win0_5.rect t).emb (ix2 r q) 0 : ℕ) = win0_5.index t 0 * 512 + r.val := win0_5.rect_emb_val t _ 0
  have e1 : ((win0_5.rect t).emb (ix2 r q) 1 : ℕ) = win0_5.index t 1 * 1024 + q.val := win0_5.rect_emb_val t _ 1
  show _ = Cert.Down.down _ _ _ _ _ ((win0_5.rect t).emb (ix2 r q) 0) ((win0_5.rect t).emb (ix2 r q) 1)
  have hs : (iblk m c 0 t : Vec Ideal S1 .f32) (ix1 0) = m ((c : Thread nD τ).loc main_arg2) ix0 := V_main_v0 m c _
  have ht : (iblk m c 1 t : Vec Ideal S1 .f32) (ix1 0) = m ((c : Thread nD τ).loc main_arg3) ix0 := V_main_v1 m c _
  have hh (k : Fin 14336) : (iblk m c 2 t : Vec Ideal S512x14336 .fp8e4m3) (ix2 r k)
      = m ((c : Thread nD τ).loc main_arg0) (ix2 ((win0_5.rect t).emb (ix2 r q) 0) k) := by
    refine (congrFun (V_main_arg0 m c) _).trans (congrArg (m ((c : Thread nD τ).loc main_arg0)) (Shape.idx_ext₂ ?_ ?_))
    · refine (win0_2.rect_emb_val t (ix2 r k) 0).trans ?_
      rw [h20]; exact e0.symm
    · refine (win0_2.rect_emb_val t (ix2 r k) 1).trans ?_
      rw [h21]; exact Nat.zero_add _
  have hw (k : Fin 14336) : (iblk m c 3 t : Vec Ideal S14336x1024 .fp8e4m3) (ix2 k q)
      = m ((c : Thread nD τ).loc main_arg1) (ix2 k ((win0_5.rect t).emb (ix2 r q) 1)) := by
    refine (congrFun (V_main_arg1 m c) _).trans (congrArg (m ((c : Thread nD τ).loc main_arg1)) (Shape.idx_ext₂ ?_ ?_))
    · refine (win0_3.rect_emb_val t (ix2 k q) 0).trans ?_
      rw [h30]; exact Nat.zero_add _
    · refine (win0_3.rect_emb_val t (ix2 k q) 1).trans ?_
      rw [h31]; exact e1.symm
  have hr : (iblk m c 4 t : Vec Ideal S512x1024 .f32) (ix2 r q)
      = m ((c : Thread nD τ).loc main_arg4) (ix2 ((win0_5.rect t).emb (ix2 r q) 0) ((win0_5.rect t).emb (ix2 r q) 1)) := by
    refine (congrFun (V_main_arg4 m c) _).trans (congrArg (m ((c : Thread nD τ).loc main_arg4)) (Shape.idx_ext₂ ?_ ?_))
    · refine (win0_4.rect_emb_val t (ix2 r q) 0).trans ?_
      rw [h40]; exact e0.symm
    · refine (win0_4.rect_emb_val t (ix2 r q) 1).trans ?_
      rw [h41]; exact e1.symm
  exact congrArg₂ (· + ·) hr (congrArg₂ (· * ·)
    (Finset.sum_congr rfl fun k _ => congrArg₂ (· * ·) (hh k) (hw k)) (congrArg₂ (· * ·) hs ht))

/-- The blocks cover the array. -/
theorem cover (i : S4608x5120.Idx) : ∃ t : Fin cfg0.N, (cfg0.win 5).flush t = true ∧ i ∈ ((cfg0.win 5).blk t).view.set := by
  have b0 : (i 0 : ℕ) < 4608 := (i 0).isLt
  have b1 : (i 1 : ℕ) < 5120 := (i 1).isLt
  obtain ⟨t, h0, h1, hf⟩ := idx_onto ⟨(i 0 : ℕ) / 512, by omega⟩ ⟨(i 1 : ℕ) / 1024, by omega⟩
  refine ⟨t, hf, ?_⟩
  show i ∈ ((View.whole main_v2).slice (win0_5.rect t)).set
  rw [View.set_slice_whole, Rect.mem_set_unit]
  intro a
  match a with
  | ⟨0, _⟩ => show win0_5.index t 0 * 512 ≤ (i 0 : ℕ) ∧ (i 0 : ℕ) < win0_5.index t 0 * 512 + 512
              rw [h0]; dsimp only; omega
  | ⟨1, _⟩ => show win0_5.index t 1 * 1024 ≤ (i 1 : ℕ) ∧ (i 1 : ℕ) < win0_5.index t 1 * 1024 + 1024
              rw [h1]; dsimp only; omega

/-- After the run the array holds `result`. -/
theorem final (c : Dev nD) : (dats m 0 c).arrAt 5 cfg0.N = result m c :=
  (dats m 0 c).arrAt_eq_of_cover 5 (result m c) (fun t _ => flushed_eq m c t) cover

end Cert.DownIdeal.Array

end
-- ==== Proof.Down.Reference.lean ====
/- The down projection: what the reference's result array holds after its run. -/
module

public import proofs.«01_k».proof.Proof.Down.Spec
public import proofs.«01_k».proof.Proof.Gen.DownRefIdeal.Value

@[expose] public section

noncomputable section

open Idealize.ShloMosaic Idealize.ShloMosaic.TcCoe Idealize.SL.Sem Idealize.ShloMosaic.ValueIdx
open Idealize.ShloMosaic.Pipeline (Dat)

namespace Cert.DownRefIdeal.Array

open Cert.DownRefIdeal Cert.DownRefIdeal.Gen Cert.Common

/-- What the body leaves is the stored value, at the contents of its inputs. -/
theorem out_eq (c : Dev nD) (arg0 : Memref sig .tc .smem S1 .f32) (harg0 : arg0.IsWhole) (arg1 : Memref sig .tc .smem S1 .f32) (harg1 : arg1.IsWhole) (arg2 : Memref sig .tc .vmem S4608x14336 .fp8e4m3) (harg2 : arg2.IsWhole) (arg3 : Memref sig .tc .vmem S14336x5120 .fp8e4m3) (harg3 : arg3.IsWhole) (arg4 : Memref sig .tc .vmem S4608x5120 .f32) (harg4 : arg4.IsWhole) (arg5 : Memref sig .tc .vmem S4608x5120 .bf16) (harg5 : arg5.IsWhole)
    (x0 : Vec Ideal S1 .f32) (x1 : Vec Ideal S1 .f32) (x2 : Vec Ideal S4608x14336 .fp8e4m3) (x3 : Vec Ideal S14336x5120 .fp8e4m3) (x4 : Vec Ideal S4608x5120 .f32) :
    out0_A_5 c arg0 harg0 arg1 harg1 arg2 harg2 arg3 harg3 arg4 harg4 arg5 harg5 x0 x1 x2 x3 x4
      = k0_pay1 x4 x2 x3 (x0 (ix1 0)) (x1 (ix1 0)) := by
  unfold out0_A_5
  rw [View.read_writes_eq_canon _ _ _ (cover0_A_5 c arg0 harg0 arg1 harg1 arg2 harg2 arg3 harg3 arg4 harg4 arg5 harg5 x0 x1 x2 x3 x4)]
  unfold kernelRun0_A
  dsimp only
  sl_unfold_words
  rw [View.canon_unit_zero off2]
  simp only [View.readAt_eq_ld, harg0.read_unread, harg1.read_unread, harg2.read_unread, harg3.read_unread, harg4.read_unread,
    View.ld_unit_zero (S := S4608x14336) off2, View.ld_unit_zero (S := S14336x5120) off2, View.ld_unit_zero (S := S4608x5120) off2]
  exact congrArg₂ (fun a b => k0_pay1 x4 x2 x3 a b) (congrArg x0 (idx_one _)) (congrArg x1 (idx_one _))

/-- The stored value at row `r`, column `q` is the down projection. -/
theorem pay_apply (x2 : Vec Ideal S4608x14336 .fp8e4m3) (x3 : Vec Ideal S14336x5120 .fp8e4m3) (x4 : Vec Ideal S4608x5120 .f32)
    (s t : EReal) (r : Fin 4608) (q : Fin 5120) :
    k0_pay1 (F := Ideal) x4 x2 x3 s t (ix2 r q) = Cert.Down.down x2 x3 s t x4 r q := by
  have e := matmul_zero (φ₁ := .fp8e4m3) (φ₂ := .fp8e4m3) none x2 x3 r q
  refine (congrArg (fun z => x4 (ix2 r q) + z * s * t) e).trans ?_
  exact congrArg (x4 (ix2 r q) + ·) (mul_assoc (dot x2 x3 r q) s t)

variable (m : (ℓ : Loc nD τ sig) → Buf (Elt Ideal) ℓ)

/-- The first scale as the region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The second scale as the region finds it: the argument, reshaped to one element. -/
theorem V_main_v1 (c : Dev nD) (i : S1.Idx) : V m c main_v1 i = m ((c : Thread nD τ).loc main_arg3) ix0 := by
  dsimp only [V, hostOps0]
  after_results
  exact congrArg (m ((c : Thread nD τ).loc main_arg3)) (eq_ix0 _)

/-- The result array: the down projection of the arguments, element by element. -/
def result (c : Dev nD) : Buf (Elt Ideal) ((c : Thread nD τ).loc main_v2) := fun i =>
  Cert.Down.down (m ((c : Thread nD τ).loc main_arg0)) (m ((c : Thread nD τ).loc main_arg1))
    (m ((c : Thread nD τ).loc main_arg2) ix0) (m ((c : Thread nD τ).loc main_arg3) ix0) (m ((c : Thread nD τ).loc main_arg4)) (i 0) (i 1)

/-- The one block of each input window is its whole array. -/
theorem blk_arg0 (c : Dev nD) (t : Fin cfg0.N) : iblk m c 2 t = m ((c : Thread nD τ).loc main_arg0) := by
  funext y
  exact (congrFun (V_main_arg0 m c) _).trans (congrArg (m ((c : Thread nD τ).loc main_arg0))
    (funext fun a => Fin.ext (win0_2.rect_emb_val_of_index_zero t a rfl y)))
theorem blk_arg1 (c : Dev nD) (t : Fin cfg0.N) : iblk m c 3 t = m ((c : Thread nD τ).loc main_arg1) := by
  funext y
  exact (congrFun (V_main_arg1 m c) _).trans (congrArg (m ((c : Thread nD τ).loc main_arg1))
    (funext fun a => Fin.ext (win0_3.rect_emb_val_of_index_zero t a rfl y)))
theorem blk_arg4 (c : Dev nD) (t : Fin cfg0.N) : iblk m c 4 t = m ((c : Thread nD τ).loc main_arg4) := by
  funext y
  exact (congrFun (V_main_arg4 m c) _).trans (congrArg (m ((c : Thread nD τ).loc main_arg4))
    (funext fun a => Fin.ext (win0_4.rect_emb_val_of_index_zero t a rfl y)))

/-- What the one point writes back is `result`. -/
theorem flushed_eq (c : Dev nD) (t : Fin cfg0.N) :
    (dats m 0 c).flushed 5 t = ((cfg0.win 5).blk t).view.read (Elt Ideal) (result m c) := by
  rw [Cert.DownRefIdeal.Value.flushed5_A, out_eq, blk_arg0, blk_arg1, blk_arg4]
  funext y
  obtain ⟨r, q, rfl⟩ : ∃ (r : Fin 4608) (q : Fin 5120), y = ix2 r q := ⟨y 0, y 1, eq_ix2 y⟩
  refine (pay_apply _ _ _ _ _ r q).trans ?_
  have e : (win0_5.rect t).emb (ix2 r q) = ix2 r q :=
    funext fun a => Fin.ext (win0_5.rect_emb_val_of_index_zero t a rfl (ix2 r q))
  have hs : (iblk m c 0 t : Vec Ideal S1 .f32) (ix1 0) = m ((c : Thread nD τ).loc main_arg2) ix0 := V_main_v0 m c _
  have ht : (iblk m c 1 t : Vec Ideal S1 .f32) (ix1 0) = m ((c : Thread nD τ).loc main_arg3) ix0 := V_main_v1 m c _
  refine Eq.trans ?_ (congrArg (result m c) e).symm
  exact congrArg₂ (fun a b => Cert.Down.down (m ((c : Thread nD τ).loc main_arg0)) (m ((c : Thread nD τ).loc main_arg1)) a b
    (m ((c : Thread nD τ).loc main_arg4)) r q) hs ht

/-- The one block covers the array. -/
theorem cover (i : S4608x5120.Idx) : ∃ t : Fin cfg0.N, (cfg0.win 5).flush t = true ∧ i ∈ ((cfg0.win 5).blk t).view.set := by
  refine ⟨t0_0, by decide +kernel, ?_⟩
  show i ∈ ((View.whole main_v2).slice (win0_5.rect t0_0)).set
  rw [View.set_slice_whole, Rect.mem_set_unit]
  intro a
  have b0 : (i 0 : ℕ) < 4608 := (i 0).isLt
  have b1 : (i 1 : ℕ) < 5120 := (i 1).isLt
  match a with
  | ⟨0, _⟩ => show win0_5.index t0_0 0 * win0_5.size 0 ≤ (i 0 : ℕ) ∧ (i 0 : ℕ) < win0_5.index t0_0 0 * win0_5.size 0 + win0_5.xsize (grid0.coords t0_0) 0
              rw [show win0_5.index t0_0 0 * win0_5.size 0 = 0 from by decide +kernel, show win0_5.xsize (grid0.coords t0_0) 0 = 4608 from by decide +kernel]; omega
  | ⟨1, _⟩ => show win0_5.index t0_0 1 * win0_5.size 1 ≤ (i 1 : ℕ) ∧ (i 1 : ℕ) < win0_5.index t0_0 1 * win0_5.size 1 + win0_5.xsize (grid0.coords t0_0) 1
              rw [show win0_5.index t0_0 1 * win0_5.size 1 = 0 from by decide +kernel, show win0_5.xsize (grid0.coords t0_0) 1 = 5120 from by decide +kernel]; omega

/-- After the run the array holds `result`. -/
theorem final (c : Dev nD) : (dats m 0 c).arrAt 5 cfg0.N = result m c :=
  (dats m 0 c).arrAt_eq_of_cover 5 (result m c) (fun t _ => flushed_eq m c t) cover

end Cert.DownRefIdeal.Array

end
-- ==== Proof.Down.Equation.lean ====
/- The down projection: the kernel and the reference compute the same array. -/
module

public import proofs.«01_k».proof.Defs
public import proofs.«01_k».proof.Proof.Down.Kernel
public import proofs.«01_k».proof.Proof.Down.Reference

@[expose] public section

noncomputable section

open Idealize.ShloMosaic Idealize.ShloMosaic.TcCoe Idealize.SL.Sem

namespace Cert.Down

/-- On equal arguments the two results are the same formula of them. -/
theorem algebraic : Cert.algebraic_DownIdeal_DownRefIdeal := by
  intro m ρ m' ρ' _ hagree
  have e (c : Dev Cert.DownIdeal.nD) : Cert.DownRefIdeal.Array.result m' c = Cert.DownIdeal.Array.result m c := by
    obtain ⟨h0, h1, h2, h3, h4⟩ := hagree c
    unfold Cert.DownRefIdeal.Array.result Cert.DownIdeal.Array.result
    rw [h0, h1, h2, h3, h4]
    rfl
  refine ⟨fun c => Cert.DownIdeal.Array.result m c, ?_, ?_⟩
  · exact (θ_run Cert.DownIdeal.defs _ _).mono
      (fun _ h c => ⟨(h c).1.trans (Cert.DownIdeal.Array.final m c), (h c).2⟩)
      (Cert.DownIdeal.Value.run_blocks (F := Ideal) m ρ)
  · exact (θ_run Cert.DownRefIdeal.defs _ _).mono
      (fun _ h c => ⟨(h c).1.trans ((Cert.DownRefIdeal.Array.final m' c).trans (e c)), (h c).2⟩)
      (Cert.DownRefIdeal.Value.run_blocks (F := Ideal) m' ρ')

end Cert.Down

end
-- ==== Proof.OProj.Spec.lean ====
/- The output projection and the norm after it as formulas, shared by the kernel and the reference. -/
module

public import proofs.«01_k».proof.Proof.Common.Norm

@[expose] public section

noncomputable section

namespace Cert.OProj

open Idealize.ShloMosaic Idealize.ShloMosaic.ValueIdx Cert.Common

/-- Row `r`, column `q` of the first result: the residual `x` plus the product of the codes `o` with the weights `w`, scaled
    by the activation scale `s` and the weight scale `t`. -/
def h1 {n : ℕ} (s t : EReal) (o : (⟨2, ![n, 4096]⟩ : Shape).Idx → EReal) (w : (⟨2, ![4096, 5120]⟩ : Shape).Idx → EReal)
    (x : (⟨2, ![n, 5120]⟩ : Shape).Idx → EReal) (r : Fin n) (q : Fin 5120) : EReal :=
  x (ix2 r q) + dot o w r q * (s * t)

/-- A block of rows of the first result. -/
def h1Block (s t : EReal) (o : (⟨2, ![256, 4096]⟩ : Shape).Idx → EReal) (w : (⟨2, ![4096, 5120]⟩ : Shape).Idx → EReal)
    (x : (⟨2, ![256, 5120]⟩ : Shape).Idx → EReal) (y : (⟨2, ![256, 5120]⟩ : Shape).Idx) : EReal :=
  h1 s t o w x (y 0) (y 1)

/-- A block of rows of the second result: the codes of the normed rows of `H`. -/
def x2Block (H : (⟨2, ![256, 5120]⟩ : Shape).Idx → EReal) (w : (⟨2, ![1, 5120]⟩ : Shape).Idx → EReal) (s : EReal)
    (y : (⟨2, ![256, 5120]⟩ : Shape).Idx) : EReal :=
  code (normed (fun k => H (ix2 (y 0) k)) (fun k => w (ix2 0 k)) (y 1)) s

end Cert.OProj

end
-- ==== Proof.OProj.Block.lean ====
/- The output projection: what one block of the kernel computes. -/
module

public import proofs.«01_k».proof.Proof.OProj.Spec
public import proofs.«01_k».proof.Proof.Gen.OProjIdeal.Value

@[expose] public section

noncomputable section

open Idealize.ShloMosaic Idealize.ShloMosaic.TcCoe Idealize.SL.Sem Idealize.ShloMosaic.ValueIdx
open Idealize.ShloMosaic.Pipeline (Dat)

namespace Cert.OProjIdeal.Block

open Cert.OProjIdeal Cert.OProjIdeal.Gen Cert.Common Cert.OProj

/-- One column tile's stored value at row `r`, column `q` of the tile: the residual plus the scaled product. -/
theorem h1_pay_apply (s t : EReal) (x3 : Vec Ideal S256x4096 .fp8e4m3) (w : Vec Ideal S4096x512 .fp8e4m3) (x : Vec Ideal S256x512 .bf16)
    (r : Fin 256) (q : Fin 512) : k0_pay3 (F := Ideal) s t x3 w x (ix2 r q) = x (ix2 r q) + dot x3 w r q * (s * t) := by
  have e := matmul_zero (φ₁ := .fp8e4m3) (φ₂ := .fp8e4m3) none x3 w r q
  exact congrArg (fun z => x (ix2 r q) + z * (s * t)) e

/-- The tile of columns from `o` on of a block of rows computed from the whole weights. -/
theorem h1_tile (o : ℕ) (h : ∀ a, (![0, o] : Fin 2 → ℕ) a + S4096x512.size a ≤ S4096x5120.size a)
    (h' : ∀ a, (![0, o] : Fin 2 → ℕ) a + S256x512.size a ≤ S256x5120.size a) {s t u v : EReal} (hs : u = s) (ht : v = t)
    (x3 : Vec Ideal S256x4096 .fp8e4m3) (x4 : Vec Ideal S4096x5120 .fp8e4m3) (x5 : Vec Ideal S256x5120 .bf16) (y : S256x512.Idx) :
    k0_pay3 (F := Ideal) u v x3 (View.ld x4 (Rect.unit (s := S4096x5120) ![0, o] S4096x512.size h))
        (View.ld x5 (Rect.unit (s := S256x5120) ![0, o] S256x512.size h')) y
      = h1Block s t x3 x4 x5 ((Rect.unit (s := S256x5120) ![0, o] S256x512.size h').emb y) := by
  subst hs ht
  obtain ⟨r, q, rfl⟩ : ∃ (r : Fin 256) (q : Fin 512), y = ix2 r q := ⟨y 0, y 1, eq_ix2 y⟩
  have hb : o + q.val < 5120 := by have := h' 1; simp at this; omega
  have hi : (Rect.unit (s := S256x5120) ![0, o] S256x512.size h').emb (ix2 r q) = ix2 r ⟨o + q.val, hb⟩ := by
    refine Shape.idx_ext₂ ?_ ?_
    · show 0 + 1 * r.val = r.val
      omega
    · exact congrArg (o + ·) (Nat.one_mul _)
  have hw (k : Fin 4096) : View.ld x4 (Rect.unit (s := S4096x5120) ![0, o] S4096x512.size h) (ix2 k q) = x4 (ix2 k ⟨o + q.val, hb⟩) := by
    refine congrArg x4 (Shape.idx_ext₂ ?_ ?_)
    · show 0 + 1 * k.val = k.val
      omega
    · exact congrArg (o + ·) (Nat.one_mul _)
  rw [hi]
  refine (h1_pay_apply u v x3 _ _ r q).trans ?_
  exact congrArg₂ (fun a b => a + b * (u * v)) (congrArg x5 hi) (Finset.sum_congr rfl fun k _ => congrArg (x3 (ix2 r k) * ·) (hw k))

/-- The stored code at row `r`, column `q` of a group of rows: the code of the row's norm. -/
theorem x2_pay_apply (v : Vec Ideal S32x5120 .f32) (w : Vec Ideal S1x5120 .f32) (s : EReal) (r : Fin 32) (q : Fin 5120) :
    k0_pay19 (F := Ideal) v w s (ix2 r q) = code (normed (fun k => v (ix2 r k)) (fun k => w (ix2 0 k)) q) s := by
  have e0 : shapeCast S32x5120 v shapeCasts_S32x5120_S32x5120 = v := shapeCast_self _ _
  have e1 : shapeCast S1x5120 w shapeCasts_S1x5120_S1x5120 = w := shapeCast_self _ _
  unfold k0_pay19
  dsimp only
  rw [e0, e1]
  exact normed_kernel_apply v w s reduces_S32x5120_S32 (.inl rfl) rfl shapeCasts_S32_S32x1 broadcasts_S32x1_S32x5120 broadcasts_S1x5120_S32x5120 r q

/-- The group of rows from `o` on of the codes of a block of rows. -/
theorem x2_tile (o : ℕ) (h : ∀ a, (![o, 0] : Fin 2 → ℕ) a + S32x5120.size a ≤ S256x5120.size a)
    {H : S256x5120.Idx → EReal} {v : Vec Ideal S32x5120 .f32} (hv : v = fun j => H ((Rect.unit (s := S256x5120) ![o, 0] S32x5120.size h).emb j))
    (w : Vec Ideal S1x5120 .f32) {s u : EReal} (hs : u = s) (y : S32x5120.Idx) :
    k0_pay19 (F := Ideal) v w u y = x2Block H w s ((Rect.unit (s := S256x5120) ![o, 0] S32x5120.size h).emb y) := by
  subst hs hv
  obtain ⟨r, q, rfl⟩ : ∃ (r : Fin 32) (q : Fin 5120), y = ix2 r q := ⟨y 0, y 1, eq_ix2 y⟩
  have hb : o + r.val < 256 := by have := h 0; simp at this; omega
  have hi (k : Fin 5120) : (Rect.unit (s := S256x5120) ![o, 0] S32x5120.size h).emb (ix2 r k) = ix2 ⟨o + r.val, hb⟩ k := by
    refine Shape.idx_ext₂ ?_ ?_
    · exact congrArg (o + ·) (Nat.one_mul _)
    · show 0 + 1 * k.val = k.val
      omega
  rw [hi]
  refine (x2_pay_apply _ w u r q).trans ?_
  exact congrArg (fun f => code (normed f (fun k => w (ix2 0 k)) q) u) (funext fun k => congrArg H (hi k))

/-- What the column tiles leave in the first result's block. -/
theorem h1_canon (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S4096x5120 .fp8e4m3) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x5120 .f32) (harg8 : arg8.IsWhole) (arg9 : Memref sig .tc .vmem S256x5120 .fp8e4m3) (harg9 : arg9.IsWhole)
    (x0 : Vec Ideal S1 .f32) (x1 : Vec Ideal S1 .f32) (x2 : Vec Ideal S1 .f32) (x3 : Vec Ideal S256x4096 .fp8e4m3) (x4 : Vec Ideal S4096x5120 .fp8e4m3) (x5 : Vec Ideal S256x5120 .bf16) (x6 : Vec Ideal S1x5120 .f32) :
    View.canon (kernelRun0_A c i arg1 harg1 arg2 harg2 arg3 harg3 arg4 harg4 arg5 harg5 arg6 harg6 arg7 harg7 arg8 harg8 arg9 harg9 x0 x1 x2 x3 x4 x5 x6).1 = h1Block (x0 (ix1 0)) (x1 (ix1 0)) x3 x4 x5 := by
  funext y
  have hc := cover0_A_7 c i arg1 harg1 arg2 harg2 arg3 harg3 arg4 harg4 arg5 harg5 arg6 harg6 arg7 harg7 arg8 harg8 arg9 harg9 x0 x1 x2 x3 x4 x5 x6 y
  refine View.canon_apply_of_pieces _ _ ?_ y hc
  unfold kernelRun0_A
  dsimp only
  sl_unfold_words
  simp only [View.readAt_eq_ld, harg1.read_unread, harg2.read_unread, harg4.read_unread, harg5.read_unread, harg6.read_unread,
    View.ld_unit_zero (S := S256x4096) off2]
  have e0 (j : S1.Idx) : x0 j = x0 (ix1 0) := congrArg x0 (idx_one j)
  have e1 (j : S1.Idx) : x1 j = x1 (ix1 0) := congrArg x1 (idx_one j)
  refine List.forall_mem_cons.mpr ⟨h1_tile 4608 inb_S4096x5120_S4096x512_0_4608 inb_S256x5120_S256x512_0_4608 (e0 _) (e1 _) x3 x4 x5, ?_⟩
  refine List.forall_mem_cons.mpr ⟨h1_tile 4096 inb_S4096x5120_S4096x512_0_4096 inb_S256x5120_S256x512_0_4096 (e0 _) (e1 _) x3 x4 x5, ?_⟩
  refine List.forall_mem_cons.mpr ⟨h1_tile 3584 inb_S4096x5120_S4096x512_0_3584 inb_S256x5120_S256x512_0_3584 (e0 _) (e1 _) x3 x4 x5, ?_⟩
  refine List.forall_mem_cons.mpr ⟨h1_tile 3072 inb_S4096x5120_S4096x512_0_3072 inb_S256x5120_S256x512_0_3072 (e0 _) (e1 _) x3 x4 x5, ?_⟩
  refine List.forall_mem_cons.mpr ⟨h1_tile 2560 inb_S4096x5120_S4096x512_0_2560 inb_S256x5120_S256x512_0_2560 (e0 _) (e1 _) x3 x4 x5, ?_⟩
  refine List.forall_mem_cons.mpr ⟨h1_tile 2048 inb_S4096x5120_S4096x512_0_2048 inb_S256x5120_S256x512_0_2048 (e0 _) (e1 _) x3 x4 x5, ?_⟩
  refine List.forall_mem_cons.mpr ⟨h1_tile 1536 inb_S4096x5120_S4096x512_0_1536 inb_S256x5120_S256x512_0_1536 (e0 _) (e1 _) x3 x4 x5, ?_⟩
  refine List.forall_mem_cons.mpr ⟨h1_tile 1024 inb_S4096x5120_S4096x512_0_1024 inb_S256x5120_S256x512_0_1024 (e0 _) (e1 _) x3 x4 x5, ?_⟩
  refine List.forall_mem_cons.mpr ⟨h1_tile 512 inb_S4096x5120_S4096x512_0_512 inb_S256x5120_S256x512_0_512 (e0 _) (e1 _) x3 x4 x5, ?_⟩
  refine List.forall_mem_cons.mpr ⟨h1_tile 0 inb_S4096x5120_S4096x512_0_0 inb_S256x5120_S256x512_0_0 (e0 _) (e1 _) x3 x4 x5, ?_⟩
  exact fun p hp => absurd hp List.not_mem_nil

/-- The first result's block at a grid point. -/
theorem h1_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S4096x5120 .fp8e4m3) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x5120 .f32) (harg8 : arg8.IsWhole) (arg9 : Memref sig .tc .vmem S256x5120 .fp8e4m3) (harg9 : arg9.IsWhole)
    (x0 : Vec Ideal S1 .f32) (x1 : Vec Ideal S1 .f32) (x2 : Vec Ideal S1 .f32) (x3 : Vec Ideal S256x4096 .fp8e4m3) (x4 : Vec Ideal S4096x5120 .fp8e4m3) (x5 : Vec Ideal S256x5120 .bf16) (x6 : Vec Ideal S1x5120 .f32) :
    out0_A_7 c i arg1 harg1 arg2 harg2 arg3 harg3 arg4 harg4 arg5 harg5 arg6 harg6 arg7 harg7 arg8 harg8 arg9 harg9 x0 x1 x2 x3 x4 x5 x6 = h1Block (x0 (ix1 0)) (x1 (ix1 0)) x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  exact h1_canon c i arg1 harg1 arg2 harg2 arg3 harg3 arg4 harg4 arg5 harg5 arg6 harg6 arg7 harg7 arg8 harg8 arg9 harg9 x0 x1 x2 x3 x4 x5 x6

/-- The second result's block at a grid point. -/
theorem x2_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S256x4096 .fp8e4m3) (harg4 : arg4.IsWhole) (arg5 : Memref sig .tc .vmem S4096x5120 .fp8e4m3) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x5120 .f32) (harg8 : arg8.IsWhole) (arg9 : Memref sig .tc .vmem S256x5120 .fp8e4m3) (harg9 : arg9.IsWhole)
    (x0 : Vec Ideal S1 .f32) (x1 : Vec Ideal S1 .f32) (x2 : Vec Ideal S1 .f32) (x3 : Vec Ideal S256x4096 .fp8e4m3) (x4 : Vec Ideal S4096x5120 .fp8e4m3) (x5 : Vec Ideal S256x5120 .bf16) (x6 : Vec Ideal S1x5120 .f32) :
    out0_A_8 c i arg1 harg1 arg2 harg2 arg3 harg3 arg4 harg4 arg5 harg5 arg6 harg6 arg7 harg7 arg8 harg8 arg9 harg9 x0 x1 x2 x3 x4 x5 x6 = x2Block (h1Block (x0 (ix1 0)) (x1 (ix1 0)) x3 x4 x5) x6 (x2 (ix1 0)) := by
  funext y
  have hc := cover0_A_8 c i arg1 harg1 arg2 harg2 arg3 harg3 arg4 harg4 arg5 harg5 arg6 harg6 arg7 harg7 arg8 harg8 arg9 harg9 x0 x1 x2 x3 x4 x5 x6 y
  have hread (o : ℕ) (h : ∀ a, (![o, 0] : Fin 2 → ℕ) a + S32x5120.size a ≤ S256x5120.size a) :
      arg8.view.readCov (kernelRun0_A c i arg1 harg1 arg2 harg2 arg3 harg3 arg4 harg4 arg5 harg5 arg6 harg6 arg7 harg7 arg8 harg8 arg9 harg9 x0 x1 x2 x3 x4 x5 x6).1 (Rect.unit (s := S256x5120) ![o, 0] S32x5120.size h).toLoadRect
        = fun j => h1Block (x0 (ix1 0)) (x1 (ix1 0)) x3 x4 x5 ((Rect.unit (s := S256x5120) ![o, 0] S32x5120.size h).emb j) := by
    rw [View.readCov_eq_canon', h1_canon]
    rfl
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6)]
  refine View.canon_apply_of_pieces _ _ ?_ y hc
  revert hread
  unfold kernelRun0_A
  dsimp only
  sl_unfold_words
  simp only [View.readAt_eq_ld, harg1.read_unread, harg2.read_unread, harg3.read_unread, harg4.read_unread, harg5.read_unread, harg6.read_unread, harg7.read_unread,
    View.ld_unit_zero (S := S256x4096) off2, View.ld_unit_zero (S := S1x5120) off2]
  intro hread
  have e2 (j : S1.Idx) : x2 j = x2 (ix1 0) := congrArg x2 (idx_one j)
  refine List.forall_mem_cons.mpr ⟨x2_tile 224 inb_S256x5120_S32x5120_224_0 (hread 224 inb_S256x5120_S32x5120_224_0) x6 (e2 _), ?_⟩
  refine List.forall_mem_cons.mpr ⟨x2_tile 192 inb_S256x5120_S32x5120_192_0 (hread 192 inb_S256x5120_S32x5120_192_0) x6 (e2 _), ?_⟩
  refine List.forall_mem_cons.mpr ⟨x2_tile 160 inb_S256x5120_S32x5120_160_0 (hread 160 inb_S256x5120_S32x5120_160_0) x6 (e2 _), ?_⟩
  refine List.forall_mem_cons.mpr ⟨x2_tile 128 inb_S256x5120_S32x5120_128_0 (hread 128 inb_S256x5120_S32x5120_128_0) x6 (e2 _), ?_⟩
  refine List.forall_mem_cons.mpr ⟨x2_tile 96 inb_S256x5120_S32x5120_96_0 (hread 96 inb_S256x5120_S32x5120_96_0) x6 (e2 _), ?_⟩
  refine List.forall_mem_cons.mpr ⟨x2_tile 64 inb_S256x5120_S32x5120_64_0 (hread 64 inb_S256x5120_S32x5120_64_0) x6 (e2 _), ?_⟩
  refine List.forall_mem_cons.mpr ⟨x2_tile 32 inb_S256x5120_S32x5120_32_0 (hread 32 inb_S256x5120_S32x5120_32_0) x6 (e2 _), ?_⟩
  refine List.forall_mem_cons.mpr ⟨x2_tile 0 inb_S256x5120_S32x5120_0_0 (hread 0 inb_S256x5120_S32x5120_0_0) x6 (e2 _), ?_⟩
  exact fun p hp => absurd hp List.not_mem_nil

end Cert.OProjIdeal.Block

end
-- ==== Proof.OProj.Kernel.lean ====
/- The output projection: what the kernel's result arrays hold after the run. -/
module

public import proofs.«01_k».proof.Proof.OProj.Block

@[expose] public section

noncomputable section

open Idealize.ShloMosaic Idealize.ShloMosaic.TcCoe Idealize.SL.Sem Idealize.ShloMosaic.ValueIdx
open Idealize.ShloMosaic.Pipeline (Dat)

namespace Cert.OProjIdeal.Array

open Cert.OProjIdeal Cert.OProjIdeal.Gen Cert.Common Cert.OProj

variable (m : (ℓ : Loc nD τ sig) → Buf (Elt Ideal) ℓ)

/-- The activation scale as the region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The weight scale as the region finds it: the argument, reshaped to one element. -/
theorem V_main_v1 (c : Dev nD) (i : S1.Idx) : V m c main_v1 i = m ((c : Thread nD τ).loc main_arg3) ix0 := by
  dsimp only [V, hostOps0]
  after_results
  exact congrArg (m ((c : Thread nD τ).loc main_arg3)) (eq_ix0 _)

/-- The second result's scale as the region finds it: the argument, reshaped to one element. -/
theorem V_main_v2 (c : Dev nD) (i : S1.Idx) : V m c main_v2 i = m ((c : Thread nD τ).loc main_arg6) ix0 := by
  dsimp only [V, hostOps0]
  after_results
  exact congrArg (m ((c : Thread nD τ).loc main_arg6)) (eq_ix0 _)

/-- The norm's weights as the region finds them: the argument, reshaped to one row. -/
theorem V_main_v3 (c : Dev nD) (i : S1x5120.Idx) (k : Fin 5120) (h : (i 1 : ℕ) = k.val) :
    V m c main_v3 i = m ((c : Thread nD τ).loc main_arg5) (ix1 k) := by
  dsimp only [V, hostOps0]
  after_results
  exact row_of_vector (m ((c : Thread nD τ).loc main_arg5)) _ i k h

/-- The first result at an element, as a formula of the arguments. -/
def H (c : Dev nD) (r : Fin 4608) (q : Fin 5120) : EReal :=
  h1 (n := 4608) (m ((c : Thread nD τ).loc main_arg2) ix0) (m ((c : Thread nD τ).loc main_arg3) ix0) (m ((c : Thread nD τ).loc main_arg0)) (m ((c : Thread nD τ).loc main_arg1)) (m ((c : Thread nD τ).loc main_arg4)) r q

/-- The first result array. -/
def result7 (c : Dev nD) : Buf (Elt Ideal) ((c : Thread nD τ).loc main_v4_0) := fun i => H m c (i 0) (i 1)

/-- The second result array: the codes of the normed rows of the first. -/
def result8 (c : Dev nD) : Buf (Elt Ideal) ((c : Thread nD τ).loc main_v4_1) := fun i =>
  code (normed (fun k => H m c (i 0) k) (fun k => m ((c : Thread nD τ).loc main_arg5) (ix1 k)) (i 1)) (m ((c : Thread nD τ).loc main_arg6) ix0)

/-- Where each window's block sits at a grid point: the point's group of rows, or the whole array. -/
theorem idx_facts : ∀ t : Fin cfg0.N,
    win0_7.index t 0 < 18 ∧ win0_7.index t 1 = 0
    ∧ win0_8.index t 0 = win0_7.index t 0 ∧ win0_8.index t 1 = 0
    ∧ win0_3.index t 0 = win0_7.index t 0 ∧ win0_3.index t 1 = 0
    ∧ win0_4.index t 0 = 0 ∧ win0_4.index t 1 = 0
    ∧ win0_5.index t 0 = win0_7.index t 0 ∧ win0_5.index t 1 = 0
    ∧ win0_6.index t 0 = 0 ∧ win0_6.index t 1 = 0 :=
  (by decide +kernel : ∀ t : Fin grid0.N, win0_7.index t 0 < 18 ∧ win0_7.index t 1 = 0
    ∧ win0_8.index t 0 = win0_7.index t 0 ∧ win0_8.index t 1 = 0
    ∧ win0_3.index t 0 = win0_7.index t 0 ∧ win0_3.index t 1 = 0
    ∧ win0_4.index t 0 = 0 ∧ win0_4.index t 1 = 0
    ∧ win0_5.index t 0 = win0_7.index t 0 ∧ win0_5.index t 1 = 0
    ∧ win0_6.index t 0 = 0 ∧ win0_6.index t 1 = 0)

/-- Every group of 256 rows is some grid point's block of window 7, which it writes back. -/
theorem idx_onto7 : ∀ b : Fin 18, ∃ t : Fin cfg0.N, win0_7.index t 0 = b ∧ win0_7.index t 1 = 0 ∧ (cfg0.win 7).flush t = true :=
  (by decide +kernel : ∀ b : Fin 18, ∃ t : Fin grid0.N, win0_7.index t 0 = b ∧ win0_7.index t 1 = 0 ∧ (cfg0.win 7).flush t = true)

/-- Every group of 256 rows is some grid point's block of window 8, which it writes back. -/
theorem idx_onto8 : ∀ b : Fin 18, ∃ t : Fin cfg0.N, win0_8.index t 0 = b ∧ win0_8.index t 1 = 0 ∧ (cfg0.win 8).flush t = true :=
  (by decide +kernel : ∀ b : Fin 18, ∃ t : Fin grid0.N, win0_8.index t 0 = b ∧ win0_8.index t 1 = 0 ∧ (cfg0.win 8).flush t = true)

/-- The first result's block, computed from the point's blocks of the arguments, is `H` on the point's rows. -/
theorem h1Block_eq (c : Dev nD) (t : Fin cfg0.N) (r : Fin 256) (R : Fin 4608) (hR : R.val = win0_7.index t 0 * 256 + r.val) (q : Fin 5120) :
    h1Block ((iblk m c 0 t : Vec Ideal S1 .f32) (ix1 0)) ((iblk m c 1 t : Vec Ideal S1 .f32) (ix1 0)) (iblk m c 3 t : Vec Ideal S256x4096 .fp8e4m3)
      (iblk m c 4 t : Vec Ideal S4096x5120 .fp8e4m3) (iblk m c 5 t : Vec Ideal S256x5120 .bf16) (ix2 r q) = H m c R q := by
  obtain ⟨-, -, -, -, h30, h31, h40, h41, h50, h51, -, -⟩ := idx_facts t
  have hs : (iblk m c 0 t : Vec Ideal S1 .f32) (ix1 0) = m ((c : Thread nD τ).loc main_arg2) ix0 := V_main_v0 m c _
  have ht : (iblk m c 1 t : Vec Ideal S1 .f32) (ix1 0) = m ((c : Thread nD τ).loc main_arg3) ix0 := V_main_v1 m c _
  have ho (k : Fin 4096) : (iblk m c 3 t : Vec Ideal S256x4096 .fp8e4m3) (ix2 r k) = m ((c : Thread nD τ).loc main_arg0) (ix2 R k) := by
    refine (congrFun (V_main_arg0 m c) _).trans (congrArg (m ((c : Thread nD τ).loc main_arg0)) (Shape.idx_ext₂ ?_ ?_))
    · refine (win0_3.rect_emb_val t (ix2 r k) 0).trans ?_
      rw [h30]; exact hR.symm
    · refine (win0_3.rect_emb_val t (ix2 r k) 1).trans ?_
      rw [h31]; exact Nat.zero_add _
  have hw (k : Fin 4096) : (iblk m c 4 t : Vec Ideal S4096x5120 .fp8e4m3) (ix2 k q) = m ((c : Thread nD τ).loc main_arg1) (ix2 k q) := by
    refine (congrFun (V_main_arg1 m c) _).trans (congrArg (m ((c : Thread nD τ).loc main_arg1)) (Shape.idx_ext₂ ?_ ?_))
    · refine (win0_4.rect_emb_val t (ix2 k q) 0).trans ?_
      rw [h40]; exact Nat.zero_add _
    · refine (win0_4.rect_emb_val t (ix2 k q) 1).trans ?_
      rw [h41]; exact Nat.zero_add _
  have hx : (iblk m c 5 t : Vec Ideal S256x5120 .bf16) (ix2 r q) = m ((c : Thread nD τ).loc main_arg4) (ix2 R q) := by
    refine (congrFun (V_main_arg4 m c) _).trans (congrArg (m ((c : Thread nD τ).loc main_arg4)) (Shape.idx_ext₂ ?_ ?_))
    · refine (win0_5.rect_emb_val t (ix2 r q) 0).trans ?_
      rw [h50]; exact hR.symm
    · refine (win0_5.rect_emb_val t (ix2 r q) 1).trans ?_
      rw [h51]; exact Nat.zero_add _
  exact congrArg₂ (· + ·) hx (congrArg₂ (· * ·) (Finset.sum_congr rfl fun k _ => congrArg₂ (· * ·) (ho k) (hw k)) (congrArg₂ (· * ·) hs ht))

/-- What a grid point writes back of the first result is its block of `result7`. -/
theorem flushed7_eq (c : Dev nD) (t : Fin cfg0.N) :
    (dats m 0 c).flushed 7 t = ((cfg0.win 7).blk t).view.read (Elt Ideal) (result7 m c) := by
  obtain ⟨-, h71, -⟩ := idx_facts t
  rw [Cert.OProjIdeal.Value.flushed7_A]
  funext y
  obtain ⟨r, q, rfl⟩ : ∃ (r : Fin 256) (q : Fin 5120), y = ix2 r q := ⟨y 0, y 1, eq_ix2 y⟩
  refine (congrFun (Block.h1_eq _ _ _ _ _ _ _ _ _ _ _ _ _ _ _ _ _ _ _ _ _ _ _ _ _ _ _) (ix2 r q)).trans ?_
  have e0 : ((win0_7.rect t).emb (ix2 r q) 0 : ℕ) = win0_7.index t 0 * 256 + r.val := win0_7.rect_emb_val t _ 0
  have e1 : (win0_7.rect t).emb (ix2 r q) 1 = q := by
    refine Fin.ext ((win0_7.rect_emb_val t (ix2 r q) 1).trans ?_)
    rw [h71]; exact Nat.zero_add _
  exact (h1Block_eq m c t r _ e0 q).trans (congrArg (H m c ((win0_7.rect t).emb (ix2 r q) 0)) e1.symm)

/-- What a grid point writes back of the second result is its block of `result8`. -/
theorem flushed8_eq (c : Dev nD) (t : Fin cfg0.N) :
    (dats m 0 c).flushed 8 t = ((cfg0.win 8).blk t).view.read (Elt Ideal) (result8 m c) := by
  obtain ⟨-, -, h80, h81, -, -, -, -, -, -, h60, h61⟩ := idx_facts t
  rw [Cert.OProjIdeal.Value.flushed8_A]
  funext y
  obtain ⟨r, q, rfl⟩ : ∃ (r : Fin 256) (q : Fin 5120), y = ix2 r q := ⟨y 0, y 1, eq_ix2 y⟩
  refine (congrFun (Block.x2_eq _ _ _ _ _ _ _ _ _ _ _ _ _ _ _ _ _ _ _ _ _ _ _ _ _ _ _) (ix2 r q)).trans ?_
  have e0 : ((win0_8.rect t).emb (ix2 r q) 0 : ℕ) = win0_7.index t 0 * 256 + r.val :=
    (win0_8.rect_emb_val t _ 0).trans (by rw [h80]; rfl)
  have e1 : (win0_8.rect t).emb (ix2 r q) 1 = q := by
    refine Fin.ext ((win0_8.rect_emb_val t (ix2 r q) 1).trans ?_)
    rw [h81]; exact Nat.zero_add _
  have hu : (iblk m c 2 t : Vec Ideal S1 .f32) (ix1 0) = m ((c : Thread nD τ).loc main_arg6) ix0 := V_main_v2 m c _
  have hw (k : Fin 5120) : (iblk m c 6 t : Vec Ideal S1x5120 .f32) (ix2 0 k) = m ((c : Thread nD τ).loc main_arg5) (ix1 k) := by
    refine V_main_v3 m c _ k ((win0_6.rect_emb_val t (ix2 0 k) 1).trans ?_)
    rw [h61]; exact Nat.zero_add _
  exact congrArg₂ code (normed_congr (fun k => h1Block_eq m c t r _ e0 k) hw e1.symm) hu

/-- The blocks cover the array of window 7. -/
theorem cover7 (i : S4608x5120.Idx) : ∃ t : Fin cfg0.N, (cfg0.win 7).flush t = true ∧ i ∈ ((cfg0.win 7).blk t).view.set := by
  have b0 : (i 0 : ℕ) < 4608 := (i 0).isLt
  have b1 : (i 1 : ℕ) < 5120 := (i 1).isLt
  obtain ⟨t, h0, h1, hf⟩ := idx_onto7 ⟨(i 0 : ℕ) / 256, by omega⟩
  refine ⟨t, hf, ?_⟩
  show i ∈ ((View.whole main_v4_0).slice (win0_7.rect t)).set
  rw [View.set_slice_whole, Rect.mem_set_unit]
  intro a
  match a with
  | ⟨0, _⟩ => show win0_7.index t 0 * 256 ≤ (i 0 : ℕ) ∧ (i 0 : ℕ) < win0_7.index t 0 * 256 + 256
              rw [h0]; dsimp only; omega
  | ⟨1, _⟩ => show win0_7.index t 1 * 5120 ≤ (i 1 : ℕ) ∧ (i 1 : ℕ) < win0_7.index t 1 * 5120 + 5120
              rw [h1]; omega

/-- After the run the array of window 7 holds `result7`. -/
theorem final7 (c : Dev nD) : (dats m 0 c).arrAt 7 cfg0.N = result7 m c :=
  (dats m 0 c).arrAt_eq_of_cover 7 (result7 m c) (fun t _ => flushed7_eq m c t) cover7

/-- The blocks cover the array of window 8. -/
theorem cover8 (i : S4608x5120.Idx) : ∃ t : Fin cfg0.N, (cfg0.win 8).flush t = true ∧ i ∈ ((cfg0.win 8).blk t).view.set := by
  have b0 : (i 0 : ℕ) < 4608 := (i 0).isLt
  have b1 : (i 1 : ℕ) < 5120 := (i 1).isLt
  obtain ⟨t, h0, h1, hf⟩ := idx_onto8 ⟨(i 0 : ℕ) / 256, by omega⟩
  refine ⟨t, hf, ?_⟩
  show i ∈ ((View.whole main_v4_1).slice (win0_8.rect t)).set
  rw [View.set_slice_whole, Rect.mem_set_unit]
  intro a
  match a with
  | ⟨0, _⟩ => show win0_8.index t 0 * 256 ≤ (i 0 : ℕ) ∧ (i 0 : ℕ) < win0_8.index t 0 * 256 + 256
              rw [h0]; dsimp only; omega
  | ⟨1, _⟩ => show win0_8.index t 1 * 5120 ≤ (i 1 : ℕ) ∧ (i 1 : ℕ) < win0_8.index t 1 * 5120 + 5120
              rw [h1]; omega

/-- After the run the array of window 8 holds `result8`. -/
theorem final8 (c : Dev nD) : (dats m 0 c).arrAt 8 cfg0.N = result8 m c :=
  (dats m 0 c).arrAt_eq_of_cover 8 (result8 m c) (fun t _ => flushed8_eq m c t) cover8

end Cert.OProjIdeal.Array

end
-- ==== Proof.OProj.Reference.lean ====
/- The output projection: what the reference's result arrays hold after its run. -/
module

public import proofs.«01_k».proof.Proof.OProj.Spec
public import proofs.«01_k».proof.Proof.Gen.OProjRefIdeal.Value

@[expose] public section

noncomputable section

open Idealize.ShloMosaic Idealize.ShloMosaic.TcCoe Idealize.SL.Sem Idealize.ShloMosaic.ValueIdx
open Idealize.ShloMosaic.Pipeline (Dat)

namespace Cert.OProjRefIdeal.Array

open Cert.OProjRefIdeal Cert.OProjRefIdeal.Gen Cert.Common Cert.OProj

/-- What the body leaves in the first result is its stored value, at the contents of its inputs. -/
theorem out7_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S4608x4096 .fp8e4m3) (harg3 : arg3.IsWhole) (arg4 : Memref sig .tc .vmem S4096x5120 .fp8e4m3) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x5120 .f32) (harg7 : arg7.IsWhole) (arg8 : Memref sig .tc .vmem S4608x5120 .fp8e4m3) (harg8 : arg8.IsWhole)
    (x0 : Vec Ideal S1 .f32) (x1 : Vec Ideal S1 .f32) (x2 : Vec Ideal S1 .f32) (x3 : Vec Ideal S4608x4096 .fp8e4m3) (x4 : Vec Ideal S4096x5120 .fp8e4m3) (x5 : Vec Ideal S4608x5120 .bf16) (x6 : Vec Ideal S1x5120 .f32) :
    out0_A_7 c arg0 harg0 arg1 harg1 arg2 harg2 arg3 harg3 arg4 harg4 arg5 harg5 arg6 harg6 arg7 harg7 arg8 harg8 x0 x1 x2 x3 x4 x5 x6
      = k0_pay1 x5 x3 x4 (x0 (ix1 0)) (x1 (ix1 0)) := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread,
    View.ld_unit_zero (S := S4608x5120) off2, View.ld_unit_zero (S := S4608x4096) off2, View.ld_unit_zero (S := S4096x5120) off2,
    View.ld_unit_zero (S := S1x5120) off2]
  have e0 (i : S1.Idx) : x0 i = x0 (ix1 0) := congrArg x0 (idx_one i)
  have e1 (i : S1.Idx) : x1 i = x1 (ix1 0) := congrArg x1 (idx_one i)
  exact congrArg₂ (fun a b => k0_pay1 x5 x3 x4 a b) (e0 _) (e1 _)

/-- What the body leaves in the second result is its stored value, at the contents of its inputs. -/
theorem out8_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .vmem S4608x4096 .fp8e4m3) (harg3 : arg3.IsWhole) (arg4 : Memref sig .tc .vmem S4096x5120 .fp8e4m3) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x5120 .f32) (harg7 : arg7.IsWhole) (arg8 : Memref sig .tc .vmem S4608x5120 .fp8e4m3) (harg8 : arg8.IsWhole)
    (x0 : Vec Ideal S1 .f32) (x1 : Vec Ideal S1 .f32) (x2 : Vec Ideal S1 .f32) (x3 : Vec Ideal S4608x4096 .fp8e4m3) (x4 : Vec Ideal S4096x5120 .fp8e4m3) (x5 : Vec Ideal S4608x5120 .bf16) (x6 : Vec Ideal S1x5120 .f32) :
    out0_A_8 c arg0 harg0 arg1 harg1 arg2 harg2 arg3 harg3 arg4 harg4 arg5 harg5 arg6 harg6 arg7 harg7 arg8 harg8 x0 x1 x2 x3 x4 x5 x6
      = k0_pay2 x5 x3 x4 (x0 (ix1 0)) (x1 (ix1 0)) x6 (x2 (ix1 0)) := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5 x6)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread,
    View.ld_unit_zero (S := S4608x5120) off2, View.ld_unit_zero (S := S4608x4096) off2, View.ld_unit_zero (S := S4096x5120) off2,
    View.ld_unit_zero (S := S1x5120) off2]
  have e0 (i : S1.Idx) : x0 i = x0 (ix1 0) := congrArg x0 (idx_one i)
  have e1 (i : S1.Idx) : x1 i = x1 (ix1 0) := congrArg x1 (idx_one i)
  have e2 (i : S1.Idx) : x2 i = x2 (ix1 0) := congrArg x2 (idx_one i)
  exact congr (congrArg₂ (fun a b => k0_pay2 x5 x3 x4 a b x6) (e0 _) (e1 _)) (e2 _)

/-- The first result's stored value at row `r`, column `q`. -/
theorem pay1_apply (s t : EReal) (o : Vec Ideal S4608x4096 .fp8e4m3) (w : Vec Ideal S4096x5120 .fp8e4m3) (x : Vec Ideal S4608x5120 .bf16)
    (r : Fin 4608) (q : Fin 5120) : k0_pay1 (F := Ideal) x o w s t (ix2 r q) = h1 s t o w x r q := by
  have e := matmul_zero (φ₁ := .fp8e4m3) (φ₂ := .fp8e4m3) none o w r q
  exact (congrArg (fun z => x (ix2 r q) + z * s * t) e).trans (congrArg (x (ix2 r q) + ·) (mul_assoc _ _ _))

/-- The second result's stored value at row `r`, column `q`: the code of the row's norm. -/
theorem pay2_apply (s t u : EReal) (o : Vec Ideal S4608x4096 .fp8e4m3) (w : Vec Ideal S4096x5120 .fp8e4m3) (x : Vec Ideal S4608x5120 .bf16)
    (l : Vec Ideal S1x5120 .f32) (r : Fin 4608) (q : Fin 5120) :
    k0_pay2 (F := Ideal) x o w s t l u (ix2 r q) = code (normed (fun k => h1 s t o w x r k) (fun k => l (ix2 0 k)) q) u := by
  have e1 : shapeCast S1x5120 l shapeCasts_S1x5120_S1x5120 = l := shapeCast_self _ _
  have eh (k : Fin 5120) := pay1_apply s t o w x r k
  unfold k0_pay2
  generalize k0_pay1 (F := Ideal) x o w s t = v at eh ⊢
  dsimp only
  rw [e1]
  refine (normed_reference_apply v l u reduces_S4608x5120_S4608 (.inl rfl) rfl shapeCasts_S4608_S4608x1 broadcasts_S4608x1_S4608x5120
    broadcasts_S1x5120_S4608x5120 r q).trans ?_
  exact congrArg (fun z => code z u) (normed_congr eh (fun _ => rfl) rfl)

variable (m : (ℓ : Loc nD τ sig) → Buf (Elt Ideal) ℓ)

/-- The activation scale as the region finds it: the argument, reshaped to one element. -/
theorem V_main_v0 (c : Dev nD) (i : S1.Idx) : V m c main_v0 i = m ((c : Thread nD τ).loc main_arg2) ix0 := by
  dsimp only [V, hostOps0]
  after_results
  exact congrArg (m ((c : Thread nD τ).loc main_arg2)) (eq_ix0 _)

/-- The weight scale as the region finds it: the argument, reshaped to one element. -/
theorem V_main_v1 (c : Dev nD) (i : S1.Idx) : V m c main_v1 i = m ((c : Thread nD τ).loc main_arg3) ix0 := by
  dsimp only [V, hostOps0]
  after_results
  exact congrArg (m ((c : Thread nD τ).loc main_arg3)) (eq_ix0 _)

/-- The second result's scale as the region finds it: the argument, reshaped to one element. -/
theorem V_main_v2 (c : Dev nD) (i : S1.Idx) : V m c main_v2 i = m ((c : Thread nD τ).loc main_arg6) ix0 := by
  dsimp only [V, hostOps0]
  after_results
  exact congrArg (m ((c : Thread nD τ).loc main_arg6)) (eq_ix0 _)

/-- The norm's weights as the region finds them: the argument, reshaped to one row. -/
theorem V_main_v3 (c : Dev nD) (i : S1x5120.Idx) (k : Fin 5120) (h : (i 1 : ℕ) = k.val) :
    V m c main_v3 i = m ((c : Thread nD τ).loc main_arg5) (ix1 k) := by
  dsimp only [V, hostOps0]
  after_results
  exact row_of_vector (m ((c : Thread nD τ).loc main_arg5)) _ i k h

/-- The first result at an element, as a formula of the arguments. -/
def H (c : Dev nD) (r : Fin 4608) (q : Fin 5120) : EReal :=
  h1 (n := 4608) (m ((c : Thread nD τ).loc main_arg2) ix0) (m ((c : Thread nD τ).loc main_arg3) ix0) (m ((c : Thread nD τ).loc main_arg0)) (m ((c : Thread nD τ).loc main_arg1)) (m ((c : Thread nD τ).loc main_arg4)) r q

/-- The first result array. -/
def result7 (c : Dev nD) : Buf (Elt Ideal) ((c : Thread nD τ).loc main_v4_0) := fun i => H m c (i 0) (i 1)

/-- The second result array: the codes of the normed rows of the first. -/
def result8 (c : Dev nD) : Buf (Elt Ideal) ((c : Thread nD τ).loc main_v4_1) := fun i =>
  code (normed (fun k => H m c (i 0) k) (fun k => m ((c : Thread nD τ).loc main_arg5) (ix1 k)) (i 1)) (m ((c : Thread nD τ).loc main_arg6) ix0)

/-- The one block of each input window is its whole array. -/
theorem blk_arg0 (c : Dev nD) (t : Fin cfg0.N) : iblk m c 3 t = m ((c : Thread nD τ).loc main_arg0) := by
  funext y
  exact (congrFun (V_main_arg0 m c) _).trans (congrArg (m ((c : Thread nD τ).loc main_arg0))
    (funext fun a => Fin.ext (win0_3.rect_emb_val_of_index_zero t a rfl y)))
theorem blk_arg1 (c : Dev nD) (t : Fin cfg0.N) : iblk m c 4 t = m ((c : Thread nD τ).loc main_arg1) := by
  funext y
  exact (congrFun (V_main_arg1 m c) _).trans (congrArg (m ((c : Thread nD τ).loc main_arg1))
    (funext fun a => Fin.ext (win0_4.rect_emb_val_of_index_zero t a rfl y)))
theorem blk_arg4 (c : Dev nD) (t : Fin cfg0.N) : iblk m c 5 t = m ((c : Thread nD τ).loc main_arg4) := by
  funext y
  exact (congrFun (V_main_arg4 m c) _).trans (congrArg (m ((c : Thread nD τ).loc main_arg4))
    (funext fun a => Fin.ext (win0_5.rect_emb_val_of_index_zero t a rfl y)))

/-- What the one point writes back of the first result is `result7`. -/
theorem flushed7_eq (c : Dev nD) (t : Fin cfg0.N) :
    (dats m 0 c).flushed 7 t = ((cfg0.win 7).blk t).view.read (Elt Ideal) (result7 m c) := by
  rw [Cert.OProjRefIdeal.Value.flushed7_A, out7_eq, blk_arg0, blk_arg1, blk_arg4]
  funext y
  obtain ⟨r, q, rfl⟩ : ∃ (r : Fin 4608) (q : Fin 5120), y = ix2 r q := ⟨y 0, y 1, eq_ix2 y⟩
  refine (pay1_apply _ _ _ _ _ r q).trans ?_
  have e : (win0_7.rect t).emb (ix2 r q) = ix2 r q :=
    funext fun a => Fin.ext (win0_7.rect_emb_val_of_index_zero t a rfl (ix2 r q))
  have hs : (iblk m c 0 t : Vec Ideal S1 .f32) (ix1 0) = m ((c : Thread nD τ).loc main_arg2) ix0 := V_main_v0 m c _
  have ht : (iblk m c 1 t : Vec Ideal S1 .f32) (ix1 0) = m ((c : Thread nD τ).loc main_arg3) ix0 := V_main_v1 m c _
  refine Eq.trans ?_ (congrArg (result7 m c) e).symm
  exact congrArg₂ (fun a b => h1 (n := 4608) a b (m ((c : Thread nD τ).loc main_arg0)) (m ((c : Thread nD τ).loc main_arg1)) (m ((c : Thread nD τ).loc main_arg4)) r q) hs ht

/-- What the one point writes back of the second result is `result8`. -/
theorem flushed8_eq (c : Dev nD) (t : Fin cfg0.N) :
    (dats m 0 c).flushed 8 t = ((cfg0.win 8).blk t).view.read (Elt Ideal) (result8 m c) := by
  rw [Cert.OProjRefIdeal.Value.flushed8_A, out8_eq, blk_arg0, blk_arg1, blk_arg4]
  funext y
  obtain ⟨r, q, rfl⟩ : ∃ (r : Fin 4608) (q : Fin 5120), y = ix2 r q := ⟨y 0, y 1, eq_ix2 y⟩
  refine (pay2_apply _ _ _ _ _ _ _ r q).trans ?_
  have e : (win0_8.rect t).emb (ix2 r q) = ix2 r q :=
    funext fun a => Fin.ext (win0_8.rect_emb_val_of_index_zero t a rfl (ix2 r q))
  have hs : (iblk m c 0 t : Vec Ideal S1 .f32) (ix1 0) = m ((c : Thread nD τ).loc main_arg2) ix0 := V_main_v0 m c _
  have ht : (iblk m c 1 t : Vec Ideal S1 .f32) (ix1 0) = m ((c : Thread nD τ).loc main_arg3) ix0 := V_main_v1 m c _
  have hu : (iblk m c 2 t : Vec Ideal S1 .f32) (ix1 0) = m ((c : Thread nD τ).loc main_arg6) ix0 := V_main_v2 m c _
  have hw (k : Fin 5120) : (iblk m c 6 t : Vec Ideal S1x5120 .f32) (ix2 0 k) = m ((c : Thread nD τ).loc main_arg5) (ix1 k) :=
    V_main_v3 m c _ k (win0_6.rect_emb_val_of_index_zero t 1 rfl (ix2 0 k))
  refine Eq.trans ?_ (congrArg (result8 m c) e).symm
  exact congrArg₂ code (normed_congr (fun k => congrArg₂ (fun a b => h1 (n := 4608) a b (m ((c : Thread nD τ).loc main_arg0)) (m ((c : Thread nD τ).loc main_arg1)) (m ((c : Thread nD τ).loc main_arg4)) r k) hs ht) hw rfl) hu

/-- The one block covers the array of window 7. -/
theorem cover7 (i : S4608x5120.Idx) : ∃ t : Fin cfg0.N, (cfg0.win 7).flush t = true ∧ i ∈ ((cfg0.win 7).blk t).view.set := by
  refine ⟨t0_0, by decide +kernel, ?_⟩
  show i ∈ ((View.whole main_v4_0).slice (win0_7.rect t0_0)).set
  rw [View.set_slice_whole, Rect.mem_set_unit]
  intro a
  have b0 : (i 0 : ℕ) < 4608 := (i 0).isLt
  have b1 : (i 1 : ℕ) < 5120 := (i 1).isLt
  match a with
  | ⟨0, _⟩ => show win0_7.index t0_0 0 * win0_7.size 0 ≤ (i 0 : ℕ) ∧ (i 0 : ℕ) < win0_7.index t0_0 0 * win0_7.size 0 + win0_7.xsize (grid0.coords t0_0) 0
              rw [show win0_7.index t0_0 0 * win0_7.size 0 = 0 from by decide +kernel, show win0_7.xsize (grid0.coords t0_0) 0 = 4608 from by decide +kernel]; omega
  | ⟨1, _⟩ => show win0_7.index t0_0 1 * win0_7.size 1 ≤ (i 1 : ℕ) ∧ (i 1 : ℕ) < win0_7.index t0_0 1 * win0_7.size 1 + win0_7.xsize (grid0.coords t0_0) 1
              rw [show win0_7.index t0_0 1 * win0_7.size 1 = 0 from by decide +kernel, show win0_7.xsize (grid0.coords t0_0) 1 = 5120 from by decide +kernel]; omega

/-- After the run the array of window 7 holds `result7`. -/
theorem final7 (c : Dev nD) : (dats m 0 c).arrAt 7 cfg0.N = result7 m c :=
  (dats m 0 c).arrAt_eq_of_cover 7 (result7 m c) (fun t _ => flushed7_eq m c t) cover7

/-- The one block covers the array of window 8. -/
theorem cover8 (i : S4608x5120.Idx) : ∃ t : Fin cfg0.N, (cfg0.win 8).flush t = true ∧ i ∈ ((cfg0.win 8).blk t).view.set := by
  refine ⟨t0_0, by decide +kernel, ?_⟩
  show i ∈ ((View.whole main_v4_1).slice (win0_8.rect t0_0)).set
  rw [View.set_slice_whole, Rect.mem_set_unit]
  intro a
  have b0 : (i 0 : ℕ) < 4608 := (i 0).isLt
  have b1 : (i 1 : ℕ) < 5120 := (i 1).isLt
  match a with
  | ⟨0, _⟩ => show win0_8.index t0_0 0 * win0_8.size 0 ≤ (i 0 : ℕ) ∧ (i 0 : ℕ) < win0_8.index t0_0 0 * win0_8.size 0 + win0_8.xsize (grid0.coords t0_0) 0
              rw [show win0_8.index t0_0 0 * win0_8.size 0 = 0 from by decide +kernel, show win0_8.xsize (grid0.coords t0_0) 0 = 4608 from by decide +kernel]; omega
  | ⟨1, _⟩ => show win0_8.index t0_0 1 * win0_8.size 1 ≤ (i 1 : ℕ) ∧ (i 1 : ℕ) < win0_8.index t0_0 1 * win0_8.size 1 + win0_8.xsize (grid0.coords t0_0) 1
              rw [show win0_8.index t0_0 1 * win0_8.size 1 = 0 from by decide +kernel, show win0_8.xsize (grid0.coords t0_0) 1 = 5120 from by decide +kernel]; omega

/-- After the run the array of window 8 holds `result8`. -/
theorem final8 (c : Dev nD) : (dats m 0 c).arrAt 8 cfg0.N = result8 m c :=
  (dats m 0 c).arrAt_eq_of_cover 8 (result8 m c) (fun t _ => flushed8_eq m c t) cover8

end Cert.OProjRefIdeal.Array

end
-- ==== Proof.OProj.Equation.lean ====
/- The output projection: the kernel and the reference compute the same arrays. -/
module

public import proofs.«01_k».proof.Defs
public import proofs.«01_k».proof.Proof.OProj.Kernel
public import proofs.«01_k».proof.Proof.OProj.Reference

@[expose] public section

noncomputable section

open Idealize.ShloMosaic Idealize.ShloMosaic.TcCoe Idealize.SL.Sem

namespace Cert.OProj

/-- On equal arguments each pair of results is the same formula of them. -/
theorem algebraic : Cert.algebraic_OProjIdeal_OProjRefIdeal := by
  intro m ρ m' ρ' _ hagree
  have e (c : Dev Cert.OProjIdeal.nD) : Cert.OProjRefIdeal.Array.H m' c = Cert.OProjIdeal.Array.H m c := by
    obtain ⟨h0, h1, h2, h3, h4, -, -⟩ := hagree c
    unfold Cert.OProjRefIdeal.Array.H Cert.OProjIdeal.Array.H
    rw [h0, h1, h2, h3, h4]
  have e7 (c : Dev Cert.OProjIdeal.nD) : Cert.OProjRefIdeal.Array.result7 m' c = Cert.OProjIdeal.Array.result7 m c := by
    unfold Cert.OProjRefIdeal.Array.result7 Cert.OProjIdeal.Array.result7
    rw [e c]
    rfl
  have e8 (c : Dev Cert.OProjIdeal.nD) : Cert.OProjRefIdeal.Array.result8 m' c = Cert.OProjIdeal.Array.result8 m c := by
    obtain ⟨-, -, -, -, -, h5, h6⟩ := hagree c
    unfold Cert.OProjRefIdeal.Array.result8 Cert.OProjIdeal.Array.result8
    rw [e c, h5, h6]
    rfl
  refine ⟨fun c => Cert.OProjIdeal.Array.result7 m c, fun c => Cert.OProjIdeal.Array.result8 m c, ?_, ?_⟩
  · exact (θ_run Cert.OProjIdeal.defs _ _).mono
      (fun _ h c => ⟨(h c).1.trans (Cert.OProjIdeal.Array.final7 m c), (h c).2.1.trans (Cert.OProjIdeal.Array.final8 m c), (h c).2.2⟩)
      (Cert.OProjIdeal.Value.run_blocks (F := Ideal) m ρ)
  · exact (θ_run Cert.OProjRefIdeal.defs _ _).mono
      (fun _ h c => ⟨(h c).1.trans ((Cert.OProjRefIdeal.Array.final7 m' c).trans (e7 c)),
        (h c).2.1.trans ((Cert.OProjRefIdeal.Array.final8 m' c).trans (e8 c)), (h c).2.2⟩)
      (Cert.OProjRefIdeal.Value.run_blocks (F := Ideal) m' ρ')

end Cert.OProj

end
-- ==== Proof.Qkv.Spec.lean ====
/- The norm, the query, key and value projections and the rotary embedding as formulas of one row, shared by the kernel and
   the reference. -/
module

public import proofs.«01_k».proof.Proof.Common.Norm

@[expose] public section

noncomputable section

namespace Cert.Qkv

open Idealize.ShloMosaic Idealize.ShloMosaic.ValueIdx Cert.Common

/-- The codes of one normed row: `x` the row, `l` the norm's weights, `s` the scale. -/
def normRow (x l : Fin 5120 → EReal) (s : EReal) (k : Fin 5120) : EReal := code (normed x l k) s

/-- The product of a row with column `j` of the weights. -/
def acc (x : Fin 5120 → EReal) (w : (⟨2, ![5120, 6144]⟩ : Shape).Idx → EReal) (j : ℕ) : EReal :=
  if h : j < 6144 then ∑ k : Fin 5120, x k * w (ix2 k ⟨j, h⟩) else 0

/-- A row of 64 numbers, by position. -/
def ext (f : Fin 64 → EReal) (k : ℕ) : EReal := if h : k < 64 then f ⟨k, h⟩ else 0

/-- Rotary embedding of a row `t` of heads of 128, at column `j`: in each head the first 64 entries become
    `a cos − b sin`, the last 64 `b cos + a sin`. -/
def rope (t c s : ℕ → EReal) (j : ℕ) : EReal :=
  if j % 128 < 64 then t j * c (j % 128) - t (j + 64) * s (j % 128)
  else t j * c (j % 128 - 64) + t (j - 64) * s (j % 128 - 64)

/-- The code, with scale `s`, of column `j` of a rotated projection whose weights begin at column `o`; `z` is the product's scale. -/
def rotated (x : Fin 5120 → EReal) (w : (⟨2, ![5120, 6144]⟩ : Shape).Idx → EReal) (z : EReal) (c d : Fin 64 → EReal) (s : EReal)
    (o j : ℕ) : EReal :=
  code (rope (fun i => acc x w (o + i) * z) (ext c) (ext d) j) s

/-- The code, with scale `s`, of column `j` of a projection whose weights begin at column `o`; `z` is the product's scale. -/
def plain (x : Fin 5120 → EReal) (w : (⟨2, ![5120, 6144]⟩ : Shape).Idx → EReal) (z : EReal) (s : EReal) (o j : ℕ) : EReal :=
  code (acc x w (o + j) * z) s

theorem ext_of_lt (f : Fin 64 → EReal) {k : ℕ} (h : k < 64) : ext f k = f ⟨k, h⟩ := dif_pos h

theorem acc_of_lt (x : Fin 5120 → EReal) (w : (⟨2, ![5120, 6144]⟩ : Shape).Idx → EReal) {j : ℕ} (h : j < 6144) :
    acc x w j = ∑ k : Fin 5120, x k * w (ix2 k ⟨j, h⟩) := dif_pos h

/-- Column `q` of the head that begins at column `p`, in the head's first half. -/
theorem rope_left (t c s : ℕ → EReal) {p q : ℕ} (hp : p % 128 = 0) (hq : q < 64) :
    rope t c s (p + q) = t (p + q) * c q - t (p + (q + 64)) * s q := by
  have e : (p + q) % 128 = q := by omega
  unfold rope
  rw [e, if_pos hq, Nat.add_assoc]

/-- Column `q` of the head that begins at column `p`, in the head's last half. -/
theorem rope_right (t c s : ℕ → EReal) {p q : ℕ} (hp : p % 128 = 0) (hq : 64 ≤ q) (hq' : q < 128) :
    rope t c s (p + q) = t (p + q) * c (q - 64) + t (p + (q - 64)) * s (q - 64) := by
  have e : (p + q) % 128 = q := by omega
  unfold rope
  rw [e, if_neg (by omega), show p + q - 64 = p + (q - 64) by omega]

/-- Equal rows, weights and scales make equal codes of a rotated projection. -/
theorem rotated_congr {x x' : Fin 5120 → EReal} {w w' : (⟨2, ![5120, 6144]⟩ : Shape).Idx → EReal} {z z' : EReal}
    {c c' d d' : Fin 64 → EReal} {s s' : EReal} {o j j' : ℕ} (hx : ∀ k, x k = x' k) (hw : ∀ k q, w (ix2 k q) = w' (ix2 k q)) (hz : z = z')
    (hc : ∀ k, c k = c' k) (hd : ∀ k, d k = d' k) (hs : s = s') (hj : j = j') : rotated x w z c d s o j = rotated x' w' z' c' d' s' o j' := by
  obtain rfl : w = w' := funext fun i => by rw [eq_ix2 i]; exact hw _ _
  rw [funext hx, hz, funext hc, funext hd, hs, hj]

/-- Equal rows, weights and scales make equal codes of a projection. -/
theorem plain_congr {x x' : Fin 5120 → EReal} {w w' : (⟨2, ![5120, 6144]⟩ : Shape).Idx → EReal} {z z' : EReal} {s s' : EReal} {o j j' : ℕ}
    (hx : ∀ k, x k = x' k) (hw : ∀ k q, w (ix2 k q) = w' (ix2 k q)) (hz : z = z') (hs : s = s') (hj : j = j') :
    plain x w z s o j = plain x' w' z' s' o j' := by
  obtain rfl : w = w' := funext fun i => by rw [eq_ix2 i]; exact hw _ _
  rw [funext hx, hz, hs, hj]

/-- A block of rows of the first result. -/
def x1Block (x : (⟨2, ![256, 5120]⟩ : Shape).Idx → EReal) (l : (⟨2, ![1, 5120]⟩ : Shape).Idx → EReal) (s : EReal)
    (y : (⟨2, ![256, 5120]⟩ : Shape).Idx) : EReal :=
  normRow (fun k => x (ix2 (y 0) k)) (fun k => l (ix2 0 k)) s (y 1)

/-- A block of rows of a rotated projection, `M` columns wide. -/
def rotatedBlock (M : ℕ) (x : (⟨2, ![256, 5120]⟩ : Shape).Idx → EReal) (w : (⟨2, ![5120, 6144]⟩ : Shape).Idx → EReal) (z : EReal)
    (c d : (⟨2, ![256, 64]⟩ : Shape).Idx → EReal) (s : EReal) (o : ℕ) (y : (⟨2, ![256, M]⟩ : Shape).Idx) : EReal :=
  rotated (fun k => x (ix2 (y 0) k)) w z (fun k => c (ix2 (y 0) k)) (fun k => d (ix2 (y 0) k)) s o (y 1)

/-- A block of rows of a projection, `M` columns wide. -/
def plainBlock (M : ℕ) (x : (⟨2, ![256, 5120]⟩ : Shape).Idx → EReal) (w : (⟨2, ![5120, 6144]⟩ : Shape).Idx → EReal) (z : EReal)
    (s : EReal) (o : ℕ) (y : (⟨2, ![256, M]⟩ : Shape).Idx) : EReal :=
  plain (fun k => x (ix2 (y 0) k)) w z s o (y 1)

end Cert.Qkv

end
-- ==== Proof.Qkv.Tile.lean ====
/- The query, key and value projections: what one stored tile of the kernel's block holds. -/
module

public import proofs.«01_k».proof.Proof.Qkv.Spec
public import proofs.«01_k».proof.Proof.Gen.QkvIdeal.Value

@[expose] public section

noncomputable section

open Idealize.ShloMosaic Idealize.ShloMosaic.TcCoe Idealize.SL.Sem Idealize.ShloMosaic.ValueIdx
open Idealize.ShloMosaic.Pipeline (Dat)

namespace Cert.QkvIdeal.Block

open Cert.QkvIdeal Cert.QkvIdeal.Gen Cert.Common Cert.Qkv

/-- The stored code at row `r`, column `q` of a group of rows: the code of the row's norm. -/
theorem x1_pay_apply (v : Vec Ideal S32x5120 .bf16) (w : Vec Ideal S1x5120 .f32) (s : EReal) (r : Fin 32) (q : Fin 5120) :
    k0_pay3 (F := Ideal) v w s (ix2 r q) = normRow (fun k => v (ix2 r k)) (fun k => w (ix2 0 k)) s q := by
  have e1 : shapeCast S1x5120 w shapeCasts_S1x5120_S1x5120 = w := shapeCast_self _ _
  unfold k0_pay3
  dsimp only
  rw [e1]
  exact normed_kernel_apply (extf .f32 v bitsLt_bf16_f32) w s reduces_S32x5120_S32 (.inl rfl) rfl shapeCasts_S32_S32x1 broadcasts_S32x1_S32x5120
    broadcasts_S1x5120_S32x5120 r q

/-- The group of rows from `o` on of the codes of a block of rows. -/
theorem x1_tile (o : ℕ) (h : ∀ a, (![o, 0] : Fin 2 → ℕ) a + S32x5120.size a ≤ S256x5120.size a)
    (x : Vec Ideal S256x5120 .bf16) (w : Vec Ideal S1x5120 .f32) {s u : EReal} (hs : u = s) (y : S32x5120.Idx) :
    k0_pay3 (F := Ideal) (View.ld x (Rect.unit (s := S256x5120) ![o, 0] S32x5120.size h)) w u y
      = x1Block x w s ((Rect.unit (s := S256x5120) ![o, 0] S32x5120.size h).emb y) := by
  subst hs
  obtain ⟨r, q, rfl⟩ : ∃ (r : Fin 32) (q : Fin 5120), y = ix2 r q := ⟨y 0, y 1, eq_ix2 y⟩
  have hb : o + r.val < 256 := by have := h 0; simp at this; omega
  have hi (k : Fin 5120) : (Rect.unit (s := S256x5120) ![o, 0] S32x5120.size h).emb (ix2 r k) = ix2 ⟨o + r.val, hb⟩ k := by
    refine Shape.idx_ext₂ ?_ ?_
    · exact congrArg (o + ·) (Nat.one_mul _)
    · show 0 + 1 * k.val = k.val
      omega
  rw [hi]
  refine (x1_pay_apply _ w u r q).trans ?_
  exact congrArg (fun f => normRow f (fun k => w (ix2 0 k)) u q) (funext fun k => congrArg x (hi k))

/-- One head of a product's tile, from the tile's column `h` on, scaled, rotated and coded. -/
def headTile (C S : FVec Ideal S256x128 .f32) (P : FVec Ideal S256x512 .f32) (h : ℕ) (hs : S256x512.Slices ![0, h] S256x128) (z s : EReal) :
    FVec Ideal S256x128 .fp8e4m3 :=
  truncf .fp8e4m3 (minimumf (broadcast S256x128 (Scalar.ofBits (F := Ideal) .f32 0x43E00000#32))
    (maximumf (broadcast S256x128 (Scalar.ofBits (F := Ideal) .f32 0xC3E00000#32))
      (divf (addf (mulf (mulf (extractStridedSlice S256x128 ![0, h] P hs) (broadcast S256x128 z)) C)
          (mulf (dynamicRotate 1 64#32 none (mulf (extractStridedSlice S256x128 ![0, h] P hs) (broadcast S256x128 z)) rotates_S256x128_d1) S))
        (broadcast S256x128 s)))) bitsLt_fp8e4m3_f32

/-- One head of a product's tile, from the tile's column `h` on, scaled and coded. -/
def plainTile (P : FVec Ideal S256x512 .f32) (h : ℕ) (hs : S256x512.Slices ![0, h] S256x128) (z s : EReal) :
    FVec Ideal S256x128 .fp8e4m3 :=
  truncf .fp8e4m3 (minimumf (broadcast S256x128 (Scalar.ofBits (F := Ideal) .f32 0x43E00000#32))
    (maximumf (broadcast S256x128 (Scalar.ofBits (F := Ideal) .f32 0xC3E00000#32))
      (divf (mulf (extractStridedSlice S256x128 ![0, h] P hs) (broadcast S256x128 z))
        (broadcast S256x128 s)))) bitsLt_fp8e4m3_f32

/-- A slice of columns read at an element. -/
theorem slice_apply (P : FVec Ideal S256x512 .f32) (h : ℕ) (hs : S256x512.Slices ![0, h] S256x128) (r : Fin 256) (q : Fin 128)
    (j : Fin 512) (hj : j.val = h + q.val) : extractStridedSlice S256x128 ![0, h] P hs (ix2 r q) = P (ix2 r j) :=
  extractStridedSlice_apply _ _ _ _ (ix2 r j) (fun a => by
    match a with
    | ⟨0, _⟩ => exact (Nat.zero_add _).symm
    | ⟨1, _⟩ => exact hj)

/-- Rotating 128 columns by 64, read at an element. -/
theorem rotate_apply (x : FVec Ideal S256x128 .f32) (r : Fin 256) (q j : Fin 128) (hj : j.val = (q.val + 64) % 128) :
    dynamicRotate 1 64#32 none x rotates_S256x128_d1 (ix2 r q) = x (ix2 r j) := by
  refine congrArg x (Shape.idx_ext₂ rfl ?_)
  show (q.val + 128 - 64 % 128) % 128 = j.val
  omega

/-- The cosines doubled, read at an element. -/
theorem cos_left (c : Vec Ideal S256x64 .f32) (r : Fin 256) (q : Fin 128) (k : Fin 64) (hk : q.val = k.val) :
    k0_pay21 (F := Ideal) c c (ix2 r q) = c (ix2 r k) :=
  concatenate_pair_apply_left 1 c c concatenates_S256x64_S256x64_S256x128_d1 (ix2 r q) rfl (ix2 r k) (fun b => by
    match b with
    | ⟨0, _⟩ => rfl
    | ⟨1, _⟩ => exact hk.symm)
theorem cos_right (c : Vec Ideal S256x64 .f32) (r : Fin 256) (q : Fin 128) (k : Fin 64) (hk : q.val = k.val + 64) :
    k0_pay21 (F := Ideal) c c (ix2 r q) = c (ix2 r k) :=
  concatenate_pair_apply_right 1 c c concatenates_S256x64_S256x64_S256x128_d1 (ix2 r q) rfl rfl (ix2 r k) (fun b hb => by
    match b, hb with
    | ⟨0, _⟩, _ => rfl
    | ⟨1, _⟩, hb => exact absurd rfl hb) hk.symm

/-- The sines doubled, the first half negated, read at an element. -/
theorem sin_left (d : Vec Ideal S256x64 .f32) (r : Fin 256) (q : Fin 128) (k : Fin 64) (hk : q.val = k.val) :
    k0_pay22 (F := Ideal) d d (ix2 r q) = -d (ix2 r k) := by
  refine (concatenate_pair_apply_left 1 (subf (broadcast S256x64 (Scalar.ofBits (F := Ideal) .f32 0x00000000#32)) d) d
    concatenates_S256x64_S256x64_S256x128_d1 (ix2 r q) rfl (ix2 r k) (fun b => by
    match b with
    | ⟨0, _⟩ => rfl
    | ⟨1, _⟩ => exact hk.symm)).trans ?_
  show Ideal.ofBits .f32 0x00000000#32 - d (ix2 r k) = _
  rw [Ideal.ofBits_zero_f32, zero_sub]
theorem sin_right (d : Vec Ideal S256x64 .f32) (r : Fin 256) (q : Fin 128) (k : Fin 64) (hk : q.val = k.val + 64) :
    k0_pay22 (F := Ideal) d d (ix2 r q) = d (ix2 r k) :=
  concatenate_pair_apply_right 1 (subf (broadcast S256x64 (Scalar.ofBits (F := Ideal) .f32 0x00000000#32)) d) d
    concatenates_S256x64_S256x64_S256x128_d1 (ix2 r q) rfl rfl (ix2 r k) (fun b hb => by
    match b, hb with
    | ⟨0, _⟩, _ => rfl
    | ⟨1, _⟩, hb => exact absurd rfl hb) hk.symm

/-- The product's tile, of the columns from `n` on. -/
def prod (x : Vec Ideal S256x5120 .fp8e4m3) (w : Vec Ideal S5120x6144 .fp8e4m3) (n : ℕ)
    (h : ∀ a, (![0, n] : Fin 2 → ℕ) a + S5120x512.size a ≤ S5120x6144.size a) : FVec Ideal S256x512 .f32 :=
  k0_pay24 (F := Ideal) x (View.ld w (Rect.unit (s := S5120x6144) ![0, n] S5120x512.size h))

/-- The product's tile read at an element. -/
theorem prod_apply (x : Vec Ideal S256x5120 .fp8e4m3) (w : Vec Ideal S5120x6144 .fp8e4m3) (n : ℕ)
    (h : ∀ a, (![0, n] : Fin 2 → ℕ) a + S5120x512.size a ≤ S5120x6144.size a) (r : Fin 256) (q : Fin 512) (j : ℕ) (hj : j = n + q.val) :
    prod x w n h (ix2 r q) = acc (fun k => x (ix2 r k)) w j := by
  have hb : j < 6144 := by have := h 1; simp at this; omega
  have e : shapeCast S256x5120 x shapeCasts_S256x5120_S256x5120 = x := shapeCast_self _ _
  refine (matmul_zero (φ₁ := .fp8e4m3) (φ₂ := .fp8e4m3) none (shapeCast S256x5120 x shapeCasts_S256x5120_S256x5120)
    (View.ld w (Rect.unit (s := S5120x6144) ![0, n] S5120x512.size h)) r q).trans ?_
  rw [e, acc_of_lt _ _ hb]
  refine Finset.sum_congr rfl fun k _ => congrArg (x (ix2 r k) * ·) (congrArg w (Shape.idx_ext₂ ?_ ?_))
  · show 0 + 1 * k.val = k.val
    omega
  · exact (congrArg (n + ·) (Nat.one_mul _)).trans hj.symm

/-- Where a tile of 128 columns from `p` on sits in a block `M` columns wide. -/
theorem emb_eq (M p : ℕ) (h : ∀ a, (![0, p] : Fin 2 → ℕ) a + S256x128.size a ≤ (⟨2, ![256, M]⟩ : Shape).size a) (r : Fin 256) (q : Fin 128) :
    ((Rect.unit (s := ⟨2, ![256, M]⟩) ![0, p] S256x128.size h).emb (ix2 r q) 0 : Fin 256) = r
      ∧ ((Rect.unit (s := ⟨2, ![256, M]⟩) ![0, p] S256x128.size h).emb (ix2 r q) 1 : ℕ) = p + q.val := by
  refine ⟨Fin.ext ?_, congrArg (p + ·) (Nat.one_mul _)⟩
  show 0 + 1 * r.val = r.val
  omega

/-- A stored head of a rotated projection: the columns from `p` on of the block. -/
theorem head_tile (M n h o p : ℕ) (hw : ∀ a, (![0, n] : Fin 2 → ℕ) a + S5120x512.size a ≤ S5120x6144.size a)
    (hs : S256x512.Slices ![0, h] S256x128) (hp : ∀ a, (![0, p] : Fin 2 → ℕ) a + S256x128.size a ≤ (⟨2, ![256, M]⟩ : Shape).size a)
    (he : o + p = n + h) (hm : p % 128 = 0) (hh : h ≤ 384) (X : S256x5120.Idx → EReal) {x : Vec Ideal S256x5120 .fp8e4m3} (hx : x = X)
    (w : Vec Ideal S5120x6144 .fp8e4m3) (c d : Vec Ideal S256x64 .f32) {u v s u' v' s' : EReal} (hu : u' = u) (hv : v' = v) (hz : s' = s) (y : S256x128.Idx) :
    headTile (k0_pay21 (F := Ideal) c c) (k0_pay22 (F := Ideal) d d) (prod x w n hw) h hs (u' * v') s' y
      = rotatedBlock M X w (u * v) c d s o ((Rect.unit (s := ⟨2, ![256, M]⟩) ![0, p] S256x128.size hp).emb y) := by
  subst hx hu hv hz
  obtain ⟨r, q, rfl⟩ : ∃ (r : Fin 256) (q : Fin 128), y = ix2 r q := ⟨y 0, y 1, eq_ix2 y⟩
  obtain ⟨e0, e1⟩ := emb_eq M p hp r q
  have hq := q.isLt
  have t (i : Fin 128) : mulf (extractStridedSlice S256x128 ![0, h] (prod x w n hw) hs) (broadcast S256x128 (u' * v')) (ix2 r i)
      = acc (fun k => x (ix2 r k)) w (o + (p + i.val)) * (u' * v') := by
    have hi := i.isLt
    refine congrArg (· * (u' * v')) ?_
    refine (slice_apply (prod x w n hw) h hs r i ⟨h + i.val, by omega⟩ rfl).trans ?_
    exact prod_apply x w n hw r _ _ (by show o + (p + i.val) = n + (h + i.val); omega)
  show code (_ * _ + _ * _) s' = rotated (fun k => x (ix2 _ k)) w (u' * v') (fun k => c (ix2 _ k)) (fun k => d (ix2 _ k)) s' o _
  rw [e0, e1]
  refine congrArg (fun z => code z s') ?_
  by_cases hl : q.val < 64
  · rw [rope_left _ _ _ hm hl, ext_of_lt _ hl, ext_of_lt _ hl, sub_eq_add_neg, ← mul_neg]
    refine congrArg₂ (· + ·) (congrArg₂ (· * ·) (t q) (cos_left c r q ⟨q.val, hl⟩ rfl)) (congrArg₂ (· * ·) ?_ (sin_left d r q ⟨q.val, hl⟩ rfl))
    exact (rotate_apply _ r q ⟨q.val + 64, by omega⟩ (by show q.val + 64 = _; omega)).trans (t _)
  · have hl' : q.val - 64 < 64 := by omega
    rw [rope_right _ _ _ hm (by omega) hq, ext_of_lt _ hl', ext_of_lt _ hl']
    refine congrArg₂ (· + ·) (congrArg₂ (· * ·) (t q) (cos_right c r q ⟨q.val - 64, hl'⟩ (by show q.val = q.val - 64 + 64; omega)))
      (congrArg₂ (· * ·) ?_ (sin_right d r q ⟨q.val - 64, hl'⟩ (by show q.val = q.val - 64 + 64; omega)))
    exact (rotate_apply _ r q ⟨q.val - 64, by omega⟩ (by show q.val - 64 = _; omega)).trans (t _)

/-- A stored head of the value projection: the columns from `p` on of the block. -/
theorem plain_tile (M n h o p : ℕ) (hw : ∀ a, (![0, n] : Fin 2 → ℕ) a + S5120x512.size a ≤ S5120x6144.size a)
    (hs : S256x512.Slices ![0, h] S256x128) (hp : ∀ a, (![0, p] : Fin 2 → ℕ) a + S256x128.size a ≤ (⟨2, ![256, M]⟩ : Shape).size a)
    (he : o + p = n + h) (hh : h ≤ 384) (X : S256x5120.Idx → EReal) {x : Vec Ideal S256x5120 .fp8e4m3} (hx : x = X)
    (w : Vec Ideal S5120x6144 .fp8e4m3) {u v s u' v' s' : EReal} (hu : u' = u) (hv : v' = v) (hz : s' = s) (y : S256x128.Idx) :
    plainTile (prod x w n hw) h hs (u' * v') s' y
      = plainBlock M X w (u * v) s o ((Rect.unit (s := ⟨2, ![256, M]⟩) ![0, p] S256x128.size hp).emb y) := by
  subst hx hu hv hz
  obtain ⟨r, q, rfl⟩ : ∃ (r : Fin 256) (q : Fin 128), y = ix2 r q := ⟨y 0, y 1, eq_ix2 y⟩
  obtain ⟨e0, e1⟩ := emb_eq M p hp r q
  have hq := q.isLt
  show code (_ * _) s' = code (acc (fun k => x (ix2 _ k)) w (o + _) * (u' * v')) s'
  rw [e0, e1]
  refine congrArg (fun z => code (z * (u' * v')) s') ?_
  refine (slice_apply (prod x w n hw) h hs r q ⟨h + q.val, by omega⟩ rfl).trans ?_
  exact prod_apply x w n hw r _ _ (by show o + (p + q.val) = n + (h + q.val); omega)

end Cert.QkvIdeal.Block

end
-- ==== Proof.Qkv.Block.lean ====
/- The query, key and value projections: what one block of the kernel computes. -/
module

public import proofs.«01_k».proof.Proof.Qkv.Tile

@[expose] public section

noncomputable section

open Idealize.ShloMosaic Idealize.ShloMosaic.TcCoe Idealize.SL.Sem Idealize.ShloMosaic.ValueIdx
open Idealize.ShloMosaic.Pipeline (Dat)

namespace Cert.QkvIdeal.Block

open Cert.QkvIdeal Cert.QkvIdeal.Gen Cert.Common Cert.Qkv

/-- What the groups of rows leave in the first result's block. -/
theorem x1_canon (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 = x1Block x5 x6 (x0 (ix1 0)) := by
  funext y
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y
  refine View.canon_apply_of_pieces _ _ ?_ y hc
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x64) off2, View.ld_unit_zero (S := S1x5120) off2]
  have e0 (j : S1.Idx) : x0 j = x0 (ix1 0) := congrArg x0 (idx_one j)
  refine List.forall_mem_cons.mpr ⟨x1_tile 224 inb_S256x5120_S32x5120_224_0 x5 x6 (e0 _), ?_⟩
  refine List.forall_mem_cons.mpr ⟨x1_tile 192 inb_S256x5120_S32x5120_192_0 x5 x6 (e0 _), ?_⟩
  refine List.forall_mem_cons.mpr ⟨x1_tile 160 inb_S256x5120_S32x5120_160_0 x5 x6 (e0 _), ?_⟩
  refine List.forall_mem_cons.mpr ⟨x1_tile 128 inb_S256x5120_S32x5120_128_0 x5 x6 (e0 _), ?_⟩
  refine List.forall_mem_cons.mpr ⟨x1_tile 96 inb_S256x5120_S32x5120_96_0 x5 x6 (e0 _), ?_⟩
  refine List.forall_mem_cons.mpr ⟨x1_tile 64 inb_S256x5120_S32x5120_64_0 x5 x6 (e0 _), ?_⟩
  refine List.forall_mem_cons.mpr ⟨x1_tile 32 inb_S256x5120_S32x5120_32_0 x5 x6 (e0 _), ?_⟩
  refine List.forall_mem_cons.mpr ⟨x1_tile 0 inb_S256x5120_S32x5120_0_0 x5 x6 (e0 _), ?_⟩
  exact fun p hp => absurd hp List.not_mem_nil

/-- The first result's block at a grid point. -/
theorem out10_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = x1Block x5 x6 (x0 (ix1 0)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  exact x1_canon c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9

/-- The first result's block, read back whole. -/
theorem x1_read (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    arg11.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 (Rect.unit (s := S256x5120) ![0, 0] S256x5120.size inb_S256x5120_S256x5120_0_0).toLoadRect
      = x1Block x5 x6 (x0 (ix1 0)) := by
  rw [View.readCov_eq_canon', x1_canon]
  funext y
  refine congrArg (x1Block x5 x6 (x0 (ix1 0))) (Shape.idx_ext₂ ?_ ?_)
  · show 0 + 1 * (y 0).val = (y 0).val
    omega
  · show 0 + 1 * (y 1).val = (y 1).val
    omega

end Cert.QkvIdeal.Block

end
-- ==== Proof.Qkv.Inputs.lean ====
/- The query, key and value projections: the formulas of the kernel's result arrays, and the point's blocks of its arguments. -/
module

public import proofs.«01_k».proof.Proof.Qkv.Block

@[expose] public section

noncomputable section

open Idealize.ShloMosaic Idealize.ShloMosaic.TcCoe Idealize.SL.Sem Idealize.ShloMosaic.ValueIdx
open Idealize.ShloMosaic.Pipeline (Dat)

namespace Cert.QkvIdeal.Array

open Cert.QkvIdeal Cert.QkvIdeal.Gen Cert.Common Cert.Qkv

variable (m : (ℓ : Loc nD τ sig) → Buf (Elt Ideal) ℓ)

/-- The first result's scale as the region finds it: the argument, reshaped to one element. -/
theorem V_main_v1 (c : Dev nD) (i : S1.Idx) : V m c main_v1 i = m ((c : Thread nD τ).loc main_arg5) ix0 := by
  dsimp only [V, hostOps0]
  after_results
  exact congrArg (m ((c : Thread nD τ).loc main_arg5)) (eq_ix0 _)

/-- The queries' scale as the region finds it: the argument, reshaped to one element. -/
theorem V_main_v2 (c : Dev nD) (i : S1.Idx) : V m c main_v2 i = m ((c : Thread nD τ).loc main_arg6) ix0 := by
  dsimp only [V, hostOps0]
  after_results
  exact congrArg (m ((c : Thread nD τ).loc main_arg6)) (eq_ix0 _)

/-- The keys' scale as the region finds it: the argument, reshaped to one element. -/
theorem V_main_v3 (c : Dev nD) (i : S1.Idx) : V m c main_v3 i = m ((c : Thread nD τ).loc main_arg7) ix0 := by
  dsimp only [V, hostOps0]
  after_results
  exact congrArg (m ((c : Thread nD τ).loc main_arg7)) (eq_ix0 _)

/-- The values' scale as the region finds it: the argument, reshaped to one element. -/
theorem V_main_v4 (c : Dev nD) (i : S1.Idx) : V m c main_v4 i = m ((c : Thread nD τ).loc main_arg8) ix0 := by
  dsimp only [V, hostOps0]
  after_results
  exact congrArg (m ((c : Thread nD τ).loc main_arg8)) (eq_ix0 _)

/-- The norm's weights as the region finds them: the argument, reshaped to one row. -/
theorem V_main_v0 (c : Dev nD) (i : S1x5120.Idx) (k : Fin 5120) (h : (i 1 : ℕ) = k.val) :
    V m c main_v0 i = m ((c : Thread nD τ).loc main_arg1) (ix1 k) := by
  dsimp only [V, hostOps0]
  after_results
  exact row_of_vector (m ((c : Thread nD τ).loc main_arg1)) _ i k h

/-- One row of the first result, as a formula of the arguments. -/
def row (c : Dev nD) (r : Fin 4608) : Fin 5120 → EReal :=
  normRow (fun k => m ((c : Thread nD τ).loc main_arg0) (ix2 r k)) (fun k => m ((c : Thread nD τ).loc main_arg1) (ix1 k)) (m ((c : Thread nD τ).loc main_arg5) ix0)

/-- The scale of the product with the weights of projection `a`. -/
def scaleOf (c : Dev nD) (a : Fin 3) : EReal :=
  Mul.mul (α := EReal) (m ((c : Thread nD τ).loc main_arg5) ix0) (m ((c : Thread nD τ).loc main_arg9) (ix1 a))

/-- The first result array. -/
def result10 (c : Dev nD) : Buf (Elt Ideal) ((c : Thread nD τ).loc main_v5_0) := fun i => row m c (i 0) (i 1)

/-- The queries. -/
def result11 (c : Dev nD) : Buf (Elt Ideal) ((c : Thread nD τ).loc main_v5_1) := fun i =>
  rotated (row m c (i 0)) (m ((c : Thread nD τ).loc main_arg4)) (scaleOf m c 0) (fun k => m ((c : Thread nD τ).loc main_arg2) (ix2 (i 0) k)) (fun k => m ((c : Thread nD τ).loc main_arg3) (ix2 (i 0) k)) (m ((c : Thread nD τ).loc main_arg6) ix0) 0 (i 1).val

/-- The keys. -/
def result12 (c : Dev nD) : Buf (Elt Ideal) ((c : Thread nD τ).loc main_v5_2) := fun i =>
  rotated (row m c (i 0)) (m ((c : Thread nD τ).loc main_arg4)) (scaleOf m c 1) (fun k => m ((c : Thread nD τ).loc main_arg2) (ix2 (i 0) k)) (fun k => m ((c : Thread nD τ).loc main_arg3) (ix2 (i 0) k)) (m ((c : Thread nD τ).loc main_arg7) ix0) 4096 (i 1).val

/-- The values. -/
def result13 (c : Dev nD) : Buf (Elt Ideal) ((c : Thread nD τ).loc main_v5_3) := fun i =>
  plain (row m c (i 0)) (m ((c : Thread nD τ).loc main_arg4)) (scaleOf m c 2) (m ((c : Thread nD τ).loc main_arg8) ix0) 5120 (i 1).val

/-- Where each window's block sits at a grid point: the point's group of rows, or the whole array. -/
theorem idx_facts : ∀ t : Fin cfg0.N,
    win0_10.index t 0 < 18 ∧ win0_10.index t 1 = 0
    ∧ win0_11.index t 0 = win0_10.index t 0 ∧ win0_11.index t 1 = 0
    ∧ win0_12.index t 0 = win0_10.index t 0 ∧ win0_12.index t 1 = 0
    ∧ win0_13.index t 0 = win0_10.index t 0 ∧ win0_13.index t 1 = 0
    ∧ win0_5.index t 0 = win0_10.index t 0 ∧ win0_5.index t 1 = 0
    ∧ win0_7.index t 0 = win0_10.index t 0 ∧ win0_7.index t 1 = 0
    ∧ win0_8.index t 0 = win0_10.index t 0 ∧ win0_8.index t 1 = 0
    ∧ win0_6.index t 0 = 0 ∧ win0_6.index t 1 = 0
    ∧ win0_9.index t 0 = 0 ∧ win0_9.index t 1 = 0
    ∧ win0_4.index t 0 = 0 :=
  (by decide +kernel : ∀ t : Fin grid0.N, win0_10.index t 0 < 18 ∧ win0_10.index t 1 = 0
    ∧ win0_11.index t 0 = win0_10.index t 0 ∧ win0_11.index t 1 = 0
    ∧ win0_12.index t 0 = win0_10.index t 0 ∧ win0_12.index t 1 = 0
    ∧ win0_13.index t 0 = win0_10.index t 0 ∧ win0_13.index t 1 = 0
    ∧ win0_5.index t 0 = win0_10.index t 0 ∧ win0_5.index t 1 = 0
    ∧ win0_7.index t 0 = win0_10.index t 0 ∧ win0_7.index t 1 = 0
    ∧ win0_8.index t 0 = win0_10.index t 0 ∧ win0_8.index t 1 = 0
    ∧ win0_6.index t 0 = 0 ∧ win0_6.index t 1 = 0
    ∧ win0_9.index t 0 = 0 ∧ win0_9.index t 1 = 0
    ∧ win0_4.index t 0 = 0)

/-- The residual block, read at the point's row `r`, is the argument at row `R`. -/
theorem x_row (c : Dev nD) (t : Fin cfg0.N) (r : Fin 256) (R : Fin 4608) (hR : R.val = win0_10.index t 0 * 256 + r.val) (k : Fin 5120) :
    (iblk m c 5 t : Vec Ideal S256x5120 .bf16) (ix2 r k) = m ((c : Thread nD τ).loc main_arg0) (ix2 R k) := by
  obtain ⟨h100, h101, h110, h111, h120, h121, h130, h131, h50, h51, h70, h71, h80, h81, h60, h61, h90, h91, h40⟩ := idx_facts t
  refine (congrFun (V_main_arg0 m c) _).trans (congrArg (m ((c : Thread nD τ).loc main_arg0)) (Shape.idx_ext₂ ?_ ?_))
  · refine (win0_5.rect_emb_val t (ix2 r k) 0).trans ?_
    rw [h50]; exact hR.symm
  · refine (win0_5.rect_emb_val t (ix2 r k) 1).trans ?_
    rw [h51]; exact Nat.zero_add _

/-- The cosines' block, read at the point's row `r`, is the argument at row `R`. -/
theorem cos_row (c : Dev nD) (t : Fin cfg0.N) (r : Fin 256) (R : Fin 4608) (hR : R.val = win0_10.index t 0 * 256 + r.val) (k : Fin 64) :
    (iblk m c 7 t : Vec Ideal S256x64 .f32) (ix2 r k) = m ((c : Thread nD τ).loc main_arg2) (ix2 R k) := by
  obtain ⟨h100, h101, h110, h111, h120, h121, h130, h131, h50, h51, h70, h71, h80, h81, h60, h61, h90, h91, h40⟩ := idx_facts t
  refine (congrFun (V_main_arg2 m c) _).trans (congrArg (m ((c : Thread nD τ).loc main_arg2)) (Shape.idx_ext₂ ?_ ?_))
  · refine (win0_7.rect_emb_val t (ix2 r k) 0).trans ?_
    rw [h70]; exact hR.symm
  · refine (win0_7.rect_emb_val t (ix2 r k) 1).trans ?_
    rw [h71]; exact Nat.zero_add _

/-- The sines' block, read at the point's row `r`, is the argument at row `R`. -/
theorem sin_row (c : Dev nD) (t : Fin cfg0.N) (r : Fin 256) (R : Fin 4608) (hR : R.val = win0_10.index t 0 * 256 + r.val) (k : Fin 64) :
    (iblk m c 8 t : Vec Ideal S256x64 .f32) (ix2 r k) = m ((c : Thread nD τ).loc main_arg3) (ix2 R k) := by
  obtain ⟨h100, h101, h110, h111, h120, h121, h130, h131, h50, h51, h70, h71, h80, h81, h60, h61, h90, h91, h40⟩ := idx_facts t
  refine (congrFun (V_main_arg3 m c) _).trans (congrArg (m ((c : Thread nD τ).loc main_arg3)) (Shape.idx_ext₂ ?_ ?_))
  · refine (win0_8.rect_emb_val t (ix2 r k) 0).trans ?_
    rw [h80]; exact hR.symm
  · refine (win0_8.rect_emb_val t (ix2 r k) 1).trans ?_
    rw [h81]; exact Nat.zero_add _

/-- The weights' block is the whole argument. -/
theorem weights (c : Dev nD) (t : Fin cfg0.N) (k : Fin 5120) (q : Fin 6144) :
    (iblk m c 9 t : Vec Ideal S5120x6144 .fp8e4m3) (ix2 k q) = m ((c : Thread nD τ).loc main_arg4) (ix2 k q) := by
  obtain ⟨h100, h101, h110, h111, h120, h121, h130, h131, h50, h51, h70, h71, h80, h81, h60, h61, h90, h91, h40⟩ := idx_facts t
  refine (congrFun (V_main_arg4 m c) _).trans (congrArg (m ((c : Thread nD τ).loc main_arg4)) (Shape.idx_ext₂ ?_ ?_))
  · refine (win0_9.rect_emb_val t (ix2 k q) 0).trans ?_
    rw [h90]; exact Nat.zero_add _
  · refine (win0_9.rect_emb_val t (ix2 k q) 1).trans ?_
    rw [h91]; exact Nat.zero_add _

/-- The product's scale at a grid point. -/
theorem scale_eq (c : Dev nD) (t : Fin cfg0.N) (a : Fin 3) :
    Mul.mul (α := EReal) ((iblk m c 0 t : Vec Ideal S1 .f32) (ix1 0)) ((iblk m c 4 t : Vec Ideal S3 .f32) (ix1 a)) = scaleOf m c a := by
  obtain ⟨h100, h101, h110, h111, h120, h121, h130, h131, h50, h51, h70, h71, h80, h81, h60, h61, h90, h91, h40⟩ := idx_facts t
  have hs : (iblk m c 0 t : Vec Ideal S1 .f32) (ix1 0) = m ((c : Thread nD τ).loc main_arg5) ix0 := V_main_v1 m c _
  have hw : (iblk m c 4 t : Vec Ideal S3 .f32) (ix1 a) = m ((c : Thread nD τ).loc main_arg9) (ix1 a) := by
    refine (congrFun (V_main_arg9 m c) _).trans (congrArg (m ((c : Thread nD τ).loc main_arg9)) (idx_axis _ a ?_))
    refine (win0_4.rect_emb_val t (ix1 a) 0).trans ?_
    rw [h40]; exact Nat.zero_add _
  exact congrArg₂ (Mul.mul (α := EReal)) hs hw

/-- The first result's block, computed from the point's blocks of the arguments, is `row` on the point's rows. -/
theorem x1Block_eq (c : Dev nD) (t : Fin cfg0.N) (r : Fin 256) (R : Fin 4608) (hR : R.val = win0_10.index t 0 * 256 + r.val) (q : Fin 5120) :
    x1Block (iblk m c 5 t : Vec Ideal S256x5120 .bf16) (iblk m c 6 t : Vec Ideal S1x5120 .f32) ((iblk m c 0 t : Vec Ideal S1 .f32) (ix1 0)) (ix2 r q)
      = row m c R q := by
  obtain ⟨h100, h101, h110, h111, h120, h121, h130, h131, h50, h51, h70, h71, h80, h81, h60, h61, h90, h91, h40⟩ := idx_facts t
  have hs : (iblk m c 0 t : Vec Ideal S1 .f32) (ix1 0) = m ((c : Thread nD τ).loc main_arg5) ix0 := V_main_v1 m c _
  have hw (k : Fin 5120) : (iblk m c 6 t : Vec Ideal S1x5120 .f32) (ix2 0 k) = m ((c : Thread nD τ).loc main_arg1) (ix1 k) := by
    refine V_main_v0 m c _ k ((win0_6.rect_emb_val t (ix2 0 k) 1).trans ?_)
    rw [h61]; exact Nat.zero_add _
  exact congrArg₂ code (normed_congr (fun k => x_row m c t r R hR k) hw rfl) hs

end Cert.QkvIdeal.Array

end
-- ==== Proof.Qkv.Query.lean ====
/- The query, key and value projections: the queries' block. -/
module

public import proofs.«01_k».proof.Proof.Qkv.Block

@[expose] public section

noncomputable section

open Idealize.ShloMosaic Idealize.ShloMosaic.TcCoe Idealize.SL.Sem Idealize.ShloMosaic.ValueIdx
open Idealize.ShloMosaic.Pipeline (Dat)

namespace Cert.QkvIdeal.Block

open Cert.QkvIdeal Cert.QkvIdeal.Gen Cert.Common Cert.Qkv

/-- The queries' block at a grid point. -/
theorem out11_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = rotatedBlock 4096 (x1Block x5 x6 (x0 (ix1 0))) x9 (x0 (ix1 0) * x4 (ix1 0)) x7 x8 (x1 (ix1 0)) 0 := by
  funext y
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y
  have hread : arg11.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 (Rect.unit (s := S256x5120) ![0, 0] S256x5120.size inb_S256x5120_S256x5120_0_0).toLoadRect
      = x1Block x5 x6 (x0 (ix1 0)) := x1_read c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces _ _ ?_ y hc
  revert hread
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x64) off2, View.ld_unit_zero (S := S1x5120) off2]
  intro hread
  have e0 (j : S1.Idx) : x0 j = x0 (ix1 0) := congrArg x0 (idx_one j)
  have e1 (j : S1.Idx) : x1 j = x1 (ix1 0) := congrArg x1 (idx_one j)
  have ew : x4 ((Rect.unit (s := S3) ![0] S1.size inb_S3_S1_0).idx (Shape.Idx.first (by decide))) = x4 (ix1 0) :=
    congrArg x4 (idx_axis _ 0 rfl)
  refine List.forall_mem_cons.mpr ⟨head_tile 4096 3584 384 0 3968 inb_S5120x6144_S5120x512_0_3584 slices_S256x512_o0_384_S256x128 inb_S256x4096_S256x128_0_3968 (by decide) (by decide) (by decide) _ hread x9 x7 x8 (e0 _) ew (e1 _), ?_⟩
  refine List.forall_mem_cons.mpr ⟨head_tile 4096 3584 256 0 3840 inb_S5120x6144_S5120x512_0_3584 slices_S256x512_o0_256_S256x128 inb_S256x4096_S256x128_0_3840 (by decide) (by decide) (by decide) _ hread x9 x7 x8 (e0 _) ew (e1 _), ?_⟩
  refine List.forall_mem_cons.mpr ⟨head_tile 4096 3584 128 0 3712 inb_S5120x6144_S5120x512_0_3584 slices_S256x512_o0_128_S256x128 inb_S256x4096_S256x128_0_3712 (by decide) (by decide) (by decide) _ hread x9 x7 x8 (e0 _) ew (e1 _), ?_⟩
  refine List.forall_mem_cons.mpr ⟨head_tile 4096 3584 0 0 3584 inb_S5120x6144_S5120x512_0_3584 slices_S256x512_o0_0_S256x128 inb_S256x4096_S256x128_0_3584 (by decide) (by decide) (by decide) _ hread x9 x7 x8 (e0 _) ew (e1 _), ?_⟩
  refine List.forall_mem_cons.mpr ⟨head_tile 4096 3072 384 0 3456 inb_S5120x6144_S5120x512_0_3072 slices_S256x512_o0_384_S256x128 inb_S256x4096_S256x128_0_3456 (by decide) (by decide) (by decide) _ hread x9 x7 x8 (e0 _) ew (e1 _), ?_⟩
  refine List.forall_mem_cons.mpr ⟨head_tile 4096 3072 256 0 3328 inb_S5120x6144_S5120x512_0_3072 slices_S256x512_o0_256_S256x128 inb_S256x4096_S256x128_0_3328 (by decide) (by decide) (by decide) _ hread x9 x7 x8 (e0 _) ew (e1 _), ?_⟩
  refine List.forall_mem_cons.mpr ⟨head_tile 4096 3072 128 0 3200 inb_S5120x6144_S5120x512_0_3072 slices_S256x512_o0_128_S256x128 inb_S256x4096_S256x128_0_3200 (by decide) (by decide) (by decide) _ hread x9 x7 x8 (e0 _) ew (e1 _), ?_⟩
  refine List.forall_mem_cons.mpr ⟨head_tile 4096 3072 0 0 3072 inb_S5120x6144_S5120x512_0_3072 slices_S256x512_o0_0_S256x128 inb_S256x4096_S256x128_0_3072 (by decide) (by decide) (by decide) _ hread x9 x7 x8 (e0 _) ew (e1 _), ?_⟩
  refine List.forall_mem_cons.mpr ⟨head_tile 4096 2560 384 0 2944 inb_S5120x6144_S5120x512_0_2560 slices_S256x512_o0_384_S256x128 inb_S256x4096_S256x128_0_2944 (by decide) (by decide) (by decide) _ hread x9 x7 x8 (e0 _) ew (e1 _), ?_⟩
  refine List.forall_mem_cons.mpr ⟨head_tile 4096 2560 256 0 2816 inb_S5120x6144_S5120x512_0_2560 slices_S256x512_o0_256_S256x128 inb_S256x4096_S256x128_0_2816 (by decide) (by decide) (by decide) _ hread x9 x7 x8 (e0 _) ew (e1 _), ?_⟩
  refine List.forall_mem_cons.mpr ⟨head_tile 4096 2560 128 0 2688 inb_S5120x6144_S5120x512_0_2560 slices_S256x512_o0_128_S256x128 inb_S256x4096_S256x128_0_2688 (by decide) (by decide) (by decide) _ hread x9 x7 x8 (e0 _) ew (e1 _), ?_⟩
  refine List.forall_mem_cons.mpr ⟨head_tile 4096 2560 0 0 2560 inb_S5120x6144_S5120x512_0_2560 slices_S256x512_o0_0_S256x128 inb_S256x4096_S256x128_0_2560 (by decide) (by decide) (by decide) _ hread x9 x7 x8 (e0 _) ew (e1 _), ?_⟩
  refine List.forall_mem_cons.mpr ⟨head_tile 4096 2048 384 0 2432 inb_S5120x6144_S5120x512_0_2048 slices_S256x512_o0_384_S256x128 inb_S256x4096_S256x128_0_2432 (by decide) (by decide) (by decide) _ hread x9 x7 x8 (e0 _) ew (e1 _), ?_⟩
  refine List.forall_mem_cons.mpr ⟨head_tile 4096 2048 256 0 2304 inb_S5120x6144_S5120x512_0_2048 slices_S256x512_o0_256_S256x128 inb_S256x4096_S256x128_0_2304 (by decide) (by decide) (by decide) _ hread x9 x7 x8 (e0 _) ew (e1 _), ?_⟩
  refine List.forall_mem_cons.mpr ⟨head_tile 4096 2048 128 0 2176 inb_S5120x6144_S5120x512_0_2048 slices_S256x512_o0_128_S256x128 inb_S256x4096_S256x128_0_2176 (by decide) (by decide) (by decide) _ hread x9 x7 x8 (e0 _) ew (e1 _), ?_⟩
  refine List.forall_mem_cons.mpr ⟨head_tile 4096 2048 0 0 2048 inb_S5120x6144_S5120x512_0_2048 slices_S256x512_o0_0_S256x128 inb_S256x4096_S256x128_0_2048 (by decide) (by decide) (by decide) _ hread x9 x7 x8 (e0 _) ew (e1 _), ?_⟩
  refine List.forall_mem_cons.mpr ⟨head_tile 4096 1536 384 0 1920 inb_S5120x6144_S5120x512_0_1536 slices_S256x512_o0_384_S256x128 inb_S256x4096_S256x128_0_1920 (by decide) (by decide) (by decide) _ hread x9 x7 x8 (e0 _) ew (e1 _), ?_⟩
  refine List.forall_mem_cons.mpr ⟨head_tile 4096 1536 256 0 1792 inb_S5120x6144_S5120x512_0_1536 slices_S256x512_o0_256_S256x128 inb_S256x4096_S256x128_0_1792 (by decide) (by decide) (by decide) _ hread x9 x7 x8 (e0 _) ew (e1 _), ?_⟩
  refine List.forall_mem_cons.mpr ⟨head_tile 4096 1536 128 0 1664 inb_S5120x6144_S5120x512_0_1536 slices_S256x512_o0_128_S256x128 inb_S256x4096_S256x128_0_1664 (by decide) (by decide) (by decide) _ hread x9 x7 x8 (e0 _) ew (e1 _), ?_⟩
  refine List.forall_mem_cons.mpr ⟨head_tile 4096 1536 0 0 1536 inb_S5120x6144_S5120x512_0_1536 slices_S256x512_o0_0_S256x128 inb_S256x4096_S256x128_0_1536 (by decide) (by decide) (by decide) _ hread x9 x7 x8 (e0 _) ew (e1 _), ?_⟩
  refine List.forall_mem_cons.mpr ⟨head_tile 4096 1024 384 0 1408 inb_S5120x6144_S5120x512_0_1024 slices_S256x512_o0_384_S256x128 inb_S256x4096_S256x128_0_1408 (by decide) (by decide) (by decide) _ hread x9 x7 x8 (e0 _) ew (e1 _), ?_⟩
  refine List.forall_mem_cons.mpr ⟨head_tile 4096 1024 256 0 1280 inb_S5120x6144_S5120x512_0_1024 slices_S256x512_o0_256_S256x128 inb_S256x4096_S256x128_0_1280 (by decide) (by decide) (by decide) _ hread x9 x7 x8 (e0 _) ew (e1 _), ?_⟩
  refine List.forall_mem_cons.mpr ⟨head_tile 4096 1024 128 0 1152 inb_S5120x6144_S5120x512_0_1024 slices_S256x512_o0_128_S256x128 inb_S256x4096_S256x128_0_1152 (by decide) (by decide) (by decide) _ hread x9 x7 x8 (e0 _) ew (e1 _), ?_⟩
  refine List.forall_mem_cons.mpr ⟨head_tile 4096 1024 0 0 1024 inb_S5120x6144_S5120x512_0_1024 slices_S256x512_o0_0_S256x128 inb_S256x4096_S256x128_0_1024 (by decide) (by decide) (by decide) _ hread x9 x7 x8 (e0 _) ew (e1 _), ?_⟩
  refine List.forall_mem_cons.mpr ⟨head_tile 4096 512 384 0 896 inb_S5120x6144_S5120x512_0_512 slices_S256x512_o0_384_S256x128 inb_S256x4096_S256x128_0_896 (by decide) (by decide) (by decide) _ hread x9 x7 x8 (e0 _) ew (e1 _), ?_⟩
  refine List.forall_mem_cons.mpr ⟨head_tile 4096 512 256 0 768 inb_S5120x6144_S5120x512_0_512 slices_S256x512_o0_256_S256x128 inb_S256x4096_S256x128_0_768 (by decide) (by decide) (by decide) _ hread x9 x7 x8 (e0 _) ew (e1 _), ?_⟩
  refine List.forall_mem_cons.mpr ⟨head_tile 4096 512 128 0 640 inb_S5120x6144_S5120x512_0_512 slices_S256x512_o0_128_S256x128 inb_S256x4096_S256x128_0_640 (by decide) (by decide) (by decide) _ hread x9 x7 x8 (e0 _) ew (e1 _), ?_⟩
  refine List.forall_mem_cons.mpr ⟨head_tile 4096 512 0 0 512 inb_S5120x6144_S5120x512_0_512 slices_S256x512_o0_0_S256x128 inb_S256x4096_S256x128_0_512 (by decide) (by decide) (by decide) _ hread x9 x7 x8 (e0 _) ew (e1 _), ?_⟩
  refine List.forall_mem_cons.mpr ⟨head_tile 4096 0 384 0 384 inb_S5120x6144_S5120x512_0_0 slices_S256x512_o0_384_S256x128 inb_S256x4096_S256x128_0_384 (by decide) (by decide) (by decide) _ hread x9 x7 x8 (e0 _) ew (e1 _), ?_⟩
  refine List.forall_mem_cons.mpr ⟨head_tile 4096 0 256 0 256 inb_S5120x6144_S5120x512_0_0 slices_S256x512_o0_256_S256x128 inb_S256x4096_S256x128_0_256 (by decide) (by decide) (by decide) _ hread x9 x7 x8 (e0 _) ew (e1 _), ?_⟩
  refine List.forall_mem_cons.mpr ⟨head_tile 4096 0 128 0 128 inb_S5120x6144_S5120x512_0_0 slices_S256x512_o0_128_S256x128 inb_S256x4096_S256x128_0_128 (by decide) (by decide) (by decide) _ hread x9 x7 x8 (e0 _) ew (e1 _), ?_⟩
  refine List.forall_mem_cons.mpr ⟨head_tile 4096 0 0 0 0 inb_S5120x6144_S5120x512_0_0 slices_S256x512_o0_0_S256x128 inb_S256x4096_S256x128_0_0 (by decide) (by decide) (by decide) _ hread x9 x7 x8 (e0 _) ew (e1 _), ?_⟩
  exact fun p hp => absurd hp List.not_mem_nil

end Cert.QkvIdeal.Block

end
-- ==== Proof.Qkv.Key.lean ====
/- The query, key and value projections: the keys' block. -/
module

public import proofs.«01_k».proof.Proof.Qkv.Block

@[expose] public section

noncomputable section

open Idealize.ShloMosaic Idealize.ShloMosaic.TcCoe Idealize.SL.Sem Idealize.ShloMosaic.ValueIdx
open Idealize.ShloMosaic.Pipeline (Dat)

namespace Cert.QkvIdeal.Block

open Cert.QkvIdeal Cert.QkvIdeal.Gen Cert.Common Cert.Qkv

/-- The keys' block at a grid point. -/
theorem out12_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = rotatedBlock 1024 (x1Block x5 x6 (x0 (ix1 0))) x9 (x0 (ix1 0) * x4 (ix1 1)) x7 x8 (x2 (ix1 0)) 4096 := by
  funext y
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y
  have hread : arg11.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 (Rect.unit (s := S256x5120) ![0, 0] S256x5120.size inb_S256x5120_S256x5120_0_0).toLoadRect
      = x1Block x5 x6 (x0 (ix1 0)) := x1_read c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces _ _ ?_ y hc
  revert hread
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x64) off2, View.ld_unit_zero (S := S1x5120) off2]
  intro hread
  have e0 (j : S1.Idx) : x0 j = x0 (ix1 0) := congrArg x0 (idx_one j)
  have e1 (j : S1.Idx) : x2 j = x2 (ix1 0) := congrArg x2 (idx_one j)
  have ew : x4 ((Rect.unit (s := S3) ![1] S1.size inb_S3_S1_1).idx (Shape.Idx.first (by decide))) = x4 (ix1 1) :=
    congrArg x4 (idx_axis _ 1 rfl)
  refine List.forall_mem_cons.mpr ⟨head_tile 1024 4608 384 4096 896 inb_S5120x6144_S5120x512_0_4608 slices_S256x512_o0_384_S256x128 inb_S256x1024_S256x128_0_896 (by decide) (by decide) (by decide) _ hread x9 x7 x8 (e0 _) ew (e1 _), ?_⟩
  refine List.forall_mem_cons.mpr ⟨head_tile 1024 4608 256 4096 768 inb_S5120x6144_S5120x512_0_4608 slices_S256x512_o0_256_S256x128 inb_S256x1024_S256x128_0_768 (by decide) (by decide) (by decide) _ hread x9 x7 x8 (e0 _) ew (e1 _), ?_⟩
  refine List.forall_mem_cons.mpr ⟨head_tile 1024 4608 128 4096 640 inb_S5120x6144_S5120x512_0_4608 slices_S256x512_o0_128_S256x128 inb_S256x1024_S256x128_0_640 (by decide) (by decide) (by decide) _ hread x9 x7 x8 (e0 _) ew (e1 _), ?_⟩
  refine List.forall_mem_cons.mpr ⟨head_tile 1024 4608 0 4096 512 inb_S5120x6144_S5120x512_0_4608 slices_S256x512_o0_0_S256x128 inb_S256x1024_S256x128_0_512 (by decide) (by decide) (by decide) _ hread x9 x7 x8 (e0 _) ew (e1 _), ?_⟩
  refine List.forall_mem_cons.mpr ⟨head_tile 1024 4096 384 4096 384 inb_S5120x6144_S5120x512_0_4096 slices_S256x512_o0_384_S256x128 inb_S256x1024_S256x128_0_384 (by decide) (by decide) (by decide) _ hread x9 x7 x8 (e0 _) ew (e1 _), ?_⟩
  refine List.forall_mem_cons.mpr ⟨head_tile 1024 4096 256 4096 256 inb_S5120x6144_S5120x512_0_4096 slices_S256x512_o0_256_S256x128 inb_S256x1024_S256x128_0_256 (by decide) (by decide) (by decide) _ hread x9 x7 x8 (e0 _) ew (e1 _), ?_⟩
  refine List.forall_mem_cons.mpr ⟨head_tile 1024 4096 128 4096 128 inb_S5120x6144_S5120x512_0_4096 slices_S256x512_o0_128_S256x128 inb_S256x1024_S256x128_0_128 (by decide) (by decide) (by decide) _ hread x9 x7 x8 (e0 _) ew (e1 _), ?_⟩
  refine List.forall_mem_cons.mpr ⟨head_tile 1024 4096 0 4096 0 inb_S5120x6144_S5120x512_0_4096 slices_S256x512_o0_0_S256x128 inb_S256x1024_S256x128_0_0 (by decide) (by decide) (by decide) _ hread x9 x7 x8 (e0 _) ew (e1 _), ?_⟩
  exact fun p hp => absurd hp List.not_mem_nil

end Cert.QkvIdeal.Block

end
-- ==== Proof.Qkv.ValueBlock.lean ====
/- The query, key and value projections: the values' block. -/
module

public import proofs.«01_k».proof.Proof.Qkv.Block

@[expose] public section

noncomputable section

open Idealize.ShloMosaic Idealize.ShloMosaic.TcCoe Idealize.SL.Sem Idealize.ShloMosaic.ValueIdx
open Idealize.ShloMosaic.Pipeline (Dat)

namespace Cert.QkvIdeal.Block

open Cert.QkvIdeal Cert.QkvIdeal.Gen Cert.Common Cert.Qkv

/-- The values' block at a grid point. -/
theorem out13_eq (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S1 .f32) (harg4 : arg4.IsWhole) (arg5 : Memref sig .tc .smem S3 .f32) (harg5 : arg5.IsWhole) (arg6 : Memref sig .tc .vmem S256x5120 .bf16) (harg6 : arg6.IsWhole) (arg7 : Memref sig .tc .vmem S1x5120 .f32) (harg7 : arg7.IsWhole) (arg8 : Memref sig .tc .vmem S256x64 .f32) (harg8 : arg8.IsWhole) (arg9 : Memref sig .tc .vmem S256x64 .f32) (harg9 : arg9.IsWhole) (arg10 : Memref sig .tc .vmem S5120x6144 .fp8e4m3) (harg10 : arg10.IsWhole) (arg11 : Memref sig .tc .vmem S256x5120 .fp8e4m3) (harg11 : arg11.IsWhole) (arg12 : Memref sig .tc .vmem S256x4096 .fp8e4m3) (harg12 : arg12.IsWhole) (arg13 : Memref sig .tc .vmem S256x1024 .fp8e4m3) (harg13 : arg13.IsWhole) (arg14 : Memref sig .tc .vmem S256x1024 .fp8e4m3) (harg14 : arg14.IsWhole)
    (x0 : Vec Ideal S1 .f32) (x1 : Vec Ideal S1 .f32) (x2 : Vec Ideal S1 .f32) (x3 : Vec Ideal S1 .f32) (x4 : Vec Ideal S3 .f32) (x5 : Vec Ideal S256x5120 .bf16) (x6 : Vec Ideal S1x5120 .f32) (x7 : Vec Ideal S256x64 .f32) (x8 : Vec Ideal S256x64 .f32) (x9 : Vec Ideal S5120x6144 .fp8e4m3) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = plainBlock 1024 (x1Block x5 x6 (x0 (ix1 0))) x9 (x0 (ix1 0) * x4 (ix1 2)) (x3 (ix1 0)) 5120 := by
  funext y
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y
  have hread : arg11.view.readCov (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 (Rect.unit (s := S256x5120) ![0, 0] S256x5120.size inb_S256x5120_S256x5120_0_0).toLoadRect
      = x1Block x5 x6 (x0 (ix1 0)) := x1_read c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  refine View.canon_apply_of_pieces _ _ ?_ y hc
  revert hread
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S256x64) off2, View.ld_unit_zero (S := S1x5120) off2]
  intro hread
  have e0 (j : S1.Idx) : x0 j = x0 (ix1 0) := congrArg x0 (idx_one j)
  have e1 (j : S1.Idx) : x3 j = x3 (ix1 0) := congrArg x3 (idx_one j)
  have ew : x4 ((Rect.unit (s := S3) ![2] S1.size inb_S3_S1_2).idx (Shape.Idx.first (by decide))) = x4 (ix1 2) :=
    congrArg x4 (idx_axis _ 2 rfl)
  refine List.forall_mem_cons.mpr ⟨plain_tile 1024 5632 384 5120 896 inb_S5120x6144_S5120x512_0_5632 slices_S256x512_o0_384_S256x128 inb_S256x1024_S256x128_0_896 (by decide) (by decide) _ hread x9 (e0 _) ew (e1 _), ?_⟩
  refine List.forall_mem_cons.mpr ⟨plain_tile 1024 5632 256 5120 768 inb_S5120x6144_S5120x512_0_5632 slices_S256x512_o0_256_S256x128 inb_S256x1024_S256x128_0_768 (by decide) (by decide) _ hread x9 (e0 _) ew (e1 _), ?_⟩
  refine List.forall_mem_cons.mpr ⟨plain_tile 1024 5632 128 5120 640 inb_S5120x6144_S5120x512_0_5632 slices_S256x512_o0_128_S256x128 inb_S256x1024_S256x128_0_640 (by decide) (by decide) _ hread x9 (e0 _) ew (e1 _), ?_⟩
  refine List.forall_mem_cons.mpr ⟨plain_tile 1024 5632 0 5120 512 inb_S5120x6144_S5120x512_0_5632 slices_S256x512_o0_0_S256x128 inb_S256x1024_S256x128_0_512 (by decide) (by decide) _ hread x9 (e0 _) ew (e1 _), ?_⟩
  refine List.forall_mem_cons.mpr ⟨plain_tile 1024 5120 384 5120 384 inb_S5120x6144_S5120x512_0_5120 slices_S256x512_o0_384_S256x128 inb_S256x1024_S256x128_0_384 (by decide) (by decide) _ hread x9 (e0 _) ew (e1 _), ?_⟩
  refine List.forall_mem_cons.mpr ⟨plain_tile 1024 5120 256 5120 256 inb_S5120x6144_S5120x512_0_5120 slices_S256x512_o0_256_S256x128 inb_S256x1024_S256x128_0_256 (by decide) (by decide) _ hread x9 (e0 _) ew (e1 _), ?_⟩
  refine List.forall_mem_cons.mpr ⟨plain_tile 1024 5120 128 5120 128 inb_S5120x6144_S5120x512_0_5120 slices_S256x512_o0_128_S256x128 inb_S256x1024_S256x128_0_128 (by decide) (by decide) _ hread x9 (e0 _) ew (e1 _), ?_⟩
  refine List.forall_mem_cons.mpr ⟨plain_tile 1024 5120 0 5120 0 inb_S5120x6144_S5120x512_0_5120 slices_S256x512_o0_0_S256x128 inb_S256x1024_S256x128_0_0 (by decide) (by decide) _ hread x9 (e0 _) ew (e1 _), ?_⟩
  exact fun p hp => absurd hp List.not_mem_nil

end Cert.QkvIdeal.Block

end
-- ==== Proof.Qkv.Kernel.lean ====
/- The query, key and value projections: what the kernel's result arrays hold after the run. -/
module

public import proofs.«01_k».proof.Proof.Qkv.Inputs
public import proofs.«01_k».proof.Proof.Qkv.Query
public import proofs.«01_k».proof.Proof.Qkv.Key
public import proofs.«01_k».proof.Proof.Qkv.ValueBlock

@[expose] public section

noncomputable section

open Idealize.ShloMosaic Idealize.ShloMosaic.TcCoe Idealize.SL.Sem Idealize.ShloMosaic.ValueIdx
open Idealize.ShloMosaic.Pipeline (Dat)

namespace Cert.QkvIdeal.Array

open Cert.QkvIdeal Cert.QkvIdeal.Gen Cert.Common Cert.Qkv

variable (m : (ℓ : Loc nD τ sig) → Buf (Elt Ideal) ℓ)

/-- Every group of 256 rows is some grid point's block of window 10, which it writes back. -/
theorem idx_onto10 : ∀ b : Fin 18, ∃ t : Fin cfg0.N, win0_10.index t 0 = b ∧ win0_10.index t 1 = 0 ∧ (cfg0.win 10).flush t = true :=
  (by decide +kernel : ∀ b : Fin 18, ∃ t : Fin grid0.N, win0_10.index t 0 = b ∧ win0_10.index t 1 = 0 ∧ (cfg0.win 10).flush t = true)

/-- Every group of 256 rows is some grid point's block of window 11, which it writes back. -/
theorem idx_onto11 : ∀ b : Fin 18, ∃ t : Fin cfg0.N, win0_11.index t 0 = b ∧ win0_11.index t 1 = 0 ∧ (cfg0.win 11).flush t = true :=
  (by decide +kernel : ∀ b : Fin 18, ∃ t : Fin grid0.N, win0_11.index t 0 = b ∧ win0_11.index t 1 = 0 ∧ (cfg0.win 11).flush t = true)

/-- Every group of 256 rows is some grid point's block of window 12, which it writes back. -/
theorem idx_onto12 : ∀ b : Fin 18, ∃ t : Fin cfg0.N, win0_12.index t 0 = b ∧ win0_12.index t 1 = 0 ∧ (cfg0.win 12).flush t = true :=
  (by decide +kernel : ∀ b : Fin 18, ∃ t : Fin grid0.N, win0_12.index t 0 = b ∧ win0_12.index t 1 = 0 ∧ (cfg0.win 12).flush t = true)

/-- Every group of 256 rows is some grid point's block of window 13, which it writes back. -/
theorem idx_onto13 : ∀ b : Fin 18, ∃ t : Fin cfg0.N, win0_13.index t 0 = b ∧ win0_13.index t 1 = 0 ∧ (cfg0.win 13).flush t = true :=
  (by decide +kernel : ∀ b : Fin 18, ∃ t : Fin grid0.N, win0_13.index t 0 = b ∧ win0_13.index t 1 = 0 ∧ (cfg0.win 13).flush t = true)

/-- What a grid point writes back through window 10 is its block of `result10`. -/
theorem flushed10_eq (c : Dev nD) (t : Fin cfg0.N) :
    (dats m 0 c).flushed 10 t = ((cfg0.win 10).blk t).view.read (Elt Ideal) (result10 m c) := by
  obtain ⟨h100, h101, h110, h111, h120, h121, h130, h131, h50, h51, h70, h71, h80, h81, h60, h61, h90, h91, h40⟩ := idx_facts t
  rw [Cert.QkvIdeal.Value.flushed10_A]
  funext y
  obtain ⟨r, q, rfl⟩ : ∃ (r : Fin 256) (q : Fin 5120), y = ix2 r q := ⟨y 0, y 1, eq_ix2 y⟩
  refine (congrFun (Block.out10_eq _ _ _ _ _ _ _ _ _ _ _ _ _ _ _ _ _ _ _ _ _ _ _ _ _ _ _ _ _ _ _ _ _ _ _ _ _ _ _ _) (ix2 r q)).trans ?_
  have e0 : ((win0_10.rect t).emb (ix2 r q) 0 : ℕ) = win0_10.index t 0 * 256 + r.val := win0_10.rect_emb_val t _ 0
  have e1 : (win0_10.rect t).emb (ix2 r q) 1 = q := by
    refine Fin.ext ((win0_10.rect_emb_val t (ix2 r q) 1).trans ?_)
    rw [h101]; exact Nat.zero_add _
  exact (x1Block_eq m c t r _ e0 q).trans (congrArg (row m c ((win0_10.rect t).emb (ix2 r q) 0)) e1.symm)

/-- What a grid point writes back through window 11 is its block of `result11`. -/
theorem flushed11_eq (c : Dev nD) (t : Fin cfg0.N) :
    (dats m 0 c).flushed 11 t = ((cfg0.win 11).blk t).view.read (Elt Ideal) (result11 m c) := by
  obtain ⟨h100, h101, h110, h111, h120, h121, h130, h131, h50, h51, h70, h71, h80, h81, h60, h61, h90, h91, h40⟩ := idx_facts t
  rw [Cert.QkvIdeal.Value.flushed11_A]
  funext y
  obtain ⟨r, q, rfl⟩ : ∃ (r : Fin 256) (q : Fin 4096), y = ix2 r q := ⟨y 0, y 1, eq_ix2 y⟩
  refine (congrFun (Block.out11_eq _ _ _ _ _ _ _ _ _ _ _ _ _ _ _ _ _ _ _ _ _ _ _ _ _ _ _ _ _ _ _ _ _ _ _ _ _ _ _ _) (ix2 r q)).trans ?_
  have e0 : ((win0_11.rect t).emb (ix2 r q) 0 : ℕ) = win0_10.index t 0 * 256 + r.val :=
    (win0_11.rect_emb_val t _ 0).trans (by rw [h110]; rfl)
  have e1 : ((win0_11.rect t).emb (ix2 r q) 1 : ℕ) = q.val := by
    refine (win0_11.rect_emb_val t (ix2 r q) 1).trans ?_
    rw [h111]; exact Nat.zero_add _
  have hs : (iblk m c 1 t : Vec Ideal S1 .f32) (ix1 0) = m ((c : Thread nD τ).loc main_arg6) ix0 := V_main_v2 m c _
  exact rotated_congr (fun k => x1Block_eq m c t r _ e0 k) (weights m c t) (scale_eq m c t 0)
    (fun k => cos_row m c t r _ e0 k) (fun k => sin_row m c t r _ e0 k) hs e1.symm

/-- What a grid point writes back through window 12 is its block of `result12`. -/
theorem flushed12_eq (c : Dev nD) (t : Fin cfg0.N) :
    (dats m 0 c).flushed 12 t = ((cfg0.win 12).blk t).view.read (Elt Ideal) (result12 m c) := by
  obtain ⟨h100, h101, h110, h111, h120, h121, h130, h131, h50, h51, h70, h71, h80, h81, h60, h61, h90, h91, h40⟩ := idx_facts t
  rw [Cert.QkvIdeal.Value.flushed12_A]
  funext y
  obtain ⟨r, q, rfl⟩ : ∃ (r : Fin 256) (q : Fin 1024), y = ix2 r q := ⟨y 0, y 1, eq_ix2 y⟩
  refine (congrFun (Block.out12_eq _ _ _ _ _ _ _ _ _ _ _ _ _ _ _ _ _ _ _ _ _ _ _ _ _ _ _ _ _ _ _ _ _ _ _ _ _ _ _ _) (ix2 r q)).trans ?_
  have e0 : ((win0_12.rect t).emb (ix2 r q) 0 : ℕ) = win0_10.index t 0 * 256 + r.val :=
    (win0_12.rect_emb_val t _ 0).trans (by rw [h120]; rfl)
  have e1 : ((win0_12.rect t).emb (ix2 r q) 1 : ℕ) = q.val := by
    refine (win0_12.rect_emb_val t (ix2 r q) 1).trans ?_
    rw [h121]; exact Nat.zero_add _
  have hs : (iblk m c 2 t : Vec Ideal S1 .f32) (ix1 0) = m ((c : Thread nD τ).loc main_arg7) ix0 := V_main_v3 m c _
  exact rotated_congr (fun k => x1Block_eq m c t r _ e0 k) (weights m c t) (scale_eq m c t 1)
    (fun k => cos_row m c t r _ e0 k) (fun k => sin_row m c t r _ e0 k) hs e1.symm

/-- What a grid point writes back through window 13 is its block of `result13`. -/
theorem flushed13_eq (c : Dev nD) (t : Fin cfg0.N) :
    (dats m 0 c).flushed 13 t = ((cfg0.win 13).blk t).view.read (Elt Ideal) (result13 m c) := by
  obtain ⟨h100, h101, h110, h111, h120, h121, h130, h131, h50, h51, h70, h71, h80, h81, h60, h61, h90, h91, h40⟩ := idx_facts t
  rw [Cert.QkvIdeal.Value.flushed13_A]
  funext y
  obtain ⟨r, q, rfl⟩ : ∃ (r : Fin 256) (q : Fin 1024), y = ix2 r q := ⟨y 0, y 1, eq_ix2 y⟩
  refine (congrFun (Block.out13_eq _ _ _ _ _ _ _ _ _ _ _ _ _ _ _ _ _ _ _ _ _ _ _ _ _ _ _ _ _ _ _ _ _ _ _ _ _ _ _ _) (ix2 r q)).trans ?_
  have e0 : ((win0_13.rect t).emb (ix2 r q) 0 : ℕ) = win0_10.index t 0 * 256 + r.val :=
    (win0_13.rect_emb_val t _ 0).trans (by rw [h130]; rfl)
  have e1 : ((win0_13.rect t).emb (ix2 r q) 1 : ℕ) = q.val := by
    refine (win0_13.rect_emb_val t (ix2 r q) 1).trans ?_
    rw [h131]; exact Nat.zero_add _
  have hs : (iblk m c 3 t : Vec Ideal S1 .f32) (ix1 0) = m ((c : Thread nD τ).loc main_arg8) ix0 := V_main_v4 m c _
  exact plain_congr (fun k => x1Block_eq m c t r _ e0 k) (weights m c t) (scale_eq m c t 2) hs e1.symm

/-- The blocks cover the array of window 10. -/
theorem cover10 (i : S4608x5120.Idx) : ∃ t : Fin cfg0.N, (cfg0.win 10).flush t = true ∧ i ∈ ((cfg0.win 10).blk t).view.set := by
  have b0 : (i 0 : ℕ) < 4608 := (i 0).isLt
  have b1 : (i 1 : ℕ) < 5120 := (i 1).isLt
  obtain ⟨t, h0, h1, hf⟩ := idx_onto10 ⟨(i 0 : ℕ) / 256, by omega⟩
  refine ⟨t, hf, ?_⟩
  show i ∈ ((View.whole main_v5_0).slice (win0_10.rect t)).set
  rw [View.set_slice_whole, Rect.mem_set_unit]
  intro a
  match a with
  | ⟨0, _⟩ => show win0_10.index t 0 * 256 ≤ (i 0 : ℕ) ∧ (i 0 : ℕ) < win0_10.index t 0 * 256 + 256
              rw [h0]; dsimp only; omega
  | ⟨1, _⟩ => show win0_10.index t 1 * 5120 ≤ (i 1 : ℕ) ∧ (i 1 : ℕ) < win0_10.index t 1 * 5120 + 5120
              rw [h1]; omega

/-- After the run the array of window 10 holds `result10`. -/
theorem final10 (c : Dev nD) : (dats m 0 c).arrAt 10 cfg0.N = result10 m c :=
  (dats m 0 c).arrAt_eq_of_cover 10 (result10 m c) (fun t _ => flushed10_eq m c t) cover10

/-- The blocks cover the array of window 11. -/
theorem cover11 (i : S4608x4096.Idx) : ∃ t : Fin cfg0.N, (cfg0.win 11).flush t = true ∧ i ∈ ((cfg0.win 11).blk t).view.set := by
  have b0 : (i 0 : ℕ) < 4608 := (i 0).isLt
  have b1 : (i 1 : ℕ) < 4096 := (i 1).isLt
  obtain ⟨t, h0, h1, hf⟩ := idx_onto11 ⟨(i 0 : ℕ) / 256, by omega⟩
  refine ⟨t, hf, ?_⟩
  show i ∈ ((View.whole main_v5_1).slice (win0_11.rect t)).set
  rw [View.set_slice_whole, Rect.mem_set_unit]
  intro a
  match a with
  | ⟨0, _⟩ => show win0_11.index t 0 * 256 ≤ (i 0 : ℕ) ∧ (i 0 : ℕ) < win0_11.index t 0 * 256 + 256
              rw [h0]; dsimp only; omega
  | ⟨1, _⟩ => show win0_11.index t 1 * 4096 ≤ (i 1 : ℕ) ∧ (i 1 : ℕ) < win0_11.index t 1 * 4096 + 4096
              rw [h1]; omega

/-- After the run the array of window 11 holds `result11`. -/
theorem final11 (c : Dev nD) : (dats m 0 c).arrAt 11 cfg0.N = result11 m c :=
  (dats m 0 c).arrAt_eq_of_cover 11 (result11 m c) (fun t _ => flushed11_eq m c t) cover11

/-- The blocks cover the array of window 12. -/
theorem cover12 (i : S4608x1024.Idx) : ∃ t : Fin cfg0.N, (cfg0.win 12).flush t = true ∧ i ∈ ((cfg0.win 12).blk t).view.set := by
  have b0 : (i 0 : ℕ) < 4608 := (i 0).isLt
  have b1 : (i 1 : ℕ) < 1024 := (i 1).isLt
  obtain ⟨t, h0, h1, hf⟩ := idx_onto12 ⟨(i 0 : ℕ) / 256, by omega⟩
  refine ⟨t, hf, ?_⟩
  show i ∈ ((View.whole main_v5_2).slice (win0_12.rect t)).set
  rw [View.set_slice_whole, Rect.mem_set_unit]
  intro a
  match a with
  | ⟨0, _⟩ => show win0_12.index t 0 * 256 ≤ (i 0 : ℕ) ∧ (i 0 : ℕ) < win0_12.index t 0 * 256 + 256
              rw [h0]; dsimp only; omega
  | ⟨1, _⟩ => show win0_12.index t 1 * 1024 ≤ (i 1 : ℕ) ∧ (i 1 : ℕ) < win0_12.index t 1 * 1024 + 1024
              rw [h1]; omega

/-- After the run the array of window 12 holds `result12`. -/
theorem final12 (c : Dev nD) : (dats m 0 c).arrAt 12 cfg0.N = result12 m c :=
  (dats m 0 c).arrAt_eq_of_cover 12 (result12 m c) (fun t _ => flushed12_eq m c t) cover12

/-- The blocks cover the array of window 13. -/
theorem cover13 (i : S4608x1024.Idx) : ∃ t : Fin cfg0.N, (cfg0.win 13).flush t = true ∧ i ∈ ((cfg0.win 13).blk t).view.set := by
  have b0 : (i 0 : ℕ) < 4608 := (i 0).isLt
  have b1 : (i 1 : ℕ) < 1024 := (i 1).isLt
  obtain ⟨t, h0, h1, hf⟩ := idx_onto13 ⟨(i 0 : ℕ) / 256, by omega⟩
  refine ⟨t, hf, ?_⟩
  show i ∈ ((View.whole main_v5_3).slice (win0_13.rect t)).set
  rw [View.set_slice_whole, Rect.mem_set_unit]
  intro a
  match a with
  | ⟨0, _⟩ => show win0_13.index t 0 * 256 ≤ (i 0 : ℕ) ∧ (i 0 : ℕ) < win0_13.index t 0 * 256 + 256
              rw [h0]; dsimp only; omega
  | ⟨1, _⟩ => show win0_13.index t 1 * 1024 ≤ (i 1 : ℕ) ∧ (i 1 : ℕ) < win0_13.index t 1 * 1024 + 1024
              rw [h1]; omega

/-- After the run the array of window 13 holds `result13`. -/
theorem final13 (c : Dev nD) : (dats m 0 c).arrAt 13 cfg0.N = result13 m c :=
  (dats m 0 c).arrAt_eq_of_cover 13 (result13 m c) (fun t _ => flushed13_eq m c t) cover13

end Cert.QkvIdeal.Array

end
-- ==== Proof.Qkv.Stored.lean ====
/- The query, key and value projections: the reference's stored values, read at an element. -/
module

public import proofs.«01_k».proof.Proof.Qkv.Spec
public import proofs.«01_k».proof.Proof.Gen.QkvRefIdeal.Value

@[expose] public section

noncomputable section

open Idealize.ShloMosaic Idealize.ShloMosaic.TcCoe Idealize.SL.Sem Idealize.ShloMosaic.ValueIdx
open Idealize.ShloMosaic.Pipeline (Dat)

namespace Cert.QkvRefIdeal.Stored

open Cert.QkvRefIdeal Cert.QkvRefIdeal.Gen Cert.Common Cert.Qkv

section Rotation

variable {N M : ℕ}

/-- Heads of 128 columns, `N` of them, rotated and coded, as the reference writes it. -/
def rotation (T : FVec Ideal ⟨2, ![4608, M]⟩ .f32) (C D : FVec Ideal S4608x64 .f32) (u : EReal)
    (h1 : (⟨2, ![4608, M]⟩ : Shape).ShapeCasts ⟨3, ![4608, N, 128]⟩)
    (h2 : (⟨3, ![4608, N, 128]⟩ : Shape).Slices ![0, 0, 0] ⟨3, ![4608, N, 64]⟩)
    (h3 : (⟨3, ![4608, N, 128]⟩ : Shape).Slices ![0, 0, 64] ⟨3, ![4608, N, 64]⟩)
    (h5 : S4608x1x64.Broadcasts ⟨3, ![4608, N, 64]⟩)
    (h6 : Shape.Concatenates [⟨3, ![4608, N, 64]⟩, ⟨3, ![4608, N, 64]⟩] ⟨3, ![4608, N, 128]⟩ 2)
    (h7 : (⟨3, ![4608, N, 128]⟩ : Shape).ShapeCasts ⟨2, ![4608, M]⟩) : FVec Ideal ⟨2, ![4608, M]⟩ .fp8e4m3 :=
  let a : FVec Ideal ⟨3, ![4608, N, 64]⟩ .f32 := extractStridedSlice ⟨3, ![4608, N, 64]⟩ ![0, 0, 0] (shapeCast ⟨3, ![4608, N, 128]⟩ T h1) h2
  let b : FVec Ideal ⟨3, ![4608, N, 64]⟩ .f32 := extractStridedSlice ⟨3, ![4608, N, 64]⟩ ![0, 0, 64] (shapeCast ⟨3, ![4608, N, 128]⟩ T h1) h3
  let c : FVec Ideal ⟨3, ![4608, N, 64]⟩ .f32 := broadcastTo ⟨3, ![4608, N, 64]⟩ (shapeCast S4608x1x64 C shapeCasts_S4608x64_S4608x1x64) h5
  let d : FVec Ideal ⟨3, ![4608, N, 64]⟩ .f32 := broadcastTo ⟨3, ![4608, N, 64]⟩ (shapeCast S4608x1x64 D shapeCasts_S4608x64_S4608x1x64) h5
  shapeCast ⟨2, ![4608, M]⟩ (truncf .fp8e4m3
    (minimumf (broadcast ⟨3, ![4608, N, 128]⟩ (Scalar.ofBits (F := Ideal) .f32 0x43E00000#32))
      (maximumf (broadcast ⟨3, ![4608, N, 128]⟩ (Scalar.ofBits (F := Ideal) .f32 0xC3E00000#32))
        (divf (concatenate ⟨3, ![4608, N, 128]⟩ 2 [⟨⟨3, ![4608, N, 64]⟩, subf (mulf a c) (mulf b d)⟩, ⟨⟨3, ![4608, N, 64]⟩, addf (mulf b c) (mulf a d)⟩] h6)
          (broadcast ⟨3, ![4608, N, 128]⟩ u)))) bitsLt_fp8e4m3_f32) h7

/-- A row of 64 numbers repeated for every head, read at an element. -/
theorem repeat_apply (C : FVec Ideal S4608x64 .f32) (h5 : S4608x1x64.Broadcasts ⟨3, ![4608, N, 64]⟩) (r : Fin 4608) (h : Fin N) (k : Fin 64) :
    broadcastTo ⟨3, ![4608, N, 64]⟩ (shapeCast S4608x1x64 C shapeCasts_S4608x64_S4608x1x64) h5 (ix3 r h k) = C (ix2 r k) := by
  refine (broadcastTo_apply _ h5 (ix3 r h k) (ix3 r 0 k) fun a => ?_).trans
    (shapeCast_apply C shapeCasts_S4608x64_S4608x1x64 (ix3 r 0 k) (ix2 r k) ?_)
  · match a with
    | ⟨0, _⟩ => rfl
    | ⟨1, _⟩ => rfl
    | ⟨2, _⟩ => rfl
  · rw [Shape.rowMajor_val_two, Shape.rowMajor_val_three]
    show r.val * 64 + k.val = (r.val * 1 + 0) * 64 + k.val
    omega

/-- A row split into heads, read at an element. -/
theorem heads_apply (T : FVec Ideal ⟨2, ![4608, M]⟩ .f32) (h1 : (⟨2, ![4608, M]⟩ : Shape).ShapeCasts ⟨3, ![4608, N, 128]⟩) (hM : M = N * 128)
    (r : Fin 4608) (h : Fin N) (q : Fin 128) (j : Fin M) (hj : j.val = h.val * 128 + q.val) :
    shapeCast ⟨3, ![4608, N, 128]⟩ T h1 (ix3 r h q) = T (ix2 r j) := by
  refine shapeCast_apply T h1 (ix3 r h q) (ix2 r j) ?_
  rw [Shape.rowMajor_val_two, Shape.rowMajor_val_three]
  show r.val * M + j.val = (r.val * N + h.val) * 128 + q.val
  rw [hj, Nat.add_mul, Nat.mul_assoc, Nat.add_assoc, ← hM]

/-- The rotated and coded heads, read at row `r`, column `j`; `t` is the row before the rotation. -/
theorem rotation_apply (T : FVec Ideal ⟨2, ![4608, M]⟩ .f32) (C D : FVec Ideal S4608x64 .f32) (u : EReal)
    (h1 h2 h3 h5 h6 h7) (hM : M = N * 128) (t : ℕ → EReal) (r : Fin 4608) (ht : ∀ j : Fin M, T (ix2 r j) = t j) (j : Fin M) :
    rotation (N := N) T C D u h1 h2 h3 h5 h6 h7 (ix2 r j)
      = code (rope t (ext fun k => C (ix2 r k)) (ext fun k => D (ix2 r k)) j) u := by
  have hj := j.isLt
  have hh : j.val / 128 < N := by omega
  have hq : j.val % 128 < 128 := Nat.mod_lt _ (by decide)
  have hsplit : j.val = j.val / 128 * 128 + j.val % 128 := by omega
  have hb (k : ℕ) (hk : k < 128) : j.val / 128 * 128 + k < M := by omega
  -- the head's halves, read at an element
  have ea (k : Fin 64) : extractStridedSlice ⟨3, ![4608, N, 64]⟩ ![0, 0, 0] (shapeCast ⟨3, ![4608, N, 128]⟩ T h1) h2 (ix3 r ⟨j.val / 128, hh⟩ k)
      = t (j.val / 128 * 128 + k.val) := by
    refine (extractStridedSlice_apply _ _ _ _ (ix3 r ⟨j.val / 128, hh⟩ ⟨k.val, by omega⟩) (fun a => by
      match a with
      | ⟨0, _⟩ => exact (Nat.zero_add _).symm
      | ⟨1, _⟩ => exact (Nat.zero_add _).symm
      | ⟨2, _⟩ => exact (Nat.zero_add _).symm)).trans ?_
    exact (heads_apply T h1 hM r ⟨j.val / 128, hh⟩ ⟨k.val, by omega⟩ ⟨j.val / 128 * 128 + k.val, hb _ (by omega)⟩ rfl).trans (ht ⟨j.val / 128 * 128 + k.val, hb _ (by omega)⟩)
  have eb (k : Fin 64) : extractStridedSlice ⟨3, ![4608, N, 64]⟩ ![0, 0, 64] (shapeCast ⟨3, ![4608, N, 128]⟩ T h1) h3 (ix3 r ⟨j.val / 128, hh⟩ k)
      = t (j.val / 128 * 128 + (k.val + 64)) := by
    refine (extractStridedSlice_apply _ _ _ _ (ix3 r ⟨j.val / 128, hh⟩ ⟨k.val + 64, by omega⟩) (fun a => by
      match a with
      | ⟨0, _⟩ => exact (Nat.zero_add _).symm
      | ⟨1, _⟩ => exact (Nat.zero_add _).symm
      | ⟨2, _⟩ => exact Nat.add_comm _ _)).trans ?_
    exact (heads_apply T h1 hM r ⟨j.val / 128, hh⟩ ⟨k.val + 64, by omega⟩ ⟨j.val / 128 * 128 + (k.val + 64), hb _ (by omega)⟩ rfl).trans (ht ⟨j.val / 128 * 128 + (k.val + 64), hb _ (by omega)⟩)
  have e : (j : ℕ) = j.val / 128 * 128 + j.val % 128 := hsplit
  unfold rotation
  refine (shapeCast_apply _ h7 (ix2 r j) (ix3 r ⟨j.val / 128, hh⟩ ⟨j.val % 128, hq⟩) ?_).trans ?_
  · rw [Shape.rowMajor_val_two, Shape.rowMajor_val_three]
    show (r.val * N + j.val / 128) * 128 + j.val % 128 = r.val * M + j.val
    rw [Nat.add_mul, Nat.mul_assoc, Nat.add_assoc, ← e, ← hM]
  · refine congrArg (fun z => code z u) ?_
    by_cases hl : j.val % 128 < 64
    · refine (concatenate_pair_apply_left 2 _ _ h6 _ rfl (ix3 r ⟨j.val / 128, hh⟩ ⟨j.val % 128, hl⟩) (fun b => by
        match b with
        | ⟨0, _⟩ => rfl
        | ⟨1, _⟩ => rfl
        | ⟨2, _⟩ => rfl)).trans ?_
      have er : rope t (ext fun k => C (ix2 r k)) (ext fun k => D (ix2 r k)) j
          = t j * C (ix2 r ⟨j.val % 128, hl⟩) - t (j.val / 128 * 128 + (j.val % 128 + 64)) * D (ix2 r ⟨j.val % 128, hl⟩) := by
        unfold rope
        rw [if_pos hl, ext_of_lt _ hl, ext_of_lt _ hl, show j.val + 64 = j.val / 128 * 128 + (j.val % 128 + 64) by omega]
      rw [er]
      refine congrArg₂ (fun x y : EReal => x - y) (congrArg₂ (fun x y : EReal => x * y) ((ea _).trans (congrArg t e.symm)) (repeat_apply C h5 r _ _))
        (congrArg₂ (fun x y : EReal => x * y) (eb _) (repeat_apply D h5 r _ _))
    · have hk : j.val % 128 - 64 < 64 := by omega
      refine (concatenate_pair_apply_right 2 _ _ h6 (ix3 r ⟨j.val / 128, hh⟩ ⟨j.val % 128, hq⟩) rfl rfl (ix3 r ⟨j.val / 128, hh⟩ ⟨j.val % 128 - 64, hk⟩) (fun b hb => by
        match b, hb with
        | ⟨0, _⟩, _ => rfl
        | ⟨1, _⟩, _ => rfl
        | ⟨2, _⟩, hb => exact absurd rfl hb) (Nat.sub_add_cancel (Nat.le_of_not_lt hl))).trans ?_
      have er : rope t (ext fun k => C (ix2 r k)) (ext fun k => D (ix2 r k)) j
          = t j * C (ix2 r ⟨j.val % 128 - 64, hk⟩) + t (j.val / 128 * 128 + (j.val % 128 - 64)) * D (ix2 r ⟨j.val % 128 - 64, hk⟩) := by
        unfold rope
        rw [if_neg hl, ext_of_lt _ hk, ext_of_lt _ hk, show j.val - 64 = j.val / 128 * 128 + (j.val % 128 - 64) by omega]
      rw [er]
      refine congrArg₂ (fun x y : EReal => x + y) (congrArg₂ (fun x y : EReal => x * y) ((eb _).trans (congrArg t ?_)) (repeat_apply C h5 r _ _))
        (congrArg₂ (fun x y : EReal => x * y) (ea _) (repeat_apply D h5 r _ _))
      show j.val / 128 * 128 + (j.val % 128 - 64 + 64) = j.val
      omega

end Rotation

/-- One row of the codes of the normed rows. -/
abbrev xrow (x : Vec Ideal S4608x5120 .bf16) (l : Vec Ideal S1x5120 .f32) (s : EReal) (r : Fin 4608) : Fin 5120 → EReal :=
  normRow (fun k => x (ix2 r k)) (fun k => l (ix2 0 k)) s

/-- The first result's stored value at row `r`, column `q`. -/
theorem x1_apply (x : Vec Ideal S4608x5120 .bf16) (l : Vec Ideal S1x5120 .f32) (s : EReal) (r : Fin 4608) (q : Fin 5120) :
    k0_pay3 (F := Ideal) x l s (ix2 r q) = xrow x l s r q := by
  have e1 : shapeCast S1x5120 l shapeCasts_S1x5120_S1x5120 = l := shapeCast_self _ _
  unfold k0_pay3
  dsimp only
  rw [e1]
  exact normed_reference_apply (extf .f32 x bitsLt_bf16_f32) l s reduces_S4608x5120_S4608 (.inl rfl) rfl shapeCasts_S4608_S4608x1
    broadcasts_S4608x1_S4608x5120 broadcasts_S1x5120_S4608x5120 r q

/-- The product of the codes with the weights, read at row `r`, column `j`. -/
theorem acc_apply (x : Vec Ideal S4608x5120 .bf16) (l : Vec Ideal S1x5120 .f32) (s : EReal) (w : Vec Ideal S5120x6144 .fp8e4m3)
    (r : Fin 4608) (j : Fin 6144) : k0_pay4 (F := Ideal) x l s w (ix2 r j) = acc (xrow x l s r) w j := by
  refine (matmul_zero (φ₁ := .fp8e4m3) (φ₂ := .fp8e4m3) none (k0_pay3 (F := Ideal) x l s) w r j).trans ?_
  rw [acc_of_lt _ _ j.isLt]
  exact Finset.sum_congr rfl fun k _ => congrArg (· * w (ix2 k j)) (x1_apply x l s r k)

/-- A slice of the product's columns, from `o` on, scaled twice, read at an element. -/
theorem scaled_apply {M : ℕ} (o : ℕ) (P : FVec Ideal S4608x6144 .f32) (hs : S4608x6144.Slices ![0, o] ⟨2, ![4608, M]⟩) (z v : EReal)
    (f : Fin 5120 → EReal) (w : Vec Ideal S5120x6144 .fp8e4m3) (r : Fin 4608) (hP : ∀ j : Fin 6144, P (ix2 r j) = acc f w j)
    (ho : o + M ≤ 6144) (j : Fin M) :
    mulf (mulf (extractStridedSlice ⟨2, ![4608, M]⟩ ![0, o] P hs) (broadcast ⟨2, ![4608, M]⟩ z)) (broadcast ⟨2, ![4608, M]⟩ v) (ix2 r j)
      = acc f w (o + j) * (Mul.mul (α := EReal) z v) := by
  have hb : o + j.val < 6144 := by omega
  have e : extractStridedSlice ⟨2, ![4608, M]⟩ ![0, o] P hs (ix2 r j) = acc f w (o + j) :=
    (extractStridedSlice_apply _ _ _ _ (ix2 r ⟨o + j.val, hb⟩) (fun a => by
      match a with
      | ⟨0, _⟩ => exact (Nat.zero_add _).symm
      | ⟨1, _⟩ => rfl)).trans (hP _)
  exact (congrArg (fun y : EReal => y * z * v) e).trans (mul_assoc _ _ _)

variable (x : Vec Ideal S4608x5120 .bf16) (l : Vec Ideal S1x5120 .f32) (s : EReal) (w : Vec Ideal S5120x6144 .fp8e4m3) (z v u : EReal)
  (C D : Vec Ideal S4608x64 .f32)

/-- The queries' stored value at row `r`, column `j`. -/
theorem q_apply (r : Fin 4608) (j : Fin 4096) :
    k0_pay9 (F := Ideal) (k0_pay5 (F := Ideal) x l s w z v) C D u (ix2 r j)
      = rotated (xrow x l s r) w (Mul.mul (α := EReal) z v) (fun k => C (ix2 r k)) (fun k => D (ix2 r k)) u 0 j :=
  rotation_apply (N := 32) (M := 4096) _ C D u shapeCasts_S4608x4096_S4608x32x128 slices_S4608x32x128_o0_0_0_S4608x32x64
    slices_S4608x32x128_o0_0_64_S4608x32x64 broadcasts_S4608x1x64_S4608x32x64 concatenates_S4608x32x64_S4608x32x64_S4608x32x128_d2
    shapeCasts_S4608x32x128_S4608x4096 rfl (fun i => acc (xrow x l s r) w (0 + i) * Mul.mul (α := EReal) z v) r
    (fun i => scaled_apply 0 (k0_pay4 (F := Ideal) x l s w) slices_S4608x6144_o0_0_S4608x4096 z v _ w r (acc_apply x l s w r) (by decide) i) j

/-- The keys' stored value at row `r`, column `j`. -/
theorem k_apply (r : Fin 4608) (j : Fin 1024) :
    k0_pay1 (F := Ideal) (k0_pay10 (F := Ideal) (k0_pay6 (F := Ideal) x l s w z) v) (k0_pay11 (F := Ideal) (k0_pay6 (F := Ideal) x l s w z) v)
        (k0_pay12 (F := Ideal) C) (k0_pay13 (F := Ideal) D) (k0_pay14 (F := Ideal) C) u (ix2 r j)
      = rotated (xrow x l s r) w (Mul.mul (α := EReal) z v) (fun k => C (ix2 r k)) (fun k => D (ix2 r k)) u 4096 j :=
  rotation_apply (N := 8) (M := 1024) _ C D u shapeCasts_S4608x1024_S4608x8x128 slices_S4608x8x128_o0_0_0_S4608x8x64
    slices_S4608x8x128_o0_0_64_S4608x8x64 broadcasts_S4608x1x64_S4608x8x64 concatenates_S4608x8x64_S4608x8x64_S4608x8x128_d2
    shapeCasts_S4608x8x128_S4608x1024 rfl (fun i => acc (xrow x l s r) w (4096 + i) * Mul.mul (α := EReal) z v) r
    (fun i => scaled_apply 4096 (k0_pay4 (F := Ideal) x l s w) slices_S4608x6144_o0_4096_S4608x1024 z v _ w r (acc_apply x l s w r) (by decide) i) j

/-- The values' stored value at row `r`, column `j`. -/
theorem v_apply (r : Fin 4608) (j : Fin 1024) :
    k0_pay2 (F := Ideal) (k0_pay8 (F := Ideal) (k0_pay4 (F := Ideal) x l s w) z v) u (ix2 r j)
      = plain (xrow x l s r) w (Mul.mul (α := EReal) z v) u 5120 j :=
  congrArg (fun y => code y u)
    (scaled_apply 5120 (k0_pay4 (F := Ideal) x l s w) slices_S4608x6144_o0_5120_S4608x1024 z v _ w r (acc_apply x l s w r) (by decide) j)

end Cert.QkvRefIdeal.Stored

end
-- ==== Proof.Qkv.Left.lean ====
/- The query, key and value projections: what the reference's body leaves in its results. -/
module

public import proofs.«01_k».proof.Proof.Qkv.Spec
public import proofs.«01_k».proof.Proof.Gen.QkvRefIdeal.Value

@[expose] public section

noncomputable section

open Idealize.ShloMosaic Idealize.ShloMosaic.TcCoe Idealize.SL.Sem Idealize.ShloMosaic.ValueIdx
open Idealize.ShloMosaic.Pipeline (Dat)

namespace Cert.QkvRefIdeal.Left

open Cert.QkvRefIdeal Cert.QkvRefIdeal.Gen Cert.Common Cert.Qkv

/-- What the body leaves in the first result is its stored value, at the contents of its inputs. -/
theorem out10_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S3 .f32) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x64 .f32) (harg7 : arg7.IsWhole) (arg8 : Memref sig .tc .vmem S4608x64 .f32) (harg8 : arg8.IsWhole) (arg9 : Memref sig .tc .vmem S5120x6144 .fp8e4m3) (harg9 : arg9.IsWhole) (arg10 : Memref sig .tc .vmem S4608x5120 .fp8e4m3) (harg10 : arg10.IsWhole) (arg11 : Memref sig .tc .vmem S4608x4096 .fp8e4m3) (harg11 : arg11.IsWhole) (arg12 : Memref sig .tc .vmem S4608x1024 .fp8e4m3) (harg12 : arg12.IsWhole) (arg13 : Memref sig .tc .vmem S4608x1024 .fp8e4m3) (harg13 : arg13.IsWhole)
    (x0 : Vec Ideal S1 .f32) (x1 : Vec Ideal S1 .f32) (x2 : Vec Ideal S1 .f32) (x3 : Vec Ideal S1 .f32) (x4 : Vec Ideal S3 .f32) (x5 : Vec Ideal S4608x5120 .bf16) (x6 : Vec Ideal S1x5120 .f32) (x7 : Vec Ideal S4608x64 .f32) (x8 : Vec Ideal S4608x64 .f32) (x9 : Vec Ideal S5120x6144 .fp8e4m3) :
    out0_A_10 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay3 x5 x6 (x0 (ix1 0)) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread, harg7.read_unread, harg8.read_unread, harg9.read_unread,
    View.ld_unit_zero (S := S4608x5120) off2, View.ld_unit_zero (S := S4608x64) off2, View.ld_unit_zero (S := S5120x6144) off2,
    View.ld_unit_zero (S := S1x5120) off2]
  have e0 (i : S1.Idx) : x0 i = x0 (ix1 0) := congrArg x0 (idx_one i)
  exact congrArg (k0_pay3 x5 x6) (e0 _)

/-- What the body leaves in the queries is its stored value, at the contents of its inputs. -/
theorem out11_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S3 .f32) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x64 .f32) (harg7 : arg7.IsWhole) (arg8 : Memref sig .tc .vmem S4608x64 .f32) (harg8 : arg8.IsWhole) (arg9 : Memref sig .tc .vmem S5120x6144 .fp8e4m3) (harg9 : arg9.IsWhole) (arg10 : Memref sig .tc .vmem S4608x5120 .fp8e4m3) (harg10 : arg10.IsWhole) (arg11 : Memref sig .tc .vmem S4608x4096 .fp8e4m3) (harg11 : arg11.IsWhole) (arg12 : Memref sig .tc .vmem S4608x1024 .fp8e4m3) (harg12 : arg12.IsWhole) (arg13 : Memref sig .tc .vmem S4608x1024 .fp8e4m3) (harg13 : arg13.IsWhole)
    (x0 : Vec Ideal S1 .f32) (x1 : Vec Ideal S1 .f32) (x2 : Vec Ideal S1 .f32) (x3 : Vec Ideal S1 .f32) (x4 : Vec Ideal S3 .f32) (x5 : Vec Ideal S4608x5120 .bf16) (x6 : Vec Ideal S1x5120 .f32) (x7 : Vec Ideal S4608x64 .f32) (x8 : Vec Ideal S4608x64 .f32) (x9 : Vec Ideal S5120x6144 .fp8e4m3) :
    out0_A_11 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay9 (k0_pay5 x5 x6 (x0 (ix1 0)) x9 (x0 (ix1 0)) (x4 (ix1 0))) x7 x8 (x1 (ix1 0)) := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread, harg7.read_unread, harg8.read_unread, harg9.read_unread,
    View.ld_unit_zero (S := S4608x5120) off2, View.ld_unit_zero (S := S4608x64) off2, View.ld_unit_zero (S := S5120x6144) off2,
    View.ld_unit_zero (S := S1x5120) off2]
  have e0 (i : S1.Idx) : x0 i = x0 (ix1 0) := congrArg x0 (idx_one i)
  have e1 (i : S1.Idx) : x1 i = x1 (ix1 0) := congrArg x1 (idx_one i)
  have e4 : x4 ((Rect.unit (s := S3) ![0] S1.size inb_S3_S1_0).idx (Shape.Idx.first (by decide))) = x4 (ix1 0) := congrArg x4 (idx_axis _ 0 rfl)
  exact congr (congrArg₂ (fun a b => k0_pay9 (k0_pay5 x5 x6 a x9 a b) x7 x8) (e0 _) e4) (e1 _)

/-- What the body leaves in the keys is its stored value, at the contents of its inputs. -/
theorem out12_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S3 .f32) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x64 .f32) (harg7 : arg7.IsWhole) (arg8 : Memref sig .tc .vmem S4608x64 .f32) (harg8 : arg8.IsWhole) (arg9 : Memref sig .tc .vmem S5120x6144 .fp8e4m3) (harg9 : arg9.IsWhole) (arg10 : Memref sig .tc .vmem S4608x5120 .fp8e4m3) (harg10 : arg10.IsWhole) (arg11 : Memref sig .tc .vmem S4608x4096 .fp8e4m3) (harg11 : arg11.IsWhole) (arg12 : Memref sig .tc .vmem S4608x1024 .fp8e4m3) (harg12 : arg12.IsWhole) (arg13 : Memref sig .tc .vmem S4608x1024 .fp8e4m3) (harg13 : arg13.IsWhole)
    (x0 : Vec Ideal S1 .f32) (x1 : Vec Ideal S1 .f32) (x2 : Vec Ideal S1 .f32) (x3 : Vec Ideal S1 .f32) (x4 : Vec Ideal S3 .f32) (x5 : Vec Ideal S4608x5120 .bf16) (x6 : Vec Ideal S1x5120 .f32) (x7 : Vec Ideal S4608x64 .f32) (x8 : Vec Ideal S4608x64 .f32) (x9 : Vec Ideal S5120x6144 .fp8e4m3) :
    out0_A_12 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay1 (k0_pay10 (k0_pay6 x5 x6 (x0 (ix1 0)) x9 (x0 (ix1 0))) (x4 (ix1 1))) (k0_pay11 (k0_pay6 x5 x6 (x0 (ix1 0)) x9 (x0 (ix1 0))) (x4 (ix1 1)))
        (k0_pay12 x7) (k0_pay13 x8) (k0_pay14 x7) (x2 (ix1 0)) := by
  unfold out0_A_12
  rw [View.read_writes_eq_canon _ _ _ (cover0_A_12 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread, harg7.read_unread, harg8.read_unread, harg9.read_unread,
    View.ld_unit_zero (S := S4608x5120) off2, View.ld_unit_zero (S := S4608x64) off2, View.ld_unit_zero (S := S5120x6144) off2,
    View.ld_unit_zero (S := S1x5120) off2]
  have e0 (i : S1.Idx) : x0 i = x0 (ix1 0) := congrArg x0 (idx_one i)
  have e2 (i : S1.Idx) : x2 i = x2 (ix1 0) := congrArg x2 (idx_one i)
  have e4 : x4 ((Rect.unit (s := S3) ![1] S1.size inb_S3_S1_1).idx (Shape.Idx.first (by decide))) = x4 (ix1 1) := congrArg x4 (idx_axis _ 1 rfl)
  exact congr (congrArg₂ (fun a b => k0_pay1 (k0_pay10 (k0_pay6 x5 x6 a x9 a) b) (k0_pay11 (k0_pay6 x5 x6 a x9 a) b) (k0_pay12 x7) (k0_pay13 x8) (k0_pay14 x7)) (e0 _) e4) (e2 _)

/-- What the body leaves in the values is its stored value, at the contents of its inputs. -/
theorem out13_eq (c : Dev nD) (arg0 : Memref sig .tc .smem S1 .f32) (harg0 : arg0.IsWhole) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .smem S3 .f32) (harg4 : arg4.IsWhole) (arg5 : Memref sig .tc .vmem S4608x5120 .bf16) (harg5 : arg5.IsWhole) (arg6 : Memref sig .tc .vmem S1x5120 .f32) (harg6 : arg6.IsWhole) (arg7 : Memref sig .tc .vmem S4608x64 .f32) (harg7 : arg7.IsWhole) (arg8 : Memref sig .tc .vmem S4608x64 .f32) (harg8 : arg8.IsWhole) (arg9 : Memref sig .tc .vmem S5120x6144 .fp8e4m3) (harg9 : arg9.IsWhole) (arg10 : Memref sig .tc .vmem S4608x5120 .fp8e4m3) (harg10 : arg10.IsWhole) (arg11 : Memref sig .tc .vmem S4608x4096 .fp8e4m3) (harg11 : arg11.IsWhole) (arg12 : Memref sig .tc .vmem S4608x1024 .fp8e4m3) (harg12 : arg12.IsWhole) (arg13 : Memref sig .tc .vmem S4608x1024 .fp8e4m3) (harg13 : arg13.IsWhole)
    (x0 : Vec Ideal S1 .f32) (x1 : Vec Ideal S1 .f32) (x2 : Vec Ideal S1 .f32) (x3 : Vec Ideal S1 .f32) (x4 : Vec Ideal S3 .f32) (x5 : Vec Ideal S4608x5120 .bf16) (x6 : Vec Ideal S1x5120 .f32) (x7 : Vec Ideal S4608x64 .f32) (x8 : Vec Ideal S4608x64 .f32) (x9 : Vec Ideal S5120x6144 .fp8e4m3) :
    out0_A_13 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay2 (k0_pay8 (k0_pay4 x5 x6 (x0 (ix1 0)) x9) (x0 (ix1 0)) (x4 (ix1 2))) (x3 (ix1 0)) := by
  unfold out0_A_13
  rw [View.read_writes_eq_canon _ _ _ (cover0_A_13 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero off2]
  simp only [View.readAt_eq_ld, harg0.read_unread, harg1.read_unread, harg2.read_unread, harg3.read_unread, harg4.read_unread, harg5.read_unread, harg6.read_unread, harg7.read_unread, harg8.read_unread, harg9.read_unread,
    View.ld_unit_zero (S := S4608x5120) off2, View.ld_unit_zero (S := S4608x64) off2, View.ld_unit_zero (S := S5120x6144) off2,
    View.ld_unit_zero (S := S1x5120) off2]
  have e0 (i : S1.Idx) : x0 i = x0 (ix1 0) := congrArg x0 (idx_one i)
  have e3 (i : S1.Idx) : x3 i = x3 (ix1 0) := congrArg x3 (idx_one i)
  have e4 : x4 ((Rect.unit (s := S3) ![2] S1.size inb_S3_S1_2).idx (Shape.Idx.first (by decide))) = x4 (ix1 2) := congrArg x4 (idx_axis _ 2 rfl)
  exact congr (congrArg₂ (fun a b => k0_pay2 (k0_pay8 (k0_pay4 x5 x6 a x9) a b)) (e0 _) e4) (e3 _)

end Cert.QkvRefIdeal.Left

end
-- ==== Proof.Qkv.Reference.lean ====
/- The query, key and value projections: what the reference's result arrays hold after its run. -/
module

public import proofs.«01_k».proof.Proof.Qkv.Stored
public import proofs.«01_k».proof.Proof.Qkv.Left

@[expose] public section

noncomputable section

open Idealize.ShloMosaic Idealize.ShloMosaic.TcCoe Idealize.SL.Sem Idealize.ShloMosaic.ValueIdx
open Idealize.ShloMosaic.Pipeline (Dat)

namespace Cert.QkvRefIdeal.Array

open Cert.QkvRefIdeal Cert.QkvRefIdeal.Gen Cert.Common Cert.Qkv

variable (m : (ℓ : Loc nD τ sig) → Buf (Elt Ideal) ℓ)

/-- The first result's scale as the region finds it: the argument, reshaped to one element. -/
theorem V_main_v0 (c : Dev nD) (i : S1.Idx) : V m c main_v0 i = m ((c : Thread nD τ).loc main_arg5) ix0 := by
  dsimp only [V, hostOps0]
  after_results
  exact congrArg (m ((c : Thread nD τ).loc main_arg5)) (eq_ix0 _)

/-- The queries' scale as the region finds it: the argument, reshaped to one element. -/
theorem V_main_v1 (c : Dev nD) (i : S1.Idx) : V m c main_v1 i = m ((c : Thread nD τ).loc main_arg6) ix0 := by
  dsimp only [V, hostOps0]
  after_results
  exact congrArg (m ((c : Thread nD τ).loc main_arg6)) (eq_ix0 _)

/-- The keys' scale as the region finds it: the argument, reshaped to one element. -/
theorem V_main_v2 (c : Dev nD) (i : S1.Idx) : V m c main_v2 i = m ((c : Thread nD τ).loc main_arg7) ix0 := by
  dsimp only [V, hostOps0]
  after_results
  exact congrArg (m ((c : Thread nD τ).loc main_arg7)) (eq_ix0 _)

/-- The values' scale as the region finds it: the argument, reshaped to one element. -/
theorem V_main_v3 (c : Dev nD) (i : S1.Idx) : V m c main_v3 i = m ((c : Thread nD τ).loc main_arg8) ix0 := by
  dsimp only [V, hostOps0]
  after_results
  exact congrArg (m ((c : Thread nD τ).loc main_arg8)) (eq_ix0 _)

/-- The norm's weights as the region finds them: the argument, reshaped to one row. -/
theorem V_main_v4 (c : Dev nD) (i : S1x5120.Idx) (k : Fin 5120) (h : (i 1 : ℕ) = k.val) :
    V m c main_v4 i = m ((c : Thread nD τ).loc main_arg1) (ix1 k) := by
  dsimp only [V, hostOps0]
  after_results
  exact row_of_vector (m ((c : Thread nD τ).loc main_arg1)) _ i k h

/-- One row of the first result, as a formula of the arguments. -/
def row (c : Dev nD) (r : Fin 4608) : Fin 5120 → EReal :=
  normRow (fun k => m ((c : Thread nD τ).loc main_arg0) (ix2 r k)) (fun k => m ((c : Thread nD τ).loc main_arg1) (ix1 k)) (m ((c : Thread nD τ).loc main_arg5) ix0)

/-- The scale of the product with the weights of projection `a`. -/
def scaleOf (c : Dev nD) (a : Fin 3) : EReal :=
  Mul.mul (α := EReal) (m ((c : Thread nD τ).loc main_arg5) ix0) (m ((c : Thread nD τ).loc main_arg9) (ix1 a))

/-- The first result array. -/
def result10 (c : Dev nD) : Buf (Elt Ideal) ((c : Thread nD τ).loc main_v5_0) := fun i => row m c (i 0) (i 1)

/-- The queries. -/
def result11 (c : Dev nD) : Buf (Elt Ideal) ((c : Thread nD τ).loc main_v5_1) := fun i =>
  rotated (row m c (i 0)) (m ((c : Thread nD τ).loc main_arg4)) (scaleOf m c 0) (fun k => m ((c : Thread nD τ).loc main_arg2) (ix2 (i 0) k)) (fun k => m ((c : Thread nD τ).loc main_arg3) (ix2 (i 0) k)) (m ((c : Thread nD τ).loc main_arg6) ix0) 0 (i 1).val

/-- The keys. -/
def result12 (c : Dev nD) : Buf (Elt Ideal) ((c : Thread nD τ).loc main_v5_2) := fun i =>
  rotated (row m c (i 0)) (m ((c : Thread nD τ).loc main_arg4)) (scaleOf m c 1) (fun k => m ((c : Thread nD τ).loc main_arg2) (ix2 (i 0) k)) (fun k => m ((c : Thread nD τ).loc main_arg3) (ix2 (i 0) k)) (m ((c : Thread nD τ).loc main_arg7) ix0) 4096 (i 1).val

/-- The values. -/
def result13 (c : Dev nD) : Buf (Elt Ideal) ((c : Thread nD τ).loc main_v5_3) := fun i =>
  plain (row m c (i 0)) (m ((c : Thread nD τ).loc main_arg4)) (scaleOf m c 2) (m ((c : Thread nD τ).loc main_arg8) ix0) 5120 (i 1).val

/-- The one block of each input window is its whole array. -/
theorem blk_arg0 (c : Dev nD) (t : Fin cfg0.N) : iblk m c 5 t = m ((c : Thread nD τ).loc main_arg0) := by
  funext y
  exact (congrFun (V_main_arg0 m c) _).trans (congrArg (m ((c : Thread nD τ).loc main_arg0))
    (funext fun a => Fin.ext (win0_5.rect_emb_val_of_index_zero t a rfl y)))
theorem blk_arg2 (c : Dev nD) (t : Fin cfg0.N) : iblk m c 7 t = m ((c : Thread nD τ).loc main_arg2) := by
  funext y
  exact (congrFun (V_main_arg2 m c) _).trans (congrArg (m ((c : Thread nD τ).loc main_arg2))
    (funext fun a => Fin.ext (win0_7.rect_emb_val_of_index_zero t a rfl y)))
theorem blk_arg3 (c : Dev nD) (t : Fin cfg0.N) : iblk m c 8 t = m ((c : Thread nD τ).loc main_arg3) := by
  funext y
  exact (congrFun (V_main_arg3 m c) _).trans (congrArg (m ((c : Thread nD τ).loc main_arg3))
    (funext fun a => Fin.ext (win0_8.rect_emb_val_of_index_zero t a rfl y)))
theorem blk_arg4 (c : Dev nD) (t : Fin cfg0.N) : iblk m c 9 t = m ((c : Thread nD τ).loc main_arg4) := by
  funext y
  exact (congrFun (V_main_arg4 m c) _).trans (congrArg (m ((c : Thread nD τ).loc main_arg4))
    (funext fun a => Fin.ext (win0_9.rect_emb_val_of_index_zero t a rfl y)))
theorem blk_arg9 (c : Dev nD) (t : Fin cfg0.N) : iblk m c 4 t = m ((c : Thread nD τ).loc main_arg9) := by
  funext y
  exact (congrFun (V_main_arg9 m c) _).trans (congrArg (m ((c : Thread nD τ).loc main_arg9))
    (funext fun a => Fin.ext (win0_4.rect_emb_val_of_index_zero t a rfl y)))

/-- The one point's scales, weights of the norm and codes, as formulas of the arguments. -/
theorem s0_eq (c : Dev nD) (t : Fin cfg0.N) : (iblk m c 0 t : Vec Ideal S1 .f32) (ix1 0) = m ((c : Thread nD τ).loc main_arg5) ix0 := V_main_v0 m c _
theorem s1_eq (c : Dev nD) (t : Fin cfg0.N) : (iblk m c 1 t : Vec Ideal S1 .f32) (ix1 0) = m ((c : Thread nD τ).loc main_arg6) ix0 := V_main_v1 m c _
theorem s2_eq (c : Dev nD) (t : Fin cfg0.N) : (iblk m c 2 t : Vec Ideal S1 .f32) (ix1 0) = m ((c : Thread nD τ).loc main_arg7) ix0 := V_main_v2 m c _
theorem s3_eq (c : Dev nD) (t : Fin cfg0.N) : (iblk m c 3 t : Vec Ideal S1 .f32) (ix1 0) = m ((c : Thread nD τ).loc main_arg8) ix0 := V_main_v3 m c _
theorem lnw_eq (c : Dev nD) (t : Fin cfg0.N) (k : Fin 5120) :
    (iblk m c 6 t : Vec Ideal S1x5120 .f32) (ix2 0 k) = m ((c : Thread nD τ).loc main_arg1) (ix1 k) :=
  V_main_v4 m c _ k (win0_6.rect_emb_val_of_index_zero t 1 rfl (ix2 0 k))
theorem row_eq (c : Dev nD) (t : Fin cfg0.N) (r : Fin 4608) (k : Fin 5120) :
    Stored.xrow (m ((c : Thread nD τ).loc main_arg0)) (iblk m c 6 t : Vec Ideal S1x5120 .f32) ((iblk m c 0 t : Vec Ideal S1 .f32) (ix1 0)) r k
      = row m c r k :=
  congrArg₂ code (normed_congr (fun _ => rfl) (lnw_eq m c t) rfl) (s0_eq m c t)
theorem scale_eq (c : Dev nD) (t : Fin cfg0.N) (a : Fin 3) :
    Mul.mul (α := EReal) ((iblk m c 0 t : Vec Ideal S1 .f32) (ix1 0)) ((m ((c : Thread nD τ).loc main_arg9) : Vec Ideal S3 .f32) (ix1 a)) = scaleOf m c a :=
  congrArg (fun y => Mul.mul (α := EReal) y _) (s0_eq m c t)

/-- What the one point writes back of the first result is `result10`. -/
theorem flushed10_eq (c : Dev nD) (t : Fin cfg0.N) :
    (dats m 0 c).flushed 10 t = ((cfg0.win 10).blk t).view.read (Elt Ideal) (result10 m c) := by
  rw [Cert.QkvRefIdeal.Value.flushed10_A, Left.out10_eq, blk_arg0]
  funext y
  obtain ⟨r, q, rfl⟩ : ∃ (r : Fin 4608) (q : Fin 5120), y = ix2 r q := ⟨y 0, y 1, eq_ix2 y⟩
  refine (Stored.x1_apply _ _ _ r q).trans ?_
  have e : (win0_10.rect t).emb (ix2 r q) = ix2 r q :=
    funext fun a => Fin.ext (win0_10.rect_emb_val_of_index_zero t a rfl (ix2 r q))
  refine Eq.trans ?_ (congrArg (result10 m c) e).symm
  exact row_eq m c t r q

/-- The one block covers the array of window 10. -/
theorem cover10 (i : S4608x5120.Idx) : ∃ t : Fin cfg0.N, (cfg0.win 10).flush t = true ∧ i ∈ ((cfg0.win 10).blk t).view.set := by
  refine ⟨t0_0, by decide +kernel, ?_⟩
  show i ∈ ((View.whole main_v5_0).slice (win0_10.rect t0_0)).set
  rw [View.set_slice_whole, Rect.mem_set_unit]
  intro a
  have b0 : (i 0 : ℕ) < 4608 := (i 0).isLt
  have b1 : (i 1 : ℕ) < 5120 := (i 1).isLt
  match a with
  | ⟨0, _⟩ => show win0_10.index t0_0 0 * win0_10.size 0 ≤ (i 0 : ℕ) ∧ (i 0 : ℕ) < win0_10.index t0_0 0 * win0_10.size 0 + win0_10.xsize (grid0.coords t0_0) 0
              rw [show win0_10.index t0_0 0 * win0_10.size 0 = 0 from by decide +kernel, show win0_10.xsize (grid0.coords t0_0) 0 = 4608 from by decide +kernel]; omega
  | ⟨1, _⟩ => show win0_10.index t0_0 1 * win0_10.size 1 ≤ (i 1 : ℕ) ∧ (i 1 : ℕ) < win0_10.index t0_0 1 * win0_10.size 1 + win0_10.xsize (grid0.coords t0_0) 1
              rw [show win0_10.index t0_0 1 * win0_10.size 1 = 0 from by decide +kernel, show win0_10.xsize (grid0.coords t0_0) 1 = 5120 from by decide +kernel]; omega

/-- After the run the array of window 10 holds `result10`. -/
theorem final10 (c : Dev nD) : (dats m 0 c).arrAt 10 cfg0.N = result10 m c :=
  (dats m 0 c).arrAt_eq_of_cover 10 (result10 m c) (fun t _ => flushed10_eq m c t) cover10

/-- What the one point writes back of the queries is `result11`. -/
theorem flushed11_eq (c : Dev nD) (t : Fin cfg0.N) :
    (dats m 0 c).flushed 11 t = ((cfg0.win 11).blk t).view.read (Elt Ideal) (result11 m c) := by
  rw [Cert.QkvRefIdeal.Value.flushed11_A, Left.out11_eq, blk_arg0, blk_arg2, blk_arg3, blk_arg4, blk_arg9]
  funext y
  obtain ⟨r, q, rfl⟩ : ∃ (r : Fin 4608) (q : Fin 4096), y = ix2 r q := ⟨y 0, y 1, eq_ix2 y⟩
  refine (Stored.q_apply _ _ _ _ _ _ _ _ _ r q).trans ?_
  have e : (win0_11.rect t).emb (ix2 r q) = ix2 r q :=
    funext fun a => Fin.ext (win0_11.rect_emb_val_of_index_zero t a rfl (ix2 r q))
  refine Eq.trans ?_ (congrArg (result11 m c) e).symm
  exact rotated_congr (row_eq m c t r) (fun _ _ => rfl) (scale_eq m c t 0) (fun _ => rfl) (fun _ => rfl) (s1_eq m c t) rfl

/-- The one block covers the array of window 11. -/
theorem cover11 (i : S4608x4096.Idx) : ∃ t : Fin cfg0.N, (cfg0.win 11).flush t = true ∧ i ∈ ((cfg0.win 11).blk t).view.set := by
  refine ⟨t0_0, by decide +kernel, ?_⟩
  show i ∈ ((View.whole main_v5_1).slice (win0_11.rect t0_0)).set
  rw [View.set_slice_whole, Rect.mem_set_unit]
  intro a
  have b0 : (i 0 : ℕ) < 4608 := (i 0).isLt
  have b1 : (i 1 : ℕ) < 4096 := (i 1).isLt
  match a with
  | ⟨0, _⟩ => show win0_11.index t0_0 0 * win0_11.size 0 ≤ (i 0 : ℕ) ∧ (i 0 : ℕ) < win0_11.index t0_0 0 * win0_11.size 0 + win0_11.xsize (grid0.coords t0_0) 0
              rw [show win0_11.index t0_0 0 * win0_11.size 0 = 0 from by decide +kernel, show win0_11.xsize (grid0.coords t0_0) 0 = 4608 from by decide +kernel]; omega
  | ⟨1, _⟩ => show win0_11.index t0_0 1 * win0_11.size 1 ≤ (i 1 : ℕ) ∧ (i 1 : ℕ) < win0_11.index t0_0 1 * win0_11.size 1 + win0_11.xsize (grid0.coords t0_0) 1
              rw [show win0_11.index t0_0 1 * win0_11.size 1 = 0 from by decide +kernel, show win0_11.xsize (grid0.coords t0_0) 1 = 4096 from by decide +kernel]; omega

/-- After the run the array of window 11 holds `result11`. -/
theorem final11 (c : Dev nD) : (dats m 0 c).arrAt 11 cfg0.N = result11 m c :=
  (dats m 0 c).arrAt_eq_of_cover 11 (result11 m c) (fun t _ => flushed11_eq m c t) cover11

/-- What the one point writes back of the keys is `result12`. -/
theorem flushed12_eq (c : Dev nD) (t : Fin cfg0.N) :
    (dats m 0 c).flushed 12 t = ((cfg0.win 12).blk t).view.read (Elt Ideal) (result12 m c) := by
  rw [Cert.QkvRefIdeal.Value.flushed12_A, Left.out12_eq, blk_arg0, blk_arg2, blk_arg3, blk_arg4, blk_arg9]
  funext y
  obtain ⟨r, q, rfl⟩ : ∃ (r : Fin 4608) (q : Fin 1024), y = ix2 r q := ⟨y 0, y 1, eq_ix2 y⟩
  refine (Stored.k_apply _ _ _ _ _ _ _ _ _ r q).trans ?_
  have e : (win0_12.rect t).emb (ix2 r q) = ix2 r q :=
    funext fun a => Fin.ext (win0_12.rect_emb_val_of_index_zero t a rfl (ix2 r q))
  refine Eq.trans ?_ (congrArg (result12 m c) e).symm
  exact rotated_congr (row_eq m c t r) (fun _ _ => rfl) (scale_eq m c t 1) (fun _ => rfl) (fun _ => rfl) (s2_eq m c t) rfl

/-- The one block covers the array of window 12. -/
theorem cover12 (i : S4608x1024.Idx) : ∃ t : Fin cfg0.N, (cfg0.win 12).flush t = true ∧ i ∈ ((cfg0.win 12).blk t).view.set := by
  refine ⟨t0_0, by decide +kernel, ?_⟩
  show i ∈ ((View.whole main_v5_2).slice (win0_12.rect t0_0)).set
  rw [View.set_slice_whole, Rect.mem_set_unit]
  intro a
  have b0 : (i 0 : ℕ) < 4608 := (i 0).isLt
  have b1 : (i 1 : ℕ) < 1024 := (i 1).isLt
  match a with
  | ⟨0, _⟩ => show win0_12.index t0_0 0 * win0_12.size 0 ≤ (i 0 : ℕ) ∧ (i 0 : ℕ) < win0_12.index t0_0 0 * win0_12.size 0 + win0_12.xsize (grid0.coords t0_0) 0
              rw [show win0_12.index t0_0 0 * win0_12.size 0 = 0 from by decide +kernel, show win0_12.xsize (grid0.coords t0_0) 0 = 4608 from by decide +kernel]; omega
  | ⟨1, _⟩ => show win0_12.index t0_0 1 * win0_12.size 1 ≤ (i 1 : ℕ) ∧ (i 1 : ℕ) < win0_12.index t0_0 1 * win0_12.size 1 + win0_12.xsize (grid0.coords t0_0) 1
              rw [show win0_12.index t0_0 1 * win0_12.size 1 = 0 from by decide +kernel, show win0_12.xsize (grid0.coords t0_0) 1 = 1024 from by decide +kernel]; omega

/-- After the run the array of window 12 holds `result12`. -/
theorem final12 (c : Dev nD) : (dats m 0 c).arrAt 12 cfg0.N = result12 m c :=
  (dats m 0 c).arrAt_eq_of_cover 12 (result12 m c) (fun t _ => flushed12_eq m c t) cover12

/-- What the one point writes back of the values is `result13`. -/
theorem flushed13_eq (c : Dev nD) (t : Fin cfg0.N) :
    (dats m 0 c).flushed 13 t = ((cfg0.win 13).blk t).view.read (Elt Ideal) (result13 m c) := by
  rw [Cert.QkvRefIdeal.Value.flushed13_A, Left.out13_eq, blk_arg0, blk_arg4, blk_arg9]
  funext y
  obtain ⟨r, q, rfl⟩ : ∃ (r : Fin 4608) (q : Fin 1024), y = ix2 r q := ⟨y 0, y 1, eq_ix2 y⟩
  refine (Stored.v_apply _ _ _ _ _ _ _ r q).trans ?_
  have e : (win0_13.rect t).emb (ix2 r q) = ix2 r q :=
    funext fun a => Fin.ext (win0_13.rect_emb_val_of_index_zero t a rfl (ix2 r q))
  refine Eq.trans ?_ (congrArg (result13 m c) e).symm
  exact plain_congr (row_eq m c t r) (fun _ _ => rfl) (scale_eq m c t 2) (s3_eq m c t) rfl

/-- The one block covers the array of window 13. -/
theorem cover13 (i : S4608x1024.Idx) : ∃ t : Fin cfg0.N, (cfg0.win 13).flush t = true ∧ i ∈ ((cfg0.win 13).blk t).view.set := by
  refine ⟨t0_0, by decide +kernel, ?_⟩
  show i ∈ ((View.whole main_v5_3).slice (win0_13.rect t0_0)).set
  rw [View.set_slice_whole, Rect.mem_set_unit]
  intro a
  have b0 : (i 0 : ℕ) < 4608 := (i 0).isLt
  have b1 : (i 1 : ℕ) < 1024 := (i 1).isLt
  match a with
  | ⟨0, _⟩ => show win0_13.index t0_0 0 * win0_13.size 0 ≤ (i 0 : ℕ) ∧ (i 0 : ℕ) < win0_13.index t0_0 0 * win0_13.size 0 + win0_13.xsize (grid0.coords t0_0) 0
              rw [show win0_13.index t0_0 0 * win0_13.size 0 = 0 from by decide +kernel, show win0_13.xsize (grid0.coords t0_0) 0 = 4608 from by decide +kernel]; omega
  | ⟨1, _⟩ => show win0_13.index t0_0 1 * win0_13.size 1 ≤ (i 1 : ℕ) ∧ (i 1 : ℕ) < win0_13.index t0_0 1 * win0_13.size 1 + win0_13.xsize (grid0.coords t0_0) 1
              rw [show win0_13.index t0_0 1 * win0_13.size 1 = 0 from by decide +kernel, show win0_13.xsize (grid0.coords t0_0) 1 = 1024 from by decide +kernel]; omega

/-- After the run the array of window 13 holds `result13`. -/
theorem final13 (c : Dev nD) : (dats m 0 c).arrAt 13 cfg0.N = result13 m c :=
  (dats m 0 c).arrAt_eq_of_cover 13 (result13 m c) (fun t _ => flushed13_eq m c t) cover13

end Cert.QkvRefIdeal.Array

end
-- ==== Proof.Qkv.Equation.lean ====
/- The query, key and value projections: the kernel and the reference compute the same arrays. -/
module

public import proofs.«01_k».proof.Defs
public import proofs.«01_k».proof.Proof.Qkv.Kernel
public import proofs.«01_k».proof.Proof.Qkv.Reference

@[expose] public section

noncomputable section

open Idealize.ShloMosaic Idealize.ShloMosaic.TcCoe Idealize.SL.Sem Idealize.ShloMosaic.ValueIdx
open Idealize.ShloMosaic.Pipeline (Dat)

namespace Cert.Qkv

/-- On equal arguments each of the four pairs of results is the same formula of them. -/
theorem algebraic : Cert.algebraic_QkvIdeal_QkvRefIdeal := by
  intro m ρ m' ρ' _ hagree
  have er (c : Dev Cert.QkvIdeal.nD) : Cert.QkvRefIdeal.Array.row m' c = Cert.QkvIdeal.Array.row m c := by
    obtain ⟨h0, h1, h2, h3, h4, h5, h6, h7, h8, h9⟩ := hagree c
    unfold Cert.QkvRefIdeal.Array.row Cert.QkvIdeal.Array.row
    rw [h0, h1, h5]
  have es (c : Dev Cert.QkvIdeal.nD) : Cert.QkvRefIdeal.Array.scaleOf m' c = Cert.QkvIdeal.Array.scaleOf m c := by
    obtain ⟨h0, h1, h2, h3, h4, h5, h6, h7, h8, h9⟩ := hagree c
    unfold Cert.QkvRefIdeal.Array.scaleOf Cert.QkvIdeal.Array.scaleOf
    rw [h5, h9]
  have e10 (c : Dev Cert.QkvIdeal.nD) : Cert.QkvRefIdeal.Array.result10 m' c = Cert.QkvIdeal.Array.result10 m c := by
    obtain ⟨h0, h1, h2, h3, h4, h5, h6, h7, h8, h9⟩ := hagree c
    unfold Cert.QkvRefIdeal.Array.result10 Cert.QkvIdeal.Array.result10
    rw [er c]; rfl
  have e11 (c : Dev Cert.QkvIdeal.nD) : Cert.QkvRefIdeal.Array.result11 m' c = Cert.QkvIdeal.Array.result11 m c := by
    obtain ⟨h0, h1, h2, h3, h4, h5, h6, h7, h8, h9⟩ := hagree c
    unfold Cert.QkvRefIdeal.Array.result11 Cert.QkvIdeal.Array.result11
    rw [er c, es c, h4, h2, h3, h6]; rfl
  have e12 (c : Dev Cert.QkvIdeal.nD) : Cert.QkvRefIdeal.Array.result12 m' c = Cert.QkvIdeal.Array.result12 m c := by
    obtain ⟨h0, h1, h2, h3, h4, h5, h6, h7, h8, h9⟩ := hagree c
    unfold Cert.QkvRefIdeal.Array.result12 Cert.QkvIdeal.Array.result12
    rw [er c, es c, h4, h2, h3, h7]; rfl
  have e13 (c : Dev Cert.QkvIdeal.nD) : Cert.QkvRefIdeal.Array.result13 m' c = Cert.QkvIdeal.Array.result13 m c := by
    obtain ⟨h0, h1, h2, h3, h4, h5, h6, h7, h8, h9⟩ := hagree c
    unfold Cert.QkvRefIdeal.Array.result13 Cert.QkvIdeal.Array.result13
    rw [er c, es c, h4, h8]; rfl
  refine ⟨fun c => Cert.QkvIdeal.Array.result10 m c, fun c => Cert.QkvIdeal.Array.result11 m c,
    fun c => Cert.QkvIdeal.Array.result12 m c, fun c => Cert.QkvIdeal.Array.result13 m c, ?_, ?_⟩
  · exact (θ_run Cert.QkvIdeal.defs _ _).mono
      (fun _ h c => ⟨(h c).1.trans (Cert.QkvIdeal.Array.final10 m c), (h c).2.1.trans (Cert.QkvIdeal.Array.final11 m c),
        (h c).2.2.1.trans (Cert.QkvIdeal.Array.final12 m c), (h c).2.2.2.1.trans (Cert.QkvIdeal.Array.final13 m c), (h c).2.2.2.2⟩)
      (Cert.QkvIdeal.Value.run_blocks (F := Ideal) m ρ)
  · exact (θ_run Cert.QkvRefIdeal.defs _ _).mono
      (fun _ h c => ⟨(h c).1.trans ((Cert.QkvRefIdeal.Array.final10 m' c).trans (e10 c)),
        (h c).2.1.trans ((Cert.QkvRefIdeal.Array.final11 m' c).trans (e11 c)),
        (h c).2.2.1.trans ((Cert.QkvRefIdeal.Array.final12 m' c).trans (e12 c)),
        (h c).2.2.2.1.trans ((Cert.QkvRefIdeal.Array.final13 m' c).trans (e13 c)), (h c).2.2.2.2⟩)
      (Cert.QkvRefIdeal.Value.run_blocks (F := Ideal) m' ρ')

end Cert.Qkv

end
-- ==== Proof.lean ====
/- The certificate: the frames of the printed programs, the idealizations, and the equations of four calls. -/
module

public import proofs.«01_k».proof.Defs
public import proofs.«01_k».proof.Proof.Gen.GateUp.Frame
public import proofs.«01_k».proof.Proof.Gen.Down.Frame
public import proofs.«01_k».proof.Proof.Gen.OProj.Frame
public import proofs.«01_k».proof.Proof.Gen.Qkv.Frame
public import proofs.«01_k».proof.Proof.Gen.AttnRefIdeal.Frame
public import proofs.«01_k».proof.Proof.Attn.Nonneg
public import proofs.«01_k».proof.Proof.Attn.Frame
public import proofs.«01_k».proof.Proof.AttnIdeal.Frame
public import proofs.«01_k».proof.Proof.GateUp.Equation
public import proofs.«01_k».proof.Proof.Down.Equation
public import proofs.«01_k».proof.Proof.OProj.Equation
public import proofs.«01_k».proof.Proof.Qkv.Equation

@[expose] public section

noncomputable section

namespace Cert.Proof

/-- Everything the certificate states. -/
theorem claim : Cert.Claim :=
  ⟨Cert.GateUp.Gen.facts, Cert.GateUpIdeal.Gen.facts, Cert.GateUpRefIdeal.Gen.facts,
    Cert.Down.Gen.facts, Cert.DownIdeal.Gen.facts, Cert.DownRefIdeal.Gen.facts,
    Cert.OProj.Gen.facts, Cert.OProjIdeal.Gen.facts, Cert.OProjRefIdeal.Gen.facts,
    Cert.Qkv.Gen.facts, Cert.QkvIdeal.Gen.facts, Cert.QkvRefIdeal.Gen.facts,
    Cert.Attn.Gen.facts, Cert.AttnIdeal.Gen.facts, Cert.AttnRefIdeal.Gen.facts, Cert.Proof.Nonneg.facts,
    fun m ρ _ => Cert.GateUp.Gen.frame m ρ, fun m ρ _ => Cert.GateUpIdeal.Gen.frame m ρ, fun m ρ _ => Cert.GateUpRefIdeal.Gen.frame m ρ,
    fun m ρ _ => Cert.Down.Gen.frame m ρ, fun m ρ _ => Cert.DownIdeal.Gen.frame m ρ, fun m ρ _ => Cert.DownRefIdeal.Gen.frame m ρ,
    fun m ρ _ => Cert.OProj.Gen.frame m ρ, fun m ρ _ => Cert.OProjIdeal.Gen.frame m ρ, fun m ρ _ => Cert.OProjRefIdeal.Gen.frame m ρ,
    fun m ρ _ => Cert.Qkv.Gen.frame m ρ, fun m ρ _ => Cert.QkvIdeal.Gen.frame m ρ, fun m ρ _ => Cert.QkvRefIdeal.Gen.frame m ρ,
    fun m ρ h => Cert.Attn.Run.frame m ρ fun c => Nonneg.nonneg _ _ _ _ _ _ _ _ (h c),
    fun m ρ h => Cert.AttnIdeal.Run.frame m ρ fun c => Nonneg.nonneg _ _ _ _ _ _ _ _ (h c),
    fun m ρ _ => Cert.AttnRefIdeal.Gen.frame m ρ,
    trivial, Cert.GateUp.algebraic, trivial, Cert.Down.algebraic, trivial, Cert.OProj.algebraic, trivial, Cert.Qkv.algebraic, trivial⟩

end Cert.Proof

end
